-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x128x6912 : Shape := ⟨3, ![12, 128, 6912]⟩
abbrev S3 : Shape := ⟨1, ![3]⟩
abbrev S3x12x128 : Shape := ⟨3, ![3, 12, 128]⟩
abbrev S6912 : Shape := ⟨1, ![6912]⟩
abbrev S1x6912 : Shape := ⟨2, ![1, 6912]⟩
abbrev S12x128x216 : Shape := ⟨3, ![12, 128, 216]⟩
abbrev S12x128 : Shape := ⟨2, ![12, 128]⟩
abbrev S2x128x6912 : Shape := ⟨3, ![2, 128, 6912]⟩
abbrev S2x128x216 : Shape := ⟨3, ![2, 128, 216]⟩
abbrev S256x256 : Shape := ⟨2, ![256, 256]⟩
abbrev S27x256x128 : Shape := ⟨3, ![27, 256, 128]⟩
abbrev S8x128 : Shape := ⟨2, ![8, 128]⟩
abbrev S32x128 : Shape := ⟨2, ![32, 128]⟩
abbrev S8x9x4x128 : Shape := ⟨4, ![8, 9, 4, 128]⟩
abbrev S27x8x256 : Shape := ⟨3, ![27, 8, 256]⟩
abbrev S1x256 : Shape := ⟨2, ![1, 256]⟩
abbrev S128x256 : Shape := ⟨2, ![128, 256]⟩
abbrev S256x128 : Shape := ⟨2, ![256, 128]⟩
abbrev S1x8x128 : Shape := ⟨3, ![1, 8, 128]⟩
abbrev S256x6912 : Shape := ⟨2, ![256, 6912]⟩
abbrev S8x6912 : Shape := ⟨2, ![8, 6912]⟩
abbrev S8x256 : Shape := ⟨2, ![8, 256]⟩
abbrev S2x128x256 : Shape := ⟨3, ![2, 128, 256]⟩
abbrev S32x8x256 : Shape := ⟨3, ![32, 8, 256]⟩
abbrev S256 : Shape := ⟨1, ![256]⟩
abbrev S1 : Shape := ⟨1, ![1]⟩
abbrev S1x1x128 : Shape := ⟨3, ![1, 1, 128]⟩
abbrev S1x128 : Shape := ⟨2, ![1, 128]⟩
abbrev S8x4x128 : Shape := ⟨3, ![8, 4, 128]⟩
abbrev S8x1x4x128 : Shape := ⟨4, ![8, 1, 4, 128]⟩
abbrev S1x8x4x128 : Shape := ⟨4, ![1, 8, 4, 128]⟩
abbrev S64x4x128 : Shape := ⟨3, ![64, 4, 128]⟩
abbrev S1x128x256 : Shape := ⟨3, ![1, 128, 256]⟩
abbrev S27x8x128 : Shape := ⟨3, ![27, 8, 128]⟩
abbrev S216x128 : Shape := ⟨2, ![216, 128]⟩
abbrev S128x216 : Shape := ⟨2, ![128, 216]⟩
abbrev S1x128x216 : Shape := ⟨3, ![1, 128, 216]⟩

abbrev nBuf : Space → Nat
  | .hbm => 12
  | .vmem => 20
  | .smem => 1
  | _ => 0

abbrev bufTy : (tb : Table) → Fin (tcTables nBuf tb) → BufTy
  | .hbm, ⟨0, _⟩ => ⟨S12x128x6912, .bf16⟩
  | .hbm, ⟨1, _⟩ => ⟨S3, .f32⟩
  | .hbm, ⟨2, _⟩ => ⟨S3x12x128, .f32⟩
  | .hbm, ⟨3, _⟩ => ⟨S3x12x128, .f32⟩
  | .hbm, ⟨4, _⟩ => ⟨S6912, .f32⟩
  | .hbm, ⟨5, _⟩ => ⟨S6912, .f32⟩
  | .hbm, ⟨6, _⟩ => ⟨S1x6912, .f32⟩
  | .hbm, ⟨7, _⟩ => ⟨S1x6912, .f32⟩
  | .hbm, ⟨8, _⟩ => ⟨S12x128x6912, .fp8e4m3⟩
  | .hbm, ⟨9, _⟩ => ⟨S12x128x216, .i8⟩
  | .hbm, ⟨10, _⟩ => ⟨S12x128, .f32⟩
  | .hbm, ⟨11, _⟩ => ⟨S12x128, .f32⟩
  | .local _ .vmem, ⟨0, _⟩ => ⟨S2x128x6912, .bf16⟩
  | .local _ .vmem, ⟨1, _⟩ => ⟨S2x128x6912, .bf16⟩
  | .local _ .vmem, ⟨2, _⟩ => ⟨S3x12x128, .f32⟩
  | .local _ .vmem, ⟨3, _⟩ => ⟨S3x12x128, .f32⟩
  | .local _ .vmem, ⟨4, _⟩ => ⟨S1x6912, .f32⟩
  | .local _ .vmem, ⟨5, _⟩ => ⟨S1x6912, .f32⟩
  | .local _ .vmem, ⟨6, _⟩ => ⟨S2x128x6912, .fp8e4m3⟩
  | .local _ .vmem, ⟨7, _⟩ => ⟨S2x128x6912, .fp8e4m3⟩
  | .local _ .vmem, ⟨8, _⟩ => ⟨S2x128x216, .i8⟩
  | .local _ .vmem, ⟨9, _⟩ => ⟨S2x128x216, .i8⟩
  | .local _ .vmem, ⟨10, _⟩ => ⟨S12x128, .f32⟩
  | .local _ .vmem, ⟨11, _⟩ => ⟨S12x128, .f32⟩
  | .local _ .vmem, ⟨12, _⟩ => ⟨S256x256, .bf16⟩
  | .local _ .vmem, ⟨13, _⟩ => ⟨S27x256x128, .f32⟩
  | .local _ .vmem, ⟨14, _⟩ => ⟨S27x256x128, .f32⟩
  | .local _ .vmem, ⟨15, _⟩ => ⟨S8x128, .f32⟩
  | .local _ .vmem, ⟨16, _⟩ => ⟨S32x128, .f32⟩
  | .local _ .vmem, ⟨17, _⟩ => ⟨S8x128, .f32⟩
  | .local _ .vmem, ⟨18, _⟩ => ⟨S8x9x4x128, .fp8e4m3⟩
  | .local _ .vmem, ⟨19, _⟩ => ⟨S27x8x256, .i32⟩
  | .local _ .smem, ⟨0, _⟩ => ⟨S3, .f32⟩
  | _, _ => ⟨S12x128x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_83 : BitVec 32 := 0#32
  let c27_i32_84 : BitVec 32 := 27#32
  let v222 : BitVec 32 := Scalar.addi c0_i32_83 c27_i32_84
  let c1_i32_85 : BitVec 32 := 1#32
  ⟨c0_i32_83, v222, c1_i32_85⟩
def k0_off1 (k0_t1 : Fin k0_t1_loop.trips) : Fin 2 → Nat :=
  let c0_87 : Index := 0#32
  let c0_i32_83 : BitVec 32 := 0#32
  let c1_i32_85 : BitVec 32 := 1#32
  let arg19 : BitVec 32 := Scf.iv c0_i32_83 c1_i32_85 k0_t1
  let c256_i32 : BitVec 32 := 256#32
  let v223 : BitVec 32 := Scalar.muli arg19 c256_i32
  let v224 : Index := Scalar.indexCast v223
  ![0, v224.toNat]
def k0_off2 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v237 : Index := Scalar.indexCast arg19
  let c0_90 : Index := 0#32
  let c0_91 : Index := 0#32
  ![v237.toNat, 0, 0]
def k0_off3 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v243 : Index := Scalar.indexCast arg19
  let c32 : Index := 32#32
  let c0_93 : Index := 0#32
  ![v243.toNat, 32, 0]
def k0_off4 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v251 : Index := Scalar.indexCast arg19
  let c64 : Index := 64#32
  let c0_95 : Index := 0#32
  ![v251.toNat, 64, 0]
def k0_off5 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v257 : Index := Scalar.indexCast arg19
  let c96 : Index := 96#32
  let c0_97 : Index := 0#32
  ![v257.toNat, 96, 0]
def k0_off6 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v265 : Index := Scalar.indexCast arg19
  let c128_99 : Index := 128#32
  let c0_100 : Index := 0#32
  ![v265.toNat, 128, 0]
def k0_off7 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v271 : Index := Scalar.indexCast arg19
  let c160 : Index := 160#32
  let c0_102 : Index := 0#32
  ![v271.toNat, 160, 0]
def k0_off8 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v279 : Index := Scalar.indexCast arg19
  let c192 : Index := 192#32
  let c0_104 : Index := 0#32
  ![v279.toNat, 192, 0]
def k0_off9 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v285 : Index := Scalar.indexCast arg19
  let c224 : Index := 224#32
  let c0_106 : Index := 0#32
  ![v285.toNat, 224, 0]
def k0_off10 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v293 : Index := Scalar.indexCast arg19
  let c8 : Index := 8#32
  let c0_108 : Index := 0#32
  ![v293.toNat, 8, 0]
def k0_off11 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v299 : Index := Scalar.indexCast arg19
  let c40 : Index := 40#32
  let c0_110 : Index := 0#32
  ![v299.toNat, 40, 0]
def k0_off12 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v307 : Index := Scalar.indexCast arg19
  let c72 : Index := 72#32
  let c0_112 : Index := 0#32
  ![v307.toNat, 72, 0]
def k0_off13 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v313 : Index := Scalar.indexCast arg19
  let c104 : Index := 104#32
  let c0_114 : Index := 0#32
  ![v313.toNat, 104, 0]
def k0_off14 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v321 : Index := Scalar.indexCast arg19
  let c136 : Index := 136#32
  let c0_116 : Index := 0#32
  ![v321.toNat, 136, 0]
def k0_off15 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v327 : Index := Scalar.indexCast arg19
  let c168 : Index := 168#32
  let c0_118 : Index := 0#32
  ![v327.toNat, 168, 0]
def k0_off16 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v335 : Index := Scalar.indexCast arg19
  let c200 : Index := 200#32
  let c0_120 : Index := 0#32
  ![v335.toNat, 200, 0]
def k0_off17 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v341 : Index := Scalar.indexCast arg19
  let c232 : Index := 232#32
  let c0_122 : Index := 0#32
  ![v341.toNat, 232, 0]
def k0_off18 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v349 : Index := Scalar.indexCast arg19
  let c16 : Index := 16#32
  let c0_124 : Index := 0#32
  ![v349.toNat, 16, 0]
def k0_off19 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v355 : Index := Scalar.indexCast arg19
  let c48 : Index := 48#32
  let c0_126 : Index := 0#32
  ![v355.toNat, 48, 0]
def k0_off20 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v363 : Index := Scalar.indexCast arg19
  let c80 : Index := 80#32
  let c0_128 : Index := 0#32
  ![v363.toNat, 80, 0]
def k0_off21 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v369 : Index := Scalar.indexCast arg19
  let c112 : Index := 112#32
  let c0_130 : Index := 0#32
  ![v369.toNat, 112, 0]
def k0_off22 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v377 : Index := Scalar.indexCast arg19
  let c144 : Index := 144#32
  let c0_132 : Index := 0#32
  ![v377.toNat, 144, 0]
def k0_off23 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v383 : Index := Scalar.indexCast arg19
  let c176 : Index := 176#32
  let c0_134 : Index := 0#32
  ![v383.toNat, 176, 0]
def k0_off24 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v391 : Index := Scalar.indexCast arg19
  let c208 : Index := 208#32
  let c0_136 : Index := 0#32
  ![v391.toNat, 208, 0]
def k0_off25 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v397 : Index := Scalar.indexCast arg19
  let c240 : Index := 240#32
  let c0_138 : Index := 0#32
  ![v397.toNat, 240, 0]
def k0_off26 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v405 : Index := Scalar.indexCast arg19
  let c24 : Index := 24#32
  let c0_140 : Index := 0#32
  ![v405.toNat, 24, 0]
def k0_off27 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v411 : Index := Scalar.indexCast arg19
  let c56 : Index := 56#32
  let c0_142 : Index := 0#32
  ![v411.toNat, 56, 0]
def k0_off28 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v419 : Index := Scalar.indexCast arg19
  let c88 : Index := 88#32
  let c0_144 : Index := 0#32
  ![v419.toNat, 88, 0]
def k0_off29 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v425 : Index := Scalar.indexCast arg19
  let c120 : Index := 120#32
  let c0_146 : Index := 0#32
  ![v425.toNat, 120, 0]
def k0_off30 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v433 : Index := Scalar.indexCast arg19
  let c152 : Index := 152#32
  let c0_148 : Index := 0#32
  ![v433.toNat, 152, 0]
def k0_off31 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v439 : Index := Scalar.indexCast arg19
  let c184 : Index := 184#32
  let c0_150 : Index := 0#32
  ![v439.toNat, 184, 0]
def k0_off32 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v447 : Index := Scalar.indexCast arg19
  let c216 : Index := 216#32
  let c0_152 : Index := 0#32
  ![v447.toNat, 216, 0]
def k0_off33 (k0_t1 : Fin k0_t1_loop.trips) : Fin 3 → Nat :=
  let c0_i32_83 : BitVec 32 := 0#32
  let c1_i32_85 : BitVec 32 := 1#32
  let arg19 : BitVec 32 := Scf.iv c0_i32_83 c1_i32_85 k0_t1
  let v453 : Index := Scalar.indexCast arg19
  let c248 : Index := 248#32
  let c0_154 : Index := 0#32
  ![v453.toNat, 248, 0]
@[reducible] def k0_t2_loop : Scf.Loop 32 :=
  let c0_i32_6 : BitVec 32 := 0#32
  let c27_i32 : BitVec 32 := 27#32
  let v11 : BitVec 32 := Scalar.addi c0_i32_6 c27_i32
  let c1_i32 : BitVec 32 := 1#32
  ⟨c0_i32_6, v11, c1_i32⟩
def k0_off34 (k0_t2 : Fin k0_t2_loop.trips) : Fin 3 → Nat :=
  let c0_76 : Index := 0#32
  let c0_77 : Index := 0#32
  let c0_i32_6 : BitVec 32 := 0#32
  let c1_i32 : BitVec 32 := 1#32
  let arg19 : BitVec 32 := Scf.iv c0_i32_6 c1_i32 k0_t2
  let c256_i32 : BitVec 32 := 256#32
  let v192 : BitVec 32 := Scalar.muli arg19 c256_i32
  let v193 : Index := Scalar.indexCast v192
  ![0, 0, v193.toNat]
def k0_off35 (i : grid0.Coords) (c0_i32_9 : BitVec 32) : Fin 3 → Nat :=
  let c0_11 : Index := 0#32
  let arg0 : BitVec 32 := BitVec.ofNat 32 (i 0).val
  let c2_i32 : BitVec 32 := 2#32
  let v15 : BitVec 32 := Scalar.muli arg0 c2_i32
  let v16 : BitVec 32 := Scalar.addi v15 c0_i32_9
  let v18 : Index := Scalar.indexCast v16
  let c0_12 : Index := 0#32
  ![0, v18.toNat, 0]
def k0_off36 (i : grid0.Coords) (c0_i32_9 : BitVec 32) : Fin 3 → Nat :=
  let c1_15 : Index := 1#32
  let arg0 : BitVec 32 := BitVec.ofNat 32 (i 0).val
  let c2_i32 : BitVec 32 := 2#32
  let v15 : BitVec 32 := Scalar.muli arg0 c2_i32
  let v16 : BitVec 32 := Scalar.addi v15 c0_i32_9
  let v25 : Index := Scalar.indexCast v16
  let c0_16 : Index := 0#32
  ![1, v25.toNat, 0]
def k0_off37 (i : grid0.Coords) (c0_i32_9 : BitVec 32) : Fin 3 → Nat :=
  let c2_22 : Index := 2#32
  let arg0 : BitVec 32 := BitVec.ofNat 32 (i 0).val
  let c2_i32 : BitVec 32 := 2#32
  let v15 : BitVec 32 := Scalar.muli arg0 c2_i32
  let v16 : BitVec 32 := Scalar.addi v15 c0_i32_9
  let v60 : Index := Scalar.indexCast v16
  let c0_23 : Index := 0#32
  ![2, v60.toNat, 0]
def k0_off38 (i : grid0.Coords) (c0_i32_9 : BitVec 32) : Fin 2 → Nat :=
  let arg0 : BitVec 32 := BitVec.ofNat 32 (i 0).val
  let c2_i32 : BitVec 32 := 2#32
  let v15 : BitVec 32 := Scalar.muli arg0 c2_i32
  let v16 : BitVec 32 := Scalar.addi v15 c0_i32_9
  let v84 : Index := Scalar.indexCast v16
  let c0_27 : Index := 0#32
  ![v84.toNat, 0]
@[reducible] def k0_t3_loop : Scf.Loop 32 :=
  let c0_i32_59 : BitVec 32 := 0#32
  let c27_i32_60 : BitVec 32 := 27#32
  let v176 : BitVec 32 := Scalar.addi c0_i32_59 c27_i32_60
  let c1_i32_61 : BitVec 32 := 1#32
  ⟨c0_i32_59, v176, c1_i32_61⟩
def k0_off39 (k0_t3 : Fin k0_t3_loop.trips) : Fin 3 → Nat :=
  let c0_76 : Index := 0#32
  let c0_77 : Index := 0#32
  let c0_i32_59 : BitVec 32 := 0#32
  let c1_i32_61 : BitVec 32 := 1#32
  let arg19 : BitVec 32 := Scf.iv c0_i32_59 c1_i32_61 k0_t3
  let c256_i32 : BitVec 32 := 256#32
  let v192 : BitVec 32 := Scalar.muli arg19 c256_i32
  let v193 : Index := Scalar.indexCast v192
  ![0, 0, v193.toNat]
def k0_off40 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v204 : Index := Scalar.indexCast arg19
  let c0_83 : Index := 0#32
  let c0_84 : Index := 0#32
  ![v204.toNat, 0, 0]
def k0_off41 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v217 : Index := Scalar.indexCast arg19
  let c8 : Index := 8#32
  let c0_87 : Index := 0#32
  ![v217.toNat, 8, 0]
def k0_off42 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v230 : Index := Scalar.indexCast arg19
  let c16 : Index := 16#32
  let c0_90 : Index := 0#32
  ![v230.toNat, 16, 0]
def k0_off43 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v243 : Index := Scalar.indexCast arg19
  let c24 : Index := 24#32
  let c0_93 : Index := 0#32
  ![v243.toNat, 24, 0]
def k0_off44 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v256 : Index := Scalar.indexCast arg19
  let c32 : Index := 32#32
  let c0_96 : Index := 0#32
  ![v256.toNat, 32, 0]
def k0_off45 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v269 : Index := Scalar.indexCast arg19
  let c40 : Index := 40#32
  let c0_99 : Index := 0#32
  ![v269.toNat, 40, 0]
def k0_off46 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v282 : Index := Scalar.indexCast arg19
  let c48 : Index := 48#32
  let c0_102 : Index := 0#32
  ![v282.toNat, 48, 0]
def k0_off47 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v295 : Index := Scalar.indexCast arg19
  let c56 : Index := 56#32
  let c0_105 : Index := 0#32
  ![v295.toNat, 56, 0]
def k0_off48 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v308 : Index := Scalar.indexCast arg19
  let c64 : Index := 64#32
  let c0_108 : Index := 0#32
  ![v308.toNat, 64, 0]
def k0_off49 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v321 : Index := Scalar.indexCast arg19
  let c72 : Index := 72#32
  let c0_111 : Index := 0#32
  ![v321.toNat, 72, 0]
def k0_off50 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v334 : Index := Scalar.indexCast arg19
  let c80 : Index := 80#32
  let c0_114 : Index := 0#32
  ![v334.toNat, 80, 0]
def k0_off51 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v347 : Index := Scalar.indexCast arg19
  let c88 : Index := 88#32
  let c0_117 : Index := 0#32
  ![v347.toNat, 88, 0]
def k0_off52 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v360 : Index := Scalar.indexCast arg19
  let c96 : Index := 96#32
  let c0_120 : Index := 0#32
  ![v360.toNat, 96, 0]
def k0_off53 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v373 : Index := Scalar.indexCast arg19
  let c104 : Index := 104#32
  let c0_123 : Index := 0#32
  ![v373.toNat, 104, 0]
def k0_off54 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v386 : Index := Scalar.indexCast arg19
  let c112 : Index := 112#32
  let c0_126 : Index := 0#32
  ![v386.toNat, 112, 0]
def k0_off55 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v399 : Index := Scalar.indexCast arg19
  let c120 : Index := 120#32
  let c0_129 : Index := 0#32
  ![v399.toNat, 120, 0]
def k0_off56 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v412 : Index := Scalar.indexCast arg19
  let c128_132 : Index := 128#32
  let c0_133 : Index := 0#32
  ![v412.toNat, 128, 0]
def k0_off57 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v425 : Index := Scalar.indexCast arg19
  let c136 : Index := 136#32
  let c0_136 : Index := 0#32
  ![v425.toNat, 136, 0]
def k0_off58 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v438 : Index := Scalar.indexCast arg19
  let c144 : Index := 144#32
  let c0_139 : Index := 0#32
  ![v438.toNat, 144, 0]
def k0_off59 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v451 : Index := Scalar.indexCast arg19
  let c152 : Index := 152#32
  let c0_142 : Index := 0#32
  ![v451.toNat, 152, 0]
def k0_off60 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v464 : Index := Scalar.indexCast arg19
  let c160 : Index := 160#32
  let c0_145 : Index := 0#32
  ![v464.toNat, 160, 0]
def k0_off61 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v477 : Index := Scalar.indexCast arg19
  let c168 : Index := 168#32
  let c0_148 : Index := 0#32
  ![v477.toNat, 168, 0]
def k0_off62 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v490 : Index := Scalar.indexCast arg19
  let c176 : Index := 176#32
  let c0_151 : Index := 0#32
  ![v490.toNat, 176, 0]
def k0_off63 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v503 : Index := Scalar.indexCast arg19
  let c184 : Index := 184#32
  let c0_154 : Index := 0#32
  ![v503.toNat, 184, 0]
def k0_off64 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v516 : Index := Scalar.indexCast arg19
  let c192 : Index := 192#32
  let c0_157 : Index := 0#32
  ![v516.toNat, 192, 0]
def k0_off65 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v529 : Index := Scalar.indexCast arg19
  let c200 : Index := 200#32
  let c0_160 : Index := 0#32
  ![v529.toNat, 200, 0]
def k0_off66 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v542 : Index := Scalar.indexCast arg19
  let c208 : Index := 208#32
  let c0_163 : Index := 0#32
  ![v542.toNat, 208, 0]
def k0_off67 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v555 : Index := Scalar.indexCast arg19
  let c216 : Index := 216#32
  let c0_166 : Index := 0#32
  ![v555.toNat, 216, 0]
def k0_off68 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v568 : Index := Scalar.indexCast arg19
  let c224 : Index := 224#32
  let c0_169 : Index := 0#32
  ![v568.toNat, 224, 0]
def k0_off69 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v581 : Index := Scalar.indexCast arg19
  let c232 : Index := 232#32
  let c0_172 : Index := 0#32
  ![v581.toNat, 232, 0]
def k0_off70 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v594 : Index := Scalar.indexCast arg19
  let c240 : Index := 240#32
  let c0_175 : Index := 0#32
  ![v594.toNat, 240, 0]
def k0_off71 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v607 : Index := Scalar.indexCast arg19
  let c248 : Index := 248#32
  let c0_178 : Index := 0#32
  ![v607.toNat, 248, 0]
def k0_off72 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v772 : Index := Scalar.indexCast arg19
  let c0_215 : Index := 0#32
  let c0_216 : Index := 0#32
  ![v772.toNat, 0, 0]
def k0_off73 (k0_t3 : Fin k0_t3_loop.trips) : Fin 3 → Nat :=
  let c0_358 : Index := 0#32
  let c0_359 : Index := 0#32
  let c0_i32_59 : BitVec 32 := 0#32
  let c1_i32_61 : BitVec 32 := 1#32
  let arg19 : BitVec 32 := Scf.iv c0_i32_59 c1_i32_61 k0_t3
  let c256_i32_357 : BitVec 32 := 256#32
  let v1031 : BitVec 32 := Scalar.muli arg19 c256_i32_357
  let v1032 : Index := Scalar.indexCast v1031
  ![0, 0, v1032.toNat]
def k0_off74 (k0_t3 : Fin k0_t3_loop.trips) : Fin 3 → Nat :=
  let c0_i32_59 : BitVec 32 := 0#32
  let c1_i32_61 : BitVec 32 := 1#32
  let arg19 : BitVec 32 := Scf.iv c0_i32_59 c1_i32_61 k0_t3
  let v1611 : Index := Scalar.indexCast arg19
  let c0_535 : Index := 0#32
  let c128_536 : Index := 128#32
  ![v1611.toNat, 0, 128]
def k0_off75 (k0_t3 : Fin k0_t3_loop.trips) : Fin 3 → Nat :=
  let c1_682 : Index := 1#32
  let c0_683 : Index := 0#32
  let c0_i32_59 : BitVec 32 := 0#32
  let c1_i32_61 : BitVec 32 := 1#32
  let arg19 : BitVec 32 := Scf.iv c0_i32_59 c1_i32_61 k0_t3
  let c256_i32_681 : BitVec 32 := 256#32
  let v1870 : BitVec 32 := Scalar.muli arg19 c256_i32_681
  let v1871 : Index := Scalar.indexCast v1870
  ![1, 0, v1871.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x128x6912 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x128x6912 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x216 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S12x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S12x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S12x128x6912 : Shape := ⟨3, ![12, 128, 6912]⟩
abbrev S3 : Shape := ⟨1, ![3]⟩
abbrev S3x12x128 : Shape := ⟨3, ![3, 12, 128]⟩
abbrev S6912 : Shape := ⟨1, ![6912]⟩
abbrev S_ : Shape := ⟨0, ![]⟩
abbrev S12x128 : Shape := ⟨2, ![12, 128]⟩
abbrev S12x128x1 : Shape := ⟨3, ![12, 128, 1]⟩
abbrev S1 : Shape := ⟨1, ![1]⟩
abbrev S1x12x128 : Shape := ⟨3, ![1, 12, 128]⟩
abbrev S1x1x6912 : Shape := ⟨3, ![1, 1, 6912]⟩
abbrev S12x128x216x32 : Shape := ⟨4, ![12, 128, 216, 32]⟩
abbrev S12x128x216 : Shape := ⟨3, ![12, 128, 216]⟩
abbrev S254 : Shape := ⟨1, ![254]⟩
abbrev S12x128x216x1 : Shape := ⟨4, ![12, 128, 216, 1]⟩
abbrev S1x1x1x254 : Shape := ⟨4, ![1, 1, 1, 254]⟩
abbrev S12x128x216x254 : Shape := ⟨4, ![12, 128, 216, 254]⟩

abbrev nBuf : Space → Nat
  | .hbm => 168
  | .vmem => 0
  | .smem => 0
  | _ => 0

abbrev hbmTy0_0 (i : Nat) : BufTy := match i % 128 with
  | 0 => ⟨S12x128x6912, .bf16⟩
  | 1 => ⟨S3, .f32⟩
  | 2 => ⟨S3x12x128, .f32⟩
  | 3 => ⟨S3x12x128, .f32⟩
  | 4 => ⟨S6912, .f32⟩
  | 5 => ⟨S6912, .f32⟩
  | 6 => ⟨S12x128x6912, .f32⟩
  | 7 => ⟨S_, .f32⟩
  | 8 => ⟨S12x128, .f32⟩
  | 9 => ⟨S_, .f32⟩
  | 10 => ⟨S12x128, .f32⟩
  | 11 => ⟨S12x128, .f32⟩
  | 12 => ⟨S12x128x1, .f32⟩
  | 13 => ⟨S12x128x6912, .f32⟩
  | 14 => ⟨S12x128x6912, .f32⟩
  | 15 => ⟨S12x128x6912, .f32⟩
  | 16 => ⟨S_, .f32⟩
  | 17 => ⟨S12x128, .f32⟩
  | 18 => ⟨S1, .f32⟩
  | 19 => ⟨S_, .f32⟩
  | 20 => ⟨S1x12x128, .f32⟩
  | 21 => ⟨S12x128, .f32⟩
  | 22 => ⟨S1x12x128, .f32⟩
  | 23 => ⟨S12x128, .f32⟩
  | 24 => ⟨S1, .f32⟩
  | 25 => ⟨S_, .f32⟩
  | 26 => ⟨S1x12x128, .f32⟩
  | 27 => ⟨S12x128, .f32⟩
  | 28 => ⟨S1x12x128, .f32⟩
  | 29 => ⟨S12x128, .f32⟩
  | 30 => ⟨S_, .f32⟩
  | 31 => ⟨S12x128, .f32⟩
  | 32 => ⟨S_, .f32⟩
  | 33 => ⟨S12x128, .f32⟩
  | 34 => ⟨S12x128, .f32⟩
  | 35 => ⟨S12x128, .f32⟩
  | 36 => ⟨S12x128, .f32⟩
  | 37 => ⟨S12x128, .f32⟩
  | 38 => ⟨S_, .f32⟩
  | 39 => ⟨S_, .f32⟩
  | 40 => ⟨S12x128, .f32⟩
  | 41 => ⟨S12x128, .f32⟩
  | 42 => ⟨S12x128, .f32⟩
  | 43 => ⟨S_, .f32⟩
  | 44 => ⟨S_, .f32⟩
  | 45 => ⟨S12x128, .f32⟩
  | 46 => ⟨S_, .f32⟩
  | 47 => ⟨S_, .f32⟩
  | 48 => ⟨S12x128, .f32⟩
  | 49 => ⟨S12x128, .f32⟩
  | 50 => ⟨S12x128, .f32⟩
  | 51 => ⟨S12x128, .f32⟩
  | 52 => ⟨S12x128, .f32⟩
  | 53 => ⟨S_, .f32⟩
  | 54 => ⟨S_, .f32⟩
  | 55 => ⟨S_, .f32⟩
  | 56 => ⟨S12x128, .f32⟩
  | 57 => ⟨S12x128, .f32⟩
  | 58 => ⟨S12x128, .f32⟩
  | 59 => ⟨S1, .f32⟩
  | 60 => ⟨S_, .f32⟩
  | 61 => ⟨S1x12x128, .f32⟩
  | 62 => ⟨S12x128, .f32⟩
  | 63 => ⟨S1x12x128, .f32⟩
  | 64 => ⟨S12x128, .f32⟩
  | 65 => ⟨S_, .f32⟩
  | 66 => ⟨S12x128, .f32⟩
  | 67 => ⟨S_, .f32⟩
  | 68 => ⟨S12x128, .f32⟩
  | 69 => ⟨S12x128, .f32⟩
  | 70 => ⟨S12x128, .f32⟩
  | 71 => ⟨S12x128, .f32⟩
  | 72 => ⟨S12x128, .f32⟩
  | 73 => ⟨S_, .f32⟩
  | 74 => ⟨S_, .f32⟩
  | 75 => ⟨S12x128, .f32⟩
  | 76 => ⟨S12x128, .f32⟩
  | 77 => ⟨S12x128, .f32⟩
  | 78 => ⟨S12x128, .f32⟩
  | 79 => ⟨S12x128, .f32⟩
  | 80 => ⟨S_, .f32⟩
  | 81 => ⟨S12x128, .f32⟩
  | 82 => ⟨S12x128, .f32⟩
  | 83 => ⟨S12x128, .f32⟩
  | 84 => ⟨S12x128x1, .f32⟩
  | 85 => ⟨S12x128x6912, .f32⟩
  | 86 => ⟨S12x128x6912, .f32⟩
  | 87 => ⟨S12x128x1, .f32⟩
  | 88 => ⟨S12x128x6912, .f32⟩
  | 89 => ⟨S12x128x6912, .f32⟩
  | 90 => ⟨S1x1x6912, .f32⟩
  | 91 => ⟨S12x128x6912, .f32⟩
  | 92 => ⟨S12x128x6912, .f32⟩
  | 93 => ⟨S1x1x6912, .f32⟩
  | 94 => ⟨S12x128x6912, .f32⟩
  | 95 => ⟨S12x128x6912, .f32⟩
  | 96 => ⟨S12x128x216x32, .f32⟩
  | 97 => ⟨S12x128x216x32, .f32⟩
  | 98 => ⟨S_, .f32⟩
  | 99 => ⟨S12x128x216, .f32⟩
  | 100 => ⟨S_, .f32⟩
  | 101 => ⟨S12x128x216, .f32⟩
  | 102 => ⟨S12x128x216, .f32⟩
  | 103 => ⟨S254, .i32⟩
  | 104 => ⟨S_, .i32⟩
  | 105 => ⟨S254, .i32⟩
  | 106 => ⟨S254, .i32⟩
  | 107 => ⟨S254, .f32⟩
  | 108 => ⟨S_, .f32⟩
  | 109 => ⟨S254, .f32⟩
  | 110 => ⟨S254, .f32⟩
  | 111 => ⟨S12x128x216x1, .f32⟩
  | 112 => ⟨S1x1x1x254, .f32⟩
  | 113 => ⟨S12x128x216x254, .f32⟩
  | 114 => ⟨S12x128x216x254, .f32⟩
  | 115 => ⟨S12x128x216x254, .i1⟩
  | 116 => ⟨S12x128x216x254, .i32⟩
  | 117 => ⟨S_, .i32⟩
  | 118 => ⟨S12x128x216, .i32⟩
  | 119 => ⟨S_, .i32⟩
  | 120 => ⟨S12x128x216, .i32⟩
  | 121 => ⟨S12x128x216, .i32⟩
  | 122 => ⟨S_, .f32⟩
  | 123 => ⟨S12x128x216, .f32⟩
  | 124 => ⟨S12x128x216, .i1⟩
  | 125 => ⟨S_, .f32⟩
  | 126 => ⟨S12x128x216, .f32⟩
  | 127 => ⟨S12x128x216, .i1⟩
  | _ => ⟨S12x128x6912, .bf16⟩

abbrev hbmTy0_1 (i : Nat) : BufTy := match i % 128 with
  | 0 => ⟨S12x128x216, .i1⟩
  | 1 => ⟨S_, .i32⟩
  | 2 => ⟨S_, .i32⟩
  | 3 => ⟨S12x128x216, .i32⟩
  | 4 => ⟨S12x128x216, .i32⟩
  | 5 => ⟨S_, .i32⟩
  | 6 => ⟨S12x128x216, .i32⟩
  | 7 => ⟨S12x128x216, .i1⟩
  | 8 => ⟨S_, .i32⟩
  | 9 => ⟨S12x128x216, .i32⟩
  | 10 => ⟨S12x128x216, .i1⟩
  | 11 => ⟨S_, .f32⟩
  | 12 => ⟨S_, .f32⟩
  | 13 => ⟨S12x128x216, .f32⟩
  | 14 => ⟨S12x128x216, .f32⟩
  | 15 => ⟨S12x128x216, .f32⟩
  | 16 => ⟨S12x128x216, .i32⟩
  | 17 => ⟨S12x128x216, .f32⟩
  | 18 => ⟨S_, .f32⟩
  | 19 => ⟨S12x128x216, .f32⟩
  | 20 => ⟨S12x128x216, .f32⟩
  | 21 => ⟨S12x128x216, .f32⟩
  | 22 => ⟨S12x128x216, .f32⟩
  | 23 => ⟨S12x128x216x1, .f32⟩
  | 24 => ⟨S12x128x216x32, .f32⟩
  | 25 => ⟨S12x128x216x32, .f32⟩
  | 26 => ⟨S_, .f32⟩
  | 27 => ⟨S_, .f32⟩
  | 28 => ⟨S_, .f32⟩
  | 29 => ⟨S12x128x216x32, .f32⟩
  | 30 => ⟨S12x128x216x32, .f32⟩
  | 31 => ⟨S_, .f32⟩
  | 32 => ⟨S12x128x216x32, .f32⟩
  | 33 => ⟨S12x128x216x32, .f32⟩
  | 34 => ⟨S12x128x216x32, .fp8e4m3⟩
  | 35 => ⟨S_, .i32⟩
  | 36 => ⟨S12x128x216, .i32⟩
  | 37 => ⟨S12x128x216, .i32⟩
  | 38 => ⟨S12x128x216, .i8⟩
  | 39 => ⟨S12x128x6912, .fp8e4m3⟩
  | _ => ⟨S12x128x6912, .bf16⟩

abbrev hbmTy (i : Nat) : BufTy := match i / 128 with
  | 0 => hbmTy0_0 i
  | 1 => hbmTy0_1 i
  | _ => ⟨S12x128x6912, .bf16⟩

abbrev bufTy : (tb : Table) → Fin (tcTables nBuf tb) → BufTy
  | .hbm, ⟨i, _⟩ => hbmTy i
  | _, _ => ⟨S12x128x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_5 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_cst_6 : Ref sig .tc := ⟨.hbm, 98, rfl⟩
abbrev main_v85 : Ref sig .tc := ⟨.hbm, 99, rfl⟩
abbrev main_cst_7 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_c : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_8 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_c_9 : Ref sig .tc := ⟨.hbm, 117, rfl⟩
abbrev main_v100 : Ref sig .tc := ⟨.hbm, 118, rfl⟩
abbrev main_c_10 : Ref sig .tc := ⟨.hbm, 119, rfl⟩
abbrev main_v101 : Ref sig .tc := ⟨.hbm, 120, rfl⟩
abbrev main_v102 : Ref sig .tc := ⟨.hbm, 121, rfl⟩
abbrev main_cst_11 : Ref sig .tc := ⟨.hbm, 122, rfl⟩
abbrev main_v103 : Ref sig .tc := ⟨.hbm, 123, rfl⟩
abbrev main_v104 : Ref sig .tc := ⟨.hbm, 124, rfl⟩
abbrev main_cst_12 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_c_13 : Ref sig .tc := ⟨.hbm, 129, rfl⟩
abbrev main_call0_v0 : Ref sig .tc := ⟨.hbm, 130, rfl⟩
abbrev main_call0_v1 : Ref sig .tc := ⟨.hbm, 131, rfl⟩
abbrev main_v108 : Ref sig .tc := ⟨.hbm, 132, rfl⟩
abbrev main_c_14 : Ref sig .tc := ⟨.hbm, 133, rfl⟩
abbrev main_v109 : Ref sig .tc := ⟨.hbm, 134, rfl⟩
abbrev main_v110 : Ref sig .tc := ⟨.hbm, 135, rfl⟩
abbrev main_c_15 : Ref sig .tc := ⟨.hbm, 136, rfl⟩
abbrev main_v111 : Ref sig .tc := ⟨.hbm, 137, rfl⟩
abbrev main_v112 : Ref sig .tc := ⟨.hbm, 138, rfl⟩
abbrev main_cst_16 : Ref sig .tc := ⟨.hbm, 139, rfl⟩
abbrev main_cst_17 : Ref sig .tc := ⟨.hbm, 140, rfl⟩
abbrev main_call1_v0 : Ref sig .tc := ⟨.hbm, 141, rfl⟩
abbrev main_call1_v1 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_18 : Ref sig .tc := ⟨.hbm, 146, rfl⟩
abbrev main_v116 : Ref sig .tc := ⟨.hbm, 147, rfl⟩
abbrev main_v117 : Ref sig .tc := ⟨.hbm, 148, rfl⟩
abbrev main_call2_v0 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_19 : Ref sig .tc := ⟨.hbm, 154, rfl⟩
abbrev main_cst_20 : Ref sig .tc := ⟨.hbm, 155, rfl⟩
abbrev main_call3_v0 : Ref sig .tc := ⟨.hbm, 156, rfl⟩
abbrev main_call3_v1 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_v122 : Ref sig .tc := ⟨.hbm, 161, rfl⟩
abbrev main_v123 : Ref sig .tc := ⟨.hbm, 162, rfl⟩
abbrev main_c_21 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩

abbrev nD : Nat := 1
abbrev τ : Topo := Topo.v7x

variable {F : FTy → Type} [FloatOps F]
-- ==== Proof.Body.lean ====
/- Hand-written, untrusted. The kernel's body run once at a symbolic grid point, by the two cases of its one conditional:
   at the first point the body also fills the permutation and the two re-laid vectors, at the others it reads them.
   Each run names what the body leaves in the buffers it writes, as the pieces stored over the contents found there. -/
module

public import proofs.«01_k».proof.Proof.Gen.Kernel.Loops
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body run at the first point: the pieces it stores into each buffer it writes, and the triple that says so. -/
@[irreducible] def runA (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole)
    (hc : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) :
    Σ' (L7 : List (View.Piece (Elt F) S2x128x6912 .fp8e4m3)) (L8 : List (View.Piece (Elt F) S2x128x216 .i8)) (L9 : List (View.Piece (Elt F) S12x128 .f32)) (L10 : List (View.Piece (Elt F) S12x128 .f32)) (L11 : BufTy.Contents (Elt F) arg11.view.ty) (L12 : List (View.Piece (Elt F) S27x256x128 .f32)) (L13 : List (View.Piece (Elt F) S27x256x128 .f32)) (L14 : List (View.Piece (Elt F) S8x128 .f32)) (L15 : List (View.Piece (Elt F) S32x128 .f32)) (L16 : List (View.Piece (Elt F) S8x128 .f32)) (L17 : List (View.Piece (Elt F) S8x9x4x128 .fp8e4m3)), { L18 : List (View.Piece (Elt F) S27x8x256 .i32) //
      ∀ (K : PUnit → sProp 𝕄),
      iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (arg7.view.writes (Elt F) X7 L7)) ∗ (arg8.view.loc (c : Thread nD τ) ↦[arg8.view.set]{fullShare} (arg8.view.writes (Elt F) X8 L8)) ∗ (arg9.view.loc (c : Thread nD τ) ↦[arg9.view.set]{fullShare} (arg9.view.writes (Elt F) X9 L9)) ∗ (arg10.view.loc (c : Thread nD τ) ↦[arg10.view.set]{fullShare} (arg10.view.writes (Elt F) X10 L10)) ∗ (arg11.view.loc (c : Thread nD τ) ↦[arg11.view.set]{fullShare} L11) ∗ (arg12.view.loc (c : Thread nD τ) ↦[arg12.view.set]{fullShare} (arg12.view.writes (Elt F) X12 L12)) ∗ (arg13.view.loc (c : Thread nD τ) ↦[arg13.view.set]{fullShare} (arg13.view.writes (Elt F) X13 L13)) ∗ (arg14.view.loc (c : Thread nD τ) ↦[arg14.view.set]{fullShare} (arg14.view.writes (Elt F) X14 L14)) ∗ (arg15.view.loc (c : Thread nD τ) ↦[arg15.view.set]{fullShare} (arg15.view.writes (Elt F) X15 L15)) ∗ (arg16.view.loc (c : Thread nD τ) ↦[arg16.view.set]{fullShare} (arg16.view.writes (Elt F) X16 L16)) ∗ (arg17.view.loc (c : Thread nD τ) ↦[arg17.view.set]{fullShare} (arg17.view.writes (Elt F) X17 L17)) ∗ (arg18.view.loc (c : Thread nD τ) ↦[arg18.view.set]{fullShare} (arg18.view.writes (Elt F) X18 L18))) -∗ K ⟨⟩))
      ⊢ wp frame (wpE (defs₀ (F := F)) Variants.none (c : Thread nD τ) none) Set.univ (cc0_tp_layernorm_fp8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, ?_, ?_, ?_, fun K => ?run⟩
  case run =>
    simp only [cc0_tp_layernorm_fp8_eq_skeleton]; unfold cc0_tp_layernorm_fp8_skel
    iintro ⟨H1, H2, H3, H4, H5, H6, H7, H8, H9, H10, H11, H12, H13, H14, H15, H16, H17, H18, HK⟩
    sl_exec
    sl_step
    iapply HK
    sl_close

set_option maxHeartbeats 4000000 in
/-- The body run at a later point: the pieces it stores into each buffer it writes, and the triple that says so. -/
@[irreducible] def runB (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole)
    (hc : ¬ k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) :
    Σ' (L7 : List (View.Piece (Elt F) S2x128x6912 .fp8e4m3)) (L8 : List (View.Piece (Elt F) S2x128x216 .i8)) (L9 : List (View.Piece (Elt F) S12x128 .f32)) (L10 : List (View.Piece (Elt F) S12x128 .f32)) (L14 : List (View.Piece (Elt F) S8x128 .f32)) (L15 : List (View.Piece (Elt F) S32x128 .f32)) (L16 : List (View.Piece (Elt F) S8x128 .f32)) (L17 : List (View.Piece (Elt F) S8x9x4x128 .fp8e4m3)), { L18 : List (View.Piece (Elt F) S27x8x256 .i32) //
      ∀ (K : PUnit → sProp 𝕄),
      iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (arg7.view.writes (Elt F) X7 L7)) ∗ (arg8.view.loc (c : Thread nD τ) ↦[arg8.view.set]{fullShare} (arg8.view.writes (Elt F) X8 L8)) ∗ (arg9.view.loc (c : Thread nD τ) ↦[arg9.view.set]{fullShare} (arg9.view.writes (Elt F) X9 L9)) ∗ (arg10.view.loc (c : Thread nD τ) ↦[arg10.view.set]{fullShare} (arg10.view.writes (Elt F) X10 L10)) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} (arg14.view.writes (Elt F) X14 L14)) ∗ (arg15.view.loc (c : Thread nD τ) ↦[arg15.view.set]{fullShare} (arg15.view.writes (Elt F) X15 L15)) ∗ (arg16.view.loc (c : Thread nD τ) ↦[arg16.view.set]{fullShare} (arg16.view.writes (Elt F) X16 L16)) ∗ (arg17.view.loc (c : Thread nD τ) ↦[arg17.view.set]{fullShare} (arg17.view.writes (Elt F) X17 L17)) ∗ (arg18.view.loc (c : Thread nD τ) ↦[arg18.view.set]{fullShare} (arg18.view.writes (Elt F) X18 L18))) -∗ K ⟨⟩))
      ⊢ wp frame (wpE (defs₀ (F := F)) Variants.none (c : Thread nD τ) none) Set.univ (cc0_tp_layernorm_fp8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, fun K => ?run⟩
  case run =>
    simp only [cc0_tp_layernorm_fp8_eq_skeleton]; unfold cc0_tp_layernorm_fp8_skel
    iintro ⟨H1, H2, H3, H4, H5, H6, H7, H8, H9, H10, H11, H12, H13, H14, H15, H16, H17, H18, HK⟩
    sl_exec
    sl_step
    iapply HK
    sl_close

end Cert.Kernel.Hand

end
-- ==== Proof.Oblig.lean ====
/- Hand-written, untrusted. The body obligation and the launch from any specification of the body: relational proof data, in which
   what the body leaves in each result's buffer is in a stated relation to what it found there, and the three scratch buffers
   kept from point to point satisfy a stated predicate. The frame is the launch at the specification that says nothing. -/
module

public import proofs.«01_k».proof.Proof.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- That the body's run at the first point, on its input blocks, keeps `P` and is in the relations `R`. -/
def StepA (c : Dev nD) (P : ℕ → BufTy.Contents (Elt F) (Memref.whole cc0_scratch0).view.ty → BufTy.Contents (Elt F) (Memref.whole cc0_scratch1).view.ty → BufTy.Contents (Elt F) (Memref.whole cc0_scratch2).view.ty → Prop) (R : (w : Fin cfg0.W) → Fin cfg0.N → (Y X : (cfg0.win w).block.Idx → Elt F (cfg0.win w).elt) → Prop) : Prop :=
  ∀ (t : Fin cfg0.N) (hc : k0_cond1 (grid0.coords t) = 1#1) (X1 : BufTy.Contents (Elt F) (win0_0.stage (cfg0.slots t 0)).view.ty) (X2 : BufTy.Contents (Elt F) (win0_1.stage (cfg0.slots t 1)).view.ty) (X3 : BufTy.Contents (Elt F) (win0_2.stage (cfg0.slots t 2)).view.ty) (X4 : BufTy.Contents (Elt F) (win0_3.stage (cfg0.slots t 3)).view.ty) (X5 : BufTy.Contents (Elt F) (win0_4.stage (cfg0.slots t 4)).view.ty) (X6 : BufTy.Contents (Elt F) (win0_5.stage (cfg0.slots t 5)).view.ty) (X7 : BufTy.Contents (Elt F) (win0_6.stage (cfg0.slots t 6)).view.ty) (X8 : BufTy.Contents (Elt F) (win0_7.stage (cfg0.slots t 7)).view.ty) (X9 : BufTy.Contents (Elt F) (win0_8.stage (cfg0.slots t 8)).view.ty) (X10 : BufTy.Contents (Elt F) (win0_9.stage (cfg0.slots t 9)).view.ty) (X11 : BufTy.Contents (Elt F) (Memref.whole cc0_scratch0).view.ty) (X12 : BufTy.Contents (Elt F) (Memref.whole cc0_scratch1).view.ty) (X13 : BufTy.Contents (Elt F) (Memref.whole cc0_scratch2).view.ty) (X14 : BufTy.Contents (Elt F) (Memref.whole cc0_scratch3).view.ty) (X15 : BufTy.Contents (Elt F) (Memref.whole cc0_scratch4).view.ty) (X16 : BufTy.Contents (Elt F) (Memref.whole cc0_scratch5).view.ty) (X17 : BufTy.Contents (Elt F) (Memref.whole cc0_scratch6).view.ty) (X18 : BufTy.Contents (Elt F) (Memref.whole cc0_scratch7).view.ty), ((win0_0.stage (cfg0.slots t 0)).view.read (Elt F) X1) = iblk m c 0 t → ((win0_1.stage (cfg0.slots t 1)).view.read (Elt F) X2) = iblk m c 1 t → ((win0_2.stage (cfg0.slots t 2)).view.read (Elt F) X3) = iblk m c 2 t → ((win0_3.stage (cfg0.slots t 3)).view.read (Elt F) X4) = iblk m c 3 t → ((win0_4.stage (cfg0.slots t 4)).view.read (Elt F) X5) = iblk m c 4 t → ((win0_5.stage (cfg0.slots t 5)).view.read (Elt F) X6) = iblk m c 5 t → P t.val X11 X12 X13 →
    R 6 t ((win0_6.stage (cfg0.slots t 6)).view.read (Elt F) X7) ((win0_6.stage (cfg0.slots t 6)).view.read (Elt F) ((win0_6.stage (cfg0.slots t 6)).view.writes (Elt F) X7 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).1)) ∧ R 7 t ((win0_7.stage (cfg0.slots t 7)).view.read (Elt F) X8) ((win0_7.stage (cfg0.slots t 7)).view.read (Elt F) ((win0_7.stage (cfg0.slots t 7)).view.writes (Elt F) X8 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.1)) ∧ R 8 t ((win0_8.stage (cfg0.slots t 8)).view.read (Elt F) X9) ((win0_8.stage (cfg0.slots t 8)).view.read (Elt F) ((win0_8.stage (cfg0.slots t 8)).view.writes (Elt F) X9 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.1)) ∧ R 9 t ((win0_9.stage (cfg0.slots t 9)).view.read (Elt F) X10) ((win0_9.stage (cfg0.slots t 9)).view.read (Elt F) ((win0_9.stage (cfg0.slots t 9)).view.writes (Elt F) X10 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.1)) ∧ P (t.val + 1) (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.2.1 ((Memref.whole cc0_scratch1).view.writes (Elt F) X12 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.2.2.1) ((Memref.whole cc0_scratch2).view.writes (Elt F) X13 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.2.2.2.1)

set_option maxHeartbeats 4000000 in
/-- That the body's run at a later point, on its input blocks, keeps `P` and is in the relations `R`. -/
def StepB (c : Dev nD) (P : ℕ → BufTy.Contents (Elt F) (Memref.whole cc0_scratch0).view.ty → BufTy.Contents (Elt F) (Memref.whole cc0_scratch1).view.ty → BufTy.Contents (Elt F) (Memref.whole cc0_scratch2).view.ty → Prop) (R : (w : Fin cfg0.W) → Fin cfg0.N → (Y X : (cfg0.win w).block.Idx → Elt F (cfg0.win w).elt) → Prop) : Prop :=
  ∀ (t : Fin cfg0.N) (hc : ¬ k0_cond1 (grid0.coords t) = 1#1) (X1 : BufTy.Contents (Elt F) (win0_0.stage (cfg0.slots t 0)).view.ty) (X2 : BufTy.Contents (Elt F) (win0_1.stage (cfg0.slots t 1)).view.ty) (X3 : BufTy.Contents (Elt F) (win0_2.stage (cfg0.slots t 2)).view.ty) (X4 : BufTy.Contents (Elt F) (win0_3.stage (cfg0.slots t 3)).view.ty) (X5 : BufTy.Contents (Elt F) (win0_4.stage (cfg0.slots t 4)).view.ty) (X6 : BufTy.Contents (Elt F) (win0_5.stage (cfg0.slots t 5)).view.ty) (X7 : BufTy.Contents (Elt F) (win0_6.stage (cfg0.slots t 6)).view.ty) (X8 : BufTy.Contents (Elt F) (win0_7.stage (cfg0.slots t 7)).view.ty) (X9 : BufTy.Contents (Elt F) (win0_8.stage (cfg0.slots t 8)).view.ty) (X10 : BufTy.Contents (Elt F) (win0_9.stage (cfg0.slots t 9)).view.ty) (X11 : BufTy.Contents (Elt F) (Memref.whole cc0_scratch0).view.ty) (X12 : BufTy.Contents (Elt F) (Memref.whole cc0_scratch1).view.ty) (X13 : BufTy.Contents (Elt F) (Memref.whole cc0_scratch2).view.ty) (X14 : BufTy.Contents (Elt F) (Memref.whole cc0_scratch3).view.ty) (X15 : BufTy.Contents (Elt F) (Memref.whole cc0_scratch4).view.ty) (X16 : BufTy.Contents (Elt F) (Memref.whole cc0_scratch5).view.ty) (X17 : BufTy.Contents (Elt F) (Memref.whole cc0_scratch6).view.ty) (X18 : BufTy.Contents (Elt F) (Memref.whole cc0_scratch7).view.ty), ((win0_0.stage (cfg0.slots t 0)).view.read (Elt F) X1) = iblk m c 0 t → ((win0_1.stage (cfg0.slots t 1)).view.read (Elt F) X2) = iblk m c 1 t → ((win0_2.stage (cfg0.slots t 2)).view.read (Elt F) X3) = iblk m c 2 t → ((win0_3.stage (cfg0.slots t 3)).view.read (Elt F) X4) = iblk m c 3 t → ((win0_4.stage (cfg0.slots t 4)).view.read (Elt F) X5) = iblk m c 4 t → ((win0_5.stage (cfg0.slots t 5)).view.read (Elt F) X6) = iblk m c 5 t → P t.val X11 X12 X13 →
    R 6 t ((win0_6.stage (cfg0.slots t 6)).view.read (Elt F) X7) ((win0_6.stage (cfg0.slots t 6)).view.read (Elt F) ((win0_6.stage (cfg0.slots t 6)).view.writes (Elt F) X7 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).1)) ∧ R 7 t ((win0_7.stage (cfg0.slots t 7)).view.read (Elt F) X8) ((win0_7.stage (cfg0.slots t 7)).view.read (Elt F) ((win0_7.stage (cfg0.slots t 7)).view.writes (Elt F) X8 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.1)) ∧ R 8 t ((win0_8.stage (cfg0.slots t 8)).view.read (Elt F) X9) ((win0_8.stage (cfg0.slots t 8)).view.read (Elt F) ((win0_8.stage (cfg0.slots t 8)).view.writes (Elt F) X9 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.1)) ∧ R 9 t ((win0_9.stage (cfg0.slots t 9)).view.read (Elt F) X10) ((win0_9.stage (cfg0.slots t 9)).view.read (Elt F) ((win0_9.stage (cfg0.slots t 9)).view.writes (Elt F) X10 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.1)) ∧ P (t.val + 1) X11 X12 X13

/-- A specification of the body on core `c`: a predicate `P n` on the three scratch buffers kept between points, before point `n`;
    for each result a relation `R` between what the body finds in its buffer at a point and what it leaves; and the two facts
    that the body's run at a point, on its input blocks, keeps them (first point, later points). -/
structure Spec (c : Dev nD) where
  P : ℕ → BufTy.Contents (Elt F) (Memref.whole cc0_scratch0).view.ty → BufTy.Contents (Elt F) (Memref.whole cc0_scratch1).view.ty → BufTy.Contents (Elt F) (Memref.whole cc0_scratch2).view.ty → Prop
  R : (w : Fin cfg0.W) → Fin cfg0.N → (Y X : (cfg0.win w).block.Idx → Elt F (cfg0.win w).elt) → Prop
  zero : ∀ f0 f1 f2, P 0 f0 f1 f2
  stepA : StepA m c P R
  stepB : StepB m c P R

/-- The specification that says nothing. -/
def Spec.trivial (c : Dev nD) : Spec (F := F) m c where
  P _ _ _ _ := True
  R _ _ _ _ := True
  zero _ _ _ := True.intro
  stepA := by unfold StepA; intros; exact ⟨True.intro, True.intro, True.intro, True.intro, True.intro⟩
  stepB := by unfold StepB; intros; exact ⟨True.intro, True.intro, True.intro, True.intro, True.intro⟩

variable {m}

/-- The invariant before point `n`: the three kept scratch buffers at contents with `P n`, the other five at any contents, the
    generator register at some state. -/
def Inv {c : Dev nD} (S : Spec (F := F) m c) (n : ℕ) : sProp 𝕄 :=
  iprop((∃ f0 f1 f2, ⌜S.P n f0 f1 f2⌝ ∗ ((Memref.whole cc0_scratch0).view.loc (c : Thread nD τ) ↦[(Memref.whole cc0_scratch0).view.set]{fullShare} f0) ∗ ((Memref.whole cc0_scratch1).view.loc (c : Thread nD τ) ↦[(Memref.whole cc0_scratch1).view.set]{fullShare} f1) ∗ ((Memref.whole cc0_scratch2).view.loc (c : Thread nD τ) ↦[(Memref.whole cc0_scratch2).view.set]{fullShare} f2))
    ∗ (∃ f, (Memref.whole cc0_scratch3).view.loc (c : Thread nD τ) ↦[(Memref.whole cc0_scratch3).view.set]{fullShare} f) ∗ (∃ f, (Memref.whole cc0_scratch4).view.loc (c : Thread nD τ) ↦[(Memref.whole cc0_scratch4).view.set]{fullShare} f) ∗ (∃ f, (Memref.whole cc0_scratch5).view.loc (c : Thread nD τ) ↦[(Memref.whole cc0_scratch5).view.set]{fullShare} f) ∗ (∃ f, (Memref.whole cc0_scratch6).view.loc (c : Thread nD τ) ↦[(Memref.whole cc0_scratch6).view.set]{fullShare} f) ∗ (∃ f, (Memref.whole cc0_scratch7).view.loc (c : Thread nD τ) ↦[(Memref.whole cc0_scratch7).view.set]{fullShare} f)
    ∗ ∃ r, prngReg c r)

/-- The relational proof data on core `c`: the arrays as the region finds them; each input's buffer left as found, each result's in
    the specification's relation; the invariant above; full shares; nothing owed. -/
def rdat {c : Dev nD} (S : Spec (F := F) m c) : RDat τ (Elt F) Unit ℕ (UR sig nD τ) ℕ cfg0 c where
  A w := V m c (Pipeline.arrRef spec0 w)
  after w t Y X := ((cfg0.win w).isOut = true → S.R w t Y X) ∧ ((cfg0.win w).isOut = false → X = Y)
  Φ t := Inv S t.val
  q _ := fullShare
  owed _ := 0

/-- The data's arrays are the ones the run starts from. -/
theorem rdat_A {c : Dev nD} (S : Spec (F := F) m c) (w : Fin cfg0.W) : (rdat S).A w = V m c (Pipeline.arrRef spec0 w) := by dsimp only [rdat]

/-- An input window's block is unchanged by a step. -/
theorem rdat_after_in {c : Dev nD} (S : Spec (F := F) m c) (w : Fin cfg0.W) (h : (cfg0.win w).isOut = false) (t : Fin cfg0.N) (Y) :
    (rdat S).after w t Y Y := by
  dsimp only [rdat]; exact ⟨fun h' => absurd (h.symm.trans h') Bool.false_ne_true, fun _ => rfl⟩

/-- An output window's block after a step is as the spec relates it. -/
theorem rdat_after_out {c : Dev nD} (S : Spec (F := F) m c) (w : Fin cfg0.W) (h : (cfg0.win w).isOut = true) (t : Fin cfg0.N) (Y X) :
    Iff ((rdat S).after w t Y X) (S.R w t Y X) := by
  dsimp only [rdat]; exact ⟨fun h' => h'.1 h, fun h' => ⟨fun _ => h', fun h'' => absurd (h''.symm.trans h) Bool.false_ne_true⟩⟩

/-- Input window 0's current buffer holds its block at every point. -/
theorem finds_0 {c : Dev nD} (S : Spec (F := F) m c) (t : Fin cfg0.N) (Y) (h : (rdat S).Finds 0 t Y) : Y = iblk m c 0 t := by
  obtain ⟨d, hd⟩ := (rdat S).finds_in_eq_fetched 0 rfl (fun _ _ _ => rfl) (fun _ _ _ h => h.2 rfl) t Y h
  refine hd.trans ?_
  unfold RDat.fetched RDat.blockOf iblk; rw [rdat_A]; try rfl
/-- Input window 1's current buffer holds its block at every point. -/
theorem finds_1 {c : Dev nD} (S : Spec (F := F) m c) (t : Fin cfg0.N) (Y) (h : (rdat S).Finds 1 t Y) : Y = iblk m c 1 t := by
  obtain ⟨d, hd⟩ := (rdat S).finds_in_eq_fetched 1 rfl (fun _ _ _ => rfl) (fun _ _ _ h => h.2 rfl) t Y h
  refine hd.trans ?_
  unfold RDat.fetched RDat.blockOf iblk; rw [rdat_A]; try rfl
/-- Input window 2's current buffer holds its block at every point. -/
theorem finds_2 {c : Dev nD} (S : Spec (F := F) m c) (t : Fin cfg0.N) (Y) (h : (rdat S).Finds 2 t Y) : Y = iblk m c 2 t := by
  obtain ⟨d, hd⟩ := (rdat S).finds_in_eq_fetched 2 rfl (fun _ _ _ => rfl) (fun _ _ _ h => h.2 rfl) t Y h
  refine hd.trans ?_
  unfold RDat.fetched RDat.blockOf iblk; rw [rdat_A]; try rfl
/-- Input window 3's current buffer holds its block at every point. -/
theorem finds_3 {c : Dev nD} (S : Spec (F := F) m c) (t : Fin cfg0.N) (Y) (h : (rdat S).Finds 3 t Y) : Y = iblk m c 3 t := by
  obtain ⟨d, hd⟩ := (rdat S).finds_in_eq_fetched 3 rfl (fun _ _ _ => rfl) (fun _ _ _ h => h.2 rfl) t Y h
  refine hd.trans ?_
  unfold RDat.fetched RDat.blockOf iblk; rw [rdat_A]; try rfl
/-- Input window 4's current buffer holds its block at every point. -/
theorem finds_4 {c : Dev nD} (S : Spec (F := F) m c) (t : Fin cfg0.N) (Y) (h : (rdat S).Finds 4 t Y) : Y = iblk m c 4 t := by
  obtain ⟨d, hd⟩ := (rdat S).finds_in_eq_fetched 4 rfl (fun _ _ _ => rfl) (fun _ _ _ h => h.2 rfl) t Y h
  refine hd.trans ?_
  unfold RDat.fetched RDat.blockOf iblk; rw [rdat_A]; try rfl
/-- Input window 5's current buffer holds its block at every point. -/
theorem finds_5 {c : Dev nD} (S : Spec (F := F) m c) (t : Fin cfg0.N) (Y) (h : (rdat S).Finds 5 t Y) : Y = iblk m c 5 t := by
  obtain ⟨d, hd⟩ := (rdat S).finds_in_eq_fetched 5 rfl (fun _ _ _ => rfl) (fun _ _ _ h => h.2 rfl) t Y h
  refine hd.trans ?_
  unfold RDat.fetched RDat.blockOf iblk; rw [rdat_A]; try rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body at a point: from the invariant and the ten buffers the body runs to the invariant at the next point and each buffer in
    its relation to what it was. -/
theorem sound_body {c : Dev nD} (S : Spec (F := F) m c) (t : Fin cfg0.N) (Y : (w : Fin cfg0.W) → (cfg0.win w).block.Idx → Elt F (cfg0.win w).elt)
    (hY : ∀ w, (rdat S).Finds w t (Y w)) :
    iprop((rdat S).Φ t.castSucc ∗ (rdat S).owesAt () t.castSucc
        ∗ owns c ((cfg0.win 0).stage (cfg0.slots t 0)) fullShare (Y 0) ∗ owns c ((cfg0.win 1).stage (cfg0.slots t 1)) fullShare (Y 1) ∗ owns c ((cfg0.win 2).stage (cfg0.slots t 2)) fullShare (Y 2) ∗ owns c ((cfg0.win 3).stage (cfg0.slots t 3)) fullShare (Y 3) ∗ owns c ((cfg0.win 4).stage (cfg0.slots t 4)) fullShare (Y 4) ∗ owns c ((cfg0.win 5).stage (cfg0.slots t 5)) fullShare (Y 5) ∗ owns c ((cfg0.win 6).stage (cfg0.slots t 6)) fullShare (Y 6) ∗ owns c ((cfg0.win 7).stage (cfg0.slots t 7)) fullShare (Y 7) ∗ owns c ((cfg0.win 8).stage (cfg0.slots t 8)) fullShare (Y 8) ∗ owns c ((cfg0.win 9).stage (cfg0.slots t 9)) fullShare (Y 9))
      ⊢ wp frame (wpE (defs₀ (F := F)) Variants.none c none) Set.univ (bodyAt0 t) fun _ =>
          iprop((rdat S).Φ t.succ ∗ (rdat S).owesAt () t.succ
            ∗ (∃ X, ⌜(rdat S).after 0 t (Y 0) X⌝ ∗ owns c ((cfg0.win 0).stage (cfg0.slots t 0)) fullShare X) ∗ (∃ X, ⌜(rdat S).after 1 t (Y 1) X⌝ ∗ owns c ((cfg0.win 1).stage (cfg0.slots t 1)) fullShare X) ∗ (∃ X, ⌜(rdat S).after 2 t (Y 2) X⌝ ∗ owns c ((cfg0.win 2).stage (cfg0.slots t 2)) fullShare X) ∗ (∃ X, ⌜(rdat S).after 3 t (Y 3) X⌝ ∗ owns c ((cfg0.win 3).stage (cfg0.slots t 3)) fullShare X) ∗ (∃ X, ⌜(rdat S).after 4 t (Y 4) X⌝ ∗ owns c ((cfg0.win 4).stage (cfg0.slots t 4)) fullShare X) ∗ (∃ X, ⌜(rdat S).after 5 t (Y 5) X⌝ ∗ owns c ((cfg0.win 5).stage (cfg0.slots t 5)) fullShare X) ∗ (∃ X, ⌜(rdat S).after 6 t (Y 6) X⌝ ∗ owns c ((cfg0.win 6).stage (cfg0.slots t 6)) fullShare X) ∗ (∃ X, ⌜(rdat S).after 7 t (Y 7) X⌝ ∗ owns c ((cfg0.win 7).stage (cfg0.slots t 7)) fullShare X) ∗ (∃ X, ⌜(rdat S).after 8 t (Y 8) X⌝ ∗ owns c ((cfg0.win 8).stage (cfg0.slots t 8)) fullShare X) ∗ (∃ X, ⌜(rdat S).after 9 t (Y 9) X⌝ ∗ owns c ((cfg0.win 9).stage (cfg0.slots t 9)) fullShare X)) := by
  rw [show (rdat S).owesAt () t.succ = (rdat S).owesAt () t.castSucc from rfl,
    show (rdat S).Φ t.castSucc = Inv S t.val from rfl, show (rdat S).Φ t.succ = Inv S (t.val + 1) from rfl]
  unfold Inv owns bodyAt0
  iintro ⟨⟨⟨%X11, %X12, %X13, %hP, H11, H12, H13⟩, ⟨%X14, H14⟩, ⟨%X15, H15⟩, ⟨%X16, H16⟩, ⟨%X17, H17⟩, ⟨%X18, H18⟩, Hr⟩, HO, ⟨%X1, %e1, H1⟩, ⟨%X2, %e2, H2⟩, ⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩⟩
  have g1 := e1.trans (finds_0 S t _ (hY 0))
  have g2 := e2.trans (finds_1 S t _ (hY 1))
  have g3 := e3.trans (finds_2 S t _ (hY 2))
  have g4 := e4.trans (finds_3 S t _ (hY 3))
  have g5 := e5.trans (finds_4 S t _ (hY 4))
  have g6 := e6.trans (finds_5 S t _ (hY 5))
  by_cases hc : k0_cond1 (grid0.coords t) = 1#1
  · obtain ⟨hR6, hR7, hR8, hR9, hP'⟩ := S.stepA t hc X1 X2 X3 X4 X5 X6 X7 X8 X9 X10 X11 X12 X13 X14 X15 X16 X17 X18 g1 g2 g3 g4 g5 g6 hP
    iapply ((runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.2.2.2.2.2.2.2.2.2 _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H1, H2, H3, H4, H5, H6, H7, H8, H9, H10, H11, H12, H13, H14, H15, H16, H17, H18⟩
    isplitl [H11 H12 H13 H14 H15 H16 H17 H18 Hr]
    · isplitl [H11 H12 H13]
      · iexists _, _, _
        isplitr; · ipureintro; exact hP'
        isplitl [H11]; · iexact H11
        isplitl [H12]; · iexact H12
        iexact H13
      isplitl [H14]; · iexists _; iexact H14
      isplitl [H15]; · iexists _; iexact H15
      isplitl [H16]; · iexists _; iexact H16
      isplitl [H17]; · iexists _; iexact H17
      isplitl [H18]; · iexists _; iexact H18
      iexact Hr
    isplitl [HO]; · iexact HO
    isplitl [H1]
    · iexists (Y 0)
      isplitr
      · ipureintro; exact (rdat_after_in S 0 rfl t _)
      iexists _
      isplitr; swap
      · iexact H1
      ipureintro; exact e1
    isplitl [H2]
    · iexists (Y 1)
      isplitr
      · ipureintro; exact (rdat_after_in S 1 rfl t _)
      iexists _
      isplitr; swap
      · iexact H2
      ipureintro; exact e2
    isplitl [H3]
    · iexists (Y 2)
      isplitr
      · ipureintro; exact (rdat_after_in S 2 rfl t _)
      iexists _
      isplitr; swap
      · iexact H3
      ipureintro; exact e3
    isplitl [H4]
    · iexists (Y 3)
      isplitr
      · ipureintro; exact (rdat_after_in S 3 rfl t _)
      iexists _
      isplitr; swap
      · iexact H4
      ipureintro; exact e4
    isplitl [H5]
    · iexists (Y 4)
      isplitr
      · ipureintro; exact (rdat_after_in S 4 rfl t _)
      iexists _
      isplitr; swap
      · iexact H5
      ipureintro; exact e5
    isplitl [H6]
    · iexists (Y 5)
      isplitr
      · ipureintro; exact (rdat_after_in S 5 rfl t _)
      iexists _
      isplitr; swap
      · iexact H6
      ipureintro; exact e6
    isplitl [H7]
    · iexists ((win0_6.stage (cfg0.slots t 6)).view.read (Elt F) ((win0_6.stage (cfg0.slots t 6)).view.writes (Elt F) X7 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).1))
      isplitr
      · ipureintro; exact ((rdat_after_out S 6 rfl t _ _).mpr (e7 ▸ hR6))
      iexists _
      isplitr; swap
      · iexact H7
      ipureintro; rfl
    isplitl [H8]
    · iexists ((win0_7.stage (cfg0.slots t 7)).view.read (Elt F) ((win0_7.stage (cfg0.slots t 7)).view.writes (Elt F) X8 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.1))
      isplitr
      · ipureintro; exact ((rdat_after_out S 7 rfl t _ _).mpr (e8 ▸ hR7))
      iexists _
      isplitr; swap
      · iexact H8
      ipureintro; rfl
    isplitl [H9]
    · iexists ((win0_8.stage (cfg0.slots t 8)).view.read (Elt F) ((win0_8.stage (cfg0.slots t 8)).view.writes (Elt F) X9 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.1))
      isplitr
      · ipureintro; exact ((rdat_after_out S 8 rfl t _ _).mpr (e9 ▸ hR8))
      iexists _
      isplitr; swap
      · iexact H9
      ipureintro; rfl
    iexists ((win0_9.stage (cfg0.slots t 9)).view.read (Elt F) ((win0_9.stage (cfg0.slots t 9)).view.writes (Elt F) X10 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.1))
    isplitr
    · ipureintro; exact ((rdat_after_out S 9 rfl t _ _).mpr (e10 ▸ hR9))
    iexists _
    isplitr; swap
    · iexact H10
    ipureintro; rfl
  · obtain ⟨hR6, hR7, hR8, hR9, hP'⟩ := S.stepB t hc X1 X2 X3 X4 X5 X6 X7 X8 X9 X10 X11 X12 X13 X14 X15 X16 X17 X18 g1 g2 g3 g4 g5 g6 hP
    iapply ((runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.2.2.2.2.2.2 _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H1, H2, H3, H4, H5, H6, H7, H8, H9, H10, H11, H12, H13, H14, H15, H16, H17, H18⟩
    isplitl [H11 H12 H13 H14 H15 H16 H17 H18 Hr]
    · isplitl [H11 H12 H13]
      · iexists _, _, _
        isplitr; · ipureintro; exact hP'
        isplitl [H11]; · iexact H11
        isplitl [H12]; · iexact H12
        iexact H13
      isplitl [H14]; · iexists _; iexact H14
      isplitl [H15]; · iexists _; iexact H15
      isplitl [H16]; · iexists _; iexact H16
      isplitl [H17]; · iexists _; iexact H17
      isplitl [H18]; · iexists _; iexact H18
      iexact Hr
    isplitl [HO]; · iexact HO
    isplitl [H1]
    · iexists (Y 0)
      isplitr
      · ipureintro; exact (rdat_after_in S 0 rfl t _)
      iexists _
      isplitr; swap
      · iexact H1
      ipureintro; exact e1
    isplitl [H2]
    · iexists (Y 1)
      isplitr
      · ipureintro; exact (rdat_after_in S 1 rfl t _)
      iexists _
      isplitr; swap
      · iexact H2
      ipureintro; exact e2
    isplitl [H3]
    · iexists (Y 2)
      isplitr
      · ipureintro; exact (rdat_after_in S 2 rfl t _)
      iexists _
      isplitr; swap
      · iexact H3
      ipureintro; exact e3
    isplitl [H4]
    · iexists (Y 3)
      isplitr
      · ipureintro; exact (rdat_after_in S 3 rfl t _)
      iexists _
      isplitr; swap
      · iexact H4
      ipureintro; exact e4
    isplitl [H5]
    · iexists (Y 4)
      isplitr
      · ipureintro; exact (rdat_after_in S 4 rfl t _)
      iexists _
      isplitr; swap
      · iexact H5
      ipureintro; exact e5
    isplitl [H6]
    · iexists (Y 5)
      isplitr
      · ipureintro; exact (rdat_after_in S 5 rfl t _)
      iexists _
      isplitr; swap
      · iexact H6
      ipureintro; exact e6
    isplitl [H7]
    · iexists ((win0_6.stage (cfg0.slots t 6)).view.read (Elt F) ((win0_6.stage (cfg0.slots t 6)).view.writes (Elt F) X7 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).1))
      isplitr
      · ipureintro; exact ((rdat_after_out S 6 rfl t _ _).mpr (e7 ▸ hR6))
      iexists _
      isplitr; swap
      · iexact H7
      ipureintro; rfl
    isplitl [H8]
    · iexists ((win0_7.stage (cfg0.slots t 7)).view.read (Elt F) ((win0_7.stage (cfg0.slots t 7)).view.writes (Elt F) X8 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.1))
      isplitr
      · ipureintro; exact ((rdat_after_out S 7 rfl t _ _).mpr (e8 ▸ hR7))
      iexists _
      isplitr; swap
      · iexact H8
      ipureintro; rfl
    isplitl [H9]
    · iexists ((win0_8.stage (cfg0.slots t 8)).view.read (Elt F) ((win0_8.stage (cfg0.slots t 8)).view.writes (Elt F) X9 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.1))
      isplitr
      · ipureintro; exact ((rdat_after_out S 8 rfl t _ _).mpr (e9 ▸ hR8))
      iexists _
      isplitr; swap
      · iexact H9
      ipureintro; rfl
    iexists ((win0_9.stage (cfg0.slots t 9)).view.read (Elt F) ((win0_9.stage (cfg0.slots t 9)).view.writes (Elt F) X10 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.1))
    isplitr
    · ipureintro; exact ((rdat_after_out S 9 rfl t _ _).mpr (e10 ▸ hR9))
    iexists _
    isplitr; swap
    · iexact H10
    ipureintro; rfl

/-- The library's body obligation at any specification. -/
theorem body_obligation {c : Dev nD} (S : Spec (F := F) m c) : (rdat S).BodyObligation (defs₀ (F := F)) Variants.none () Set.univ := fun t Y hY => by
  rw [bigSep_W0, bigSep_W0, defs₀_row]
  exact triple_restated (sound_body S t Y hY) rfl .rfl fun _ => .rfl

/-- The scratch buffers at entry give the invariant at point 0. -/
theorem rdat_in {c : Dev nD} (S : Spec (F := F) m c) : Pipeline.ΦA spec0 c ⊢ (rdat S).Φ 0 := by
  rw [show (rdat S).Φ 0 = Inv S 0 from rfl]
  unfold Pipeline.ΦA Inv; rw [scopedRest0_eq]
  simp only [Memref.view_whole, View.set_whole]
  iintro ⟨⟨⟨%f0, H0⟩, ⟨%f1, H1⟩, ⟨%f2, H2⟩, H3, H4, H5, H6, H7⟩, Hr⟩
  isplitl [H0 H1 H2]
  · iexists f0, f1, f2
    isplitr; · ipureintro; exact S.zero _ _ _
    isplitl [H0]; · iexact H0
    isplitl [H1]; · iexact H1
    iexact H2
  isplitl [H3]; · iexact H3
  isplitl [H4]; · iexact H4
  isplitl [H5]; · iexact H5
  isplitl [H6]; · iexact H6
  isplitl [H7]; · iexact H7
  iexact Hr

/-- The invariant after the last point gives the scratch buffers back. -/
theorem rdat_out {c : Dev nD} (S : Spec (F := F) m c) : (rdat S).Φ (Fin.last cfg0.N) ⊢ Pipeline.ΦA spec0 c := by
  rw [show (rdat S).Φ (Fin.last cfg0.N) = Inv S cfg0.N from rfl]
  unfold Pipeline.ΦA Inv; rw [scopedRest0_eq]
  simp only [Memref.view_whole, View.set_whole]
  iintro ⟨⟨%f0, %f1, %f2, -, H0, H1, H2⟩, H3, H4, H5, H6, H7, Hr⟩
  isplitr [Hr]
  · isplitl [H0]; · iexists f0; iexact H0
    isplitl [H1]; · iexists f1; iexact H1
    isplitl [H2]; · iexists f2; iexact H2
    isplitl [H3]; · iexact H3
    isplitl [H4]; · iexact H4
    isplitl [H5]; · iexact H5
    isplitl [H6]; · iexact H6
    iexact H7
  iexact Hr

set_option backward.isDefEq.respectTransparency.types false in
set_option maxHeartbeats 800000 in
/-- The launch: from any memory with zero counters every execution terminates, with each array at contents the relational data
    allow, every other unscoped buffer as the region found it, and every semaphore counter at zero. -/
theorem run_main (S : (c : Dev nD) → Spec (F := F) m c) :
    θ_run defs (onTc (τ := τ) (main (F := F))) (s₀ m ρ)
      (fun r => Pipeline.RDat.FramePost (cfgs 0) (fun c => rdat (S c)) (V m) r ∧ r.2.sem = fun _ => 0) :=
  Pipeline.RDat.θ_run_frame_track (Q' := _) cfgs (0 : Fin 1) launch0 defs₀ Variants.none (fun c => rdat (S c)) m ρ main
    (hbody := fun c => body_obligation (S c)) (hshare := fun c w => by unfold RDat.share; split <;> rfl)
    (howed := fun _ _ => rfl) (V := V m) (hmain := hmain m Variants.none) (hA := fun c => rdat_A (S c))
    (hin := fun c => rdat_in (S c)) (hout := fun c => rdat_out (S c)) (hQ' := fun _ h => h)

/-- What the launch leaves in the six argument arrays: what they held. -/
theorem args_of {S : (c : Dev nD) → Spec (F := F) m c} {r : PUnit × MemSt nD τ sig (Elt F)}
    (h : Pipeline.RDat.FramePost (cfgs 0) (fun c => rdat (S c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 1 rfl).trans ((rdat_A (S c) 1).trans (V_main_arg0 m c)),
   (h.arr_in c 0 rfl).trans ((rdat_A (S c) 0).trans (V_main_arg1 m c)),
   (h.arr_in c 2 rfl).trans ((rdat_A (S c) 2).trans (V_main_arg2 m c)),
   (h.arr_in c 3 rfl).trans ((rdat_A (S c) 3).trans (V_main_arg3 m c)),
   ((h c).2 main_arg4 (Pipeline.mem_restRefs_of main_arg4 (by decide) (by decide))).trans (V_main_arg4 m c),
   ((h c).2 main_arg5 (Pipeline.mem_restRefs_of main_arg5 (by decide) (by decide))).trans (V_main_arg5 m c)⟩

/-- THE FRAME: the program terminates, its argument arrays end as they began, and every semaphore counter is zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => args_of h.1 c, h.2⟩) (run_main (ρ := ρ) fun c => Spec.trivial m c)

end Cert.Kernel.Hand

end
-- ==== Proof.BodyIdeal.lean ====
/- Hand-written, untrusted. The kernel's body run once at a symbolic grid point, by the two cases of its one conditional:
   at the first point the body also fills the permutation and the two re-laid vectors, at the others it reads them.
   Each run names what the body leaves in the buffers it writes, as the pieces stored over the contents found there. -/
module

public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body run at the first point: the pieces it stores into each buffer it writes, and the triple that says so. -/
@[irreducible] def runA (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole)
    (hc : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) :
    Σ' (L7 : List (View.Piece (Elt F) S2x128x6912 .fp8e4m3)) (L8 : List (View.Piece (Elt F) S2x128x216 .i8)) (L9 : List (View.Piece (Elt F) S12x128 .f32)) (L10 : List (View.Piece (Elt F) S12x128 .f32)) (L11 : BufTy.Contents (Elt F) arg11.view.ty) (L12 : List (View.Piece (Elt F) S27x256x128 .f32)) (L13 : List (View.Piece (Elt F) S27x256x128 .f32)) (L14 : List (View.Piece (Elt F) S8x128 .f32)) (L15 : List (View.Piece (Elt F) S32x128 .f32)) (L16 : List (View.Piece (Elt F) S8x128 .f32)) (L17 : List (View.Piece (Elt F) S8x9x4x128 .fp8e4m3)), { L18 : List (View.Piece (Elt F) S27x8x256 .i32) //
      ∀ (K : PUnit → sProp 𝕄),
      iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (arg7.view.writes (Elt F) X7 L7)) ∗ (arg8.view.loc (c : Thread nD τ) ↦[arg8.view.set]{fullShare} (arg8.view.writes (Elt F) X8 L8)) ∗ (arg9.view.loc (c : Thread nD τ) ↦[arg9.view.set]{fullShare} (arg9.view.writes (Elt F) X9 L9)) ∗ (arg10.view.loc (c : Thread nD τ) ↦[arg10.view.set]{fullShare} (arg10.view.writes (Elt F) X10 L10)) ∗ (arg11.view.loc (c : Thread nD τ) ↦[arg11.view.set]{fullShare} L11) ∗ (arg12.view.loc (c : Thread nD τ) ↦[arg12.view.set]{fullShare} (arg12.view.writes (Elt F) X12 L12)) ∗ (arg13.view.loc (c : Thread nD τ) ↦[arg13.view.set]{fullShare} (arg13.view.writes (Elt F) X13 L13)) ∗ (arg14.view.loc (c : Thread nD τ) ↦[arg14.view.set]{fullShare} (arg14.view.writes (Elt F) X14 L14)) ∗ (arg15.view.loc (c : Thread nD τ) ↦[arg15.view.set]{fullShare} (arg15.view.writes (Elt F) X15 L15)) ∗ (arg16.view.loc (c : Thread nD τ) ↦[arg16.view.set]{fullShare} (arg16.view.writes (Elt F) X16 L16)) ∗ (arg17.view.loc (c : Thread nD τ) ↦[arg17.view.set]{fullShare} (arg17.view.writes (Elt F) X17 L17)) ∗ (arg18.view.loc (c : Thread nD τ) ↦[arg18.view.set]{fullShare} (arg18.view.writes (Elt F) X18 L18))) -∗ K ⟨⟩))
      ⊢ wp frame (wpE (defs₀ (F := F)) Variants.none (c : Thread nD τ) none) Set.univ (cc0_tp_layernorm_fp8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, ?_, ?_, ?_, fun K => ?run⟩
  case run =>
    simp only [cc0_tp_layernorm_fp8_eq_skeleton]; unfold cc0_tp_layernorm_fp8_skel
    iintro ⟨H1, H2, H3, H4, H5, H6, H7, H8, H9, H10, H11, H12, H13, H14, H15, H16, H17, H18, HK⟩
    sl_exec
    sl_step
    iapply HK
    sl_close

set_option maxHeartbeats 4000000 in
/-- The body run at a later point: the pieces it stores into each buffer it writes, and the triple that says so. -/
@[irreducible] def runB (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole)
    (hc : ¬ k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) :
    Σ' (L7 : List (View.Piece (Elt F) S2x128x6912 .fp8e4m3)) (L8 : List (View.Piece (Elt F) S2x128x216 .i8)) (L9 : List (View.Piece (Elt F) S12x128 .f32)) (L10 : List (View.Piece (Elt F) S12x128 .f32)) (L14 : List (View.Piece (Elt F) S8x128 .f32)) (L15 : List (View.Piece (Elt F) S32x128 .f32)) (L16 : List (View.Piece (Elt F) S8x128 .f32)) (L17 : List (View.Piece (Elt F) S8x9x4x128 .fp8e4m3)), { L18 : List (View.Piece (Elt F) S27x8x256 .i32) //
      ∀ (K : PUnit → sProp 𝕄),
      iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (arg7.view.writes (Elt F) X7 L7)) ∗ (arg8.view.loc (c : Thread nD τ) ↦[arg8.view.set]{fullShare} (arg8.view.writes (Elt F) X8 L8)) ∗ (arg9.view.loc (c : Thread nD τ) ↦[arg9.view.set]{fullShare} (arg9.view.writes (Elt F) X9 L9)) ∗ (arg10.view.loc (c : Thread nD τ) ↦[arg10.view.set]{fullShare} (arg10.view.writes (Elt F) X10 L10)) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} (arg14.view.writes (Elt F) X14 L14)) ∗ (arg15.view.loc (c : Thread nD τ) ↦[arg15.view.set]{fullShare} (arg15.view.writes (Elt F) X15 L15)) ∗ (arg16.view.loc (c : Thread nD τ) ↦[arg16.view.set]{fullShare} (arg16.view.writes (Elt F) X16 L16)) ∗ (arg17.view.loc (c : Thread nD τ) ↦[arg17.view.set]{fullShare} (arg17.view.writes (Elt F) X17 L17)) ∗ (arg18.view.loc (c : Thread nD τ) ↦[arg18.view.set]{fullShare} (arg18.view.writes (Elt F) X18 L18))) -∗ K ⟨⟩))
      ⊢ wp frame (wpE (defs₀ (F := F)) Variants.none (c : Thread nD τ) none) Set.univ (cc0_tp_layernorm_fp8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, fun K => ?run⟩
  case run =>
    simp only [cc0_tp_layernorm_fp8_eq_skeleton]; unfold cc0_tp_layernorm_fp8_skel
    iintro ⟨H1, H2, H3, H4, H5, H6, H7, H8, H9, H10, H11, H12, H13, H14, H15, H16, H17, H18, HK⟩
    sl_exec
    sl_step
    iapply HK
    sl_close

end Cert.KernelIdeal.Hand

end
-- ==== Proof.ObligIdeal.lean ====
/- Hand-written, untrusted. The body obligation and the launch from any specification of the body: relational proof data, in which
   what the body leaves in each result's buffer is in a stated relation to what it found there, and the three scratch buffers
   kept from point to point satisfy a stated predicate. The frame is the launch at the specification that says nothing. -/
module

public import proofs.«01_k».proof.Proof.BodyIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- That the body's run at the first point, on its input blocks, keeps `P` and is in the relations `R`. -/
def StepA (c : Dev nD) (P : ℕ → BufTy.Contents (Elt F) (Memref.whole cc0_scratch0).view.ty → BufTy.Contents (Elt F) (Memref.whole cc0_scratch1).view.ty → BufTy.Contents (Elt F) (Memref.whole cc0_scratch2).view.ty → Prop) (R : (w : Fin cfg0.W) → Fin cfg0.N → (Y X : (cfg0.win w).block.Idx → Elt F (cfg0.win w).elt) → Prop) : Prop :=
  ∀ (t : Fin cfg0.N) (hc : k0_cond1 (grid0.coords t) = 1#1) (X1 : BufTy.Contents (Elt F) (win0_0.stage (cfg0.slots t 0)).view.ty) (X2 : BufTy.Contents (Elt F) (win0_1.stage (cfg0.slots t 1)).view.ty) (X3 : BufTy.Contents (Elt F) (win0_2.stage (cfg0.slots t 2)).view.ty) (X4 : BufTy.Contents (Elt F) (win0_3.stage (cfg0.slots t 3)).view.ty) (X5 : BufTy.Contents (Elt F) (win0_4.stage (cfg0.slots t 4)).view.ty) (X6 : BufTy.Contents (Elt F) (win0_5.stage (cfg0.slots t 5)).view.ty) (X7 : BufTy.Contents (Elt F) (win0_6.stage (cfg0.slots t 6)).view.ty) (X8 : BufTy.Contents (Elt F) (win0_7.stage (cfg0.slots t 7)).view.ty) (X9 : BufTy.Contents (Elt F) (win0_8.stage (cfg0.slots t 8)).view.ty) (X10 : BufTy.Contents (Elt F) (win0_9.stage (cfg0.slots t 9)).view.ty) (X11 : BufTy.Contents (Elt F) (Memref.whole cc0_scratch0).view.ty) (X12 : BufTy.Contents (Elt F) (Memref.whole cc0_scratch1).view.ty) (X13 : BufTy.Contents (Elt F) (Memref.whole cc0_scratch2).view.ty) (X14 : BufTy.Contents (Elt F) (Memref.whole cc0_scratch3).view.ty) (X15 : BufTy.Contents (Elt F) (Memref.whole cc0_scratch4).view.ty) (X16 : BufTy.Contents (Elt F) (Memref.whole cc0_scratch5).view.ty) (X17 : BufTy.Contents (Elt F) (Memref.whole cc0_scratch6).view.ty) (X18 : BufTy.Contents (Elt F) (Memref.whole cc0_scratch7).view.ty), ((win0_0.stage (cfg0.slots t 0)).view.read (Elt F) X1) = iblk m c 0 t → ((win0_1.stage (cfg0.slots t 1)).view.read (Elt F) X2) = iblk m c 1 t → ((win0_2.stage (cfg0.slots t 2)).view.read (Elt F) X3) = iblk m c 2 t → ((win0_3.stage (cfg0.slots t 3)).view.read (Elt F) X4) = iblk m c 3 t → ((win0_4.stage (cfg0.slots t 4)).view.read (Elt F) X5) = iblk m c 4 t → ((win0_5.stage (cfg0.slots t 5)).view.read (Elt F) X6) = iblk m c 5 t → P t.val X11 X12 X13 →
    R 6 t ((win0_6.stage (cfg0.slots t 6)).view.read (Elt F) X7) ((win0_6.stage (cfg0.slots t 6)).view.read (Elt F) ((win0_6.stage (cfg0.slots t 6)).view.writes (Elt F) X7 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).1)) ∧ R 7 t ((win0_7.stage (cfg0.slots t 7)).view.read (Elt F) X8) ((win0_7.stage (cfg0.slots t 7)).view.read (Elt F) ((win0_7.stage (cfg0.slots t 7)).view.writes (Elt F) X8 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.1)) ∧ R 8 t ((win0_8.stage (cfg0.slots t 8)).view.read (Elt F) X9) ((win0_8.stage (cfg0.slots t 8)).view.read (Elt F) ((win0_8.stage (cfg0.slots t 8)).view.writes (Elt F) X9 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.1)) ∧ R 9 t ((win0_9.stage (cfg0.slots t 9)).view.read (Elt F) X10) ((win0_9.stage (cfg0.slots t 9)).view.read (Elt F) ((win0_9.stage (cfg0.slots t 9)).view.writes (Elt F) X10 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.1)) ∧ P (t.val + 1) (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.2.1 ((Memref.whole cc0_scratch1).view.writes (Elt F) X12 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.2.2.1) ((Memref.whole cc0_scratch2).view.writes (Elt F) X13 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.2.2.2.1)

set_option maxHeartbeats 4000000 in
/-- That the body's run at a later point, on its input blocks, keeps `P` and is in the relations `R`. -/
def StepB (c : Dev nD) (P : ℕ → BufTy.Contents (Elt F) (Memref.whole cc0_scratch0).view.ty → BufTy.Contents (Elt F) (Memref.whole cc0_scratch1).view.ty → BufTy.Contents (Elt F) (Memref.whole cc0_scratch2).view.ty → Prop) (R : (w : Fin cfg0.W) → Fin cfg0.N → (Y X : (cfg0.win w).block.Idx → Elt F (cfg0.win w).elt) → Prop) : Prop :=
  ∀ (t : Fin cfg0.N) (hc : ¬ k0_cond1 (grid0.coords t) = 1#1) (X1 : BufTy.Contents (Elt F) (win0_0.stage (cfg0.slots t 0)).view.ty) (X2 : BufTy.Contents (Elt F) (win0_1.stage (cfg0.slots t 1)).view.ty) (X3 : BufTy.Contents (Elt F) (win0_2.stage (cfg0.slots t 2)).view.ty) (X4 : BufTy.Contents (Elt F) (win0_3.stage (cfg0.slots t 3)).view.ty) (X5 : BufTy.Contents (Elt F) (win0_4.stage (cfg0.slots t 4)).view.ty) (X6 : BufTy.Contents (Elt F) (win0_5.stage (cfg0.slots t 5)).view.ty) (X7 : BufTy.Contents (Elt F) (win0_6.stage (cfg0.slots t 6)).view.ty) (X8 : BufTy.Contents (Elt F) (win0_7.stage (cfg0.slots t 7)).view.ty) (X9 : BufTy.Contents (Elt F) (win0_8.stage (cfg0.slots t 8)).view.ty) (X10 : BufTy.Contents (Elt F) (win0_9.stage (cfg0.slots t 9)).view.ty) (X11 : BufTy.Contents (Elt F) (Memref.whole cc0_scratch0).view.ty) (X12 : BufTy.Contents (Elt F) (Memref.whole cc0_scratch1).view.ty) (X13 : BufTy.Contents (Elt F) (Memref.whole cc0_scratch2).view.ty) (X14 : BufTy.Contents (Elt F) (Memref.whole cc0_scratch3).view.ty) (X15 : BufTy.Contents (Elt F) (Memref.whole cc0_scratch4).view.ty) (X16 : BufTy.Contents (Elt F) (Memref.whole cc0_scratch5).view.ty) (X17 : BufTy.Contents (Elt F) (Memref.whole cc0_scratch6).view.ty) (X18 : BufTy.Contents (Elt F) (Memref.whole cc0_scratch7).view.ty), ((win0_0.stage (cfg0.slots t 0)).view.read (Elt F) X1) = iblk m c 0 t → ((win0_1.stage (cfg0.slots t 1)).view.read (Elt F) X2) = iblk m c 1 t → ((win0_2.stage (cfg0.slots t 2)).view.read (Elt F) X3) = iblk m c 2 t → ((win0_3.stage (cfg0.slots t 3)).view.read (Elt F) X4) = iblk m c 3 t → ((win0_4.stage (cfg0.slots t 4)).view.read (Elt F) X5) = iblk m c 4 t → ((win0_5.stage (cfg0.slots t 5)).view.read (Elt F) X6) = iblk m c 5 t → P t.val X11 X12 X13 →
    R 6 t ((win0_6.stage (cfg0.slots t 6)).view.read (Elt F) X7) ((win0_6.stage (cfg0.slots t 6)).view.read (Elt F) ((win0_6.stage (cfg0.slots t 6)).view.writes (Elt F) X7 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).1)) ∧ R 7 t ((win0_7.stage (cfg0.slots t 7)).view.read (Elt F) X8) ((win0_7.stage (cfg0.slots t 7)).view.read (Elt F) ((win0_7.stage (cfg0.slots t 7)).view.writes (Elt F) X8 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.1)) ∧ R 8 t ((win0_8.stage (cfg0.slots t 8)).view.read (Elt F) X9) ((win0_8.stage (cfg0.slots t 8)).view.read (Elt F) ((win0_8.stage (cfg0.slots t 8)).view.writes (Elt F) X9 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.1)) ∧ R 9 t ((win0_9.stage (cfg0.slots t 9)).view.read (Elt F) X10) ((win0_9.stage (cfg0.slots t 9)).view.read (Elt F) ((win0_9.stage (cfg0.slots t 9)).view.writes (Elt F) X10 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.1)) ∧ P (t.val + 1) X11 X12 X13

/-- A specification of the body on core `c`: a predicate `P n` on the three scratch buffers kept between points, before point `n`;
    for each result a relation `R` between what the body finds in its buffer at a point and what it leaves; and the two facts
    that the body's run at a point, on its input blocks, keeps them (first point, later points). -/
structure Spec (c : Dev nD) where
  P : ℕ → BufTy.Contents (Elt F) (Memref.whole cc0_scratch0).view.ty → BufTy.Contents (Elt F) (Memref.whole cc0_scratch1).view.ty → BufTy.Contents (Elt F) (Memref.whole cc0_scratch2).view.ty → Prop
  R : (w : Fin cfg0.W) → Fin cfg0.N → (Y X : (cfg0.win w).block.Idx → Elt F (cfg0.win w).elt) → Prop
  zero : ∀ f0 f1 f2, P 0 f0 f1 f2
  stepA : StepA m c P R
  stepB : StepB m c P R

/-- The specification that says nothing. -/
def Spec.trivial (c : Dev nD) : Spec (F := F) m c where
  P _ _ _ _ := True
  R _ _ _ _ := True
  zero _ _ _ := True.intro
  stepA := by unfold StepA; intros; exact ⟨True.intro, True.intro, True.intro, True.intro, True.intro⟩
  stepB := by unfold StepB; intros; exact ⟨True.intro, True.intro, True.intro, True.intro, True.intro⟩

variable {m}

/-- The invariant before point `n`: the three kept scratch buffers at contents with `P n`, the other five at any contents, the
    generator register at some state. -/
def Inv {c : Dev nD} (S : Spec (F := F) m c) (n : ℕ) : sProp 𝕄 :=
  iprop((∃ f0 f1 f2, ⌜S.P n f0 f1 f2⌝ ∗ ((Memref.whole cc0_scratch0).view.loc (c : Thread nD τ) ↦[(Memref.whole cc0_scratch0).view.set]{fullShare} f0) ∗ ((Memref.whole cc0_scratch1).view.loc (c : Thread nD τ) ↦[(Memref.whole cc0_scratch1).view.set]{fullShare} f1) ∗ ((Memref.whole cc0_scratch2).view.loc (c : Thread nD τ) ↦[(Memref.whole cc0_scratch2).view.set]{fullShare} f2))
    ∗ (∃ f, (Memref.whole cc0_scratch3).view.loc (c : Thread nD τ) ↦[(Memref.whole cc0_scratch3).view.set]{fullShare} f) ∗ (∃ f, (Memref.whole cc0_scratch4).view.loc (c : Thread nD τ) ↦[(Memref.whole cc0_scratch4).view.set]{fullShare} f) ∗ (∃ f, (Memref.whole cc0_scratch5).view.loc (c : Thread nD τ) ↦[(Memref.whole cc0_scratch5).view.set]{fullShare} f) ∗ (∃ f, (Memref.whole cc0_scratch6).view.loc (c : Thread nD τ) ↦[(Memref.whole cc0_scratch6).view.set]{fullShare} f) ∗ (∃ f, (Memref.whole cc0_scratch7).view.loc (c : Thread nD τ) ↦[(Memref.whole cc0_scratch7).view.set]{fullShare} f)
    ∗ ∃ r, prngReg c r)

/-- The relational proof data on core `c`: the arrays as the region finds them; each input's buffer left as found, each result's in
    the specification's relation; the invariant above; full shares; nothing owed. -/
def rdat {c : Dev nD} (S : Spec (F := F) m c) : RDat τ (Elt F) Unit ℕ (UR sig nD τ) ℕ cfg0 c where
  A w := V m c (Pipeline.arrRef spec0 w)
  after w t Y X := ((cfg0.win w).isOut = true → S.R w t Y X) ∧ ((cfg0.win w).isOut = false → X = Y)
  Φ t := Inv S t.val
  q _ := fullShare
  owed _ := 0

/-- The data's arrays are the ones the run starts from. -/
theorem rdat_A {c : Dev nD} (S : Spec (F := F) m c) (w : Fin cfg0.W) : (rdat S).A w = V m c (Pipeline.arrRef spec0 w) := by dsimp only [rdat]

/-- An input window's block is unchanged by a step. -/
theorem rdat_after_in {c : Dev nD} (S : Spec (F := F) m c) (w : Fin cfg0.W) (h : (cfg0.win w).isOut = false) (t : Fin cfg0.N) (Y) :
    (rdat S).after w t Y Y := by
  dsimp only [rdat]; exact ⟨fun h' => absurd (h.symm.trans h') Bool.false_ne_true, fun _ => rfl⟩

/-- An output window's block after a step is as the spec relates it. -/
theorem rdat_after_out {c : Dev nD} (S : Spec (F := F) m c) (w : Fin cfg0.W) (h : (cfg0.win w).isOut = true) (t : Fin cfg0.N) (Y X) :
    Iff ((rdat S).after w t Y X) (S.R w t Y X) := by
  dsimp only [rdat]; exact ⟨fun h' => h'.1 h, fun h' => ⟨fun _ => h', fun h'' => absurd (h''.symm.trans h) Bool.false_ne_true⟩⟩

/-- Input window 0's current buffer holds its block at every point. -/
theorem finds_0 {c : Dev nD} (S : Spec (F := F) m c) (t : Fin cfg0.N) (Y) (h : (rdat S).Finds 0 t Y) : Y = iblk m c 0 t := by
  obtain ⟨d, hd⟩ := (rdat S).finds_in_eq_fetched 0 rfl (fun _ _ _ => rfl) (fun _ _ _ h => h.2 rfl) t Y h
  refine hd.trans ?_
  unfold RDat.fetched RDat.blockOf iblk; rw [rdat_A]; try rfl
/-- Input window 1's current buffer holds its block at every point. -/
theorem finds_1 {c : Dev nD} (S : Spec (F := F) m c) (t : Fin cfg0.N) (Y) (h : (rdat S).Finds 1 t Y) : Y = iblk m c 1 t := by
  obtain ⟨d, hd⟩ := (rdat S).finds_in_eq_fetched 1 rfl (fun _ _ _ => rfl) (fun _ _ _ h => h.2 rfl) t Y h
  refine hd.trans ?_
  unfold RDat.fetched RDat.blockOf iblk; rw [rdat_A]; try rfl
/-- Input window 2's current buffer holds its block at every point. -/
theorem finds_2 {c : Dev nD} (S : Spec (F := F) m c) (t : Fin cfg0.N) (Y) (h : (rdat S).Finds 2 t Y) : Y = iblk m c 2 t := by
  obtain ⟨d, hd⟩ := (rdat S).finds_in_eq_fetched 2 rfl (fun _ _ _ => rfl) (fun _ _ _ h => h.2 rfl) t Y h
  refine hd.trans ?_
  unfold RDat.fetched RDat.blockOf iblk; rw [rdat_A]; try rfl
/-- Input window 3's current buffer holds its block at every point. -/
theorem finds_3 {c : Dev nD} (S : Spec (F := F) m c) (t : Fin cfg0.N) (Y) (h : (rdat S).Finds 3 t Y) : Y = iblk m c 3 t := by
  obtain ⟨d, hd⟩ := (rdat S).finds_in_eq_fetched 3 rfl (fun _ _ _ => rfl) (fun _ _ _ h => h.2 rfl) t Y h
  refine hd.trans ?_
  unfold RDat.fetched RDat.blockOf iblk; rw [rdat_A]; try rfl
/-- Input window 4's current buffer holds its block at every point. -/
theorem finds_4 {c : Dev nD} (S : Spec (F := F) m c) (t : Fin cfg0.N) (Y) (h : (rdat S).Finds 4 t Y) : Y = iblk m c 4 t := by
  obtain ⟨d, hd⟩ := (rdat S).finds_in_eq_fetched 4 rfl (fun _ _ _ => rfl) (fun _ _ _ h => h.2 rfl) t Y h
  refine hd.trans ?_
  unfold RDat.fetched RDat.blockOf iblk; rw [rdat_A]; try rfl
/-- Input window 5's current buffer holds its block at every point. -/
theorem finds_5 {c : Dev nD} (S : Spec (F := F) m c) (t : Fin cfg0.N) (Y) (h : (rdat S).Finds 5 t Y) : Y = iblk m c 5 t := by
  obtain ⟨d, hd⟩ := (rdat S).finds_in_eq_fetched 5 rfl (fun _ _ _ => rfl) (fun _ _ _ h => h.2 rfl) t Y h
  refine hd.trans ?_
  unfold RDat.fetched RDat.blockOf iblk; rw [rdat_A]; try rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body at a point: from the invariant and the ten buffers the body runs to the invariant at the next point and each buffer in
    its relation to what it was. -/
theorem sound_body {c : Dev nD} (S : Spec (F := F) m c) (t : Fin cfg0.N) (Y : (w : Fin cfg0.W) → (cfg0.win w).block.Idx → Elt F (cfg0.win w).elt)
    (hY : ∀ w, (rdat S).Finds w t (Y w)) :
    iprop((rdat S).Φ t.castSucc ∗ (rdat S).owesAt () t.castSucc
        ∗ owns c ((cfg0.win 0).stage (cfg0.slots t 0)) fullShare (Y 0) ∗ owns c ((cfg0.win 1).stage (cfg0.slots t 1)) fullShare (Y 1) ∗ owns c ((cfg0.win 2).stage (cfg0.slots t 2)) fullShare (Y 2) ∗ owns c ((cfg0.win 3).stage (cfg0.slots t 3)) fullShare (Y 3) ∗ owns c ((cfg0.win 4).stage (cfg0.slots t 4)) fullShare (Y 4) ∗ owns c ((cfg0.win 5).stage (cfg0.slots t 5)) fullShare (Y 5) ∗ owns c ((cfg0.win 6).stage (cfg0.slots t 6)) fullShare (Y 6) ∗ owns c ((cfg0.win 7).stage (cfg0.slots t 7)) fullShare (Y 7) ∗ owns c ((cfg0.win 8).stage (cfg0.slots t 8)) fullShare (Y 8) ∗ owns c ((cfg0.win 9).stage (cfg0.slots t 9)) fullShare (Y 9))
      ⊢ wp frame (wpE (defs₀ (F := F)) Variants.none c none) Set.univ (bodyAt0 t) fun _ =>
          iprop((rdat S).Φ t.succ ∗ (rdat S).owesAt () t.succ
            ∗ (∃ X, ⌜(rdat S).after 0 t (Y 0) X⌝ ∗ owns c ((cfg0.win 0).stage (cfg0.slots t 0)) fullShare X) ∗ (∃ X, ⌜(rdat S).after 1 t (Y 1) X⌝ ∗ owns c ((cfg0.win 1).stage (cfg0.slots t 1)) fullShare X) ∗ (∃ X, ⌜(rdat S).after 2 t (Y 2) X⌝ ∗ owns c ((cfg0.win 2).stage (cfg0.slots t 2)) fullShare X) ∗ (∃ X, ⌜(rdat S).after 3 t (Y 3) X⌝ ∗ owns c ((cfg0.win 3).stage (cfg0.slots t 3)) fullShare X) ∗ (∃ X, ⌜(rdat S).after 4 t (Y 4) X⌝ ∗ owns c ((cfg0.win 4).stage (cfg0.slots t 4)) fullShare X) ∗ (∃ X, ⌜(rdat S).after 5 t (Y 5) X⌝ ∗ owns c ((cfg0.win 5).stage (cfg0.slots t 5)) fullShare X) ∗ (∃ X, ⌜(rdat S).after 6 t (Y 6) X⌝ ∗ owns c ((cfg0.win 6).stage (cfg0.slots t 6)) fullShare X) ∗ (∃ X, ⌜(rdat S).after 7 t (Y 7) X⌝ ∗ owns c ((cfg0.win 7).stage (cfg0.slots t 7)) fullShare X) ∗ (∃ X, ⌜(rdat S).after 8 t (Y 8) X⌝ ∗ owns c ((cfg0.win 8).stage (cfg0.slots t 8)) fullShare X) ∗ (∃ X, ⌜(rdat S).after 9 t (Y 9) X⌝ ∗ owns c ((cfg0.win 9).stage (cfg0.slots t 9)) fullShare X)) := by
  rw [show (rdat S).owesAt () t.succ = (rdat S).owesAt () t.castSucc from rfl,
    show (rdat S).Φ t.castSucc = Inv S t.val from rfl, show (rdat S).Φ t.succ = Inv S (t.val + 1) from rfl]
  unfold Inv owns bodyAt0
  iintro ⟨⟨⟨%X11, %X12, %X13, %hP, H11, H12, H13⟩, ⟨%X14, H14⟩, ⟨%X15, H15⟩, ⟨%X16, H16⟩, ⟨%X17, H17⟩, ⟨%X18, H18⟩, Hr⟩, HO, ⟨%X1, %e1, H1⟩, ⟨%X2, %e2, H2⟩, ⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩⟩
  have g1 := e1.trans (finds_0 S t _ (hY 0))
  have g2 := e2.trans (finds_1 S t _ (hY 1))
  have g3 := e3.trans (finds_2 S t _ (hY 2))
  have g4 := e4.trans (finds_3 S t _ (hY 3))
  have g5 := e5.trans (finds_4 S t _ (hY 4))
  have g6 := e6.trans (finds_5 S t _ (hY 5))
  by_cases hc : k0_cond1 (grid0.coords t) = 1#1
  · obtain ⟨hR6, hR7, hR8, hR9, hP'⟩ := S.stepA t hc X1 X2 X3 X4 X5 X6 X7 X8 X9 X10 X11 X12 X13 X14 X15 X16 X17 X18 g1 g2 g3 g4 g5 g6 hP
    iapply ((runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.2.2.2.2.2.2.2.2.2 _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H1, H2, H3, H4, H5, H6, H7, H8, H9, H10, H11, H12, H13, H14, H15, H16, H17, H18⟩
    isplitl [H11 H12 H13 H14 H15 H16 H17 H18 Hr]
    · isplitl [H11 H12 H13]
      · iexists _, _, _
        isplitr; · ipureintro; exact hP'
        isplitl [H11]; · iexact H11
        isplitl [H12]; · iexact H12
        iexact H13
      isplitl [H14]; · iexists _; iexact H14
      isplitl [H15]; · iexists _; iexact H15
      isplitl [H16]; · iexists _; iexact H16
      isplitl [H17]; · iexists _; iexact H17
      isplitl [H18]; · iexists _; iexact H18
      iexact Hr
    isplitl [HO]; · iexact HO
    isplitl [H1]
    · iexists (Y 0)
      isplitr
      · ipureintro; exact (rdat_after_in S 0 rfl t _)
      iexists _
      isplitr; swap
      · iexact H1
      ipureintro; exact e1
    isplitl [H2]
    · iexists (Y 1)
      isplitr
      · ipureintro; exact (rdat_after_in S 1 rfl t _)
      iexists _
      isplitr; swap
      · iexact H2
      ipureintro; exact e2
    isplitl [H3]
    · iexists (Y 2)
      isplitr
      · ipureintro; exact (rdat_after_in S 2 rfl t _)
      iexists _
      isplitr; swap
      · iexact H3
      ipureintro; exact e3
    isplitl [H4]
    · iexists (Y 3)
      isplitr
      · ipureintro; exact (rdat_after_in S 3 rfl t _)
      iexists _
      isplitr; swap
      · iexact H4
      ipureintro; exact e4
    isplitl [H5]
    · iexists (Y 4)
      isplitr
      · ipureintro; exact (rdat_after_in S 4 rfl t _)
      iexists _
      isplitr; swap
      · iexact H5
      ipureintro; exact e5
    isplitl [H6]
    · iexists (Y 5)
      isplitr
      · ipureintro; exact (rdat_after_in S 5 rfl t _)
      iexists _
      isplitr; swap
      · iexact H6
      ipureintro; exact e6
    isplitl [H7]
    · iexists ((win0_6.stage (cfg0.slots t 6)).view.read (Elt F) ((win0_6.stage (cfg0.slots t 6)).view.writes (Elt F) X7 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).1))
      isplitr
      · ipureintro; exact ((rdat_after_out S 6 rfl t _ _).mpr (e7 ▸ hR6))
      iexists _
      isplitr; swap
      · iexact H7
      ipureintro; rfl
    isplitl [H8]
    · iexists ((win0_7.stage (cfg0.slots t 7)).view.read (Elt F) ((win0_7.stage (cfg0.slots t 7)).view.writes (Elt F) X8 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.1))
      isplitr
      · ipureintro; exact ((rdat_after_out S 7 rfl t _ _).mpr (e8 ▸ hR7))
      iexists _
      isplitr; swap
      · iexact H8
      ipureintro; rfl
    isplitl [H9]
    · iexists ((win0_8.stage (cfg0.slots t 8)).view.read (Elt F) ((win0_8.stage (cfg0.slots t 8)).view.writes (Elt F) X9 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.1))
      isplitr
      · ipureintro; exact ((rdat_after_out S 8 rfl t _ _).mpr (e9 ▸ hR8))
      iexists _
      isplitr; swap
      · iexact H9
      ipureintro; rfl
    iexists ((win0_9.stage (cfg0.slots t 9)).view.read (Elt F) ((win0_9.stage (cfg0.slots t 9)).view.writes (Elt F) X10 (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.1))
    isplitr
    · ipureintro; exact ((rdat_after_out S 9 rfl t _ _).mpr (e10 ▸ hR9))
    iexists _
    isplitr; swap
    · iexact H10
    ipureintro; rfl
  · obtain ⟨hR6, hR7, hR8, hR9, hP'⟩ := S.stepB t hc X1 X2 X3 X4 X5 X6 X7 X8 X9 X10 X11 X12 X13 X14 X15 X16 X17 X18 g1 g2 g3 g4 g5 g6 hP
    iapply ((runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.2.2.2.2.2.2 _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H1, H2, H3, H4, H5, H6, H7, H8, H9, H10, H11, H12, H13, H14, H15, H16, H17, H18⟩
    isplitl [H11 H12 H13 H14 H15 H16 H17 H18 Hr]
    · isplitl [H11 H12 H13]
      · iexists _, _, _
        isplitr; · ipureintro; exact hP'
        isplitl [H11]; · iexact H11
        isplitl [H12]; · iexact H12
        iexact H13
      isplitl [H14]; · iexists _; iexact H14
      isplitl [H15]; · iexists _; iexact H15
      isplitl [H16]; · iexists _; iexact H16
      isplitl [H17]; · iexists _; iexact H17
      isplitl [H18]; · iexists _; iexact H18
      iexact Hr
    isplitl [HO]; · iexact HO
    isplitl [H1]
    · iexists (Y 0)
      isplitr
      · ipureintro; exact (rdat_after_in S 0 rfl t _)
      iexists _
      isplitr; swap
      · iexact H1
      ipureintro; exact e1
    isplitl [H2]
    · iexists (Y 1)
      isplitr
      · ipureintro; exact (rdat_after_in S 1 rfl t _)
      iexists _
      isplitr; swap
      · iexact H2
      ipureintro; exact e2
    isplitl [H3]
    · iexists (Y 2)
      isplitr
      · ipureintro; exact (rdat_after_in S 2 rfl t _)
      iexists _
      isplitr; swap
      · iexact H3
      ipureintro; exact e3
    isplitl [H4]
    · iexists (Y 3)
      isplitr
      · ipureintro; exact (rdat_after_in S 3 rfl t _)
      iexists _
      isplitr; swap
      · iexact H4
      ipureintro; exact e4
    isplitl [H5]
    · iexists (Y 4)
      isplitr
      · ipureintro; exact (rdat_after_in S 4 rfl t _)
      iexists _
      isplitr; swap
      · iexact H5
      ipureintro; exact e5
    isplitl [H6]
    · iexists (Y 5)
      isplitr
      · ipureintro; exact (rdat_after_in S 5 rfl t _)
      iexists _
      isplitr; swap
      · iexact H6
      ipureintro; exact e6
    isplitl [H7]
    · iexists ((win0_6.stage (cfg0.slots t 6)).view.read (Elt F) ((win0_6.stage (cfg0.slots t 6)).view.writes (Elt F) X7 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).1))
      isplitr
      · ipureintro; exact ((rdat_after_out S 6 rfl t _ _).mpr (e7 ▸ hR6))
      iexists _
      isplitr; swap
      · iexact H7
      ipureintro; rfl
    isplitl [H8]
    · iexists ((win0_7.stage (cfg0.slots t 7)).view.read (Elt F) ((win0_7.stage (cfg0.slots t 7)).view.writes (Elt F) X8 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.1))
      isplitr
      · ipureintro; exact ((rdat_after_out S 7 rfl t _ _).mpr (e8 ▸ hR7))
      iexists _
      isplitr; swap
      · iexact H8
      ipureintro; rfl
    isplitl [H9]
    · iexists ((win0_8.stage (cfg0.slots t 8)).view.read (Elt F) ((win0_8.stage (cfg0.slots t 8)).view.writes (Elt F) X9 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.1))
      isplitr
      · ipureintro; exact ((rdat_after_out S 8 rfl t _ _).mpr (e9 ▸ hR8))
      iexists _
      isplitr; swap
      · iexact H9
      ipureintro; rfl
    iexists ((win0_9.stage (cfg0.slots t 9)).view.read (Elt F) ((win0_9.stage (cfg0.slots t 9)).view.writes (Elt F) X10 (runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) hc X1 X2 X3 X4 X5 X6 X7 X8 X9 X10 X11 X12 X13 X14 X15 X16 X17 X18).2.2.2.1))
    isplitr
    · ipureintro; exact ((rdat_after_out S 9 rfl t _ _).mpr (e10 ▸ hR9))
    iexists _
    isplitr; swap
    · iexact H10
    ipureintro; rfl

/-- The library's body obligation at any specification. -/
theorem body_obligation {c : Dev nD} (S : Spec (F := F) m c) : (rdat S).BodyObligation (defs₀ (F := F)) Variants.none () Set.univ := fun t Y hY => by
  rw [bigSep_W0, bigSep_W0, defs₀_row]
  exact triple_restated (sound_body S t Y hY) rfl .rfl fun _ => .rfl

/-- The scratch buffers at entry give the invariant at point 0. -/
theorem rdat_in {c : Dev nD} (S : Spec (F := F) m c) : Pipeline.ΦA spec0 c ⊢ (rdat S).Φ 0 := by
  rw [show (rdat S).Φ 0 = Inv S 0 from rfl]
  unfold Pipeline.ΦA Inv; rw [scopedRest0_eq]
  simp only [Memref.view_whole, View.set_whole]
  iintro ⟨⟨⟨%f0, H0⟩, ⟨%f1, H1⟩, ⟨%f2, H2⟩, H3, H4, H5, H6, H7⟩, Hr⟩
  isplitl [H0 H1 H2]
  · iexists f0, f1, f2
    isplitr; · ipureintro; exact S.zero _ _ _
    isplitl [H0]; · iexact H0
    isplitl [H1]; · iexact H1
    iexact H2
  isplitl [H3]; · iexact H3
  isplitl [H4]; · iexact H4
  isplitl [H5]; · iexact H5
  isplitl [H6]; · iexact H6
  isplitl [H7]; · iexact H7
  iexact Hr

/-- The invariant after the last point gives the scratch buffers back. -/
theorem rdat_out {c : Dev nD} (S : Spec (F := F) m c) : (rdat S).Φ (Fin.last cfg0.N) ⊢ Pipeline.ΦA spec0 c := by
  rw [show (rdat S).Φ (Fin.last cfg0.N) = Inv S cfg0.N from rfl]
  unfold Pipeline.ΦA Inv; rw [scopedRest0_eq]
  simp only [Memref.view_whole, View.set_whole]
  iintro ⟨⟨%f0, %f1, %f2, -, H0, H1, H2⟩, H3, H4, H5, H6, H7, Hr⟩
  isplitr [Hr]
  · isplitl [H0]; · iexists f0; iexact H0
    isplitl [H1]; · iexists f1; iexact H1
    isplitl [H2]; · iexists f2; iexact H2
    isplitl [H3]; · iexact H3
    isplitl [H4]; · iexact H4
    isplitl [H5]; · iexact H5
    isplitl [H6]; · iexact H6
    iexact H7
  iexact Hr

set_option backward.isDefEq.respectTransparency.types false in
set_option maxHeartbeats 800000 in
/-- The launch: from any memory with zero counters every execution terminates, with each array at contents the relational data
    allow, every other unscoped buffer as the region found it, and every semaphore counter at zero. -/
theorem run_main (S : (c : Dev nD) → Spec (F := F) m c) :
    θ_run defs (onTc (τ := τ) (main (F := F))) (s₀ m ρ)
      (fun r => Pipeline.RDat.FramePost (cfgs 0) (fun c => rdat (S c)) (V m) r ∧ r.2.sem = fun _ => 0) :=
  Pipeline.RDat.θ_run_frame_track (Q' := _) cfgs (0 : Fin 1) launch0 defs₀ Variants.none (fun c => rdat (S c)) m ρ main
    (hbody := fun c => body_obligation (S c)) (hshare := fun c w => by unfold RDat.share; split <;> rfl)
    (howed := fun _ _ => rfl) (V := V m) (hmain := hmain m Variants.none) (hA := fun c => rdat_A (S c))
    (hin := fun c => rdat_in (S c)) (hout := fun c => rdat_out (S c)) (hQ' := fun _ h => h)

/-- What the launch leaves in the six argument arrays: what they held. -/
theorem args_of {S : (c : Dev nD) → Spec (F := F) m c} {r : PUnit × MemSt nD τ sig (Elt F)}
    (h : Pipeline.RDat.FramePost (cfgs 0) (fun c => rdat (S c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 1 rfl).trans ((rdat_A (S c) 1).trans (V_main_arg0 m c)),
   (h.arr_in c 0 rfl).trans ((rdat_A (S c) 0).trans (V_main_arg1 m c)),
   (h.arr_in c 2 rfl).trans ((rdat_A (S c) 2).trans (V_main_arg2 m c)),
   (h.arr_in c 3 rfl).trans ((rdat_A (S c) 3).trans (V_main_arg3 m c)),
   ((h c).2 main_arg4 (Pipeline.mem_restRefs_of main_arg4 (by decide) (by decide))).trans (V_main_arg4 m c),
   ((h c).2 main_arg5 (Pipeline.mem_restRefs_of main_arg5 (by decide) (by decide))).trans (V_main_arg5 m c)⟩

/-- THE FRAME: the program terminates, its argument arrays end as they began, and every semaphore counter is zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => args_of h.1 c, h.2⟩) (run_main (ρ := ρ) fun c => Spec.trivial m c)

end Cert.KernelIdeal.Hand

end
-- ==== Proof.TripY.lean ====
/- Hand-written, untrusted. The affine rows of one tile: each of the sixty-four slabs of eight rows the tile loop computes is the same
   function of the permuted tile, the statistics and the laid-out gamma and beta. -/
module

public import proofs.«01_k».proof.Proof.Gen.KernelIdeal.Loops
public import Idealize.ShloMosaic.PureOps.Ideal
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The tile loop makes 27 trips. -/
theorem trips3 : k0_t3_loop.trips = 27 := by decide +kernel

/-- What the affine step makes of one entry: centred, scaled, times gamma, plus beta. -/
def aff (x m r g b : EReal) : EReal := (x - m) * r * g + b

/-- One output of the affine step, from equal operands. -/
theorem aff_congr {x x' m m' r r' g g' b b' : EReal} (hx : x = x') (hm : m = m') (hr : r = r') (hg : g = g') (hb : b = b') :
    (x - m) * r * g + b = aff x' m' r' g' b' := by
  rw [hx, hm, hr, hg, hb]; rfl

/-- Row `r`, lane `l` of block `h` of the normalised tile `k`, from the permuted tile `xt`, the statistics `st` and the
    laid-out gamma `gb` and beta `bb`. -/
def YV (xt : S256x256.Idx → EReal) (st : S8x128.Idx → EReal) (gb bb : S27x256x128.Idx → EReal)
    (k : Fin 27) (h : Fin 2) (r : Fin 256) (l : Fin 128) : EReal :=
  aff (xt (ix2 r ⟨128 * h.val + l.val, by omega⟩)) (st (ix2 ⟨2 * h.val, by omega⟩ l)) (st (ix2 ⟨2 * h.val + 1, by omega⟩ l))
    (gb (ix3 k r l)) (bb (ix3 k r l))

/-- Slab `v` of eight rows of a tile. -/
def slab (Y : Fin 256 → Fin 128 → EReal) (v : Fin 32) : FVec Ideal S8x128 .f32 :=
  fun j => Y ⟨8 * v.val + (show Fin 8 from j 0).val, by have := (show Fin 8 from j 0).isLt; omega⟩ (j 1)

/-- The normalised tile of trip `k`, block `h`, from the contents the trip reads. -/
def YT (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips) (h : Fin 2) : Fin 256 → Fin 128 → EReal :=
  YV (trip_k0_t3.sl.r (F := Ideal) arg2 arg11 X_arg2 X_arg11 k) (arg14.view.read (Elt Ideal) X_arg14) (arg12.view.read (Elt Ideal) X_arg12)
    (arg13.view.read (Elt Ideal) X_arg13) (Fin.cast trips3 k) h

/-- A load of eight rows of the laid-out gamma or beta at an index. -/
theorem read3 (v : View sig .tc .vmem S27x256x128 .f32) (X : v.ty.Contents (Elt Ideal)) (o : ℕ) (k : Fin k0_t3_loop.trips) (off : Fin 3 → ℕ) (inb)
    (ho : off = ![k.val, o, 0]) (z : Fin 1) (a : Fin 8) (l : Fin 128) (r : Fin 256) (hr : r.val = o + a.val) :
    View.readAt (Elt Ideal) v (Rect.unit (s := S27x256x128) off S1x8x128.size inb).toLoadRect X (ix3 z a l)
      = v.read (Elt Ideal) X (ix3 (Fin.cast trips3 k) r l) := by
  subst ho
  refine congrArg (v.read (Elt Ideal) X) (funext fun d => Fin.ext ?_)
  obtain rfl : z = 0 := Subsingleton.elim _ _
  match d with
  | ⟨0, _⟩ => show k.val + 1 * 0 = k.val; omega
  | ⟨1, _⟩ => show o + 1 * a.val = r.val; omega
  | ⟨2, _⟩ => show 0 + 1 * l.val = l.val; omega

/-- A load of one row of the statistics at an index. -/
theorem read_stat (v : View sig .tc .vmem S8x128 .f32) (X : v.ty.Contents (Elt Ideal)) (o : ℕ) (inb) (hb : o < 8) (z : Fin 1) (l : Fin 128) :
    View.readAt (Elt Ideal) v (Rect.unit (s := S8x128) ![o, 0] S1x128.size inb).toLoadRect X (ix2 z l)
      = v.read (Elt Ideal) X (ix2 ⟨o, hb⟩ l) := by
  refine congrArg (v.read (Elt Ideal) X) (funext fun d => Fin.ext ?_)
  obtain rfl : z = 0 := Subsingleton.elim _ _
  match d with
  | ⟨0, _⟩ => show o + 1 * 0 = o; omega
  | ⟨1, _⟩ => show 0 + 1 * l.val = l.val; omega

/-- The slab of scale or shift that a trip reads, row group 0. -/
theorem off3_0 (k : Fin k0_t3_loop.trips) : k0_off40 k = ![k.val, 0, 0] := by
  revert k; decide +kernel

/-- The slab of scale or shift that a trip reads, row group 1. -/
theorem off3_1 (k : Fin k0_t3_loop.trips) : k0_off41 k = ![k.val, 8, 0] := by
  revert k; decide +kernel

/-- The slab of scale or shift that a trip reads, row group 2. -/
theorem off3_2 (k : Fin k0_t3_loop.trips) : k0_off42 k = ![k.val, 16, 0] := by
  revert k; decide +kernel

/-- The slab of scale or shift that a trip reads, row group 3. -/
theorem off3_3 (k : Fin k0_t3_loop.trips) : k0_off43 k = ![k.val, 24, 0] := by
  revert k; decide +kernel

/-- The slab of scale or shift that a trip reads, row group 4. -/
theorem off3_4 (k : Fin k0_t3_loop.trips) : k0_off44 k = ![k.val, 32, 0] := by
  revert k; decide +kernel

/-- The slab of scale or shift that a trip reads, row group 5. -/
theorem off3_5 (k : Fin k0_t3_loop.trips) : k0_off45 k = ![k.val, 40, 0] := by
  revert k; decide +kernel

/-- The slab of scale or shift that a trip reads, row group 6. -/
theorem off3_6 (k : Fin k0_t3_loop.trips) : k0_off46 k = ![k.val, 48, 0] := by
  revert k; decide +kernel

/-- The slab of scale or shift that a trip reads, row group 7. -/
theorem off3_7 (k : Fin k0_t3_loop.trips) : k0_off47 k = ![k.val, 56, 0] := by
  revert k; decide +kernel

/-- The slab of scale or shift that a trip reads, row group 8. -/
theorem off3_8 (k : Fin k0_t3_loop.trips) : k0_off48 k = ![k.val, 64, 0] := by
  revert k; decide +kernel

/-- The slab of scale or shift that a trip reads, row group 9. -/
theorem off3_9 (k : Fin k0_t3_loop.trips) : k0_off49 k = ![k.val, 72, 0] := by
  revert k; decide +kernel

/-- The slab of scale or shift that a trip reads, row group 10. -/
theorem off3_10 (k : Fin k0_t3_loop.trips) : k0_off50 k = ![k.val, 80, 0] := by
  revert k; decide +kernel

/-- The slab of scale or shift that a trip reads, row group 11. -/
theorem off3_11 (k : Fin k0_t3_loop.trips) : k0_off51 k = ![k.val, 88, 0] := by
  revert k; decide +kernel

/-- The slab of scale or shift that a trip reads, row group 12. -/
theorem off3_12 (k : Fin k0_t3_loop.trips) : k0_off52 k = ![k.val, 96, 0] := by
  revert k; decide +kernel

/-- The slab of scale or shift that a trip reads, row group 13. -/
theorem off3_13 (k : Fin k0_t3_loop.trips) : k0_off53 k = ![k.val, 104, 0] := by
  revert k; decide +kernel

/-- The slab of scale or shift that a trip reads, row group 14. -/
theorem off3_14 (k : Fin k0_t3_loop.trips) : k0_off54 k = ![k.val, 112, 0] := by
  revert k; decide +kernel

/-- The slab of scale or shift that a trip reads, row group 15. -/
theorem off3_15 (k : Fin k0_t3_loop.trips) : k0_off55 k = ![k.val, 120, 0] := by
  revert k; decide +kernel

/-- The slab of scale or shift that a trip reads, row group 16. -/
theorem off3_16 (k : Fin k0_t3_loop.trips) : k0_off56 k = ![k.val, 128, 0] := by
  revert k; decide +kernel

/-- The slab of scale or shift that a trip reads, row group 17. -/
theorem off3_17 (k : Fin k0_t3_loop.trips) : k0_off57 k = ![k.val, 136, 0] := by
  revert k; decide +kernel

/-- The slab of scale or shift that a trip reads, row group 18. -/
theorem off3_18 (k : Fin k0_t3_loop.trips) : k0_off58 k = ![k.val, 144, 0] := by
  revert k; decide +kernel

/-- The slab of scale or shift that a trip reads, row group 19. -/
theorem off3_19 (k : Fin k0_t3_loop.trips) : k0_off59 k = ![k.val, 152, 0] := by
  revert k; decide +kernel

/-- The slab of scale or shift that a trip reads, row group 20. -/
theorem off3_20 (k : Fin k0_t3_loop.trips) : k0_off60 k = ![k.val, 160, 0] := by
  revert k; decide +kernel

/-- The slab of scale or shift that a trip reads, row group 21. -/
theorem off3_21 (k : Fin k0_t3_loop.trips) : k0_off61 k = ![k.val, 168, 0] := by
  revert k; decide +kernel

/-- The slab of scale or shift that a trip reads, row group 22. -/
theorem off3_22 (k : Fin k0_t3_loop.trips) : k0_off62 k = ![k.val, 176, 0] := by
  revert k; decide +kernel

/-- The slab of scale or shift that a trip reads, row group 23. -/
theorem off3_23 (k : Fin k0_t3_loop.trips) : k0_off63 k = ![k.val, 184, 0] := by
  revert k; decide +kernel

/-- The slab of scale or shift that a trip reads, row group 24. -/
theorem off3_24 (k : Fin k0_t3_loop.trips) : k0_off64 k = ![k.val, 192, 0] := by
  revert k; decide +kernel

/-- The slab of scale or shift that a trip reads, row group 25. -/
theorem off3_25 (k : Fin k0_t3_loop.trips) : k0_off65 k = ![k.val, 200, 0] := by
  revert k; decide +kernel

/-- The slab of scale or shift that a trip reads, row group 26. -/
theorem off3_26 (k : Fin k0_t3_loop.trips) : k0_off66 k = ![k.val, 208, 0] := by
  revert k; decide +kernel

/-- The slab of scale or shift that a trip reads, row group 27. -/
theorem off3_27 (k : Fin k0_t3_loop.trips) : k0_off67 k = ![k.val, 216, 0] := by
  revert k; decide +kernel

/-- The slab of scale or shift that a trip reads, row group 28. -/
theorem off3_28 (k : Fin k0_t3_loop.trips) : k0_off68 k = ![k.val, 224, 0] := by
  revert k; decide +kernel

/-- The slab of scale or shift that a trip reads, row group 29. -/
theorem off3_29 (k : Fin k0_t3_loop.trips) : k0_off69 k = ![k.val, 232, 0] := by
  revert k; decide +kernel

/-- The slab of scale or shift that a trip reads, row group 30. -/
theorem off3_30 (k : Fin k0_t3_loop.trips) : k0_off70 k = ![k.val, 240, 0] := by
  revert k; decide +kernel

/-- The slab of scale or shift that a trip reads, row group 31. -/
theorem off3_31 (k : Fin k0_t3_loop.trips) : k0_off71 k = ![k.val, 248, 0] := by
  revert k; decide +kernel

section
variable (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips)
include arg2 arg11 arg12 arg13 arg14 X_arg2 X_arg11 X_arg12 X_arg13 X_arg14 k

/-- Slab 0 of block 0. -/
theorem y_0_0 : (trip_k0_t3.sl.r_3 (F := Ideal) arg2 arg11 arg12 arg13 arg14 X_arg2 X_arg11 X_arg12 X_arg13 X_arg14 k) = slab (YT arg2 arg11 arg12 arg13 arg14 X_arg2 X_arg11 X_arg12 X_arg13 X_arg14 k 0) 0 := by
  funext j
  idx_vars j
  unfold trip_k0_t3.sl.r_3
  unfold slab YT YV
  pointwise [k0_pay145]
  refine aff_congr ?_ ?_ ?_ ?_ ?_
  · rfl
  · first | exact read_stat _ _ 0 _ (by omega) _ _ | rfl
  · first | exact read_stat _ _ 1 _ (by omega) _ _ | rfl
  · exact read3 _ _ 0 k _ _ (off3_0 k) _ _ _ _ (by simp)
  · exact read3 _ _ 0 k _ _ (off3_0 k) _ _ _ _ (by simp)

/-- Slab 4 of block 0. -/
theorem y_0_4 : (trip_k0_t3.sl.r_8 (F := Ideal) arg2 arg11 arg12 arg13 arg14 X_arg2 X_arg11 X_arg12 X_arg13 X_arg14 k) = slab (YT arg2 arg11 arg12 arg13 arg14 X_arg2 X_arg11 X_arg12 X_arg13 X_arg14 k 0) 4 := by
  funext j
  idx_vars j
  unfold trip_k0_t3.sl.r_8
  unfold slab YT YV
  pointwise [k0_pay150, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 32 k _ _ (off3_4 k) _ _ _ _ (by simp)
  · exact read3 _ _ 32 k _ _ (off3_4 k) _ _ _ _ (by simp)

/-- Slab 8 of block 0. -/
theorem y_0_8 : (trip_k0_t3.sl.r_14 (F := Ideal) arg2 arg11 arg12 arg13 arg14 X_arg2 X_arg11 X_arg12 X_arg13 X_arg14 k) = slab (YT arg2 arg11 arg12 arg13 arg14 X_arg2 X_arg11 X_arg12 X_arg13 X_arg14 k 0) 8 := by
  funext j
  idx_vars j
  unfold trip_k0_t3.sl.r_14
  unfold slab YT YV
  pointwise [k0_pay156, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 64 k _ _ (off3_8 k) _ _ _ _ (by simp)
  · exact read3 _ _ 64 k _ _ (off3_8 k) _ _ _ _ (by simp)

/-- Slab 12 of block 0. -/
theorem y_0_12 : (trip_k0_t3.sl.r_19 (F := Ideal) arg2 arg11 arg12 arg13 arg14 X_arg2 X_arg11 X_arg12 X_arg13 X_arg14 k) = slab (YT arg2 arg11 arg12 arg13 arg14 X_arg2 X_arg11 X_arg12 X_arg13 X_arg14 k 0) 12 := by
  funext j
  idx_vars j
  unfold trip_k0_t3.sl.r_19
  unfold slab YT YV
  pointwise [k0_pay161, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 96 k _ _ (off3_12 k) _ _ _ _ (by simp)
  · exact read3 _ _ 96 k _ _ (off3_12 k) _ _ _ _ (by simp)

/-- Slab 16 of block 0. -/
theorem y_0_16 : (trip_k0_t3.sl.r_25 (F := Ideal) arg2 arg11 arg12 arg13 arg14 X_arg2 X_arg11 X_arg12 X_arg13 X_arg14 k) = slab (YT arg2 arg11 arg12 arg13 arg14 X_arg2 X_arg11 X_arg12 X_arg13 X_arg14 k 0) 16 := by
  funext j
  idx_vars j
  unfold trip_k0_t3.sl.r_25
  unfold slab YT YV
  pointwise [k0_pay166, trip_k0_t3.sl.r_23, k0_pay165, trip_k0_t3.sl.r_1, trip_k0_t3.sl.r_2, trip_k0_t3.sl.r_24]
  refine aff_congr ?_ ?_ ?_ ?_ ?_
  · rfl
  · first | exact read_stat _ _ 0 _ (by omega) _ _ | rfl
  · first | exact read_stat _ _ 1 _ (by omega) _ _ | rfl
  · exact read3 _ _ 128 k _ _ (off3_16 k) _ _ _ _ (by simp)
  · exact read3 _ _ 128 k _ _ (off3_16 k) _ _ _ _ (by simp)

/-- Slab 20 of block 0. -/
theorem y_0_20 : (trip_k0_t3.sl.r_30 (F := Ideal) arg2 arg11 arg12 arg13 arg14 X_arg2 X_arg11 X_arg12 X_arg13 X_arg14 k) = slab (YT arg2 arg11 arg12 arg13 arg14 X_arg2 X_arg11 X_arg12 X_arg13 X_arg14 k 0) 20 := by
  funext j
  idx_vars j
  unfold trip_k0_t3.sl.r_30
  unfold slab YT YV
  pointwise [k0_pay171, trip_k0_t3.sl.r_1, trip_k0_t3.sl.r_2, trip_k0_t3.sl.r_29, k0_pay170]
  refine aff_congr ?_ ?_ ?_ ?_ ?_
  · rfl
  · first | exact read_stat _ _ 0 _ (by omega) _ _ | rfl
  · first | exact read_stat _ _ 1 _ (by omega) _ _ | rfl
  · exact read3 _ _ 160 k _ _ (off3_20 k) _ _ _ _ (by simp)
  · exact read3 _ _ 160 k _ _ (off3_20 k) _ _ _ _ (by simp)

/-- Slab 24 of block 0. -/
theorem y_0_24 : (trip_k0_t3.sl.r_36 (F := Ideal) arg2 arg11 arg12 arg13 arg14 X_arg2 X_arg11 X_arg12 X_arg13 X_arg14 k) = slab (YT arg2 arg11 arg12 arg13 arg14 X_arg2 X_arg11 X_arg12 X_arg13 X_arg14 k 0) 24 := by
  funext j
  idx_vars j
  unfold trip_k0_t3.sl.r_36
  unfold slab YT YV
  pointwise [k0_pay177, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 192 k _ _ (off3_24 k) _ _ _ _ (by simp)
  · exact read3 _ _ 192 k _ _ (off3_24 k) _ _ _ _ (by simp)

/-- Slab 28 of block 0. -/
theorem y_0_28 : (trip_k0_t3.sl.r_42 (F := Ideal) arg2 arg11 arg12 arg13 arg14 X_arg2 X_arg11 X_arg12 X_arg13 X_arg14 k) = slab (YT arg2 arg11 arg12 arg13 arg14 X_arg2 X_arg11 X_arg12 X_arg13 X_arg14 k 0) 28 := by
  funext j
  idx_vars j
  unfold trip_k0_t3.sl.r_42
  unfold slab YT YV
  pointwise [k0_pay183, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 224 k _ _ (off3_28 k) _ _ _ _ (by simp)
  · exact read3 _ _ 224 k _ _ (off3_28 k) _ _ _ _ (by simp)

/-- Slab 1 of block 0. -/
theorem y_0_1 : (trip_k0_t3.sl.r_4 (F := Ideal) arg2 arg11 arg12 arg13 arg14 X_arg2 X_arg11 X_arg12 X_arg13 X_arg14 k) = slab (YT arg2 arg11 arg12 arg13 arg14 X_arg2 X_arg11 X_arg12 X_arg13 X_arg14 k 0) 1 := by
  funext j
  idx_vars j
  unfold trip_k0_t3.sl.r_4
  unfold slab YT YV
  pointwise [k0_pay146]
  refine aff_congr ?_ ?_ ?_ ?_ ?_
  · rfl
  · first | exact read_stat _ _ 0 _ (by omega) _ _ | rfl
  · first | exact read_stat _ _ 1 _ (by omega) _ _ | rfl
  · exact read3 _ _ 8 k _ _ (off3_1 k) _ _ _ _ (by simp)
  · exact read3 _ _ 8 k _ _ (off3_1 k) _ _ _ _ (by simp)

/-- Slab 5 of block 0. -/
theorem y_0_5 : (trip_k0_t3.sl.r_11 (F := Ideal) arg2 arg11 arg12 arg13 arg14 X_arg2 X_arg11 X_arg12 X_arg13 X_arg14 k) = slab (YT arg2 arg11 arg12 arg13 arg14 X_arg2 X_arg11 X_arg12 X_arg13 X_arg14 k 0) 5 := by
  funext j
  idx_vars j
  unfold trip_k0_t3.sl.r_11
  unfold slab YT YV
  pointwise [k0_pay153, trip_k0_t3.sl.r_9, k0_pay151, trip_k0_t3.sl.r_1, trip_k0_t3.sl.r_2, trip_k0_t3.sl.r_10, k0_pay152]
  refine aff_congr ?_ ?_ ?_ ?_ ?_
  · rfl
  · first | exact read_stat _ _ 0 _ (by omega) _ _ | rfl
  · first | exact read_stat _ _ 1 _ (by omega) _ _ | rfl
  · exact read3 _ _ 40 k _ _ (off3_5 k) _ _ _ _ (by simp)
  · exact read3 _ _ 40 k _ _ (off3_5 k) _ _ _ _ (by simp)

/-- Slab 9 of block 0. -/
theorem y_0_9 : (trip_k0_t3.sl.r_16 (F := Ideal) arg2 arg11 arg12 arg13 arg14 X_arg2 X_arg11 X_arg12 X_arg13 X_arg14 k) = slab (YT arg2 arg11 arg12 arg13 arg14 X_arg2 X_arg11 X_arg12 X_arg13 X_arg14 k 0) 9 := by
  funext j
  idx_vars j
  unfold trip_k0_t3.sl.r_16
  unfold slab YT YV
  pointwise [k0_pay158, trip_k0_t3.sl.r_15, k0_pay157, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 72 k _ _ (off3_9 k) _ _ _ _ (by simp)
  · exact read3 _ _ 72 k _ _ (off3_9 k) _ _ _ _ (by simp)

/-- Slab 13 of block 0. -/
theorem y_0_13 : (trip_k0_t3.sl.r_20 (F := Ideal) arg2 arg11 arg12 arg13 arg14 X_arg2 X_arg11 X_arg12 X_arg13 X_arg14 k) = slab (YT arg2 arg11 arg12 arg13 arg14 X_arg2 X_arg11 X_arg12 X_arg13 X_arg14 k 0) 13 := by
  funext j
  idx_vars j
  unfold trip_k0_t3.sl.r_20
  unfold slab YT YV
  pointwise [k0_pay162, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 104 k _ _ (off3_13 k) _ _ _ _ (by simp)
  · exact read3 _ _ 104 k _ _ (off3_13 k) _ _ _ _ (by simp)

/-- Slab 17 of block 0. -/
theorem y_0_17 : (trip_k0_t3.sl.r_26 (F := Ideal) arg2 arg11 arg12 arg13 arg14 X_arg2 X_arg11 X_arg12 X_arg13 X_arg14 k) = slab (YT arg2 arg11 arg12 arg13 arg14 X_arg2 X_arg11 X_arg12 X_arg13 X_arg14 k 0) 17 := by
  funext j
  idx_vars j
  unfold trip_k0_t3.sl.r_26
  unfold slab YT YV
  pointwise [k0_pay167, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 136 k _ _ (off3_17 k) _ _ _ _ (by simp)
  · exact read3 _ _ 136 k _ _ (off3_17 k) _ _ _ _ (by simp)

/-- Slab 21 of block 0. -/
theorem y_0_21 : (trip_k0_t3.sl.r_31 (F := Ideal) arg2 arg11 arg12 arg13 arg14 X_arg2 X_arg11 X_arg12 X_arg13 X_arg14 k) = slab (YT arg2 arg11 arg12 arg13 arg14 X_arg2 X_arg11 X_arg12 X_arg13 X_arg14 k 0) 21 := by
  funext j
  idx_vars j
  unfold trip_k0_t3.sl.r_31
  unfold slab YT YV
  pointwise [k0_pay172, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 168 k _ _ (off3_21 k) _ _ _ _ (by simp)
  · exact read3 _ _ 168 k _ _ (off3_21 k) _ _ _ _ (by simp)

/-- Slab 25 of block 0. -/
theorem y_0_25 : (trip_k0_t3.sl.r_37 (F := Ideal) arg2 arg11 arg12 arg13 arg14 X_arg2 X_arg11 X_arg12 X_arg13 X_arg14 k) = slab (YT arg2 arg11 arg12 arg13 arg14 X_arg2 X_arg11 X_arg12 X_arg13 X_arg14 k 0) 25 := by
  funext j
  idx_vars j
  unfold trip_k0_t3.sl.r_37
  unfold slab YT YV
  pointwise [k0_pay178, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 200 k _ _ (off3_25 k) _ _ _ _ (by simp)
  · exact read3 _ _ 200 k _ _ (off3_25 k) _ _ _ _ (by simp)

/-- Slab 29 of block 0. -/
theorem y_0_29 : (trip_k0_t3.sl.r_43 (F := Ideal) arg2 arg11 arg12 arg13 arg14 X_arg2 X_arg11 X_arg12 X_arg13 X_arg14 k) = slab (YT arg2 arg11 arg12 arg13 arg14 X_arg2 X_arg11 X_arg12 X_arg13 X_arg14 k 0) 29 := by
  funext j
  idx_vars j
  unfold trip_k0_t3.sl.r_43
  unfold slab YT YV
  pointwise [k0_pay184, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 232 k _ _ (off3_29 k) _ _ _ _ (by simp)
  · exact read3 _ _ 232 k _ _ (off3_29 k) _ _ _ _ (by simp)

/-- Slab 2 of block 0. -/
theorem y_0_2 : (trip_k0_t3.sl.r_6 (F := Ideal) arg2 arg11 arg12 arg13 arg14 X_arg2 X_arg11 X_arg12 X_arg13 X_arg14 k) = slab (YT arg2 arg11 arg12 arg13 arg14 X_arg2 X_arg11 X_arg12 X_arg13 X_arg14 k 0) 2 := by
  funext j
  idx_vars j
  unfold trip_k0_t3.sl.r_6
  unfold slab YT YV
  pointwise [k0_pay148, trip_k0_t3.sl.r_5, k0_pay147]
  refine aff_congr ?_ ?_ ?_ ?_ ?_
  · rfl
  · first | exact read_stat _ _ 0 _ (by omega) _ _ | rfl
  · first | exact read_stat _ _ 1 _ (by omega) _ _ | rfl
  · exact read3 _ _ 16 k _ _ (off3_2 k) _ _ _ _ (by simp)
  · exact read3 _ _ 16 k _ _ (off3_2 k) _ _ _ _ (by simp)

/-- Slab 6 of block 0. -/
theorem y_0_6 : (trip_k0_t3.sl.r_12 (F := Ideal) arg2 arg11 arg12 arg13 arg14 X_arg2 X_arg11 X_arg12 X_arg13 X_arg14 k) = slab (YT arg2 arg11 arg12 arg13 arg14 X_arg2 X_arg11 X_arg12 X_arg13 X_arg14 k 0) 6 := by
  funext j
  idx_vars j
  unfold trip_k0_t3.sl.r_12
  unfold slab YT YV
  pointwise [k0_pay154, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 48 k _ _ (off3_6 k) _ _ _ _ (by simp)
  · exact read3 _ _ 48 k _ _ (off3_6 k) _ _ _ _ (by simp)

/-- Slab 10 of block 0. -/
theorem y_0_10 : (trip_k0_t3.sl.r_17 (F := Ideal) arg2 arg11 arg12 arg13 arg14 X_arg2 X_arg11 X_arg12 X_arg13 X_arg14 k) = slab (YT arg2 arg11 arg12 arg13 arg14 X_arg2 X_arg11 X_arg12 X_arg13 X_arg14 k 0) 10 := by
  funext j
  idx_vars j
  unfold trip_k0_t3.sl.r_17
  unfold slab YT YV
  pointwise [k0_pay159, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 80 k _ _ (off3_10 k) _ _ _ _ (by simp)
  · exact read3 _ _ 80 k _ _ (off3_10 k) _ _ _ _ (by simp)

/-- Slab 14 of block 0. -/
theorem y_0_14 : (trip_k0_t3.sl.r_21 (F := Ideal) arg2 arg11 arg12 arg13 arg14 X_arg2 X_arg11 X_arg12 X_arg13 X_arg14 k) = slab (YT arg2 arg11 arg12 arg13 arg14 X_arg2 X_arg11 X_arg12 X_arg13 X_arg14 k 0) 14 := by
  funext j
  idx_vars j
  unfold trip_k0_t3.sl.r_21
  unfold slab YT YV
  pointwise [k0_pay163, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 112 k _ _ (off3_14 k) _ _ _ _ (by simp)
  · exact read3 _ _ 112 k _ _ (off3_14 k) _ _ _ _ (by simp)

/-- Slab 18 of block 0. -/
theorem y_0_18 : (trip_k0_t3.sl.r_27 (F := Ideal) arg2 arg11 arg12 arg13 arg14 X_arg2 X_arg11 X_arg12 X_arg13 X_arg14 k) = slab (YT arg2 arg11 arg12 arg13 arg14 X_arg2 X_arg11 X_arg12 X_arg13 X_arg14 k 0) 18 := by
  funext j
  idx_vars j
  unfold trip_k0_t3.sl.r_27
  unfold slab YT YV
  pointwise [k0_pay168, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 144 k _ _ (off3_18 k) _ _ _ _ (by simp)
  · exact read3 _ _ 144 k _ _ (off3_18 k) _ _ _ _ (by simp)

/-- Slab 22 of block 0. -/
theorem y_0_22 : (trip_k0_t3.sl.r_32 (F := Ideal) arg2 arg11 arg12 arg13 arg14 X_arg2 X_arg11 X_arg12 X_arg13 X_arg14 k) = slab (YT arg2 arg11 arg12 arg13 arg14 X_arg2 X_arg11 X_arg12 X_arg13 X_arg14 k 0) 22 := by
  funext j
  idx_vars j
  unfold trip_k0_t3.sl.r_32
  unfold slab YT YV
  pointwise [k0_pay173, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 176 k _ _ (off3_22 k) _ _ _ _ (by simp)
  · exact read3 _ _ 176 k _ _ (off3_22 k) _ _ _ _ (by simp)

/-- Slab 26 of block 0. -/
theorem y_0_26 : (trip_k0_t3.sl.r_38 (F := Ideal) arg2 arg11 arg12 arg13 arg14 X_arg2 X_arg11 X_arg12 X_arg13 X_arg14 k) = slab (YT arg2 arg11 arg12 arg13 arg14 X_arg2 X_arg11 X_arg12 X_arg13 X_arg14 k 0) 26 := by
  funext j
  idx_vars j
  unfold trip_k0_t3.sl.r_38
  unfold slab YT YV
  pointwise [k0_pay179, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 208 k _ _ (off3_26 k) _ _ _ _ (by simp)
  · exact read3 _ _ 208 k _ _ (off3_26 k) _ _ _ _ (by simp)

/-- Slab 30 of block 0. -/
theorem y_0_30 : (trip_k0_t3.sl.r_45 (F := Ideal) arg2 arg11 arg12 arg13 arg14 X_arg2 X_arg11 X_arg12 X_arg13 X_arg14 k) = slab (YT arg2 arg11 arg12 arg13 arg14 X_arg2 X_arg11 X_arg12 X_arg13 X_arg14 k 0) 30 := by
  funext j
  idx_vars j
  unfold trip_k0_t3.sl.r_45
  unfold slab YT YV
  pointwise [k0_pay186, trip_k0_t3.sl.r_44, k0_pay185, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 240 k _ _ (off3_30 k) _ _ _ _ (by simp)
  · exact read3 _ _ 240 k _ _ (off3_30 k) _ _ _ _ (by simp)

/-- Slab 3 of block 0. -/
theorem y_0_3 : (trip_k0_t3.sl.r_7 (F := Ideal) arg2 arg11 arg12 arg13 arg14 X_arg2 X_arg11 X_arg12 X_arg13 X_arg14 k) = slab (YT arg2 arg11 arg12 arg13 arg14 X_arg2 X_arg11 X_arg12 X_arg13 X_arg14 k 0) 3 := by
  funext j
  idx_vars j
  unfold trip_k0_t3.sl.r_7
  unfold slab YT YV
  pointwise [k0_pay149, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 24 k _ _ (off3_3 k) _ _ _ _ (by simp)
  · exact read3 _ _ 24 k _ _ (off3_3 k) _ _ _ _ (by simp)

/-- Slab 7 of block 0. -/
theorem y_0_7 : (trip_k0_t3.sl.r_13 (F := Ideal) arg2 arg11 arg12 arg13 arg14 X_arg2 X_arg11 X_arg12 X_arg13 X_arg14 k) = slab (YT arg2 arg11 arg12 arg13 arg14 X_arg2 X_arg11 X_arg12 X_arg13 X_arg14 k 0) 7 := by
  funext j
  idx_vars j
  unfold trip_k0_t3.sl.r_13
  unfold slab YT YV
  pointwise [k0_pay155, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 56 k _ _ (off3_7 k) _ _ _ _ (by simp)
  · exact read3 _ _ 56 k _ _ (off3_7 k) _ _ _ _ (by simp)

/-- Slab 11 of block 0. -/
theorem y_0_11 : (trip_k0_t3.sl.r_18 (F := Ideal) arg2 arg11 arg12 arg13 arg14 X_arg2 X_arg11 X_arg12 X_arg13 X_arg14 k) = slab (YT arg2 arg11 arg12 arg13 arg14 X_arg2 X_arg11 X_arg12 X_arg13 X_arg14 k 0) 11 := by
  funext j
  idx_vars j
  unfold trip_k0_t3.sl.r_18
  unfold slab YT YV
  pointwise [k0_pay160, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 88 k _ _ (off3_11 k) _ _ _ _ (by simp)
  · exact read3 _ _ 88 k _ _ (off3_11 k) _ _ _ _ (by simp)

/-- Slab 15 of block 0. -/
theorem y_0_15 : (trip_k0_t3.sl.r_22 (F := Ideal) arg2 arg11 arg12 arg13 arg14 X_arg2 X_arg11 X_arg12 X_arg13 X_arg14 k) = slab (YT arg2 arg11 arg12 arg13 arg14 X_arg2 X_arg11 X_arg12 X_arg13 X_arg14 k 0) 15 := by
  funext j
  idx_vars j
  unfold trip_k0_t3.sl.r_22
  unfold slab YT YV
  pointwise [k0_pay164, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 120 k _ _ (off3_15 k) _ _ _ _ (by simp)
  · exact read3 _ _ 120 k _ _ (off3_15 k) _ _ _ _ (by simp)

/-- Slab 19 of block 0. -/
theorem y_0_19 : (trip_k0_t3.sl.r_28 (F := Ideal) arg2 arg11 arg12 arg13 arg14 X_arg2 X_arg11 X_arg12 X_arg13 X_arg14 k) = slab (YT arg2 arg11 arg12 arg13 arg14 X_arg2 X_arg11 X_arg12 X_arg13 X_arg14 k 0) 19 := by
  funext j
  idx_vars j
  unfold trip_k0_t3.sl.r_28
  unfold slab YT YV
  pointwise [k0_pay169, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 152 k _ _ (off3_19 k) _ _ _ _ (by simp)
  · exact read3 _ _ 152 k _ _ (off3_19 k) _ _ _ _ (by simp)

/-- Slab 23 of block 0. -/
theorem y_0_23 : (trip_k0_t3.sl.r_35 (F := Ideal) arg2 arg11 arg12 arg13 arg14 X_arg2 X_arg11 X_arg12 X_arg13 X_arg14 k) = slab (YT arg2 arg11 arg12 arg13 arg14 X_arg2 X_arg11 X_arg12 X_arg13 X_arg14 k 0) 23 := by
  funext j
  idx_vars j
  unfold trip_k0_t3.sl.r_35
  unfold slab YT YV
  pointwise [k0_pay176, trip_k0_t3.sl.r_33, k0_pay174, trip_k0_t3.sl.r_1, trip_k0_t3.sl.r_2, trip_k0_t3.sl.r_34, k0_pay175]
  refine aff_congr ?_ ?_ ?_ ?_ ?_
  · rfl
  · first | exact read_stat _ _ 0 _ (by omega) _ _ | rfl
  · first | exact read_stat _ _ 1 _ (by omega) _ _ | rfl
  · exact read3 _ _ 184 k _ _ (off3_23 k) _ _ _ _ (by simp)
  · exact read3 _ _ 184 k _ _ (off3_23 k) _ _ _ _ (by simp)

/-- Slab 27 of block 0. -/
theorem y_0_27 : (trip_k0_t3.sl.r_41 (F := Ideal) arg2 arg11 arg12 arg13 arg14 X_arg2 X_arg11 X_arg12 X_arg13 X_arg14 k) = slab (YT arg2 arg11 arg12 arg13 arg14 X_arg2 X_arg11 X_arg12 X_arg13 X_arg14 k 0) 27 := by
  funext j
  idx_vars j
  unfold trip_k0_t3.sl.r_41
  unfold slab YT YV
  pointwise [k0_pay182, trip_k0_t3.sl.r_2, trip_k0_t3.sl.r_39, k0_pay180, trip_k0_t3.sl.r_40, k0_pay181, trip_k0_t3.sl.r_1]
  refine aff_congr ?_ ?_ ?_ ?_ ?_
  · rfl
  · first | exact read_stat _ _ 0 _ (by omega) _ _ | rfl
  · first | exact read_stat _ _ 1 _ (by omega) _ _ | rfl
  · exact read3 _ _ 216 k _ _ (off3_27 k) _ _ _ _ (by simp)
  · exact read3 _ _ 216 k _ _ (off3_27 k) _ _ _ _ (by simp)

/-- Slab 31 of block 0. -/
theorem y_0_31 : (trip_k0_t3.sl.r_46 (F := Ideal) arg2 arg11 arg12 arg13 arg14 X_arg2 X_arg11 X_arg12 X_arg13 X_arg14 k) = slab (YT arg2 arg11 arg12 arg13 arg14 X_arg2 X_arg11 X_arg12 X_arg13 X_arg14 k 0) 31 := by
  funext j
  idx_vars j
  unfold trip_k0_t3.sl.r_46
  unfold slab YT YV
  pointwise [k0_pay187, trip_k0_t3.sl.r_1, trip_k0_t3.sl.r_2]
  refine aff_congr ?_ ?_ ?_ ?_ ?_
  · rfl
  · first | exact read_stat _ _ 0 _ (by omega) _ _ | rfl
  · first | exact read_stat _ _ 1 _ (by omega) _ _ | rfl
  · exact read3 _ _ 248 k _ _ (off3_31 k) _ _ _ _ (by simp)
  · exact read3 _ _ 248 k _ _ (off3_31 k) _ _ _ _ (by simp)

/-- Slab 0 of block 1. -/
theorem y_1_0 : (trip_k0_t3.sl.r_74 (F := Ideal) arg2 arg11 arg12 arg13 arg14 X_arg2 X_arg11 X_arg12 X_arg13 X_arg14 k) = slab (YT arg2 arg11 arg12 arg13 arg14 X_arg2 X_arg11 X_arg12 X_arg13 X_arg14 k 1) 0 := by
  funext j
  idx_vars j
  unfold trip_k0_t3.sl.r_74
  unfold slab YT YV
  pointwise [k0_pay231, trip_k0_t3.sl.r_72, trip_k0_t3.sl.r_73, k0_pay230]
  refine aff_congr ?_ ?_ ?_ ?_ ?_
  · rfl
  · first | exact read_stat _ _ 2 _ (by omega) _ _ | rfl
  · first | exact read_stat _ _ 3 _ (by omega) _ _ | rfl
  · exact read3 _ _ 0 k _ _ (off3_0 k) _ _ _ _ (by simp)
  · exact read3 _ _ 0 k _ _ (off3_0 k) _ _ _ _ (by simp)

/-- Slab 4 of block 1. -/
theorem y_1_4 : (trip_k0_t3.sl.r_79 (F := Ideal) arg2 arg11 arg12 arg13 arg14 X_arg2 X_arg11 X_arg12 X_arg13 X_arg14 k) = slab (YT arg2 arg11 arg12 arg13 arg14 X_arg2 X_arg11 X_arg12 X_arg13 X_arg14 k 1) 4 := by
  funext j
  idx_vars j
  unfold trip_k0_t3.sl.r_79
  unfold slab YT YV
  pointwise [k0_pay236, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 32 k _ _ (off3_4 k) _ _ _ _ (by simp)
  · exact read3 _ _ 32 k _ _ (off3_4 k) _ _ _ _ (by simp)

/-- Slab 8 of block 1. -/
theorem y_1_8 : (trip_k0_t3.sl.r_85 (F := Ideal) arg2 arg11 arg12 arg13 arg14 X_arg2 X_arg11 X_arg12 X_arg13 X_arg14 k) = slab (YT arg2 arg11 arg12 arg13 arg14 X_arg2 X_arg11 X_arg12 X_arg13 X_arg14 k 1) 8 := by
  funext j
  idx_vars j
  unfold trip_k0_t3.sl.r_85
  unfold slab YT YV
  pointwise [k0_pay242, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 64 k _ _ (off3_8 k) _ _ _ _ (by simp)
  · exact read3 _ _ 64 k _ _ (off3_8 k) _ _ _ _ (by simp)

/-- Slab 12 of block 1. -/
theorem y_1_12 : (trip_k0_t3.sl.r_90 (F := Ideal) arg2 arg11 arg12 arg13 arg14 X_arg2 X_arg11 X_arg12 X_arg13 X_arg14 k) = slab (YT arg2 arg11 arg12 arg13 arg14 X_arg2 X_arg11 X_arg12 X_arg13 X_arg14 k 1) 12 := by
  funext j
  idx_vars j
  unfold trip_k0_t3.sl.r_90
  unfold slab YT YV
  pointwise [k0_pay247, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 96 k _ _ (off3_12 k) _ _ _ _ (by simp)
  · exact read3 _ _ 96 k _ _ (off3_12 k) _ _ _ _ (by simp)

/-- Slab 16 of block 1. -/
theorem y_1_16 : (trip_k0_t3.sl.r_95 (F := Ideal) arg2 arg11 arg12 arg13 arg14 X_arg2 X_arg11 X_arg12 X_arg13 X_arg14 k) = slab (YT arg2 arg11 arg12 arg13 arg14 X_arg2 X_arg11 X_arg12 X_arg13 X_arg14 k 1) 16 := by
  funext j
  idx_vars j
  unfold trip_k0_t3.sl.r_95
  unfold slab YT YV
  pointwise [k0_pay252, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 128 k _ _ (off3_16 k) _ _ _ _ (by simp)
  · exact read3 _ _ 128 k _ _ (off3_16 k) _ _ _ _ (by simp)

/-- Slab 20 of block 1. -/
theorem y_1_20 : (trip_k0_t3.sl.r_100 (F := Ideal) arg2 arg11 arg12 arg13 arg14 X_arg2 X_arg11 X_arg12 X_arg13 X_arg14 k) = slab (YT arg2 arg11 arg12 arg13 arg14 X_arg2 X_arg11 X_arg12 X_arg13 X_arg14 k 1) 20 := by
  funext j
  idx_vars j
  unfold trip_k0_t3.sl.r_100
  unfold slab YT YV
  pointwise [k0_pay257, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 160 k _ _ (off3_20 k) _ _ _ _ (by simp)
  · exact read3 _ _ 160 k _ _ (off3_20 k) _ _ _ _ (by simp)

/-- Slab 24 of block 1. -/
theorem y_1_24 : (trip_k0_t3.sl.r_107 (F := Ideal) arg2 arg11 arg12 arg13 arg14 X_arg2 X_arg11 X_arg12 X_arg13 X_arg14 k) = slab (YT arg2 arg11 arg12 arg13 arg14 X_arg2 X_arg11 X_arg12 X_arg13 X_arg14 k 1) 24 := by
  funext j
  idx_vars j
  unfold trip_k0_t3.sl.r_107
  unfold slab YT YV
  pointwise [k0_pay263, trip_k0_t3.sl.r_105, k0_pay262, trip_k0_t3.sl.r_71, trip_k0_t3.sl.r_72, trip_k0_t3.sl.r_106]
  refine aff_congr ?_ ?_ ?_ ?_ ?_
  · rfl
  · first | exact read_stat _ _ 2 _ (by omega) _ _ | rfl
  · first | exact read_stat _ _ 3 _ (by omega) _ _ | rfl
  · exact read3 _ _ 192 k _ _ (off3_24 k) _ _ _ _ (by simp)
  · exact read3 _ _ 192 k _ _ (off3_24 k) _ _ _ _ (by simp)

/-- Slab 28 of block 1. -/
theorem y_1_28 : (trip_k0_t3.sl.r_112 (F := Ideal) arg2 arg11 arg12 arg13 arg14 X_arg2 X_arg11 X_arg12 X_arg13 X_arg14 k) = slab (YT arg2 arg11 arg12 arg13 arg14 X_arg2 X_arg11 X_arg12 X_arg13 X_arg14 k 1) 28 := by
  funext j
  idx_vars j
  unfold trip_k0_t3.sl.r_112
  unfold slab YT YV
  pointwise [k0_pay268, trip_k0_t3.sl.r_111, k0_pay267, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 224 k _ _ (off3_28 k) _ _ _ _ (by simp)
  · exact read3 _ _ 224 k _ _ (off3_28 k) _ _ _ _ (by simp)

/-- Slab 1 of block 1. -/
theorem y_1_1 : (trip_k0_t3.sl.r_75 (F := Ideal) arg2 arg11 arg12 arg13 arg14 X_arg2 X_arg11 X_arg12 X_arg13 X_arg14 k) = slab (YT arg2 arg11 arg12 arg13 arg14 X_arg2 X_arg11 X_arg12 X_arg13 X_arg14 k 1) 1 := by
  funext j
  idx_vars j
  unfold trip_k0_t3.sl.r_75
  unfold slab YT YV
  pointwise [k0_pay232, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 8 k _ _ (off3_1 k) _ _ _ _ (by simp)
  · exact read3 _ _ 8 k _ _ (off3_1 k) _ _ _ _ (by simp)

/-- Slab 5 of block 1. -/
theorem y_1_5 : (trip_k0_t3.sl.r_80 (F := Ideal) arg2 arg11 arg12 arg13 arg14 X_arg2 X_arg11 X_arg12 X_arg13 X_arg14 k) = slab (YT arg2 arg11 arg12 arg13 arg14 X_arg2 X_arg11 X_arg12 X_arg13 X_arg14 k 1) 5 := by
  funext j
  idx_vars j
  unfold trip_k0_t3.sl.r_80
  unfold slab YT YV
  pointwise [k0_pay237, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 40 k _ _ (off3_5 k) _ _ _ _ (by simp)
  · exact read3 _ _ 40 k _ _ (off3_5 k) _ _ _ _ (by simp)

/-- Slab 9 of block 1. -/
theorem y_1_9 : (trip_k0_t3.sl.r_86 (F := Ideal) arg2 arg11 arg12 arg13 arg14 X_arg2 X_arg11 X_arg12 X_arg13 X_arg14 k) = slab (YT arg2 arg11 arg12 arg13 arg14 X_arg2 X_arg11 X_arg12 X_arg13 X_arg14 k 1) 9 := by
  funext j
  idx_vars j
  unfold trip_k0_t3.sl.r_86
  unfold slab YT YV
  pointwise [k0_pay243, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 72 k _ _ (off3_9 k) _ _ _ _ (by simp)
  · exact read3 _ _ 72 k _ _ (off3_9 k) _ _ _ _ (by simp)

/-- Slab 13 of block 1. -/
theorem y_1_13 : (trip_k0_t3.sl.r_91 (F := Ideal) arg2 arg11 arg12 arg13 arg14 X_arg2 X_arg11 X_arg12 X_arg13 X_arg14 k) = slab (YT arg2 arg11 arg12 arg13 arg14 X_arg2 X_arg11 X_arg12 X_arg13 X_arg14 k 1) 13 := by
  funext j
  idx_vars j
  unfold trip_k0_t3.sl.r_91
  unfold slab YT YV
  pointwise [k0_pay248, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 104 k _ _ (off3_13 k) _ _ _ _ (by simp)
  · exact read3 _ _ 104 k _ _ (off3_13 k) _ _ _ _ (by simp)

/-- Slab 17 of block 1. -/
theorem y_1_17 : (trip_k0_t3.sl.r_97 (F := Ideal) arg2 arg11 arg12 arg13 arg14 X_arg2 X_arg11 X_arg12 X_arg13 X_arg14 k) = slab (YT arg2 arg11 arg12 arg13 arg14 X_arg2 X_arg11 X_arg12 X_arg13 X_arg14 k 1) 17 := by
  funext j
  idx_vars j
  unfold trip_k0_t3.sl.r_97
  unfold slab YT YV
  pointwise [k0_pay254, trip_k0_t3.sl.r_96, k0_pay253, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 136 k _ _ (off3_17 k) _ _ _ _ (by simp)
  · exact read3 _ _ 136 k _ _ (off3_17 k) _ _ _ _ (by simp)

/-- Slab 21 of block 1. -/
theorem y_1_21 : (trip_k0_t3.sl.r_102 (F := Ideal) arg2 arg11 arg12 arg13 arg14 X_arg2 X_arg11 X_arg12 X_arg13 X_arg14 k) = slab (YT arg2 arg11 arg12 arg13 arg14 X_arg2 X_arg11 X_arg12 X_arg13 X_arg14 k 1) 21 := by
  funext j
  idx_vars j
  unfold trip_k0_t3.sl.r_102
  unfold slab YT YV
  pointwise [k0_pay259, trip_k0_t3.sl.r_101, k0_pay258, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 168 k _ _ (off3_21 k) _ _ _ _ (by simp)
  · exact read3 _ _ 168 k _ _ (off3_21 k) _ _ _ _ (by simp)

/-- Slab 25 of block 1. -/
theorem y_1_25 : (trip_k0_t3.sl.r_108 (F := Ideal) arg2 arg11 arg12 arg13 arg14 X_arg2 X_arg11 X_arg12 X_arg13 X_arg14 k) = slab (YT arg2 arg11 arg12 arg13 arg14 X_arg2 X_arg11 X_arg12 X_arg13 X_arg14 k 1) 25 := by
  funext j
  idx_vars j
  unfold trip_k0_t3.sl.r_108
  unfold slab YT YV
  pointwise [k0_pay264, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 200 k _ _ (off3_25 k) _ _ _ _ (by simp)
  · exact read3 _ _ 200 k _ _ (off3_25 k) _ _ _ _ (by simp)

/-- Slab 29 of block 1. -/
theorem y_1_29 : (trip_k0_t3.sl.r_113 (F := Ideal) arg2 arg11 arg12 arg13 arg14 X_arg2 X_arg11 X_arg12 X_arg13 X_arg14 k) = slab (YT arg2 arg11 arg12 arg13 arg14 X_arg2 X_arg11 X_arg12 X_arg13 X_arg14 k 1) 29 := by
  funext j
  idx_vars j
  unfold trip_k0_t3.sl.r_113
  unfold slab YT YV
  pointwise [k0_pay269, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 232 k _ _ (off3_29 k) _ _ _ _ (by simp)
  · exact read3 _ _ 232 k _ _ (off3_29 k) _ _ _ _ (by simp)

/-- Slab 2 of block 1. -/
theorem y_1_2 : (trip_k0_t3.sl.r_76 (F := Ideal) arg2 arg11 arg12 arg13 arg14 X_arg2 X_arg11 X_arg12 X_arg13 X_arg14 k) = slab (YT arg2 arg11 arg12 arg13 arg14 X_arg2 X_arg11 X_arg12 X_arg13 X_arg14 k 1) 2 := by
  funext j
  idx_vars j
  unfold trip_k0_t3.sl.r_76
  unfold slab YT YV
  pointwise [k0_pay233, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 16 k _ _ (off3_2 k) _ _ _ _ (by simp)
  · exact read3 _ _ 16 k _ _ (off3_2 k) _ _ _ _ (by simp)

/-- Slab 6 of block 1. -/
theorem y_1_6 : (trip_k0_t3.sl.r_81 (F := Ideal) arg2 arg11 arg12 arg13 arg14 X_arg2 X_arg11 X_arg12 X_arg13 X_arg14 k) = slab (YT arg2 arg11 arg12 arg13 arg14 X_arg2 X_arg11 X_arg12 X_arg13 X_arg14 k 1) 6 := by
  funext j
  idx_vars j
  unfold trip_k0_t3.sl.r_81
  unfold slab YT YV
  pointwise [k0_pay238, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 48 k _ _ (off3_6 k) _ _ _ _ (by simp)
  · exact read3 _ _ 48 k _ _ (off3_6 k) _ _ _ _ (by simp)

/-- Slab 10 of block 1. -/
theorem y_1_10 : (trip_k0_t3.sl.r_88 (F := Ideal) arg2 arg11 arg12 arg13 arg14 X_arg2 X_arg11 X_arg12 X_arg13 X_arg14 k) = slab (YT arg2 arg11 arg12 arg13 arg14 X_arg2 X_arg11 X_arg12 X_arg13 X_arg14 k 1) 10 := by
  funext j
  idx_vars j
  unfold trip_k0_t3.sl.r_88
  unfold slab YT YV
  pointwise [k0_pay245, trip_k0_t3.sl.r_87, k0_pay244, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 80 k _ _ (off3_10 k) _ _ _ _ (by simp)
  · exact read3 _ _ 80 k _ _ (off3_10 k) _ _ _ _ (by simp)

/-- Slab 14 of block 1. -/
theorem y_1_14 : (trip_k0_t3.sl.r_93 (F := Ideal) arg2 arg11 arg12 arg13 arg14 X_arg2 X_arg11 X_arg12 X_arg13 X_arg14 k) = slab (YT arg2 arg11 arg12 arg13 arg14 X_arg2 X_arg11 X_arg12 X_arg13 X_arg14 k 1) 14 := by
  funext j
  idx_vars j
  unfold trip_k0_t3.sl.r_93
  unfold slab YT YV
  pointwise [k0_pay250, trip_k0_t3.sl.r_92, k0_pay249, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 112 k _ _ (off3_14 k) _ _ _ _ (by simp)
  · exact read3 _ _ 112 k _ _ (off3_14 k) _ _ _ _ (by simp)

/-- Slab 18 of block 1. -/
theorem y_1_18 : (trip_k0_t3.sl.r_98 (F := Ideal) arg2 arg11 arg12 arg13 arg14 X_arg2 X_arg11 X_arg12 X_arg13 X_arg14 k) = slab (YT arg2 arg11 arg12 arg13 arg14 X_arg2 X_arg11 X_arg12 X_arg13 X_arg14 k 1) 18 := by
  funext j
  idx_vars j
  unfold trip_k0_t3.sl.r_98
  unfold slab YT YV
  pointwise [k0_pay255, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 144 k _ _ (off3_18 k) _ _ _ _ (by simp)
  · exact read3 _ _ 144 k _ _ (off3_18 k) _ _ _ _ (by simp)

/-- Slab 22 of block 1. -/
theorem y_1_22 : (trip_k0_t3.sl.r_103 (F := Ideal) arg2 arg11 arg12 arg13 arg14 X_arg2 X_arg11 X_arg12 X_arg13 X_arg14 k) = slab (YT arg2 arg11 arg12 arg13 arg14 X_arg2 X_arg11 X_arg12 X_arg13 X_arg14 k 1) 22 := by
  funext j
  idx_vars j
  unfold trip_k0_t3.sl.r_103
  unfold slab YT YV
  pointwise [k0_pay260, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 176 k _ _ (off3_22 k) _ _ _ _ (by simp)
  · exact read3 _ _ 176 k _ _ (off3_22 k) _ _ _ _ (by simp)

/-- Slab 26 of block 1. -/
theorem y_1_26 : (trip_k0_t3.sl.r_109 (F := Ideal) arg2 arg11 arg12 arg13 arg14 X_arg2 X_arg11 X_arg12 X_arg13 X_arg14 k) = slab (YT arg2 arg11 arg12 arg13 arg14 X_arg2 X_arg11 X_arg12 X_arg13 X_arg14 k 1) 26 := by
  funext j
  idx_vars j
  unfold trip_k0_t3.sl.r_109
  unfold slab YT YV
  pointwise [k0_pay265, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 208 k _ _ (off3_26 k) _ _ _ _ (by simp)
  · exact read3 _ _ 208 k _ _ (off3_26 k) _ _ _ _ (by simp)

/-- Slab 30 of block 1. -/
theorem y_1_30 : (trip_k0_t3.sl.r_114 (F := Ideal) arg2 arg11 arg12 arg13 arg14 X_arg2 X_arg11 X_arg12 X_arg13 X_arg14 k) = slab (YT arg2 arg11 arg12 arg13 arg14 X_arg2 X_arg11 X_arg12 X_arg13 X_arg14 k 1) 30 := by
  funext j
  idx_vars j
  unfold trip_k0_t3.sl.r_114
  unfold slab YT YV
  pointwise [k0_pay270, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 240 k _ _ (off3_30 k) _ _ _ _ (by simp)
  · exact read3 _ _ 240 k _ _ (off3_30 k) _ _ _ _ (by simp)

/-- Slab 3 of block 1. -/
theorem y_1_3 : (trip_k0_t3.sl.r_78 (F := Ideal) arg2 arg11 arg12 arg13 arg14 X_arg2 X_arg11 X_arg12 X_arg13 X_arg14 k) = slab (YT arg2 arg11 arg12 arg13 arg14 X_arg2 X_arg11 X_arg12 X_arg13 X_arg14 k 1) 3 := by
  funext j
  idx_vars j
  unfold trip_k0_t3.sl.r_78
  unfold slab YT YV
  pointwise [k0_pay235, trip_k0_t3.sl.r_77, k0_pay234, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 24 k _ _ (off3_3 k) _ _ _ _ (by simp)
  · exact read3 _ _ 24 k _ _ (off3_3 k) _ _ _ _ (by simp)

/-- Slab 7 of block 1. -/
theorem y_1_7 : (trip_k0_t3.sl.r_84 (F := Ideal) arg2 arg11 arg12 arg13 arg14 X_arg2 X_arg11 X_arg12 X_arg13 X_arg14 k) = slab (YT arg2 arg11 arg12 arg13 arg14 X_arg2 X_arg11 X_arg12 X_arg13 X_arg14 k 1) 7 := by
  funext j
  idx_vars j
  unfold trip_k0_t3.sl.r_84
  unfold slab YT YV
  pointwise [k0_pay241, trip_k0_t3.sl.r_82, k0_pay239, trip_k0_t3.sl.r_71, trip_k0_t3.sl.r_83, k0_pay240, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 56 k _ _ (off3_7 k) _ _ _ _ (by simp)
  · exact read3 _ _ 56 k _ _ (off3_7 k) _ _ _ _ (by simp)

/-- Slab 11 of block 1. -/
theorem y_1_11 : (trip_k0_t3.sl.r_89 (F := Ideal) arg2 arg11 arg12 arg13 arg14 X_arg2 X_arg11 X_arg12 X_arg13 X_arg14 k) = slab (YT arg2 arg11 arg12 arg13 arg14 X_arg2 X_arg11 X_arg12 X_arg13 X_arg14 k 1) 11 := by
  funext j
  idx_vars j
  unfold trip_k0_t3.sl.r_89
  unfold slab YT YV
  pointwise [k0_pay246, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 88 k _ _ (off3_11 k) _ _ _ _ (by simp)
  · exact read3 _ _ 88 k _ _ (off3_11 k) _ _ _ _ (by simp)

/-- Slab 15 of block 1. -/
theorem y_1_15 : (trip_k0_t3.sl.r_94 (F := Ideal) arg2 arg11 arg12 arg13 arg14 X_arg2 X_arg11 X_arg12 X_arg13 X_arg14 k) = slab (YT arg2 arg11 arg12 arg13 arg14 X_arg2 X_arg11 X_arg12 X_arg13 X_arg14 k 1) 15 := by
  funext j
  idx_vars j
  unfold trip_k0_t3.sl.r_94
  unfold slab YT YV
  pointwise [k0_pay251, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 120 k _ _ (off3_15 k) _ _ _ _ (by simp)
  · exact read3 _ _ 120 k _ _ (off3_15 k) _ _ _ _ (by simp)

/-- Slab 19 of block 1. -/
theorem y_1_19 : (trip_k0_t3.sl.r_99 (F := Ideal) arg2 arg11 arg12 arg13 arg14 X_arg2 X_arg11 X_arg12 X_arg13 X_arg14 k) = slab (YT arg2 arg11 arg12 arg13 arg14 X_arg2 X_arg11 X_arg12 X_arg13 X_arg14 k 1) 19 := by
  funext j
  idx_vars j
  unfold trip_k0_t3.sl.r_99
  unfold slab YT YV
  pointwise [k0_pay256, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 152 k _ _ (off3_19 k) _ _ _ _ (by simp)
  · exact read3 _ _ 152 k _ _ (off3_19 k) _ _ _ _ (by simp)

/-- Slab 23 of block 1. -/
theorem y_1_23 : (trip_k0_t3.sl.r_104 (F := Ideal) arg2 arg11 arg12 arg13 arg14 X_arg2 X_arg11 X_arg12 X_arg13 X_arg14 k) = slab (YT arg2 arg11 arg12 arg13 arg14 X_arg2 X_arg11 X_arg12 X_arg13 X_arg14 k 1) 23 := by
  funext j
  idx_vars j
  unfold trip_k0_t3.sl.r_104
  unfold slab YT YV
  pointwise [k0_pay261, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 184 k _ _ (off3_23 k) _ _ _ _ (by simp)
  · exact read3 _ _ 184 k _ _ (off3_23 k) _ _ _ _ (by simp)

/-- Slab 27 of block 1. -/
theorem y_1_27 : (trip_k0_t3.sl.r_110 (F := Ideal) arg2 arg11 arg12 arg13 arg14 X_arg2 X_arg11 X_arg12 X_arg13 X_arg14 k) = slab (YT arg2 arg11 arg12 arg13 arg14 X_arg2 X_arg11 X_arg12 X_arg13 X_arg14 k 1) 27 := by
  funext j
  idx_vars j
  unfold trip_k0_t3.sl.r_110
  unfold slab YT YV
  pointwise [k0_pay266, trip_k0_t3.sl.r_71, trip_k0_t3.sl.r_72]
  refine aff_congr ?_ ?_ ?_ ?_ ?_
  · rfl
  · first | exact read_stat _ _ 2 _ (by omega) _ _ | rfl
  · first | exact read_stat _ _ 3 _ (by omega) _ _ | rfl
  · exact read3 _ _ 216 k _ _ (off3_27 k) _ _ _ _ (by simp)
  · exact read3 _ _ 216 k _ _ (off3_27 k) _ _ _ _ (by simp)

/-- Slab 31 of block 1. -/
theorem y_1_31 : (trip_k0_t3.sl.r_117 (F := Ideal) arg2 arg11 arg12 arg13 arg14 X_arg2 X_arg11 X_arg12 X_arg13 X_arg14 k) = slab (YT arg2 arg11 arg12 arg13 arg14 X_arg2 X_arg11 X_arg12 X_arg13 X_arg14 k 1) 31 := by
  funext j
  idx_vars j
  unfold trip_k0_t3.sl.r_117
  unfold slab YT YV
  pointwise [k0_pay273, trip_k0_t3.sl.r_115, k0_pay271, trip_k0_t3.sl.r_71, trip_k0_t3.sl.r_72, trip_k0_t3.sl.r_116, k0_pay272]
  refine aff_congr ?_ ?_ ?_ ?_ ?_
  · rfl
  · first | exact read_stat _ _ 2 _ (by omega) _ _ | rfl
  · first | exact read_stat _ _ 3 _ (by omega) _ _ | rfl
  · exact read3 _ _ 248 k _ _ (off3_31 k) _ _ _ _ (by simp)
  · exact read3 _ _ 248 k _ _ (off3_31 k) _ _ _ _ (by simp)

end

end Cert.KernelIdeal.Hand

end
-- ==== Proof.Quant.lean ====
/- Hand-written, untrusted. The quantiser of one tile as functions of its normalised entries, in the order of operations of the tile
   loop: the block maxima, the scaled maximum, its exponent by the eight comparisons, the power of two, the clipped entry. -/
module

public import Idealize.ShloMosaic.PureOps.Ideal
public import Idealize.ShloMosaic.Lib.Pointwise

@[expose] public section

noncomputable section

namespace Cert.Spec

open Idealize.ShloMosaic

/-- The absolute value of an extended real. -/
abbrev aabs (x : EReal) : EReal := FloatOps.absf (F := Ideal) (φ := .f32) x

/-- One comparison of the search for the exponent field: the bit `c` is kept where the float of field `ex + c` is at most `t`. -/
def kst (t : EReal) (c ex : BitVec 32) : BitVec 32 :=
  Scalar.select (FloatOps.cmpf (F := Ideal) (φ := .f32) .oge t (FloatOps.ofBits (F := Ideal) .f32 (IntOp.shli .vector (IntOp.addi ex c) 23#32)))
    (IntOp.addi ex c) ex

/-- The exponent field found by the eight comparisons. -/
def kex (t : EReal) : BitVec 32 :=
  kst t 1#32 (kst t 2#32 (kst t 4#32 (kst t 8#32 (kst t 16#32 (kst t 32#32 (kst t 64#32 (kst t 128#32 0#32)))))))

/-- The exponent of the block's scale: zero where the field is zero or all ones. -/
def kE (t : EReal) : BitVec 32 :=
  Scalar.select (IntOp.ori (IntOp.cmpi .eq (kex t) 0#32) (IntOp.cmpi .eq (kex t) 255#32)) 0#32 (IntOp.subi (kex t) 126#32)

/-- The power of two the block is multiplied by, from its bits. -/
def kinv (t : EReal) : EReal :=
  FloatOps.ofBits (F := Ideal) .f32 (IntOp.shli .vector (IntOp.subi 127#32 (kE t)) 23#32)

/-- The biased exponent stored for the block. -/
def kbias (t : EReal) : BitVec 32 := IntOp.addi (kE t) 127#32

/-- The largest absolute value over the eight slabs at row `r` of a group of 32, in the loop's order. -/
def MX (Y : Fin 256 → Fin 128 → EReal) (r : Fin 32) (l : Fin 128) : EReal :=
  max (max (max (max (max (max (max (aabs (Y ⟨r.val, by omega⟩ l)) (aabs (Y ⟨32 + r.val, by omega⟩ l))) (aabs (Y ⟨64 + r.val, by omega⟩ l)))
    (aabs (Y ⟨96 + r.val, by omega⟩ l))) (aabs (Y ⟨128 + r.val, by omega⟩ l))) (aabs (Y ⟨160 + r.val, by omega⟩ l)))
    (aabs (Y ⟨192 + r.val, by omega⟩ l))) (aabs (Y ⟨224 + r.val, by omega⟩ l))

/-- The scaled maximum of block `g` of 32 channels. -/
def TT (Y : Fin 256 → Fin 128 → EReal) (g : Fin 8) (l : Fin 128) : EReal :=
  max (max (max (MX Y ⟨4 * g.val, by omega⟩ l) (MX Y ⟨4 * g.val + 1, by omega⟩ l)) (MX Y ⟨4 * g.val + 2, by omega⟩ l))
    (MX Y ⟨4 * g.val + 3, by omega⟩ l) * Ideal.ofBits .f32 0x3B124925#32

/-- The code: the entry times the scale, clipped. -/
def clip (z : EReal) : EReal := min (Ideal.ofBits .f32 0x43E00000#32) (max (Ideal.ofBits .f32 0xC3E00000#32) z)

/-- The code of row `r`, lane `l` of a tile. -/
def ZZ (Y : Fin 256 → Fin 128 → EReal) (r : Fin 256) (l : Fin 128) : EReal :=
  clip (Y r l * kinv (TT Y ⟨r.val % 32 / 4, by omega⟩ l))

end Cert.Spec

end
-- ==== Proof.TripM.lean ====
/- Hand-written, untrusted. The block maxima of one tile, the scaled maximum, its exponent and the power of two, as the tile loop
   stores and reloads them. -/
module

public import proofs.«01_k».proof.Proof.TripY
public import proofs.«01_k».proof.Proof.Quant
public import Idealize.ShloMosaic.Lib.Pipeline.CanonAppend

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec

/-- Row `a` of slab `v` is row `8 v + a` of the tile. -/
theorem slab_apply (Y : Fin 256 → Fin 128 → EReal) (v : Fin 32) (a : Fin 8) (l : Fin 128) :
    slab Y v (ix2 a l) = Y ⟨8 * v.val + a.val, by omega⟩ l := rfl

/-- A row of the eight-slab maximum is a row of the tile. -/
theorem lt256 (r : Fin 32) (c : ℕ) (h : c ≤ 224) : c + r.val < 256 := by omega

/-- The maximum of magnitudes over eight rows 32 apart, as the kernel chains it. -/
theorem MX_eq (Y : Fin 256 → Fin 128 → EReal) (r : Fin 32) (l : Fin 128) {r0 r1 r2 r3 r4 r5 r6 r7 : Fin 256}
    (h0 : r0.val = 0 + r.val) (h1 : r1.val = 32 + r.val) (h2 : r2.val = 64 + r.val) (h3 : r3.val = 96 + r.val)
    (h4 : r4.val = 128 + r.val) (h5 : r5.val = 160 + r.val) (h6 : r6.val = 192 + r.val) (h7 : r7.val = 224 + r.val) :
    max (max (max (max (max (max (max (aabs (Y r0 l)) (aabs (Y r1 l))) (aabs (Y r2 l))) (aabs (Y r3 l))) (aabs (Y r4 l))) (aabs (Y r5 l)))
      (aabs (Y r6 l))) (aabs (Y r7 l)) = MX Y r l := by
  rw [show r0 = ⟨r.val, lt_of_lt_of_le r.isLt (by decide)⟩ from Fin.ext (h0.trans (Nat.zero_add _))]
  rw [show r1 = ⟨32 + r.val, lt256 r 32 (by decide)⟩ from Fin.ext h1]
  rw [show r2 = ⟨64 + r.val, lt256 r 64 (by decide)⟩ from Fin.ext h2]
  rw [show r3 = ⟨96 + r.val, lt256 r 96 (by decide)⟩ from Fin.ext h3]
  rw [show r4 = ⟨128 + r.val, lt256 r 128 (by decide)⟩ from Fin.ext h4]
  rw [show r5 = ⟨160 + r.val, lt256 r 160 (by decide)⟩ from Fin.ext h5]
  rw [show r6 = ⟨192 + r.val, lt256 r 192 (by decide)⟩ from Fin.ext h6]
  rw [show r7 = ⟨224 + r.val, lt256 r 224 (by decide)⟩ from Fin.ext h7]
  rfl

/-- Eight rows of block maxima. -/
def mrow (Y : Fin 256 → Fin 128 → EReal) (a : Fin 4) : FVec Ideal S8x128 .f32 :=
  fun j => MX Y ⟨8 * a.val + (show Fin 8 from j 0).val, by have := (show Fin 8 from j 0).isLt; omega⟩ (j 1)

/-- The four stores of block maxima, latest first. -/
def mlist (Y : Fin 256 → Fin 128 → EReal) : List (View.Piece (Elt Ideal) S32x128 .f32) :=
  [⟨Rect.unit ![24, 0] S8x128.size inb_S32x128_S8x128_24_0, mrow Y 3⟩,
    ⟨Rect.unit ![16, 0] S8x128.size inb_S32x128_S8x128_16_0, mrow Y 2⟩,
    ⟨Rect.unit ![8, 0] S8x128.size inb_S32x128_S8x128_8_0, mrow Y 1⟩,
    ⟨Rect.unit ![0, 0] S8x128.size inb_S32x128_S8x128_0_0, mrow Y 0⟩]

/-- What the stores of block maxima leave. -/
theorem canon_mlist (Y : Fin 256 → Fin 128 → EReal) (L' : List (View.Piece (Elt Ideal) S32x128 .f32)) (r : Fin 32) (l : Fin 128) :
    View.canon (mlist Y ++ L') (ix2 r l) = MX Y r l := by
  refine View.canon_append_of_pieces (fun y : S32x128.Idx => MX Y (y 0) (y 1)) L' (mlist Y) ?_ (ix2 r l) ?_
  · intro p hp
    simp only [mlist, List.mem_cons, List.not_mem_nil, or_false] at hp
    rcases hp with rfl | rfl | rfl | rfl
    · intro x
      obtain ⟨a, l, rfl⟩ : ∃ (a : Fin 8) (l : Fin 128), x = ix2 a l := ⟨x 0, x 1, eq_ix2 x⟩
      exact congr (congrArg (MX Y) (Fin.ext (by show 24 + a.val = 24 + 1 * a.val; omega))) (Fin.ext (by show l.val = 0 + 1 * l.val; omega))
    · intro x
      obtain ⟨a, l, rfl⟩ : ∃ (a : Fin 8) (l : Fin 128), x = ix2 a l := ⟨x 0, x 1, eq_ix2 x⟩
      exact congr (congrArg (MX Y) (Fin.ext (by show 16 + a.val = 16 + 1 * a.val; omega))) (Fin.ext (by show l.val = 0 + 1 * l.val; omega))
    · intro x
      obtain ⟨a, l, rfl⟩ : ∃ (a : Fin 8) (l : Fin 128), x = ix2 a l := ⟨x 0, x 1, eq_ix2 x⟩
      exact congr (congrArg (MX Y) (Fin.ext (by show 8 + a.val = 8 + 1 * a.val; omega))) (Fin.ext (by show l.val = 0 + 1 * l.val; omega))
    · intro x
      obtain ⟨a, l, rfl⟩ : ∃ (a : Fin 8) (l : Fin 128), x = ix2 a l := ⟨x 0, x 1, eq_ix2 x⟩
      exact congr (congrArg (MX Y) (Fin.ext (by show 0 + a.val = 0 + 1 * a.val; omega))) (Fin.ext (by show l.val = 0 + 1 * l.val; omega))
  · have hr : r.val < 8 ∨ (8 ≤ r.val ∧ r.val < 16) ∨ (16 ≤ r.val ∧ r.val < 24) ∨ 24 ≤ r.val := by omega
    have hr' := r.isLt
    have hl := l.isLt
    rcases hr with h | h | h | h
    · refine ⟨⟨Rect.unit ![0, 0] S8x128.size inb_S32x128_S8x128_0_0, mrow Y 0⟩, by unfold mlist; simp only [List.mem_cons, true_or, or_true], (Rect.mem_set_unit (inb := inb_S32x128_S8x128_0_0)).mpr fun d => ?_⟩
      match d with
      | ⟨0, _⟩ => show 0 ≤ r.val ∧ r.val < 0 + 8; omega
      | ⟨1, _⟩ => show 0 ≤ l.val ∧ l.val < 0 + 128; omega
    · refine ⟨⟨Rect.unit ![8, 0] S8x128.size inb_S32x128_S8x128_8_0, mrow Y 1⟩, by unfold mlist; simp only [List.mem_cons, true_or, or_true], (Rect.mem_set_unit (inb := inb_S32x128_S8x128_8_0)).mpr fun d => ?_⟩
      match d with
      | ⟨0, _⟩ => show 8 ≤ r.val ∧ r.val < 8 + 8; omega
      | ⟨1, _⟩ => show 0 ≤ l.val ∧ l.val < 0 + 128; omega
    · refine ⟨⟨Rect.unit ![16, 0] S8x128.size inb_S32x128_S8x128_16_0, mrow Y 2⟩, by unfold mlist; simp only [List.mem_cons, true_or, or_true], (Rect.mem_set_unit (inb := inb_S32x128_S8x128_16_0)).mpr fun d => ?_⟩
      match d with
      | ⟨0, _⟩ => show 16 ≤ r.val ∧ r.val < 16 + 8; omega
      | ⟨1, _⟩ => show 0 ≤ l.val ∧ l.val < 0 + 128; omega
    · refine ⟨⟨Rect.unit ![24, 0] S8x128.size inb_S32x128_S8x128_24_0, mrow Y 3⟩, by unfold mlist; simp only [List.mem_cons, true_or, or_true], (Rect.mem_set_unit (inb := inb_S32x128_S8x128_24_0)).mpr fun d => ?_⟩
      match d with
      | ⟨0, _⟩ => show 24 ≤ r.val ∧ r.val < 24 + 8; omega
      | ⟨1, _⟩ => show 0 ≤ l.val ∧ l.val < 0 + 128; omega

/-- The slab of maxima 0 of block 0. -/
theorem mrow_0_0 (Y : Fin 256 → Fin 128 → EReal) : k0_pay188 (slab Y 0) (slab Y 4) (slab Y 8) (slab Y 12) (slab Y 16) (slab Y 20) (slab Y 24) (slab Y 28) = mrow Y 0 := by
  funext j
  idx_vars j
  unfold mrow
  pointwise [k0_pay188]
  simp only [slab_apply]
  exact MX_eq Y _ j1 (by show 0 + j0.val = 0 + j0.val; omega) (by show 32 + j0.val = 32 + j0.val; omega) (by show 64 + j0.val = 64 + j0.val; omega) (by show 96 + j0.val = 96 + j0.val; omega) (by show 128 + j0.val = 128 + j0.val; omega) (by show 160 + j0.val = 160 + j0.val; omega) (by show 192 + j0.val = 192 + j0.val; omega) (by show 224 + j0.val = 224 + j0.val; omega)

/-- The slab of maxima 1 of block 0. -/
theorem mrow_0_1 (Y : Fin 256 → Fin 128 → EReal) : k0_pay190 (k0_pay189 (slab Y 1) (slab Y 5) (slab Y 9) (slab Y 13) (slab Y 17) (slab Y 21) (slab Y 25) (slab Y 29)) = mrow Y 1 := by
  funext j
  idx_vars j
  unfold mrow
  pointwise [k0_pay190, k0_pay189]
  simp only [slab_apply]
  exact MX_eq Y _ j1 (by show 8 + j0.val = 0 + (8 + j0.val); omega) (by show 40 + j0.val = 32 + (8 + j0.val); omega) (by show 72 + j0.val = 64 + (8 + j0.val); omega) (by show 104 + j0.val = 96 + (8 + j0.val); omega) (by show 136 + j0.val = 128 + (8 + j0.val); omega) (by show 168 + j0.val = 160 + (8 + j0.val); omega) (by show 200 + j0.val = 192 + (8 + j0.val); omega) (by show 232 + j0.val = 224 + (8 + j0.val); omega)

/-- The slab of maxima 2 of block 0. -/
theorem mrow_0_2 (Y : Fin 256 → Fin 128 → EReal) : k0_pay191 (slab Y 2) (slab Y 6) (slab Y 10) (slab Y 14) (slab Y 18) (slab Y 22) (slab Y 26) (slab Y 30) = mrow Y 2 := by
  funext j
  idx_vars j
  unfold mrow
  pointwise [k0_pay191]
  simp only [slab_apply]
  exact MX_eq Y _ j1 (by show 16 + j0.val = 0 + (16 + j0.val); omega) (by show 48 + j0.val = 32 + (16 + j0.val); omega) (by show 80 + j0.val = 64 + (16 + j0.val); omega) (by show 112 + j0.val = 96 + (16 + j0.val); omega) (by show 144 + j0.val = 128 + (16 + j0.val); omega) (by show 176 + j0.val = 160 + (16 + j0.val); omega) (by show 208 + j0.val = 192 + (16 + j0.val); omega) (by show 240 + j0.val = 224 + (16 + j0.val); omega)

/-- The slab of maxima 3 of block 0. -/
theorem mrow_0_3 (Y : Fin 256 → Fin 128 → EReal) : k0_pay192 (slab Y 3) (slab Y 7) (slab Y 11) (slab Y 15) (slab Y 19) (slab Y 23) (slab Y 27) (slab Y 31) = mrow Y 3 := by
  funext j
  idx_vars j
  unfold mrow
  pointwise [k0_pay192]
  simp only [slab_apply]
  exact MX_eq Y _ j1 (by show 24 + j0.val = 0 + (24 + j0.val); omega) (by show 56 + j0.val = 32 + (24 + j0.val); omega) (by show 88 + j0.val = 64 + (24 + j0.val); omega) (by show 120 + j0.val = 96 + (24 + j0.val); omega) (by show 152 + j0.val = 128 + (24 + j0.val); omega) (by show 184 + j0.val = 160 + (24 + j0.val); omega) (by show 216 + j0.val = 192 + (24 + j0.val); omega) (by show 248 + j0.val = 224 + (24 + j0.val); omega)

section
variable (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips)
include arg2 arg11 arg12 arg13 arg14 X_arg2 X_arg11 X_arg12 X_arg13 X_arg14 k

set_option maxHeartbeats 4000000 in
/-- The stores of block maxima of block 0. -/
theorem hw15_0 : (trip_k0_t3.sl.HW_arg15_4 (F := Ideal) arg2 arg11 arg12 arg13 arg14 X_arg2 X_arg11 X_arg12 X_arg13 X_arg14 k) = mlist (YT arg2 arg11 arg12 arg13 arg14 X_arg2 X_arg11 X_arg12 X_arg13 X_arg14 k 0) ++ [] := by
  unfold trip_k0_t3.sl.HW_arg15_4 mlist
  unfold trip_k0_t3.sl.r_47
  simp only [y_0_0, y_0_1, y_0_2, y_0_3, y_0_4, y_0_5, y_0_6, y_0_7, y_0_8, y_0_9, y_0_10, y_0_11, y_0_12, y_0_13, y_0_14, y_0_15, y_0_16, y_0_17, y_0_18, y_0_19, y_0_20, y_0_21, y_0_22, y_0_23, y_0_24, y_0_25, y_0_26, y_0_27, y_0_28, y_0_29, y_0_30, y_0_31]
  simp only [mrow_0_0, mrow_0_1, mrow_0_2, mrow_0_3]
  rfl

end

section
variable (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (arg15 : Memref sig .tc .vmem S32x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips)
include arg2 arg11 arg12 arg13 arg14 arg15 X_arg2 X_arg11 X_arg12 X_arg13 X_arg14 k

/-- The maxima of row 0 of every block of four. -/
theorem v687_apply (g : Fin 8) (l : Fin 128) : (trip_k0_t3.sl.v687 (F := Ideal) arg2 arg11 arg12 arg13 arg14 arg15 X_arg2 X_arg11 X_arg12 X_arg13 X_arg14 k) (ix2 g l) = MX (YT arg2 arg11 arg12 arg13 arg14 X_arg2 X_arg11 X_arg12 X_arg13 X_arg14 k 0) ⟨4 * g.val + 0, by omega⟩ l := by
  unfold trip_k0_t3.sl.v687
  rw [View.readCov_eq_canon', hw15_0, ← canon_mlist (YT arg2 arg11 arg12 arg13 arg14 X_arg2 X_arg11 X_arg12 X_arg13 X_arg14 k 0) ([])]
  refine congrArg (View.canon _) (funext fun d => Fin.ext ?_)
  match d with
  | ⟨0, _⟩ => show 0 + 4 * g.val = 4 * g.val + 0; omega
  | ⟨1, _⟩ => show 0 + 1 * l.val = l.val; omega

/-- The maxima of row 1 of every block of four. -/
theorem v688_apply (g : Fin 8) (l : Fin 128) : (trip_k0_t3.sl.v688 (F := Ideal) arg2 arg11 arg12 arg13 arg14 arg15 X_arg2 X_arg11 X_arg12 X_arg13 X_arg14 k) (ix2 g l) = MX (YT arg2 arg11 arg12 arg13 arg14 X_arg2 X_arg11 X_arg12 X_arg13 X_arg14 k 0) ⟨4 * g.val + 1, by omega⟩ l := by
  unfold trip_k0_t3.sl.v688
  rw [View.readCov_eq_canon', hw15_0, ← canon_mlist (YT arg2 arg11 arg12 arg13 arg14 X_arg2 X_arg11 X_arg12 X_arg13 X_arg14 k 0) ([])]
  refine congrArg (View.canon _) (funext fun d => Fin.ext ?_)
  match d with
  | ⟨0, _⟩ => show 1 + 4 * g.val = 4 * g.val + 1; omega
  | ⟨1, _⟩ => show 0 + 1 * l.val = l.val; omega

/-- The maxima of row 2 of every block of four. -/
theorem v690_apply (g : Fin 8) (l : Fin 128) : (trip_k0_t3.sl.v690 (F := Ideal) arg2 arg11 arg12 arg13 arg14 arg15 X_arg2 X_arg11 X_arg12 X_arg13 X_arg14 k) (ix2 g l) = MX (YT arg2 arg11 arg12 arg13 arg14 X_arg2 X_arg11 X_arg12 X_arg13 X_arg14 k 0) ⟨4 * g.val + 2, by omega⟩ l := by
  unfold trip_k0_t3.sl.v690
  rw [View.readCov_eq_canon', hw15_0, ← canon_mlist (YT arg2 arg11 arg12 arg13 arg14 X_arg2 X_arg11 X_arg12 X_arg13 X_arg14 k 0) ([])]
  refine congrArg (View.canon _) (funext fun d => Fin.ext ?_)
  match d with
  | ⟨0, _⟩ => show 2 + 4 * g.val = 4 * g.val + 2; omega
  | ⟨1, _⟩ => show 0 + 1 * l.val = l.val; omega

/-- The maxima of row 3 of every block of four. -/
theorem v692_apply (g : Fin 8) (l : Fin 128) : (trip_k0_t3.sl.v692 (F := Ideal) arg2 arg11 arg12 arg13 arg14 arg15 X_arg2 X_arg11 X_arg12 X_arg13 X_arg14 k) (ix2 g l) = MX (YT arg2 arg11 arg12 arg13 arg14 X_arg2 X_arg11 X_arg12 X_arg13 X_arg14 k 0) ⟨4 * g.val + 3, by omega⟩ l := by
  unfold trip_k0_t3.sl.v692
  rw [View.readCov_eq_canon', hw15_0, ← canon_mlist (YT arg2 arg11 arg12 arg13 arg14 X_arg2 X_arg11 X_arg12 X_arg13 X_arg14 k 0) ([])]
  refine congrArg (View.canon _) (funext fun d => Fin.ext ?_)
  match d with
  | ⟨0, _⟩ => show 3 + 4 * g.val = 4 * g.val + 3; omega
  | ⟨1, _⟩ => show 0 + 1 * l.val = l.val; omega

/-- The scaled maxima of block 0. -/
theorem t_0 (g : Fin 8) (l : Fin 128) : (trip_k0_t3.sl.r_49 (F := Ideal) arg2 arg11 arg12 arg13 arg14 arg15 X_arg2 X_arg11 X_arg12 X_arg13 X_arg14 k) (ix2 g l) = TT (YT arg2 arg11 arg12 arg13 arg14 X_arg2 X_arg11 X_arg12 X_arg13 X_arg14 k 0) g l := by
  unfold trip_k0_t3.sl.r_49 TT
  pointwise [trip_k0_t3.sl.r_48, k0_pay193, k0_pay194]
  simp only [v687_apply, v688_apply, v690_apply, v692_apply]
  rfl

/-- The block scale inverses of batch half 0. -/
theorem d_0 (g : Fin 8) (l : Fin 128) :
    k0_pay199 (F := Ideal) (trip_k0_t3.sl.r_49 (F := Ideal) arg2 arg11 arg12 arg13 arg14 arg15 X_arg2 X_arg11 X_arg12 X_arg13 X_arg14 k) (trip_k0_t3.sl.r_50 (F := Ideal) arg2 arg11 arg12 arg13 arg14 arg15 X_arg2 X_arg11 X_arg12 X_arg13 X_arg14 k) (trip_k0_t3.sl.r_51 (F := Ideal) arg2 arg11 arg12 arg13 arg14 arg15 X_arg2 X_arg11 X_arg12 X_arg13 X_arg14 k) (trip_k0_t3.sl.r_52 (F := Ideal) arg2 arg11 arg12 arg13 arg14 arg15 X_arg2 X_arg11 X_arg12 X_arg13 X_arg14 k) (ix2 g l) = kinv (TT (YT arg2 arg11 arg12 arg13 arg14 X_arg2 X_arg11 X_arg12 X_arg13 X_arg14 k 0) g l) := by
  rw [← t_0 arg2 arg11 arg12 arg13 arg14 arg15]
  unfold k0_pay199
  rw [shapeCast_self]
  rfl

/-- The biased block exponents of batch half 0. -/
theorem e_0 (z : Fin 1) (g : Fin 8) (l : Fin 128) :
    k0_pay200 (F := Ideal) (trip_k0_t3.sl.r_49 (F := Ideal) arg2 arg11 arg12 arg13 arg14 arg15 X_arg2 X_arg11 X_arg12 X_arg13 X_arg14 k) (trip_k0_t3.sl.r_50 (F := Ideal) arg2 arg11 arg12 arg13 arg14 arg15 X_arg2 X_arg11 X_arg12 X_arg13 X_arg14 k) (trip_k0_t3.sl.r_51 (F := Ideal) arg2 arg11 arg12 arg13 arg14 arg15 X_arg2 X_arg11 X_arg12 X_arg13 X_arg14 k) (trip_k0_t3.sl.r_52 (F := Ideal) arg2 arg11 arg12 arg13 arg14 arg15 X_arg2 X_arg11 X_arg12 X_arg13 X_arg14 k) (ix3 z g l) = kbias (TT (YT arg2 arg11 arg12 arg13 arg14 X_arg2 X_arg11 X_arg12 X_arg13 X_arg14 k 0) g l) := by
  rw [← t_0 arg2 arg11 arg12 arg13 arg14 arg15]
  unfold k0_pay200
  rw [shapeCast_apply _ _ _ (ix2 g l) (by obtain rfl : z = 0 := Subsingleton.elim _ _; simp [Shape.rowMajor_val_two, Shape.rowMajor_val_three])]
  rfl

end

/-- The slab of maxima 0 of block 1. -/
theorem mrow_1_0 (Y : Fin 256 → Fin 128 → EReal) : k0_pay274 (slab Y 0) (slab Y 4) (slab Y 8) (slab Y 12) (slab Y 16) (slab Y 20) (slab Y 24) (slab Y 28) = mrow Y 0 := by
  funext j
  idx_vars j
  unfold mrow
  pointwise [k0_pay274]
  simp only [slab_apply]
  exact MX_eq Y _ j1 (by show 0 + j0.val = 0 + j0.val; omega) (by show 32 + j0.val = 32 + j0.val; omega) (by show 64 + j0.val = 64 + j0.val; omega) (by show 96 + j0.val = 96 + j0.val; omega) (by show 128 + j0.val = 128 + j0.val; omega) (by show 160 + j0.val = 160 + j0.val; omega) (by show 192 + j0.val = 192 + j0.val; omega) (by show 224 + j0.val = 224 + j0.val; omega)

/-- The slab of maxima 1 of block 1. -/
theorem mrow_1_1 (Y : Fin 256 → Fin 128 → EReal) : k0_pay275 (slab Y 1) (slab Y 5) (slab Y 9) (slab Y 13) (slab Y 17) (slab Y 21) (slab Y 25) (slab Y 29) = mrow Y 1 := by
  funext j
  idx_vars j
  unfold mrow
  pointwise [k0_pay275]
  simp only [slab_apply]
  exact MX_eq Y _ j1 (by show 8 + j0.val = 0 + (8 + j0.val); omega) (by show 40 + j0.val = 32 + (8 + j0.val); omega) (by show 72 + j0.val = 64 + (8 + j0.val); omega) (by show 104 + j0.val = 96 + (8 + j0.val); omega) (by show 136 + j0.val = 128 + (8 + j0.val); omega) (by show 168 + j0.val = 160 + (8 + j0.val); omega) (by show 200 + j0.val = 192 + (8 + j0.val); omega) (by show 232 + j0.val = 224 + (8 + j0.val); omega)

/-- The slab of maxima 2 of block 1. -/
theorem mrow_1_2 (Y : Fin 256 → Fin 128 → EReal) : k0_pay277 (k0_pay276 (slab Y 2) (slab Y 6) (slab Y 10) (slab Y 14) (slab Y 18) (slab Y 22) (slab Y 26) (slab Y 30)) = mrow Y 2 := by
  funext j
  idx_vars j
  unfold mrow
  pointwise [k0_pay277, k0_pay276]
  simp only [slab_apply]
  exact MX_eq Y _ j1 (by show 16 + j0.val = 0 + (16 + j0.val); omega) (by show 48 + j0.val = 32 + (16 + j0.val); omega) (by show 80 + j0.val = 64 + (16 + j0.val); omega) (by show 112 + j0.val = 96 + (16 + j0.val); omega) (by show 144 + j0.val = 128 + (16 + j0.val); omega) (by show 176 + j0.val = 160 + (16 + j0.val); omega) (by show 208 + j0.val = 192 + (16 + j0.val); omega) (by show 240 + j0.val = 224 + (16 + j0.val); omega)

/-- The slab of maxima 3 of block 1. -/
theorem mrow_1_3 (Y : Fin 256 → Fin 128 → EReal) : k0_pay278 (slab Y 3) (slab Y 7) (slab Y 11) (slab Y 15) (slab Y 19) (slab Y 23) (slab Y 27) (slab Y 31) = mrow Y 3 := by
  funext j
  idx_vars j
  unfold mrow
  pointwise [k0_pay278]
  simp only [slab_apply]
  exact MX_eq Y _ j1 (by show 24 + j0.val = 0 + (24 + j0.val); omega) (by show 56 + j0.val = 32 + (24 + j0.val); omega) (by show 88 + j0.val = 64 + (24 + j0.val); omega) (by show 120 + j0.val = 96 + (24 + j0.val); omega) (by show 152 + j0.val = 128 + (24 + j0.val); omega) (by show 184 + j0.val = 160 + (24 + j0.val); omega) (by show 216 + j0.val = 192 + (24 + j0.val); omega) (by show 248 + j0.val = 224 + (24 + j0.val); omega)

section
variable (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips)
include arg2 arg11 arg12 arg13 arg14 X_arg2 X_arg11 X_arg12 X_arg13 X_arg14 k

set_option maxHeartbeats 4000000 in
/-- The stores of block maxima of block 1. -/
theorem hw15_1 : (trip_k0_t3.sl.HW_arg15_8 (F := Ideal) arg2 arg11 arg12 arg13 arg14 X_arg2 X_arg11 X_arg12 X_arg13 X_arg14 k) = mlist (YT arg2 arg11 arg12 arg13 arg14 X_arg2 X_arg11 X_arg12 X_arg13 X_arg14 k 1) ++ (trip_k0_t3.sl.HW_arg15_4 (F := Ideal) arg2 arg11 arg12 arg13 arg14 X_arg2 X_arg11 X_arg12 X_arg13 X_arg14 k) := by
  unfold trip_k0_t3.sl.HW_arg15_8 mlist
  unfold trip_k0_t3.sl.r_118
  simp only [y_1_0, y_1_1, y_1_2, y_1_3, y_1_4, y_1_5, y_1_6, y_1_7, y_1_8, y_1_9, y_1_10, y_1_11, y_1_12, y_1_13, y_1_14, y_1_15, y_1_16, y_1_17, y_1_18, y_1_19, y_1_20, y_1_21, y_1_22, y_1_23, y_1_24, y_1_25, y_1_26, y_1_27, y_1_28, y_1_29, y_1_30, y_1_31]
  simp only [mrow_1_0, mrow_1_1, mrow_1_2, mrow_1_3]
  rfl

end

section
variable (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (arg15 : Memref sig .tc .vmem S32x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips)
include arg2 arg11 arg12 arg13 arg14 arg15 X_arg2 X_arg11 X_arg12 X_arg13 X_arg14 k

/-- The maxima of row 0 of every block of four. -/
theorem v1526_apply (g : Fin 8) (l : Fin 128) : (trip_k0_t3.sl.v1526 (F := Ideal) arg2 arg11 arg12 arg13 arg14 arg15 X_arg2 X_arg11 X_arg12 X_arg13 X_arg14 k) (ix2 g l) = MX (YT arg2 arg11 arg12 arg13 arg14 X_arg2 X_arg11 X_arg12 X_arg13 X_arg14 k 1) ⟨4 * g.val + 0, by omega⟩ l := by
  unfold trip_k0_t3.sl.v1526
  rw [View.readCov_eq_canon', hw15_1, ← canon_mlist (YT arg2 arg11 arg12 arg13 arg14 X_arg2 X_arg11 X_arg12 X_arg13 X_arg14 k 1) ((trip_k0_t3.sl.HW_arg15_4 (F := Ideal) arg2 arg11 arg12 arg13 arg14 X_arg2 X_arg11 X_arg12 X_arg13 X_arg14 k))]
  refine congrArg (View.canon _) (funext fun d => Fin.ext ?_)
  match d with
  | ⟨0, _⟩ => show 0 + 4 * g.val = 4 * g.val + 0; omega
  | ⟨1, _⟩ => show 0 + 1 * l.val = l.val; omega

/-- The maxima of row 1 of every block of four. -/
theorem v1527_apply (g : Fin 8) (l : Fin 128) : (trip_k0_t3.sl.v1527 (F := Ideal) arg2 arg11 arg12 arg13 arg14 arg15 X_arg2 X_arg11 X_arg12 X_arg13 X_arg14 k) (ix2 g l) = MX (YT arg2 arg11 arg12 arg13 arg14 X_arg2 X_arg11 X_arg12 X_arg13 X_arg14 k 1) ⟨4 * g.val + 1, by omega⟩ l := by
  unfold trip_k0_t3.sl.v1527
  rw [View.readCov_eq_canon', hw15_1, ← canon_mlist (YT arg2 arg11 arg12 arg13 arg14 X_arg2 X_arg11 X_arg12 X_arg13 X_arg14 k 1) ((trip_k0_t3.sl.HW_arg15_4 (F := Ideal) arg2 arg11 arg12 arg13 arg14 X_arg2 X_arg11 X_arg12 X_arg13 X_arg14 k))]
  refine congrArg (View.canon _) (funext fun d => Fin.ext ?_)
  match d with
  | ⟨0, _⟩ => show 1 + 4 * g.val = 4 * g.val + 1; omega
  | ⟨1, _⟩ => show 0 + 1 * l.val = l.val; omega

/-- The maxima of row 2 of every block of four. -/
theorem v1529_apply (g : Fin 8) (l : Fin 128) : (trip_k0_t3.sl.v1529 (F := Ideal) arg2 arg11 arg12 arg13 arg14 arg15 X_arg2 X_arg11 X_arg12 X_arg13 X_arg14 k) (ix2 g l) = MX (YT arg2 arg11 arg12 arg13 arg14 X_arg2 X_arg11 X_arg12 X_arg13 X_arg14 k 1) ⟨4 * g.val + 2, by omega⟩ l := by
  unfold trip_k0_t3.sl.v1529
  rw [View.readCov_eq_canon', hw15_1, ← canon_mlist (YT arg2 arg11 arg12 arg13 arg14 X_arg2 X_arg11 X_arg12 X_arg13 X_arg14 k 1) ((trip_k0_t3.sl.HW_arg15_4 (F := Ideal) arg2 arg11 arg12 arg13 arg14 X_arg2 X_arg11 X_arg12 X_arg13 X_arg14 k))]
  refine congrArg (View.canon _) (funext fun d => Fin.ext ?_)
  match d with
  | ⟨0, _⟩ => show 2 + 4 * g.val = 4 * g.val + 2; omega
  | ⟨1, _⟩ => show 0 + 1 * l.val = l.val; omega

/-- The maxima of row 3 of every block of four. -/
theorem v1531_apply (g : Fin 8) (l : Fin 128) : (trip_k0_t3.sl.v1531 (F := Ideal) arg2 arg11 arg12 arg13 arg14 arg15 X_arg2 X_arg11 X_arg12 X_arg13 X_arg14 k) (ix2 g l) = MX (YT arg2 arg11 arg12 arg13 arg14 X_arg2 X_arg11 X_arg12 X_arg13 X_arg14 k 1) ⟨4 * g.val + 3, by omega⟩ l := by
  unfold trip_k0_t3.sl.v1531
  rw [View.readCov_eq_canon', hw15_1, ← canon_mlist (YT arg2 arg11 arg12 arg13 arg14 X_arg2 X_arg11 X_arg12 X_arg13 X_arg14 k 1) ((trip_k0_t3.sl.HW_arg15_4 (F := Ideal) arg2 arg11 arg12 arg13 arg14 X_arg2 X_arg11 X_arg12 X_arg13 X_arg14 k))]
  refine congrArg (View.canon _) (funext fun d => Fin.ext ?_)
  match d with
  | ⟨0, _⟩ => show 3 + 4 * g.val = 4 * g.val + 3; omega
  | ⟨1, _⟩ => show 0 + 1 * l.val = l.val; omega

/-- The scaled maxima of block 1. -/
theorem t_1 (g : Fin 8) (l : Fin 128) : (trip_k0_t3.sl.r_119 (F := Ideal) arg2 arg11 arg12 arg13 arg14 arg15 X_arg2 X_arg11 X_arg12 X_arg13 X_arg14 k) (ix2 g l) = TT (YT arg2 arg11 arg12 arg13 arg14 X_arg2 X_arg11 X_arg12 X_arg13 X_arg14 k 1) g l := by
  unfold trip_k0_t3.sl.r_119 TT
  pointwise [k0_pay279]
  simp only [v1526_apply, v1527_apply, v1529_apply, v1531_apply]
  rfl

/-- The block scale inverses of batch half 1. -/
theorem d_1 (g : Fin 8) (l : Fin 128) :
    k0_pay286 (F := Ideal) (trip_k0_t3.sl.r_123 (F := Ideal) arg2 arg11 arg12 arg13 arg14 arg15 X_arg2 X_arg11 X_arg12 X_arg13 X_arg14 k) (trip_k0_t3.sl.r_124 (F := Ideal) arg2 arg11 arg12 arg13 arg14 arg15 X_arg2 X_arg11 X_arg12 X_arg13 X_arg14 k) (ix2 g l) = kinv (TT (YT arg2 arg11 arg12 arg13 arg14 X_arg2 X_arg11 X_arg12 X_arg13 X_arg14 k 1) g l) := by
  rw [← t_1 arg2 arg11 arg12 arg13 arg14 arg15]
  unfold k0_pay286
  rw [shapeCast_self]
  rfl

/-- The biased block exponents of batch half 1. -/
theorem e_1 (z : Fin 1) (g : Fin 8) (l : Fin 128) :
    k0_pay287 (trip_k0_t3.sl.r_123 (F := Ideal) arg2 arg11 arg12 arg13 arg14 arg15 X_arg2 X_arg11 X_arg12 X_arg13 X_arg14 k) (trip_k0_t3.sl.r_124 (F := Ideal) arg2 arg11 arg12 arg13 arg14 arg15 X_arg2 X_arg11 X_arg12 X_arg13 X_arg14 k) (ix3 z g l) = kbias (TT (YT arg2 arg11 arg12 arg13 arg14 X_arg2 X_arg11 X_arg12 X_arg13 X_arg14 k 1) g l) := by
  rw [← t_1 arg2 arg11 arg12 arg13 arg14 arg15]
  unfold k0_pay287
  rw [shapeCast_apply _ _ _ (ix2 g l) (by obtain rfl : z = 0 := Subsingleton.elim _ _; simp [Shape.rowMajor_val_two, Shape.rowMajor_val_three])]
  rfl

end

end Cert.KernelIdeal.Hand

end
-- ==== Proof.TripW.lean ====
/- Hand-written, untrusted. The codes of one tile: the rows of powers of two reloaded, the eight stores of codes, their reloads and the
   tile of codes the trip stores. -/
module

public import proofs.«01_k».proof.Proof.TripM

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec

/-- Eight rows of powers of two: each block of four rows takes its block's. -/
def irow (Y : Fin 256 → Fin 128 → EReal) (a : Fin 4) : FVec Ideal S8x128 .f32 :=
  fun j => kinv (TT Y ⟨2 * a.val + (show Fin 8 from j 0).val / 4, by have := (show Fin 8 from j 0).isLt; omega⟩ (j 1))

/-- Which block's inverse a row of `irow` holds. -/
theorem irow_apply (Y : Fin 256 → Fin 128 → EReal) (a : Fin 4) (s : Fin 8) (l : Fin 128) :
    irow Y a (ix2 s l) = kinv (TT Y ⟨2 * a.val + s.val / 4, by omega⟩ l) := rfl

/-- The codes of the slabs `4 q` to `4 q + 3`, as stored. -/
def zq (Y : Fin 256 → Fin 128 → EReal) (q : Fin 8) : FVec Ideal S8x1x4x128 .fp8e4m3 :=
  fun j => ZZ Y ⟨32 * q.val + 4 * (show Fin 8 from j 0).val + (show Fin 4 from j 2).val, by
    have := (show Fin 8 from j 0).isLt; have := (show Fin 4 from j 2).isLt; omega⟩ (j 3)

/-- Selecting by row between two blocks' inverses gives `irow`. -/
theorem kinv_sel (Y : Fin 256 → Fin 128 → EReal) (a : Fin 4) (s : Fin 8) (l : Fin 128) (x y : EReal)
    (hx : x = kinv (TT Y ⟨2 * a.val, by omega⟩ l)) (hy : y = kinv (TT Y ⟨2 * a.val + 1, by omega⟩ l)) :
    Scalar.select (IntOp.cmpi .slt (BitVec.ofNat 32 s.val) 4#32) x y = irow Y a (ix2 s l) := by
  have hc : ∀ s : Fin 8, IntOp.cmpi .slt (BitVec.ofNat 32 s.val) 4#32 = if s.val < 4 then 1#1 else 0#1 := by decide
  rw [irow_apply, hc]
  split
  · exact hx.trans (congrArg (fun g => kinv (TT Y g l)) (Fin.ext (by show 2 * a.val = 2 * a.val + s.val / 4; omega)))
  · exact hy.trans (congrArg (fun g => kinv (TT Y g l)) (Fin.ext (by show 2 * a.val + 1 = 2 * a.val + s.val / 4; omega)))

/-- A row of a slab is a row of the tile. -/
theorem lt_slab (v : Fin 32) (s : Fin 8) : 8 * v.val + s.val < 256 := by omega

/-- The clipped product is the entry of `ZZ`. -/
theorem clip_ZZ (Y : Fin 256 → Fin 128 → EReal) (v : Fin 32) (a : Fin 4) (s : Fin 8) (l : Fin 128) (r : Fin 256) (hr : r.val = 8 * v.val + s.val)
    (hg : v.val % 4 = a.val) :
    min (Ideal.ofBits .f32 0x43E00000#32) (max (Ideal.ofBits .f32 0xC3E00000#32) (slab Y v (ix2 s l) * irow Y a (ix2 s l))) = ZZ Y r l := by
  rw [show r = ⟨8 * v.val + s.val, lt_slab v s⟩ from Fin.ext hr]
  rw [slab_apply, irow_apply]
  unfold ZZ clip
  congr 4
  exact congrArg (fun g => TT Y g l) (Fin.ext (by show 2 * a.val + s.val / 4 = (8 * v.val + s.val) % 32 / 4; omega))

/-- The first clipped product's shared part, split into its steps. -/
theorem pay292_eq (a b c d e f : FVec Ideal S8x128 .f32) (u v w x : Vec Ideal S1x128 .f32) :
    k0_pay292 k0_pay3 a b c d e f u v w x = k0_pay310 a b c d e f (k0_pay290 k0_pay3 u v) (k0_pay291 k0_pay3 w x) := rfl

section
variable (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (arg15 : Memref sig .tc .vmem S32x128 .f32) (arg16 : Memref sig .tc .vmem S8x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips)
include arg2 arg11 arg12 arg13 arg14 arg15 arg16 X_arg2 X_arg11 X_arg12 X_arg13 X_arg14 k

/-- The power of two of block 0, reloaded. -/
theorem v776_apply (l : Fin 128) : (trip_k0_t3.sl.v776 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 0) 0 l) := by
  unfold trip_k0_t3.sl.v776
  rw [View.readCov_eq_canon']
  unfold trip_k0_t3.sl.HW_arg16_1
  rw [View.canon_cons_unit_zero (by funext d; match d with | ⟨0, _⟩ => rfl | ⟨1, _⟩ => rfl), ← d_0 arg2 arg11 arg12 arg13 arg14 arg15]
  refine congrArg _ (funext fun d => Fin.ext ?_)
  match d with
  | ⟨0, _⟩ => rfl
  | ⟨1, _⟩ => show 0 + 1 * l.val = l.val; omega

/-- The power of two of block 1, reloaded. -/
theorem v777_apply (l : Fin 128) : (trip_k0_t3.sl.v777 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 0) 1 l) := by
  unfold trip_k0_t3.sl.v777
  rw [View.readCov_eq_canon']
  unfold trip_k0_t3.sl.HW_arg16_1
  rw [View.canon_cons_unit_zero (by funext d; match d with | ⟨0, _⟩ => rfl | ⟨1, _⟩ => rfl), ← d_0 arg2 arg11 arg12 arg13 arg14 arg15]
  refine congrArg _ (funext fun d => Fin.ext ?_)
  match d with
  | ⟨0, _⟩ => rfl
  | ⟨1, _⟩ => show 0 + 1 * l.val = l.val; omega

/-- The power of two of block 2, reloaded. -/
theorem v783_apply (l : Fin 128) : (trip_k0_t3.sl.v783 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 0) 2 l) := by
  unfold trip_k0_t3.sl.v783
  rw [View.readCov_eq_canon']
  unfold trip_k0_t3.sl.HW_arg16_1
  rw [View.canon_cons_unit_zero (by funext d; match d with | ⟨0, _⟩ => rfl | ⟨1, _⟩ => rfl), ← d_0 arg2 arg11 arg12 arg13 arg14 arg15]
  refine congrArg _ (funext fun d => Fin.ext ?_)
  match d with
  | ⟨0, _⟩ => rfl
  | ⟨1, _⟩ => show 0 + 1 * l.val = l.val; omega

/-- The power of two of block 3, reloaded. -/
theorem v784_apply (l : Fin 128) : (trip_k0_t3.sl.v784 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 0) 3 l) := by
  unfold trip_k0_t3.sl.v784
  rw [View.readCov_eq_canon']
  unfold trip_k0_t3.sl.HW_arg16_1
  rw [View.canon_cons_unit_zero (by funext d; match d with | ⟨0, _⟩ => rfl | ⟨1, _⟩ => rfl), ← d_0 arg2 arg11 arg12 arg13 arg14 arg15]
  refine congrArg _ (funext fun d => Fin.ext ?_)
  match d with
  | ⟨0, _⟩ => rfl
  | ⟨1, _⟩ => show 0 + 1 * l.val = l.val; omega

/-- The power of two of block 4, reloaded. -/
theorem v790_apply (l : Fin 128) : (trip_k0_t3.sl.v790 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 0) 4 l) := by
  unfold trip_k0_t3.sl.v790
  rw [View.readCov_eq_canon']
  unfold trip_k0_t3.sl.HW_arg16_1
  rw [View.canon_cons_unit_zero (by funext d; match d with | ⟨0, _⟩ => rfl | ⟨1, _⟩ => rfl), ← d_0 arg2 arg11 arg12 arg13 arg14 arg15]
  refine congrArg _ (funext fun d => Fin.ext ?_)
  match d with
  | ⟨0, _⟩ => rfl
  | ⟨1, _⟩ => show 0 + 1 * l.val = l.val; omega

/-- The power of two of block 5, reloaded. -/
theorem v791_apply (l : Fin 128) : (trip_k0_t3.sl.v791 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 0) 5 l) := by
  unfold trip_k0_t3.sl.v791
  rw [View.readCov_eq_canon']
  unfold trip_k0_t3.sl.HW_arg16_1
  rw [View.canon_cons_unit_zero (by funext d; match d with | ⟨0, _⟩ => rfl | ⟨1, _⟩ => rfl), ← d_0 arg2 arg11 arg12 arg13 arg14 arg15]
  refine congrArg _ (funext fun d => Fin.ext ?_)
  match d with
  | ⟨0, _⟩ => rfl
  | ⟨1, _⟩ => show 0 + 1 * l.val = l.val; omega

/-- The power of two of block 6, reloaded. -/
theorem v797_apply (l : Fin 128) : (trip_k0_t3.sl.v797 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 0) 6 l) := by
  unfold trip_k0_t3.sl.v797
  rw [View.readCov_eq_canon']
  unfold trip_k0_t3.sl.HW_arg16_1
  rw [View.canon_cons_unit_zero (by funext d; match d with | ⟨0, _⟩ => rfl | ⟨1, _⟩ => rfl), ← d_0 arg2 arg11 arg12 arg13 arg14 arg15]
  refine congrArg _ (funext fun d => Fin.ext ?_)
  match d with
  | ⟨0, _⟩ => rfl
  | ⟨1, _⟩ => show 0 + 1 * l.val = l.val; omega

/-- The power of two of block 7, reloaded. -/
theorem v798_apply (l : Fin 128) : (trip_k0_t3.sl.v798 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 0) 7 l) := by
  unfold trip_k0_t3.sl.v798
  rw [View.readCov_eq_canon']
  unfold trip_k0_t3.sl.HW_arg16_1
  rw [View.canon_cons_unit_zero (by funext d; match d with | ⟨0, _⟩ => rfl | ⟨1, _⟩ => rfl), ← d_0 arg2 arg11 arg12 arg13 arg14 arg15]
  refine congrArg _ (funext fun d => Fin.ext ?_)
  match d with
  | ⟨0, _⟩ => rfl
  | ⟨1, _⟩ => show 0 + 1 * l.val = l.val; omega

/-- The rows of powers of two for slabs `4 q + 0` of block 0. -/
theorem ir_0_0 : k0_pay201 k0_pay3 (trip_k0_t3.sl.v776 (F := Ideal) arg2 arg11 arg12 arg13 arg14 arg15 arg16 X_arg2 X_arg11 X_arg12 X_arg13 X_arg14 k) (trip_k0_t3.sl.v777 (F := Ideal) arg2 arg11 arg12 arg13 arg14 arg15 arg16 X_arg2 X_arg11 X_arg12 X_arg13 X_arg14 k) = irow (YT arg2 arg11 arg12 arg13 arg14 X_arg2 X_arg11 X_arg12 X_arg13 X_arg14 k 0) 0 := by
  funext j
  idx_vars j
  pointwise [k0_pay201, k0_pay3]
  exact kinv_sel _ _ _ _ _ _ (v776_apply arg2 arg11 arg12 arg13 arg14 arg15 arg16 X_arg2 X_arg11 X_arg12 X_arg13 X_arg14 k j1) (v777_apply arg2 arg11 arg12 arg13 arg14 arg15 arg16 X_arg2 X_arg11 X_arg12 X_arg13 X_arg14 k j1)

/-- The rows of powers of two for slabs `4 q + 1` of block 0. -/
theorem ir_0_1 : k0_pay202 k0_pay3 (trip_k0_t3.sl.v783 (F := Ideal) arg2 arg11 arg12 arg13 arg14 arg15 arg16 X_arg2 X_arg11 X_arg12 X_arg13 X_arg14 k) (trip_k0_t3.sl.v784 (F := Ideal) arg2 arg11 arg12 arg13 arg14 arg15 arg16 X_arg2 X_arg11 X_arg12 X_arg13 X_arg14 k) = irow (YT arg2 arg11 arg12 arg13 arg14 X_arg2 X_arg11 X_arg12 X_arg13 X_arg14 k 0) 1 := by
  funext j
  idx_vars j
  pointwise [k0_pay202, k0_pay3]
  exact kinv_sel _ _ _ _ _ _ (v783_apply arg2 arg11 arg12 arg13 arg14 arg15 arg16 X_arg2 X_arg11 X_arg12 X_arg13 X_arg14 k j1) (v784_apply arg2 arg11 arg12 arg13 arg14 arg15 arg16 X_arg2 X_arg11 X_arg12 X_arg13 X_arg14 k j1)

/-- The rows of powers of two for slabs `4 q + 2` of block 0. -/
theorem ir_0_2 : k0_pay203 k0_pay3 (trip_k0_t3.sl.v790 (F := Ideal) arg2 arg11 arg12 arg13 arg14 arg15 arg16 X_arg2 X_arg11 X_arg12 X_arg13 X_arg14 k) (trip_k0_t3.sl.v791 (F := Ideal) arg2 arg11 arg12 arg13 arg14 arg15 arg16 X_arg2 X_arg11 X_arg12 X_arg13 X_arg14 k) = irow (YT arg2 arg11 arg12 arg13 arg14 X_arg2 X_arg11 X_arg12 X_arg13 X_arg14 k 0) 2 := by
  funext j
  idx_vars j
  pointwise [k0_pay203, k0_pay3]
  exact kinv_sel _ _ _ _ _ _ (v790_apply arg2 arg11 arg12 arg13 arg14 arg15 arg16 X_arg2 X_arg11 X_arg12 X_arg13 X_arg14 k j1) (v791_apply arg2 arg11 arg12 arg13 arg14 arg15 arg16 X_arg2 X_arg11 X_arg12 X_arg13 X_arg14 k j1)

/-- The rows of powers of two for slabs `4 q + 3` of block 0. -/
theorem ir_0_3 : k0_pay204 k0_pay3 (trip_k0_t3.sl.v797 (F := Ideal) arg2 arg11 arg12 arg13 arg14 arg15 arg16 X_arg2 X_arg11 X_arg12 X_arg13 X_arg14 k) (trip_k0_t3.sl.v798 (F := Ideal) arg2 arg11 arg12 arg13 arg14 arg15 arg16 X_arg2 X_arg11 X_arg12 X_arg13 X_arg14 k) = irow (YT arg2 arg11 arg12 arg13 arg14 X_arg2 X_arg11 X_arg12 X_arg13 X_arg14 k 0) 3 := by
  funext j
  idx_vars j
  pointwise [k0_pay204, k0_pay3]
  exact kinv_sel _ _ _ _ _ _ (v797_apply arg2 arg11 arg12 arg13 arg14 arg15 arg16 X_arg2 X_arg11 X_arg12 X_arg13 X_arg14 k j1) (v798_apply arg2 arg11 arg12 arg13 arg14 arg15 arg16 X_arg2 X_arg11 X_arg12 X_arg13 X_arg14 k j1)

/-- The power of two of block 0, reloaded. -/
theorem v1615_apply (l : Fin 128) : (trip_k0_t3.sl.v1615 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 1) 0 l) := by
  unfold trip_k0_t3.sl.v1615
  rw [View.readCov_eq_canon']
  unfold trip_k0_t3.sl.HW_arg16_2
  rw [View.canon_cons_unit_zero (by funext d; match d with | ⟨0, _⟩ => rfl | ⟨1, _⟩ => rfl), ← d_1 arg2 arg11 arg12 arg13 arg14 arg15]
  refine congrArg _ (funext fun d => Fin.ext ?_)
  match d with
  | ⟨0, _⟩ => rfl
  | ⟨1, _⟩ => show 0 + 1 * l.val = l.val; omega

/-- The power of two of block 1, reloaded. -/
theorem v1616_apply (l : Fin 128) : (trip_k0_t3.sl.v1616 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 1) 1 l) := by
  unfold trip_k0_t3.sl.v1616
  rw [View.readCov_eq_canon']
  unfold trip_k0_t3.sl.HW_arg16_2
  rw [View.canon_cons_unit_zero (by funext d; match d with | ⟨0, _⟩ => rfl | ⟨1, _⟩ => rfl), ← d_1 arg2 arg11 arg12 arg13 arg14 arg15]
  refine congrArg _ (funext fun d => Fin.ext ?_)
  match d with
  | ⟨0, _⟩ => rfl
  | ⟨1, _⟩ => show 0 + 1 * l.val = l.val; omega

/-- The power of two of block 2, reloaded. -/
theorem v1622_apply (l : Fin 128) : (trip_k0_t3.sl.v1622 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 1) 2 l) := by
  unfold trip_k0_t3.sl.v1622
  rw [View.readCov_eq_canon']
  unfold trip_k0_t3.sl.HW_arg16_2
  rw [View.canon_cons_unit_zero (by funext d; match d with | ⟨0, _⟩ => rfl | ⟨1, _⟩ => rfl), ← d_1 arg2 arg11 arg12 arg13 arg14 arg15]
  refine congrArg _ (funext fun d => Fin.ext ?_)
  match d with
  | ⟨0, _⟩ => rfl
  | ⟨1, _⟩ => show 0 + 1 * l.val = l.val; omega

/-- The power of two of block 3, reloaded. -/
theorem v1623_apply (l : Fin 128) : (trip_k0_t3.sl.v1623 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 1) 3 l) := by
  unfold trip_k0_t3.sl.v1623
  rw [View.readCov_eq_canon']
  unfold trip_k0_t3.sl.HW_arg16_2
  rw [View.canon_cons_unit_zero (by funext d; match d with | ⟨0, _⟩ => rfl | ⟨1, _⟩ => rfl), ← d_1 arg2 arg11 arg12 arg13 arg14 arg15]
  refine congrArg _ (funext fun d => Fin.ext ?_)
  match d with
  | ⟨0, _⟩ => rfl
  | ⟨1, _⟩ => show 0 + 1 * l.val = l.val; omega

/-- The power of two of block 4, reloaded. -/
theorem v1629_apply (l : Fin 128) : (trip_k0_t3.sl.v1629 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 1) 4 l) := by
  unfold trip_k0_t3.sl.v1629
  rw [View.readCov_eq_canon']
  unfold trip_k0_t3.sl.HW_arg16_2
  rw [View.canon_cons_unit_zero (by funext d; match d with | ⟨0, _⟩ => rfl | ⟨1, _⟩ => rfl), ← d_1 arg2 arg11 arg12 arg13 arg14 arg15]
  refine congrArg _ (funext fun d => Fin.ext ?_)
  match d with
  | ⟨0, _⟩ => rfl
  | ⟨1, _⟩ => show 0 + 1 * l.val = l.val; omega

/-- The power of two of block 5, reloaded. -/
theorem v1630_apply (l : Fin 128) : (trip_k0_t3.sl.v1630 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 1) 5 l) := by
  unfold trip_k0_t3.sl.v1630
  rw [View.readCov_eq_canon']
  unfold trip_k0_t3.sl.HW_arg16_2
  rw [View.canon_cons_unit_zero (by funext d; match d with | ⟨0, _⟩ => rfl | ⟨1, _⟩ => rfl), ← d_1 arg2 arg11 arg12 arg13 arg14 arg15]
  refine congrArg _ (funext fun d => Fin.ext ?_)
  match d with
  | ⟨0, _⟩ => rfl
  | ⟨1, _⟩ => show 0 + 1 * l.val = l.val; omega

/-- The power of two of block 6, reloaded. -/
theorem v1636_apply (l : Fin 128) : (trip_k0_t3.sl.v1636 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 1) 6 l) := by
  unfold trip_k0_t3.sl.v1636
  rw [View.readCov_eq_canon']
  unfold trip_k0_t3.sl.HW_arg16_2
  rw [View.canon_cons_unit_zero (by funext d; match d with | ⟨0, _⟩ => rfl | ⟨1, _⟩ => rfl), ← d_1 arg2 arg11 arg12 arg13 arg14 arg15]
  refine congrArg _ (funext fun d => Fin.ext ?_)
  match d with
  | ⟨0, _⟩ => rfl
  | ⟨1, _⟩ => show 0 + 1 * l.val = l.val; omega

/-- The power of two of block 7, reloaded. -/
theorem v1637_apply (l : Fin 128) : (trip_k0_t3.sl.v1637 (F := Ideal) arg2 arg11 arg12 arg13 arg14 arg15 arg16 X_arg2 X_arg11 X_arg12 X_arg13 X_arg14 k) (ix2 0 l) = kinv (TT (YT arg2 arg11 arg12 arg13 arg14 X_arg2 X_arg11 X_arg12 X_arg13 X_arg14 k 1) 7 l) := by
  unfold trip_k0_t3.sl.v1637
  rw [View.readCov_eq_canon']
  unfold trip_k0_t3.sl.HW_arg16_2
  rw [View.canon_cons_unit_zero (by funext d; match d with | ⟨0, _⟩ => rfl | ⟨1, _⟩ => rfl), ← d_1 arg2 arg11 arg12 arg13 arg14 arg15]
  refine congrArg _ (funext fun d => Fin.ext ?_)
  match d with
  | ⟨0, _⟩ => rfl
  | ⟨1, _⟩ => show 0 + 1 * l.val = l.val; omega

/-- The rows of powers of two for slabs `4 q + 0` of block 1. -/
theorem ir_1_0 : k0_pay288 k0_pay3 (trip_k0_t3.sl.v1615 (F := Ideal) arg2 arg11 arg12 arg13 arg14 arg15 arg16 X_arg2 X_arg11 X_arg12 X_arg13 X_arg14 k) (trip_k0_t3.sl.v1616 (F := Ideal) arg2 arg11 arg12 arg13 arg14 arg15 arg16 X_arg2 X_arg11 X_arg12 X_arg13 X_arg14 k) = irow (YT arg2 arg11 arg12 arg13 arg14 X_arg2 X_arg11 X_arg12 X_arg13 X_arg14 k 1) 0 := by
  funext j
  idx_vars j
  pointwise [k0_pay288, k0_pay3]
  exact kinv_sel _ _ _ _ _ _ (v1615_apply arg2 arg11 arg12 arg13 arg14 arg15 arg16 X_arg2 X_arg11 X_arg12 X_arg13 X_arg14 k j1) (v1616_apply arg2 arg11 arg12 arg13 arg14 arg15 arg16 X_arg2 X_arg11 X_arg12 X_arg13 X_arg14 k j1)

/-- The rows of powers of two for slabs `4 q + 1` of block 1. -/
theorem ir_1_1 : k0_pay289 k0_pay3 (trip_k0_t3.sl.v1622 (F := Ideal) arg2 arg11 arg12 arg13 arg14 arg15 arg16 X_arg2 X_arg11 X_arg12 X_arg13 X_arg14 k) (trip_k0_t3.sl.v1623 (F := Ideal) arg2 arg11 arg12 arg13 arg14 arg15 arg16 X_arg2 X_arg11 X_arg12 X_arg13 X_arg14 k) = irow (YT arg2 arg11 arg12 arg13 arg14 X_arg2 X_arg11 X_arg12 X_arg13 X_arg14 k 1) 1 := by
  funext j
  idx_vars j
  pointwise [k0_pay289, k0_pay3]
  exact kinv_sel _ _ _ _ _ _ (v1622_apply arg2 arg11 arg12 arg13 arg14 arg15 arg16 X_arg2 X_arg11 X_arg12 X_arg13 X_arg14 k j1) (v1623_apply arg2 arg11 arg12 arg13 arg14 arg15 arg16 X_arg2 X_arg11 X_arg12 X_arg13 X_arg14 k j1)

/-- The rows of powers of two for slabs `4 q + 2` of block 1. -/
theorem ir_1_2 : k0_pay290 k0_pay3 (trip_k0_t3.sl.v1629 (F := Ideal) arg2 arg11 arg12 arg13 arg14 arg15 arg16 X_arg2 X_arg11 X_arg12 X_arg13 X_arg14 k) (trip_k0_t3.sl.v1630 (F := Ideal) arg2 arg11 arg12 arg13 arg14 arg15 arg16 X_arg2 X_arg11 X_arg12 X_arg13 X_arg14 k) = irow (YT arg2 arg11 arg12 arg13 arg14 X_arg2 X_arg11 X_arg12 X_arg13 X_arg14 k 1) 2 := by
  funext j
  idx_vars j
  pointwise [k0_pay290, k0_pay3]
  exact kinv_sel _ _ _ _ _ _ (v1629_apply arg2 arg11 arg12 arg13 arg14 arg15 arg16 X_arg2 X_arg11 X_arg12 X_arg13 X_arg14 k j1) (v1630_apply arg2 arg11 arg12 arg13 arg14 arg15 arg16 X_arg2 X_arg11 X_arg12 X_arg13 X_arg14 k j1)

/-- The rows of powers of two for slabs `4 q + 3` of block 1. -/
theorem ir_1_3 : k0_pay291 k0_pay3 (trip_k0_t3.sl.v1636 (F := Ideal) arg2 arg11 arg12 arg13 arg14 arg15 arg16 X_arg2 X_arg11 X_arg12 X_arg13 X_arg14 k) (trip_k0_t3.sl.v1637 (F := Ideal) arg2 arg11 arg12 arg13 arg14 arg15 arg16 X_arg2 X_arg11 X_arg12 X_arg13 X_arg14 k) = irow (YT arg2 arg11 arg12 arg13 arg14 X_arg2 X_arg11 X_arg12 X_arg13 X_arg14 k 1) 3 := by
  funext j
  idx_vars j
  pointwise [k0_pay291, k0_pay3]
  exact kinv_sel _ _ _ _ _ _ (v1636_apply arg2 arg11 arg12 arg13 arg14 arg15 arg16 X_arg2 X_arg11 X_arg12 X_arg13 X_arg14 k j1) (v1637_apply arg2 arg11 arg12 arg13 arg14 arg15 arg16 X_arg2 X_arg11 X_arg12 X_arg13 X_arg14 k j1)

/-- The codes of the slabs 0 to 3 of block 0. -/
theorem w_0_0 : (k0_pay208 (trip_k0_t3.sl.r_7 arg2 arg11 arg12 arg13 arg14 X_arg2 X_arg11 X_arg12 X_arg13 X_arg14 k) (trip_k0_t3.sl.r_56 arg2 arg11 arg12 arg13 arg14 arg15 arg16 X_arg2 X_arg11 X_arg12 X_arg13 X_arg14 k) (trip_k0_t3.sl.r_57 arg2 arg11 arg12 arg13 arg14 arg15 arg16 X_arg2 X_arg11 X_arg12 X_arg13 X_arg14 k) (trip_k0_t3.sl.r_58 arg2 arg11 arg12 arg13 arg14 arg15 arg16 X_arg2 X_arg11 X_arg12 X_arg13 X_arg14 k) (trip_k0_t3.sl.r_59 arg2 arg11 arg12 arg13 arg14 arg15 arg16 X_arg2 X_arg11 X_arg12 X_arg13 X_arg14 k) : FVec Ideal S8x1x4x128 .fp8e4m3) = zq (YT arg2 arg11 arg12 arg13 arg14 X_arg2 X_arg11 X_arg12 X_arg13 X_arg14 k 0) 0 := by
  unfold trip_k0_t3.sl.r_57 trip_k0_t3.sl.r_58 trip_k0_t3.sl.r_59 trip_k0_t3.sl.r_56 k0_pay205 k0_pay206 k0_pay207
  simp only [y_0_0, y_0_1, y_0_2, y_0_3, ir_0_0, ir_0_1, ir_0_2, ir_0_3]
  generalize YT arg2 arg11 arg12 arg13 arg14 X_arg2 X_arg11 X_arg12 X_arg13 X_arg14 k 0 = Y
  funext j
  idx_vars j
  pointwise [k0_pay208]
  unfold zq
  split
  · exact clip_ZZ Y 0 0 _ j3 _ (by show 0 + 4 * j0.val + j2.val = 0 + (j0.val * 4 + j2.val); omega) rfl
  split
  · exact clip_ZZ Y 1 1 _ j3 _ (by show 0 + 4 * j0.val + j2.val = 8 + (j0.val * 4 + j2.val - 8); omega) rfl
  split
  · exact clip_ZZ Y 2 2 _ j3 _ (by show 0 + 4 * j0.val + j2.val = 16 + (j0.val * 4 + j2.val - 8 - 8); omega) rfl
  · exact clip_ZZ Y 3 3 _ j3 _ (by show 0 + 4 * j0.val + j2.val = 24 + (j0.val * 4 + j2.val - 8 - 8 - 8); omega) rfl

/-- The codes of the slabs 4 to 7 of block 0. -/
theorem w_0_1 : (k0_pay209 (trip_k0_t3.sl.r_8 arg2 arg11 arg12 arg13 arg14 X_arg2 X_arg11 X_arg12 X_arg13 X_arg14 k) (trip_k0_t3.sl.r_11 arg2 arg11 arg12 arg13 arg14 X_arg2 X_arg11 X_arg12 X_arg13 X_arg14 k) (trip_k0_t3.sl.r_12 arg2 arg11 arg12 arg13 arg14 X_arg2 X_arg11 X_arg12 X_arg13 X_arg14 k) (trip_k0_t3.sl.r_13 arg2 arg11 arg12 arg13 arg14 X_arg2 X_arg11 X_arg12 X_arg13 X_arg14 k) (trip_k0_t3.sl.r_53 arg2 arg11 arg12 arg13 arg14 arg15 arg16 X_arg2 X_arg11 X_arg12 X_arg13 X_arg14 k) (trip_k0_t3.sl.r_54 arg2 arg11 arg12 arg13 arg14 arg15 arg16 X_arg2 X_arg11 X_arg12 X_arg13 X_arg14 k) (trip_k0_t3.sl.r_55 arg2 arg11 arg12 arg13 arg14 arg15 arg16 X_arg2 X_arg11 X_arg12 X_arg13 X_arg14 k) (trip_k0_t3.sl.r_56 arg2 arg11 arg12 arg13 arg14 arg15 arg16 X_arg2 X_arg11 X_arg12 X_arg13 X_arg14 k) : FVec Ideal S8x1x4x128 .fp8e4m3) = zq (YT arg2 arg11 arg12 arg13 arg14 X_arg2 X_arg11 X_arg12 X_arg13 X_arg14 k 0) 1 := by
  unfold trip_k0_t3.sl.r_53 trip_k0_t3.sl.r_54 trip_k0_t3.sl.r_55 trip_k0_t3.sl.r_56
  simp only [y_0_4, y_0_5, y_0_6, y_0_7, ir_0_0, ir_0_1, ir_0_2, ir_0_3]
  generalize YT arg2 arg11 arg12 arg13 arg14 X_arg2 X_arg11 X_arg12 X_arg13 X_arg14 k 0 = Y
  funext j
  idx_vars j
  pointwise [k0_pay209]
  unfold zq
  split
  · exact clip_ZZ Y 4 0 _ j3 _ (by show 32 + 4 * j0.val + j2.val = 32 + (j0.val * 4 + j2.val); omega) rfl
  split
  · exact clip_ZZ Y 5 1 _ j3 _ (by show 32 + 4 * j0.val + j2.val = 40 + (j0.val * 4 + j2.val - 8); omega) rfl
  split
  · exact clip_ZZ Y 6 2 _ j3 _ (by show 32 + 4 * j0.val + j2.val = 48 + (j0.val * 4 + j2.val - 8 - 8); omega) rfl
  · exact clip_ZZ Y 7 3 _ j3 _ (by show 32 + 4 * j0.val + j2.val = 56 + (j0.val * 4 + j2.val - 8 - 8 - 8); omega) rfl

/-- The codes of the slabs 8 to 11 of block 0. -/
theorem w_0_2 : (k0_pay211 (trip_k0_t3.sl.r_16 arg2 arg11 arg12 arg13 arg14 X_arg2 X_arg11 X_arg12 X_arg13 X_arg14 k) (trip_k0_t3.sl.r_17 arg2 arg11 arg12 arg13 arg14 X_arg2 X_arg11 X_arg12 X_arg13 X_arg14 k) (trip_k0_t3.sl.r_18 arg2 arg11 arg12 arg13 arg14 X_arg2 X_arg11 X_arg12 X_arg13 X_arg14 k) (trip_k0_t3.sl.r_54 arg2 arg11 arg12 arg13 arg14 arg15 arg16 X_arg2 X_arg11 X_arg12 X_arg13 X_arg14 k) (trip_k0_t3.sl.r_55 arg2 arg11 arg12 arg13 arg14 arg15 arg16 X_arg2 X_arg11 X_arg12 X_arg13 X_arg14 k) (trip_k0_t3.sl.r_56 arg2 arg11 arg12 arg13 arg14 arg15 arg16 X_arg2 X_arg11 X_arg12 X_arg13 X_arg14 k) (trip_k0_t3.sl.r_60 arg2 arg11 arg12 arg13 arg14 arg15 arg16 X_arg2 X_arg11 X_arg12 X_arg13 X_arg14 k) trip_k0_t3.sl.cst_253 trip_k0_t3.sl.cst_254 : FVec Ideal S8x1x4x128 .fp8e4m3) = zq (YT arg2 arg11 arg12 arg13 arg14 X_arg2 X_arg11 X_arg12 X_arg13 X_arg14 k 0) 2 := by
  unfold trip_k0_t3.sl.r_60 trip_k0_t3.sl.cst_253 trip_k0_t3.sl.cst_254 trip_k0_t3.sl.r_53 trip_k0_t3.sl.r_54 trip_k0_t3.sl.r_55 trip_k0_t3.sl.r_56
  simp only [y_0_8, y_0_9, y_0_10, y_0_11, ir_0_0, ir_0_1, ir_0_2, ir_0_3]
  generalize YT arg2 arg11 arg12 arg13 arg14 X_arg2 X_arg11 X_arg12 X_arg13 X_arg14 k 0 = Y
  funext j
  idx_vars j
  pointwise [k0_pay211, k0_pay210]
  unfold zq
  split
  · exact clip_ZZ Y 8 0 _ j3 _ (by show 64 + 4 * j0.val + j2.val = 64 + (j0.val * 4 + j2.val); omega) rfl
  split
  · exact clip_ZZ Y 9 1 _ j3 _ (by show 64 + 4 * j0.val + j2.val = 72 + (j0.val * 4 + j2.val - 8); omega) rfl
  split
  · exact clip_ZZ Y 10 2 _ j3 _ (by show 64 + 4 * j0.val + j2.val = 80 + (j0.val * 4 + j2.val - 8 - 8); omega) rfl
  · exact clip_ZZ Y 11 3 _ j3 _ (by show 64 + 4 * j0.val + j2.val = 88 + (j0.val * 4 + j2.val - 8 - 8 - 8); omega) rfl

/-- The codes of the slabs 12 to 15 of block 0. -/
theorem w_0_3 : (k0_pay216 (trip_k0_t3.sl.r_61 arg2 arg11 arg12 arg13 arg14 arg15 arg16 X_arg2 X_arg11 X_arg12 X_arg13 X_arg14 k) (trip_k0_t3.sl.r_62 arg2 arg11 arg12 arg13 arg14 arg15 arg16 X_arg2 X_arg11 X_arg12 X_arg13 X_arg14 k) (trip_k0_t3.sl.r_63 arg2 arg11 arg12 arg13 arg14 arg15 arg16 X_arg2 X_arg11 X_arg12 X_arg13 X_arg14 k) (trip_k0_t3.sl.r_64 arg2 arg11 arg12 arg13 arg14 arg15 arg16 X_arg2 X_arg11 X_arg12 X_arg13 X_arg14 k) trip_k0_t3.sl.cst_253 trip_k0_t3.sl.cst_254 : FVec Ideal S8x1x4x128 .fp8e4m3) = zq (YT arg2 arg11 arg12 arg13 arg14 X_arg2 X_arg11 X_arg12 X_arg13 X_arg14 k 0) 3 := by
  unfold trip_k0_t3.sl.r_61 trip_k0_t3.sl.r_62 trip_k0_t3.sl.r_63 trip_k0_t3.sl.r_64 trip_k0_t3.sl.cst_253 trip_k0_t3.sl.cst_254 trip_k0_t3.sl.r_53 trip_k0_t3.sl.r_54 trip_k0_t3.sl.r_55 trip_k0_t3.sl.r_56
  simp only [y_0_12, y_0_13, y_0_14, y_0_15, ir_0_0, ir_0_1, ir_0_2, ir_0_3]
  generalize YT arg2 arg11 arg12 arg13 arg14 X_arg2 X_arg11 X_arg12 X_arg13 X_arg14 k 0 = Y
  funext j
  idx_vars j
  pointwise [k0_pay216, k0_pay212, k0_pay213, k0_pay214, k0_pay215]
  unfold zq
  split
  · exact clip_ZZ Y 12 0 _ j3 _ (by show 96 + 4 * j0.val + j2.val = 96 + (j0.val * 4 + j2.val); omega) rfl
  split
  · exact clip_ZZ Y 13 1 _ j3 _ (by show 96 + 4 * j0.val + j2.val = 104 + (j0.val * 4 + j2.val - 8); omega) rfl
  split
  · exact clip_ZZ Y 14 2 _ j3 _ (by show 96 + 4 * j0.val + j2.val = 112 + (j0.val * 4 + j2.val - 8 - 8); omega) rfl
  · exact clip_ZZ Y 15 3 _ j3 _ (by show 96 + 4 * j0.val + j2.val = 120 + (j0.val * 4 + j2.val - 8 - 8 - 8); omega) rfl

/-- The codes of the slabs 16 to 19 of block 0. -/
theorem w_0_4 : (k0_pay217 (trip_k0_t3.sl.r_25 arg2 arg11 arg12 arg13 arg14 X_arg2 X_arg11 X_arg12 X_arg13 X_arg14 k) (trip_k0_t3.sl.r_26 arg2 arg11 arg12 arg13 arg14 X_arg2 X_arg11 X_arg12 X_arg13 X_arg14 k) (trip_k0_t3.sl.r_27 arg2 arg11 arg12 arg13 arg14 X_arg2 X_arg11 X_arg12 X_arg13 X_arg14 k) (trip_k0_t3.sl.r_28 arg2 arg11 arg12 arg13 arg14 X_arg2 X_arg11 X_arg12 X_arg13 X_arg14 k) (trip_k0_t3.sl.r_53 arg2 arg11 arg12 arg13 arg14 arg15 arg16 X_arg2 X_arg11 X_arg12 X_arg13 X_arg14 k) (trip_k0_t3.sl.r_54 arg2 arg11 arg12 arg13 arg14 arg15 arg16 X_arg2 X_arg11 X_arg12 X_arg13 X_arg14 k) (trip_k0_t3.sl.r_55 arg2 arg11 arg12 arg13 arg14 arg15 arg16 X_arg2 X_arg11 X_arg12 X_arg13 X_arg14 k) (trip_k0_t3.sl.r_56 arg2 arg11 arg12 arg13 arg14 arg15 arg16 X_arg2 X_arg11 X_arg12 X_arg13 X_arg14 k) : FVec Ideal S8x1x4x128 .fp8e4m3) = zq (YT arg2 arg11 arg12 arg13 arg14 X_arg2 X_arg11 X_arg12 X_arg13 X_arg14 k 0) 4 := by
  unfold trip_k0_t3.sl.r_53 trip_k0_t3.sl.r_54 trip_k0_t3.sl.r_55 trip_k0_t3.sl.r_56
  simp only [y_0_16, y_0_17, y_0_18, y_0_19, ir_0_0, ir_0_1, ir_0_2, ir_0_3]
  generalize YT arg2 arg11 arg12 arg13 arg14 X_arg2 X_arg11 X_arg12 X_arg13 X_arg14 k 0 = Y
  funext j
  idx_vars j
  pointwise [k0_pay217]
  unfold zq
  split
  · exact clip_ZZ Y 16 0 _ j3 _ (by show 128 + 4 * j0.val + j2.val = 128 + (j0.val * 4 + j2.val); omega) rfl
  split
  · exact clip_ZZ Y 17 1 _ j3 _ (by show 128 + 4 * j0.val + j2.val = 136 + (j0.val * 4 + j2.val - 8); omega) rfl
  split
  · exact clip_ZZ Y 18 2 _ j3 _ (by show 128 + 4 * j0.val + j2.val = 144 + (j0.val * 4 + j2.val - 8 - 8); omega) rfl
  · exact clip_ZZ Y 19 3 _ j3 _ (by show 128 + 4 * j0.val + j2.val = 152 + (j0.val * 4 + j2.val - 8 - 8 - 8); omega) rfl

/-- The codes of the slabs 20 to 23 of block 0. -/
theorem w_0_5 : (k0_pay220 (trip_k0_t3.sl.r_31 arg2 arg11 arg12 arg13 arg14 X_arg2 X_arg11 X_arg12 X_arg13 X_arg14 k) (trip_k0_t3.sl.r_32 arg2 arg11 arg12 arg13 arg14 X_arg2 X_arg11 X_arg12 X_arg13 X_arg14 k) (trip_k0_t3.sl.r_35 arg2 arg11 arg12 arg13 arg14 X_arg2 X_arg11 X_arg12 X_arg13 X_arg14 k) (trip_k0_t3.sl.r_54 arg2 arg11 arg12 arg13 arg14 arg15 arg16 X_arg2 X_arg11 X_arg12 X_arg13 X_arg14 k) (trip_k0_t3.sl.r_55 arg2 arg11 arg12 arg13 arg14 arg15 arg16 X_arg2 X_arg11 X_arg12 X_arg13 X_arg14 k) (trip_k0_t3.sl.r_56 arg2 arg11 arg12 arg13 arg14 arg15 arg16 X_arg2 X_arg11 X_arg12 X_arg13 X_arg14 k) (trip_k0_t3.sl.r_65 arg2 arg11 arg12 arg13 arg14 arg15 arg16 X_arg2 X_arg11 X_arg12 X_arg13 X_arg14 k) k0_pay219 : FVec Ideal S8x1x4x128 .fp8e4m3) = zq (YT arg2 arg11 arg12 arg13 arg14 X_arg2 X_arg11 X_arg12 X_arg13 X_arg14 k 0) 5 := by
  unfold trip_k0_t3.sl.r_65 trip_k0_t3.sl.r_53 trip_k0_t3.sl.r_54 trip_k0_t3.sl.r_55 trip_k0_t3.sl.r_56
  simp only [y_0_20, y_0_21, y_0_22, y_0_23, ir_0_0, ir_0_1, ir_0_2, ir_0_3]
  generalize YT arg2 arg11 arg12 arg13 arg14 X_arg2 X_arg11 X_arg12 X_arg13 X_arg14 k 0 = Y
  funext j
  idx_vars j
  pointwise [k0_pay220, k0_pay219, k0_pay218]
  unfold zq
  split
  · exact clip_ZZ Y 20 0 _ j3 _ (by show 160 + 4 * j0.val + j2.val = 160 + (j0.val * 4 + j2.val); omega) rfl
  split
  · exact clip_ZZ Y 21 1 _ j3 _ (by show 160 + 4 * j0.val + j2.val = 168 + (j0.val * 4 + j2.val - 8); omega) rfl
  split
  · exact clip_ZZ Y 22 2 _ j3 _ (by show 160 + 4 * j0.val + j2.val = 176 + (j0.val * 4 + j2.val - 8 - 8); omega) rfl
  · exact clip_ZZ Y 23 3 _ j3 _ (by show 160 + 4 * j0.val + j2.val = 184 + (j0.val * 4 + j2.val - 8 - 8 - 8); omega) rfl

/-- The codes of the slabs 24 to 27 of block 0. -/
theorem w_0_6 : (k0_pay226 (trip_k0_t3.sl.r_66 arg2 arg11 arg12 arg13 arg14 arg15 arg16 X_arg2 X_arg11 X_arg12 X_arg13 X_arg14 k) (trip_k0_t3.sl.r_67 arg2 arg11 arg12 arg13 arg14 arg15 arg16 X_arg2 X_arg11 X_arg12 X_arg13 X_arg14 k) (trip_k0_t3.sl.r_68 arg2 arg11 arg12 arg13 arg14 arg15 arg16 X_arg2 X_arg11 X_arg12 X_arg13 X_arg14 k) (trip_k0_t3.sl.r_69 arg2 arg11 arg12 arg13 arg14 arg15 arg16 X_arg2 X_arg11 X_arg12 X_arg13 X_arg14 k) k0_pay225 : FVec Ideal S8x1x4x128 .fp8e4m3) = zq (YT arg2 arg11 arg12 arg13 arg14 X_arg2 X_arg11 X_arg12 X_arg13 X_arg14 k 0) 6 := by
  unfold trip_k0_t3.sl.r_66 trip_k0_t3.sl.r_67 trip_k0_t3.sl.r_68 trip_k0_t3.sl.r_69 trip_k0_t3.sl.r_53 trip_k0_t3.sl.r_54 trip_k0_t3.sl.r_55 trip_k0_t3.sl.r_56
  simp only [y_0_24, y_0_25, y_0_26, y_0_27, ir_0_0, ir_0_1, ir_0_2, ir_0_3]
  generalize YT arg2 arg11 arg12 arg13 arg14 X_arg2 X_arg11 X_arg12 X_arg13 X_arg14 k 0 = Y
  funext j
  idx_vars j
  pointwise [k0_pay226, k0_pay225, k0_pay221, k0_pay222, k0_pay223, k0_pay224]
  unfold zq
  split
  · exact clip_ZZ Y 24 0 _ j3 _ (by show 192 + 4 * j0.val + j2.val = 192 + (j0.val * 4 + j2.val); omega) rfl
  split
  · exact clip_ZZ Y 25 1 _ j3 _ (by show 192 + 4 * j0.val + j2.val = 200 + (j0.val * 4 + j2.val - 8); omega) rfl
  split
  · exact clip_ZZ Y 26 2 _ j3 _ (by show 192 + 4 * j0.val + j2.val = 208 + (j0.val * 4 + j2.val - 8 - 8); omega) rfl
  · exact clip_ZZ Y 27 3 _ j3 _ (by show 192 + 4 * j0.val + j2.val = 216 + (j0.val * 4 + j2.val - 8 - 8 - 8); omega) rfl

/-- The codes of the slabs 28 to 31 of block 0. -/
theorem w_0_7 : (k0_pay227 (trip_k0_t3.sl.r_42 arg2 arg11 arg12 arg13 arg14 X_arg2 X_arg11 X_arg12 X_arg13 X_arg14 k) (trip_k0_t3.sl.r_43 arg2 arg11 arg12 arg13 arg14 X_arg2 X_arg11 X_arg12 X_arg13 X_arg14 k) (trip_k0_t3.sl.r_45 arg2 arg11 arg12 arg13 arg14 X_arg2 X_arg11 X_arg12 X_arg13 X_arg14 k) (trip_k0_t3.sl.r_46 arg2 arg11 arg12 arg13 arg14 X_arg2 X_arg11 X_arg12 X_arg13 X_arg14 k) (trip_k0_t3.sl.r_53 arg2 arg11 arg12 arg13 arg14 arg15 arg16 X_arg2 X_arg11 X_arg12 X_arg13 X_arg14 k) (trip_k0_t3.sl.r_54 arg2 arg11 arg12 arg13 arg14 arg15 arg16 X_arg2 X_arg11 X_arg12 X_arg13 X_arg14 k) (trip_k0_t3.sl.r_55 arg2 arg11 arg12 arg13 arg14 arg15 arg16 X_arg2 X_arg11 X_arg12 X_arg13 X_arg14 k) (trip_k0_t3.sl.r_56 arg2 arg11 arg12 arg13 arg14 arg15 arg16 X_arg2 X_arg11 X_arg12 X_arg13 X_arg14 k) : FVec Ideal S8x1x4x128 .fp8e4m3) = zq (YT arg2 arg11 arg12 arg13 arg14 X_arg2 X_arg11 X_arg12 X_arg13 X_arg14 k 0) 7 := by
  unfold trip_k0_t3.sl.r_53 trip_k0_t3.sl.r_54 trip_k0_t3.sl.r_55 trip_k0_t3.sl.r_56
  simp only [y_0_28, y_0_29, y_0_30, y_0_31, ir_0_0, ir_0_1, ir_0_2, ir_0_3]
  generalize YT arg2 arg11 arg12 arg13 arg14 X_arg2 X_arg11 X_arg12 X_arg13 X_arg14 k 0 = Y
  funext j
  idx_vars j
  pointwise [k0_pay227]
  unfold zq
  split
  · exact clip_ZZ Y 28 0 _ j3 _ (by show 224 + 4 * j0.val + j2.val = 224 + (j0.val * 4 + j2.val); omega) rfl
  split
  · exact clip_ZZ Y 29 1 _ j3 _ (by show 224 + 4 * j0.val + j2.val = 232 + (j0.val * 4 + j2.val - 8); omega) rfl
  split
  · exact clip_ZZ Y 30 2 _ j3 _ (by show 224 + 4 * j0.val + j2.val = 240 + (j0.val * 4 + j2.val - 8 - 8); omega) rfl
  · exact clip_ZZ Y 31 3 _ j3 _ (by show 224 + 4 * j0.val + j2.val = 248 + (j0.val * 4 + j2.val - 8 - 8 - 8); omega) rfl

/-- The codes of the slabs 0 to 3 of block 1. -/
theorem w_1_0 : (k0_pay292 k0_pay3 (trip_k0_t3.sl.r_74 arg2 arg11 arg12 arg13 arg14 X_arg2 X_arg11 X_arg12 X_arg13 X_arg14 k) (trip_k0_t3.sl.r_75 arg2 arg11 arg12 arg13 arg14 X_arg2 X_arg11 X_arg12 X_arg13 X_arg14 k) (trip_k0_t3.sl.r_76 arg2 arg11 arg12 arg13 arg14 X_arg2 X_arg11 X_arg12 X_arg13 X_arg14 k) (trip_k0_t3.sl.r_78 arg2 arg11 arg12 arg13 arg14 X_arg2 X_arg11 X_arg12 X_arg13 X_arg14 k) (trip_k0_t3.sl.r_125 arg2 arg11 arg12 arg13 arg14 arg15 arg16 X_arg2 X_arg11 X_arg12 X_arg13 X_arg14 k) (trip_k0_t3.sl.r_126 arg2 arg11 arg12 arg13 arg14 arg15 arg16 X_arg2 X_arg11 X_arg12 X_arg13 X_arg14 k) (trip_k0_t3.sl.v1629 arg2 arg11 arg12 arg13 arg14 arg15 arg16 X_arg2 X_arg11 X_arg12 X_arg13 X_arg14 k) (trip_k0_t3.sl.v1630 arg2 arg11 arg12 arg13 arg14 arg15 arg16 X_arg2 X_arg11 X_arg12 X_arg13 X_arg14 k) (trip_k0_t3.sl.v1636 arg2 arg11 arg12 arg13 arg14 arg15 arg16 X_arg2 X_arg11 X_arg12 X_arg13 X_arg14 k) (trip_k0_t3.sl.v1637 arg2 arg11 arg12 arg13 arg14 arg15 arg16 X_arg2 X_arg11 X_arg12 X_arg13 X_arg14 k) : FVec Ideal S8x1x4x128 .fp8e4m3) = zq (YT arg2 arg11 arg12 arg13 arg14 X_arg2 X_arg11 X_arg12 X_arg13 X_arg14 k 1) 0 := by
  unfold trip_k0_t3.sl.r_125 trip_k0_t3.sl.r_126
  simp only [pay292_eq, y_1_0, y_1_1, y_1_2, y_1_3, ir_1_0, ir_1_1, ir_1_2, ir_1_3]
  generalize YT arg2 arg11 arg12 arg13 arg14 X_arg2 X_arg11 X_arg12 X_arg13 X_arg14 k 1 = Y
  funext j
  idx_vars j
  pointwise [k0_pay310]
  unfold zq
  split
  · exact clip_ZZ Y 0 0 _ j3 _ (by show 0 + 4 * j0.val + j2.val = 0 + (j0.val * 4 + j2.val); omega) rfl
  split
  · exact clip_ZZ Y 1 1 _ j3 _ (by show 0 + 4 * j0.val + j2.val = 8 + (j0.val * 4 + j2.val - 8); omega) rfl
  split
  · exact clip_ZZ Y 2 2 _ j3 _ (by show 0 + 4 * j0.val + j2.val = 16 + (j0.val * 4 + j2.val - 8 - 8); omega) rfl
  · exact clip_ZZ Y 3 3 _ j3 _ (by show 0 + 4 * j0.val + j2.val = 24 + (j0.val * 4 + j2.val - 8 - 8 - 8); omega) rfl

/-- The codes of the slabs 4 to 7 of block 1. -/
theorem w_1_1 : (k0_pay295 (trip_k0_t3.sl.r_80 arg2 arg11 arg12 arg13 arg14 X_arg2 X_arg11 X_arg12 X_arg13 X_arg14 k) (trip_k0_t3.sl.r_81 arg2 arg11 arg12 arg13 arg14 X_arg2 X_arg11 X_arg12 X_arg13 X_arg14 k) (trip_k0_t3.sl.r_84 arg2 arg11 arg12 arg13 arg14 X_arg2 X_arg11 X_arg12 X_arg13 X_arg14 k) (trip_k0_t3.sl.r_126 arg2 arg11 arg12 arg13 arg14 arg15 arg16 X_arg2 X_arg11 X_arg12 X_arg13 X_arg14 k) (trip_k0_t3.sl.r_127 arg2 arg11 arg12 arg13 arg14 arg15 arg16 X_arg2 X_arg11 X_arg12 X_arg13 X_arg14 k) (trip_k0_t3.sl.r_128 arg2 arg11 arg12 arg13 arg14 arg15 arg16 X_arg2 X_arg11 X_arg12 X_arg13 X_arg14 k) (trip_k0_t3.sl.r_129 arg2 arg11 arg12 arg13 arg14 arg15 arg16 X_arg2 X_arg11 X_arg12 X_arg13 X_arg14 k) trip_k0_t3.sl.cst_254 k0_pay294 : FVec Ideal S8x1x4x128 .fp8e4m3) = zq (YT arg2 arg11 arg12 arg13 arg14 X_arg2 X_arg11 X_arg12 X_arg13 X_arg14 k 1) 1 := by
  unfold trip_k0_t3.sl.r_129 trip_k0_t3.sl.cst_254 trip_k0_t3.sl.r_125 trip_k0_t3.sl.r_126 trip_k0_t3.sl.r_127 trip_k0_t3.sl.r_128
  simp only [y_1_4, y_1_5, y_1_6, y_1_7, ir_1_0, ir_1_1, ir_1_2, ir_1_3]
  generalize YT arg2 arg11 arg12 arg13 arg14 X_arg2 X_arg11 X_arg12 X_arg13 X_arg14 k 1 = Y
  funext j
  idx_vars j
  pointwise [k0_pay295, k0_pay294, k0_pay293]
  unfold zq
  split
  · exact clip_ZZ Y 4 0 _ j3 _ (by show 32 + 4 * j0.val + j2.val = 32 + (j0.val * 4 + j2.val); omega) rfl
  split
  · exact clip_ZZ Y 5 1 _ j3 _ (by show 32 + 4 * j0.val + j2.val = 40 + (j0.val * 4 + j2.val - 8); omega) rfl
  split
  · exact clip_ZZ Y 6 2 _ j3 _ (by show 32 + 4 * j0.val + j2.val = 48 + (j0.val * 4 + j2.val - 8 - 8); omega) rfl
  · exact clip_ZZ Y 7 3 _ j3 _ (by show 32 + 4 * j0.val + j2.val = 56 + (j0.val * 4 + j2.val - 8 - 8 - 8); omega) rfl

/-- The codes of the slabs 8 to 11 of block 1. -/
theorem w_1_2 : (k0_pay301 (trip_k0_t3.sl.r_130 arg2 arg11 arg12 arg13 arg14 arg15 arg16 X_arg2 X_arg11 X_arg12 X_arg13 X_arg14 k) (trip_k0_t3.sl.r_131 arg2 arg11 arg12 arg13 arg14 arg15 arg16 X_arg2 X_arg11 X_arg12 X_arg13 X_arg14 k) (trip_k0_t3.sl.r_132 arg2 arg11 arg12 arg13 arg14 arg15 arg16 X_arg2 X_arg11 X_arg12 X_arg13 X_arg14 k) (trip_k0_t3.sl.r_133 arg2 arg11 arg12 arg13 arg14 arg15 arg16 X_arg2 X_arg11 X_arg12 X_arg13 X_arg14 k) trip_k0_t3.sl.cst_254 k0_pay300 : FVec Ideal S8x1x4x128 .fp8e4m3) = zq (YT arg2 arg11 arg12 arg13 arg14 X_arg2 X_arg11 X_arg12 X_arg13 X_arg14 k 1) 2 := by
  unfold trip_k0_t3.sl.r_130 trip_k0_t3.sl.r_131 trip_k0_t3.sl.r_132 trip_k0_t3.sl.r_133 trip_k0_t3.sl.cst_254 trip_k0_t3.sl.r_125 trip_k0_t3.sl.r_126 trip_k0_t3.sl.r_127 trip_k0_t3.sl.r_128
  simp only [y_1_8, y_1_9, y_1_10, y_1_11, ir_1_0, ir_1_1, ir_1_2, ir_1_3]
  generalize YT arg2 arg11 arg12 arg13 arg14 X_arg2 X_arg11 X_arg12 X_arg13 X_arg14 k 1 = Y
  funext j
  idx_vars j
  pointwise [k0_pay301, k0_pay300, k0_pay296, k0_pay297, k0_pay298, k0_pay299]
  unfold zq
  split
  · exact clip_ZZ Y 8 0 _ j3 _ (by show 64 + 4 * j0.val + j2.val = 64 + (j0.val * 4 + j2.val); omega) rfl
  split
  · exact clip_ZZ Y 9 1 _ j3 _ (by show 64 + 4 * j0.val + j2.val = 72 + (j0.val * 4 + j2.val - 8); omega) rfl
  split
  · exact clip_ZZ Y 10 2 _ j3 _ (by show 64 + 4 * j0.val + j2.val = 80 + (j0.val * 4 + j2.val - 8 - 8); omega) rfl
  · exact clip_ZZ Y 11 3 _ j3 _ (by show 64 + 4 * j0.val + j2.val = 88 + (j0.val * 4 + j2.val - 8 - 8 - 8); omega) rfl

/-- The codes of the slabs 12 to 15 of block 1. -/
theorem w_1_3 : (k0_pay302 (trip_k0_t3.sl.r_90 arg2 arg11 arg12 arg13 arg14 X_arg2 X_arg11 X_arg12 X_arg13 X_arg14 k) (trip_k0_t3.sl.r_91 arg2 arg11 arg12 arg13 arg14 X_arg2 X_arg11 X_arg12 X_arg13 X_arg14 k) (trip_k0_t3.sl.r_93 arg2 arg11 arg12 arg13 arg14 X_arg2 X_arg11 X_arg12 X_arg13 X_arg14 k) (trip_k0_t3.sl.r_94 arg2 arg11 arg12 arg13 arg14 X_arg2 X_arg11 X_arg12 X_arg13 X_arg14 k) (trip_k0_t3.sl.r_125 arg2 arg11 arg12 arg13 arg14 arg15 arg16 X_arg2 X_arg11 X_arg12 X_arg13 X_arg14 k) (trip_k0_t3.sl.r_126 arg2 arg11 arg12 arg13 arg14 arg15 arg16 X_arg2 X_arg11 X_arg12 X_arg13 X_arg14 k) (trip_k0_t3.sl.r_127 arg2 arg11 arg12 arg13 arg14 arg15 arg16 X_arg2 X_arg11 X_arg12 X_arg13 X_arg14 k) (trip_k0_t3.sl.r_128 arg2 arg11 arg12 arg13 arg14 arg15 arg16 X_arg2 X_arg11 X_arg12 X_arg13 X_arg14 k) : FVec Ideal S8x1x4x128 .fp8e4m3) = zq (YT arg2 arg11 arg12 arg13 arg14 X_arg2 X_arg11 X_arg12 X_arg13 X_arg14 k 1) 3 := by
  unfold trip_k0_t3.sl.r_125 trip_k0_t3.sl.r_126 trip_k0_t3.sl.r_127 trip_k0_t3.sl.r_128
  simp only [y_1_12, y_1_13, y_1_14, y_1_15, ir_1_0, ir_1_1, ir_1_2, ir_1_3]
  generalize YT arg2 arg11 arg12 arg13 arg14 X_arg2 X_arg11 X_arg12 X_arg13 X_arg14 k 1 = Y
  funext j
  idx_vars j
  pointwise [k0_pay302]
  unfold zq
  split
  · exact clip_ZZ Y 12 0 _ j3 _ (by show 96 + 4 * j0.val + j2.val = 96 + (j0.val * 4 + j2.val); omega) rfl
  split
  · exact clip_ZZ Y 13 1 _ j3 _ (by show 96 + 4 * j0.val + j2.val = 104 + (j0.val * 4 + j2.val - 8); omega) rfl
  split
  · exact clip_ZZ Y 14 2 _ j3 _ (by show 96 + 4 * j0.val + j2.val = 112 + (j0.val * 4 + j2.val - 8 - 8); omega) rfl
  · exact clip_ZZ Y 15 3 _ j3 _ (by show 96 + 4 * j0.val + j2.val = 120 + (j0.val * 4 + j2.val - 8 - 8 - 8); omega) rfl

/-- The codes of the slabs 16 to 19 of block 1. -/
theorem w_1_4 : (k0_pay304 (trip_k0_t3.sl.r_97 arg2 arg11 arg12 arg13 arg14 X_arg2 X_arg11 X_arg12 X_arg13 X_arg14 k) (trip_k0_t3.sl.r_98 arg2 arg11 arg12 arg13 arg14 X_arg2 X_arg11 X_arg12 X_arg13 X_arg14 k) (trip_k0_t3.sl.r_99 arg2 arg11 arg12 arg13 arg14 X_arg2 X_arg11 X_arg12 X_arg13 X_arg14 k) (trip_k0_t3.sl.r_126 arg2 arg11 arg12 arg13 arg14 arg15 arg16 X_arg2 X_arg11 X_arg12 X_arg13 X_arg14 k) (trip_k0_t3.sl.r_127 arg2 arg11 arg12 arg13 arg14 arg15 arg16 X_arg2 X_arg11 X_arg12 X_arg13 X_arg14 k) (trip_k0_t3.sl.r_128 arg2 arg11 arg12 arg13 arg14 arg15 arg16 X_arg2 X_arg11 X_arg12 X_arg13 X_arg14 k) (trip_k0_t3.sl.r_134 arg2 arg11 arg12 arg13 arg14 arg15 arg16 X_arg2 X_arg11 X_arg12 X_arg13 X_arg14 k) : FVec Ideal S8x1x4x128 .fp8e4m3) = zq (YT arg2 arg11 arg12 arg13 arg14 X_arg2 X_arg11 X_arg12 X_arg13 X_arg14 k 1) 4 := by
  unfold trip_k0_t3.sl.r_134 trip_k0_t3.sl.r_125 trip_k0_t3.sl.r_126 trip_k0_t3.sl.r_127 trip_k0_t3.sl.r_128
  simp only [y_1_16, y_1_17, y_1_18, y_1_19, ir_1_0, ir_1_1, ir_1_2, ir_1_3]
  generalize YT arg2 arg11 arg12 arg13 arg14 X_arg2 X_arg11 X_arg12 X_arg13 X_arg14 k 1 = Y
  funext j
  idx_vars j
  pointwise [k0_pay304, k0_pay303]
  unfold zq
  split
  · exact clip_ZZ Y 16 0 _ j3 _ (by show 128 + 4 * j0.val + j2.val = 128 + (j0.val * 4 + j2.val); omega) rfl
  split
  · exact clip_ZZ Y 17 1 _ j3 _ (by show 128 + 4 * j0.val + j2.val = 136 + (j0.val * 4 + j2.val - 8); omega) rfl
  split
  · exact clip_ZZ Y 18 2 _ j3 _ (by show 128 + 4 * j0.val + j2.val = 144 + (j0.val * 4 + j2.val - 8 - 8); omega) rfl
  · exact clip_ZZ Y 19 3 _ j3 _ (by show 128 + 4 * j0.val + j2.val = 152 + (j0.val * 4 + j2.val - 8 - 8 - 8); omega) rfl

/-- The codes of the slabs 20 to 23 of block 1. -/
theorem w_1_5 : (k0_pay309 (trip_k0_t3.sl.r_135 arg2 arg11 arg12 arg13 arg14 arg15 arg16 X_arg2 X_arg11 X_arg12 X_arg13 X_arg14 k) (trip_k0_t3.sl.r_136 arg2 arg11 arg12 arg13 arg14 arg15 arg16 X_arg2 X_arg11 X_arg12 X_arg13 X_arg14 k) (trip_k0_t3.sl.r_137 arg2 arg11 arg12 arg13 arg14 arg15 arg16 X_arg2 X_arg11 X_arg12 X_arg13 X_arg14 k) (trip_k0_t3.sl.r_138 arg2 arg11 arg12 arg13 arg14 arg15 arg16 X_arg2 X_arg11 X_arg12 X_arg13 X_arg14 k) : FVec Ideal S8x1x4x128 .fp8e4m3) = zq (YT arg2 arg11 arg12 arg13 arg14 X_arg2 X_arg11 X_arg12 X_arg13 X_arg14 k 1) 5 := by
  unfold trip_k0_t3.sl.r_135 trip_k0_t3.sl.r_136 trip_k0_t3.sl.r_137 trip_k0_t3.sl.r_138 trip_k0_t3.sl.r_125 trip_k0_t3.sl.r_126 trip_k0_t3.sl.r_127 trip_k0_t3.sl.r_128
  simp only [y_1_20, y_1_21, y_1_22, y_1_23, ir_1_0, ir_1_1, ir_1_2, ir_1_3]
  generalize YT arg2 arg11 arg12 arg13 arg14 X_arg2 X_arg11 X_arg12 X_arg13 X_arg14 k 1 = Y
  funext j
  idx_vars j
  pointwise [k0_pay309, k0_pay305, k0_pay306, k0_pay307, k0_pay308]
  unfold zq
  split
  · exact clip_ZZ Y 20 0 _ j3 _ (by show 160 + 4 * j0.val + j2.val = 160 + (j0.val * 4 + j2.val); omega) rfl
  split
  · exact clip_ZZ Y 21 1 _ j3 _ (by show 160 + 4 * j0.val + j2.val = 168 + (j0.val * 4 + j2.val - 8); omega) rfl
  split
  · exact clip_ZZ Y 22 2 _ j3 _ (by show 160 + 4 * j0.val + j2.val = 176 + (j0.val * 4 + j2.val - 8 - 8); omega) rfl
  · exact clip_ZZ Y 23 3 _ j3 _ (by show 160 + 4 * j0.val + j2.val = 184 + (j0.val * 4 + j2.val - 8 - 8 - 8); omega) rfl

/-- The codes of the slabs 24 to 27 of block 1. -/
theorem w_1_6 : (k0_pay310 (trip_k0_t3.sl.r_107 arg2 arg11 arg12 arg13 arg14 X_arg2 X_arg11 X_arg12 X_arg13 X_arg14 k) (trip_k0_t3.sl.r_108 arg2 arg11 arg12 arg13 arg14 X_arg2 X_arg11 X_arg12 X_arg13 X_arg14 k) (trip_k0_t3.sl.r_109 arg2 arg11 arg12 arg13 arg14 X_arg2 X_arg11 X_arg12 X_arg13 X_arg14 k) (trip_k0_t3.sl.r_110 arg2 arg11 arg12 arg13 arg14 X_arg2 X_arg11 X_arg12 X_arg13 X_arg14 k) (trip_k0_t3.sl.r_125 arg2 arg11 arg12 arg13 arg14 arg15 arg16 X_arg2 X_arg11 X_arg12 X_arg13 X_arg14 k) (trip_k0_t3.sl.r_126 arg2 arg11 arg12 arg13 arg14 arg15 arg16 X_arg2 X_arg11 X_arg12 X_arg13 X_arg14 k) (trip_k0_t3.sl.r_127 arg2 arg11 arg12 arg13 arg14 arg15 arg16 X_arg2 X_arg11 X_arg12 X_arg13 X_arg14 k) (trip_k0_t3.sl.r_128 arg2 arg11 arg12 arg13 arg14 arg15 arg16 X_arg2 X_arg11 X_arg12 X_arg13 X_arg14 k) : FVec Ideal S8x1x4x128 .fp8e4m3) = zq (YT arg2 arg11 arg12 arg13 arg14 X_arg2 X_arg11 X_arg12 X_arg13 X_arg14 k 1) 6 := by
  unfold trip_k0_t3.sl.r_125 trip_k0_t3.sl.r_126 trip_k0_t3.sl.r_127 trip_k0_t3.sl.r_128
  simp only [y_1_24, y_1_25, y_1_26, y_1_27, ir_1_0, ir_1_1, ir_1_2, ir_1_3]
  generalize YT arg2 arg11 arg12 arg13 arg14 X_arg2 X_arg11 X_arg12 X_arg13 X_arg14 k 1 = Y
  funext j
  idx_vars j
  pointwise [k0_pay310]
  unfold zq
  split
  · exact clip_ZZ Y 24 0 _ j3 _ (by show 192 + 4 * j0.val + j2.val = 192 + (j0.val * 4 + j2.val); omega) rfl
  split
  · exact clip_ZZ Y 25 1 _ j3 _ (by show 192 + 4 * j0.val + j2.val = 200 + (j0.val * 4 + j2.val - 8); omega) rfl
  split
  · exact clip_ZZ Y 26 2 _ j3 _ (by show 192 + 4 * j0.val + j2.val = 208 + (j0.val * 4 + j2.val - 8 - 8); omega) rfl
  · exact clip_ZZ Y 27 3 _ j3 _ (by show 192 + 4 * j0.val + j2.val = 216 + (j0.val * 4 + j2.val - 8 - 8 - 8); omega) rfl

/-- The codes of the slabs 28 to 31 of block 1. -/
theorem w_1_7 : (k0_pay313 (trip_k0_t3.sl.r_114 arg2 arg11 arg12 arg13 arg14 X_arg2 X_arg11 X_arg12 X_arg13 X_arg14 k) (trip_k0_t3.sl.r_117 arg2 arg11 arg12 arg13 arg14 X_arg2 X_arg11 X_arg12 X_arg13 X_arg14 k) (trip_k0_t3.sl.r_127 arg2 arg11 arg12 arg13 arg14 arg15 arg16 X_arg2 X_arg11 X_arg12 X_arg13 X_arg14 k) (trip_k0_t3.sl.r_128 arg2 arg11 arg12 arg13 arg14 arg15 arg16 X_arg2 X_arg11 X_arg12 X_arg13 X_arg14 k) (trip_k0_t3.sl.r_139 arg2 arg11 arg12 arg13 arg14 arg15 arg16 X_arg2 X_arg11 X_arg12 X_arg13 X_arg14 k) (trip_k0_t3.sl.r_140 arg2 arg11 arg12 arg13 arg14 arg15 arg16 X_arg2 X_arg11 X_arg12 X_arg13 X_arg14 k) trip_k0_t3.sl.cst_253 trip_k0_t3.sl.cst_254 : FVec Ideal S8x1x4x128 .fp8e4m3) = zq (YT arg2 arg11 arg12 arg13 arg14 X_arg2 X_arg11 X_arg12 X_arg13 X_arg14 k 1) 7 := by
  unfold trip_k0_t3.sl.r_139 trip_k0_t3.sl.r_140 trip_k0_t3.sl.cst_253 trip_k0_t3.sl.cst_254 trip_k0_t3.sl.r_125 trip_k0_t3.sl.r_126 trip_k0_t3.sl.r_127 trip_k0_t3.sl.r_128
  simp only [y_1_28, y_1_29, y_1_30, y_1_31, ir_1_0, ir_1_1, ir_1_2, ir_1_3]
  generalize YT arg2 arg11 arg12 arg13 arg14 X_arg2 X_arg11 X_arg12 X_arg13 X_arg14 k 1 = Y
  funext j
  idx_vars j
  pointwise [k0_pay313, k0_pay311, k0_pay312]
  unfold zq
  split
  · exact clip_ZZ Y 28 0 _ j3 _ (by show 224 + 4 * j0.val + j2.val = 224 + (j0.val * 4 + j2.val); omega) rfl
  split
  · exact clip_ZZ Y 29 1 _ j3 _ (by show 224 + 4 * j0.val + j2.val = 232 + (j0.val * 4 + j2.val - 8); omega) rfl
  split
  · exact clip_ZZ Y 30 2 _ j3 _ (by show 224 + 4 * j0.val + j2.val = 240 + (j0.val * 4 + j2.val - 8 - 8); omega) rfl
  · exact clip_ZZ Y 31 3 _ j3 _ (by show 224 + 4 * j0.val + j2.val = 248 + (j0.val * 4 + j2.val - 8 - 8 - 8); omega) rfl

end

/-- The eight stores of codes, latest first. -/
def zlist (Y : Fin 256 → Fin 128 → EReal) : List (View.Piece (Elt Ideal) S8x9x4x128 .fp8e4m3) :=
  [⟨Rect.unit ![0, 7, 0, 0] S8x1x4x128.size inb_S8x9x4x128_S8x1x4x128_0_7_0_0, zq Y 7⟩,
    ⟨Rect.unit ![0, 6, 0, 0] S8x1x4x128.size inb_S8x9x4x128_S8x1x4x128_0_6_0_0, zq Y 6⟩,
    ⟨Rect.unit ![0, 5, 0, 0] S8x1x4x128.size inb_S8x9x4x128_S8x1x4x128_0_5_0_0, zq Y 5⟩,
    ⟨Rect.unit ![0, 4, 0, 0] S8x1x4x128.size inb_S8x9x4x128_S8x1x4x128_0_4_0_0, zq Y 4⟩,
    ⟨Rect.unit ![0, 3, 0, 0] S8x1x4x128.size inb_S8x9x4x128_S8x1x4x128_0_3_0_0, zq Y 3⟩,
    ⟨Rect.unit ![0, 2, 0, 0] S8x1x4x128.size inb_S8x9x4x128_S8x1x4x128_0_2_0_0, zq Y 2⟩,
    ⟨Rect.unit ![0, 1, 0, 0] S8x1x4x128.size inb_S8x9x4x128_S8x1x4x128_0_1_0_0, zq Y 1⟩,
    ⟨Rect.unit ![0, 0, 0, 0] S8x1x4x128.size inb_S8x9x4x128_S8x1x4x128_0_0_0_0, zq Y 0⟩]

/-- What the stores of codes leave. -/
theorem canon_zlist (Y : Fin 256 → Fin 128 → EReal) (L' : List (View.Piece (Elt Ideal) S8x9x4x128 .fp8e4m3)) (s : Fin 8) (q : Fin 9) (b : Fin 4)
    (l : Fin 128) (hq : q.val < 8) (r : Fin 256) (hr : r.val = 32 * q.val + 4 * s.val + b.val) :
    View.canon (zlist Y ++ L') (ix4 s q b l) = ZZ Y r l := by
  have hG := View.canon_append_of_pieces (fun y : S8x9x4x128.Idx => ZZ Y ⟨32 * ((show Fin 9 from y 1).val % 8) + 4 * (show Fin 8 from y 0).val + (show Fin 4 from y 2).val, by
    have := (show Fin 8 from y 0).isLt; have := (show Fin 4 from y 2).isLt; have := Nat.mod_lt (show Fin 9 from y 1).val (show 0 < 8 by decide); omega⟩ (y 3)) L' (zlist Y) ?_ (ix4 s q b l) ?_
  · refine hG.trans (congrArg (fun r => ZZ Y r l) (Fin.ext ?_))
    show 32 * (q.val % 8) + 4 * s.val + b.val = r.val
    omega
  · intro p hp
    simp only [zlist, List.mem_cons, List.not_mem_nil, or_false] at hp
    rcases hp with rfl | rfl | rfl | rfl | rfl | rfl | rfl | rfl
    · intro x
      obtain ⟨s, z, b, l, rfl⟩ : ∃ (s : Fin 8) (z : Fin 1) (b : Fin 4) (l : Fin 128), x = ix4 s z b l := ⟨x 0, x 1, x 2, x 3, eq_ix4 x⟩
      obtain rfl : z = 0 := Subsingleton.elim _ _
      exact congr (congrArg (ZZ Y) (Fin.ext (by show 224 + 4 * s.val + b.val = 32 * ((7 + 1 * 0) % 8) + 4 * (0 + 1 * s.val) + (0 + 1 * b.val); omega))) (Fin.ext (by show l.val = 0 + 1 * l.val; omega))
    · intro x
      obtain ⟨s, z, b, l, rfl⟩ : ∃ (s : Fin 8) (z : Fin 1) (b : Fin 4) (l : Fin 128), x = ix4 s z b l := ⟨x 0, x 1, x 2, x 3, eq_ix4 x⟩
      obtain rfl : z = 0 := Subsingleton.elim _ _
      exact congr (congrArg (ZZ Y) (Fin.ext (by show 192 + 4 * s.val + b.val = 32 * ((6 + 1 * 0) % 8) + 4 * (0 + 1 * s.val) + (0 + 1 * b.val); omega))) (Fin.ext (by show l.val = 0 + 1 * l.val; omega))
    · intro x
      obtain ⟨s, z, b, l, rfl⟩ : ∃ (s : Fin 8) (z : Fin 1) (b : Fin 4) (l : Fin 128), x = ix4 s z b l := ⟨x 0, x 1, x 2, x 3, eq_ix4 x⟩
      obtain rfl : z = 0 := Subsingleton.elim _ _
      exact congr (congrArg (ZZ Y) (Fin.ext (by show 160 + 4 * s.val + b.val = 32 * ((5 + 1 * 0) % 8) + 4 * (0 + 1 * s.val) + (0 + 1 * b.val); omega))) (Fin.ext (by show l.val = 0 + 1 * l.val; omega))
    · intro x
      obtain ⟨s, z, b, l, rfl⟩ : ∃ (s : Fin 8) (z : Fin 1) (b : Fin 4) (l : Fin 128), x = ix4 s z b l := ⟨x 0, x 1, x 2, x 3, eq_ix4 x⟩
      obtain rfl : z = 0 := Subsingleton.elim _ _
      exact congr (congrArg (ZZ Y) (Fin.ext (by show 128 + 4 * s.val + b.val = 32 * ((4 + 1 * 0) % 8) + 4 * (0 + 1 * s.val) + (0 + 1 * b.val); omega))) (Fin.ext (by show l.val = 0 + 1 * l.val; omega))
    · intro x
      obtain ⟨s, z, b, l, rfl⟩ : ∃ (s : Fin 8) (z : Fin 1) (b : Fin 4) (l : Fin 128), x = ix4 s z b l := ⟨x 0, x 1, x 2, x 3, eq_ix4 x⟩
      obtain rfl : z = 0 := Subsingleton.elim _ _
      exact congr (congrArg (ZZ Y) (Fin.ext (by show 96 + 4 * s.val + b.val = 32 * ((3 + 1 * 0) % 8) + 4 * (0 + 1 * s.val) + (0 + 1 * b.val); omega))) (Fin.ext (by show l.val = 0 + 1 * l.val; omega))
    · intro x
      obtain ⟨s, z, b, l, rfl⟩ : ∃ (s : Fin 8) (z : Fin 1) (b : Fin 4) (l : Fin 128), x = ix4 s z b l := ⟨x 0, x 1, x 2, x 3, eq_ix4 x⟩
      obtain rfl : z = 0 := Subsingleton.elim _ _
      exact congr (congrArg (ZZ Y) (Fin.ext (by show 64 + 4 * s.val + b.val = 32 * ((2 + 1 * 0) % 8) + 4 * (0 + 1 * s.val) + (0 + 1 * b.val); omega))) (Fin.ext (by show l.val = 0 + 1 * l.val; omega))
    · intro x
      obtain ⟨s, z, b, l, rfl⟩ : ∃ (s : Fin 8) (z : Fin 1) (b : Fin 4) (l : Fin 128), x = ix4 s z b l := ⟨x 0, x 1, x 2, x 3, eq_ix4 x⟩
      obtain rfl : z = 0 := Subsingleton.elim _ _
      exact congr (congrArg (ZZ Y) (Fin.ext (by show 32 + 4 * s.val + b.val = 32 * ((1 + 1 * 0) % 8) + 4 * (0 + 1 * s.val) + (0 + 1 * b.val); omega))) (Fin.ext (by show l.val = 0 + 1 * l.val; omega))
    · intro x
      obtain ⟨s, z, b, l, rfl⟩ : ∃ (s : Fin 8) (z : Fin 1) (b : Fin 4) (l : Fin 128), x = ix4 s z b l := ⟨x 0, x 1, x 2, x 3, eq_ix4 x⟩
      obtain rfl : z = 0 := Subsingleton.elim _ _
      exact congr (congrArg (ZZ Y) (Fin.ext (by show 0 + 4 * s.val + b.val = 32 * ((0 + 1 * 0) % 8) + 4 * (0 + 1 * s.val) + (0 + 1 * b.val); omega))) (Fin.ext (by show l.val = 0 + 1 * l.val; omega))
  · have h0 := s.isLt
    have h2 := b.isLt
    have h3 := l.isLt
    have hc : q.val = 0 ∨ q.val = 1 ∨ q.val = 2 ∨ q.val = 3 ∨ q.val = 4 ∨ q.val = 5 ∨ q.val = 6 ∨ q.val = 7 := by omega
    rcases hc with h | h | h | h | h | h | h | h
    · refine ⟨⟨Rect.unit ![0, 0, 0, 0] S8x1x4x128.size inb_S8x9x4x128_S8x1x4x128_0_0_0_0, zq Y 0⟩, by unfold zlist; simp only [List.mem_cons, true_or, or_true], (Rect.mem_set_unit (inb := inb_S8x9x4x128_S8x1x4x128_0_0_0_0)).mpr fun d => ?_⟩
      match d with
      | ⟨0, _⟩ => show 0 ≤ s.val ∧ s.val < 0 + 8; omega
      | ⟨1, _⟩ => show 0 ≤ q.val ∧ q.val < 0 + 1; omega
      | ⟨2, _⟩ => show 0 ≤ b.val ∧ b.val < 0 + 4; omega
      | ⟨3, _⟩ => show 0 ≤ l.val ∧ l.val < 0 + 128; omega
    · refine ⟨⟨Rect.unit ![0, 1, 0, 0] S8x1x4x128.size inb_S8x9x4x128_S8x1x4x128_0_1_0_0, zq Y 1⟩, by unfold zlist; simp only [List.mem_cons, true_or, or_true], (Rect.mem_set_unit (inb := inb_S8x9x4x128_S8x1x4x128_0_1_0_0)).mpr fun d => ?_⟩
      match d with
      | ⟨0, _⟩ => show 0 ≤ s.val ∧ s.val < 0 + 8; omega
      | ⟨1, _⟩ => show 1 ≤ q.val ∧ q.val < 1 + 1; omega
      | ⟨2, _⟩ => show 0 ≤ b.val ∧ b.val < 0 + 4; omega
      | ⟨3, _⟩ => show 0 ≤ l.val ∧ l.val < 0 + 128; omega
    · refine ⟨⟨Rect.unit ![0, 2, 0, 0] S8x1x4x128.size inb_S8x9x4x128_S8x1x4x128_0_2_0_0, zq Y 2⟩, by unfold zlist; simp only [List.mem_cons, true_or, or_true], (Rect.mem_set_unit (inb := inb_S8x9x4x128_S8x1x4x128_0_2_0_0)).mpr fun d => ?_⟩
      match d with
      | ⟨0, _⟩ => show 0 ≤ s.val ∧ s.val < 0 + 8; omega
      | ⟨1, _⟩ => show 2 ≤ q.val ∧ q.val < 2 + 1; omega
      | ⟨2, _⟩ => show 0 ≤ b.val ∧ b.val < 0 + 4; omega
      | ⟨3, _⟩ => show 0 ≤ l.val ∧ l.val < 0 + 128; omega
    · refine ⟨⟨Rect.unit ![0, 3, 0, 0] S8x1x4x128.size inb_S8x9x4x128_S8x1x4x128_0_3_0_0, zq Y 3⟩, by unfold zlist; simp only [List.mem_cons, true_or, or_true], (Rect.mem_set_unit (inb := inb_S8x9x4x128_S8x1x4x128_0_3_0_0)).mpr fun d => ?_⟩
      match d with
      | ⟨0, _⟩ => show 0 ≤ s.val ∧ s.val < 0 + 8; omega
      | ⟨1, _⟩ => show 3 ≤ q.val ∧ q.val < 3 + 1; omega
      | ⟨2, _⟩ => show 0 ≤ b.val ∧ b.val < 0 + 4; omega
      | ⟨3, _⟩ => show 0 ≤ l.val ∧ l.val < 0 + 128; omega
    · refine ⟨⟨Rect.unit ![0, 4, 0, 0] S8x1x4x128.size inb_S8x9x4x128_S8x1x4x128_0_4_0_0, zq Y 4⟩, by unfold zlist; simp only [List.mem_cons, true_or, or_true], (Rect.mem_set_unit (inb := inb_S8x9x4x128_S8x1x4x128_0_4_0_0)).mpr fun d => ?_⟩
      match d with
      | ⟨0, _⟩ => show 0 ≤ s.val ∧ s.val < 0 + 8; omega
      | ⟨1, _⟩ => show 4 ≤ q.val ∧ q.val < 4 + 1; omega
      | ⟨2, _⟩ => show 0 ≤ b.val ∧ b.val < 0 + 4; omega
      | ⟨3, _⟩ => show 0 ≤ l.val ∧ l.val < 0 + 128; omega
    · refine ⟨⟨Rect.unit ![0, 5, 0, 0] S8x1x4x128.size inb_S8x9x4x128_S8x1x4x128_0_5_0_0, zq Y 5⟩, by unfold zlist; simp only [List.mem_cons, true_or, or_true], (Rect.mem_set_unit (inb := inb_S8x9x4x128_S8x1x4x128_0_5_0_0)).mpr fun d => ?_⟩
      match d with
      | ⟨0, _⟩ => show 0 ≤ s.val ∧ s.val < 0 + 8; omega
      | ⟨1, _⟩ => show 5 ≤ q.val ∧ q.val < 5 + 1; omega
      | ⟨2, _⟩ => show 0 ≤ b.val ∧ b.val < 0 + 4; omega
      | ⟨3, _⟩ => show 0 ≤ l.val ∧ l.val < 0 + 128; omega
    · refine ⟨⟨Rect.unit ![0, 6, 0, 0] S8x1x4x128.size inb_S8x9x4x128_S8x1x4x128_0_6_0_0, zq Y 6⟩, by unfold zlist; simp only [List.mem_cons, true_or, or_true], (Rect.mem_set_unit (inb := inb_S8x9x4x128_S8x1x4x128_0_6_0_0)).mpr fun d => ?_⟩
      match d with
      | ⟨0, _⟩ => show 0 ≤ s.val ∧ s.val < 0 + 8; omega
      | ⟨1, _⟩ => show 6 ≤ q.val ∧ q.val < 6 + 1; omega
      | ⟨2, _⟩ => show 0 ≤ b.val ∧ b.val < 0 + 4; omega
      | ⟨3, _⟩ => show 0 ≤ l.val ∧ l.val < 0 + 128; omega
    · refine ⟨⟨Rect.unit ![0, 7, 0, 0] S8x1x4x128.size inb_S8x9x4x128_S8x1x4x128_0_7_0_0, zq Y 7⟩, by unfold zlist; simp only [List.mem_cons, true_or, or_true], (Rect.mem_set_unit (inb := inb_S8x9x4x128_S8x1x4x128_0_7_0_0)).mpr fun d => ?_⟩
      match d with
      | ⟨0, _⟩ => show 0 ≤ s.val ∧ s.val < 0 + 8; omega
      | ⟨1, _⟩ => show 7 ≤ q.val ∧ q.val < 7 + 1; omega
      | ⟨2, _⟩ => show 0 ≤ b.val ∧ b.val < 0 + 4; omega
      | ⟨3, _⟩ => show 0 ≤ l.val ∧ l.val < 0 + 128; omega

section
variable (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (arg15 : Memref sig .tc .vmem S32x128 .f32) (arg16 : Memref sig .tc .vmem S8x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips)
include arg2 arg11 arg12 arg13 arg14 arg15 arg16 X_arg2 X_arg11 X_arg12 X_arg13 X_arg14 k

set_option maxHeartbeats 4000000 in
/-- The stores of codes of block 0. -/
theorem hw17_0 : (trip_k0_t3.sl.HW_arg17_8 (F := Ideal) arg2 arg11 arg12 arg13 arg14 arg15 arg16 X_arg2 X_arg11 X_arg12 X_arg13 X_arg14 k) = zlist (YT arg2 arg11 arg12 arg13 arg14 X_arg2 X_arg11 X_arg12 X_arg13 X_arg14 k 0) ++ [] := by
  unfold trip_k0_t3.sl.HW_arg17_8 zlist
  rw [w_0_0, w_0_1, w_0_2, w_0_3, w_0_4, w_0_5, w_0_6, w_0_7]
  rfl

end

section
variable (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (arg15 : Memref sig .tc .vmem S32x128 .f32) (arg16 : Memref sig .tc .vmem S8x128 .f32) (arg17 : Memref sig .tc .vmem S8x9x4x128 .fp8e4m3) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips)
include arg2 arg11 arg12 arg13 arg14 arg15 arg16 arg17 X_arg2 X_arg11 X_arg12 X_arg13 X_arg14 k

/-- Row group 0 of the codes read back, batch half 0. -/
theorem v1012_apply (q : Fin 8) (b : Fin 4) (l : Fin 128) (r : Fin 256) (hr : r.val = 32 * q.val + 0 + b.val) :
    (trip_k0_t3.sl.v1012 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 0) r l := by
  unfold trip_k0_t3.sl.v1012
  rw [View.readCov_eq_canon', hw17_0, ← canon_zlist (YT arg2 arg11 arg12 arg13 arg14 X_arg2 X_arg11 X_arg12 X_arg13 X_arg14 k 0) ([]) 0 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

/-- Row group 1 of the codes read back, batch half 0. -/
theorem v1014_apply (q : Fin 8) (b : Fin 4) (l : Fin 128) (r : Fin 256) (hr : r.val = 32 * q.val + 4 + b.val) :
    (trip_k0_t3.sl.v1014 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 0) r l := by
  unfold trip_k0_t3.sl.v1014
  rw [View.readCov_eq_canon', hw17_0, ← canon_zlist (YT arg2 arg11 arg12 arg13 arg14 X_arg2 X_arg11 X_arg12 X_arg13 X_arg14 k 0) ([]) 1 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

/-- Row group 2 of the codes read back, batch half 0. -/
theorem v1016_apply (q : Fin 8) (b : Fin 4) (l : Fin 128) (r : Fin 256) (hr : r.val = 32 * q.val + 8 + b.val) :
    (trip_k0_t3.sl.v1016 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 0) r l := by
  unfold trip_k0_t3.sl.v1016
  rw [View.readCov_eq_canon', hw17_0, ← canon_zlist (YT arg2 arg11 arg12 arg13 arg14 X_arg2 X_arg11 X_arg12 X_arg13 X_arg14 k 0) ([]) 2 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

/-- Row group 3 of the codes read back, batch half 0. -/
theorem v1018_apply (q : Fin 8) (b : Fin 4) (l : Fin 128) (r : Fin 256) (hr : r.val = 32 * q.val + 12 + b.val) :
    (trip_k0_t3.sl.v1018 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 0) r l := by
  unfold trip_k0_t3.sl.v1018
  rw [View.readCov_eq_canon', hw17_0, ← canon_zlist (YT arg2 arg11 arg12 arg13 arg14 X_arg2 X_arg11 X_arg12 X_arg13 X_arg14 k 0) ([]) 3 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

/-- Row group 4 of the codes read back, batch half 0. -/
theorem v1020_apply (q : Fin 8) (b : Fin 4) (l : Fin 128) (r : Fin 256) (hr : r.val = 32 * q.val + 16 + b.val) :
    (trip_k0_t3.sl.v1020 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 0) r l := by
  unfold trip_k0_t3.sl.v1020
  rw [View.readCov_eq_canon', hw17_0, ← canon_zlist (YT arg2 arg11 arg12 arg13 arg14 X_arg2 X_arg11 X_arg12 X_arg13 X_arg14 k 0) ([]) 4 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

/-- Row group 5 of the codes read back, batch half 0. -/
theorem v1022_apply (q : Fin 8) (b : Fin 4) (l : Fin 128) (r : Fin 256) (hr : r.val = 32 * q.val + 20 + b.val) :
    (trip_k0_t3.sl.v1022 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 0) r l := by
  unfold trip_k0_t3.sl.v1022
  rw [View.readCov_eq_canon', hw17_0, ← canon_zlist (YT arg2 arg11 arg12 arg13 arg14 X_arg2 X_arg11 X_arg12 X_arg13 X_arg14 k 0) ([]) 5 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

/-- Row group 6 of the codes read back, batch half 0. -/
theorem v1024_apply (q : Fin 8) (b : Fin 4) (l : Fin 128) (r : Fin 256) (hr : r.val = 32 * q.val + 24 + b.val) :
    (trip_k0_t3.sl.v1024 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 0) r l := by
  unfold trip_k0_t3.sl.v1024
  rw [View.readCov_eq_canon', hw17_0, ← canon_zlist (YT arg2 arg11 arg12 arg13 arg14 X_arg2 X_arg11 X_arg12 X_arg13 X_arg14 k 0) ([]) 6 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

/-- Row group 7 of the codes read back, batch half 0. -/
theorem v1026_apply (q : Fin 8) (b : Fin 4) (l : Fin 128) (r : Fin 256) (hr : r.val = 32 * q.val + 28 + b.val) :
    (trip_k0_t3.sl.v1026 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 0) r l := by
  unfold trip_k0_t3.sl.v1026
  rw [View.readCov_eq_canon', hw17_0, ← canon_zlist (YT arg2 arg11 arg12 arg13 arg14 X_arg2 X_arg11 X_arg12 X_arg13 X_arg14 k 0) ([]) 7 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

end

section
variable (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (arg15 : Memref sig .tc .vmem S32x128 .f32) (arg16 : Memref sig .tc .vmem S8x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips)
include arg2 arg11 arg12 arg13 arg14 arg15 arg16 X_arg2 X_arg11 X_arg12 X_arg13 X_arg14 k

set_option maxHeartbeats 4000000 in
/-- The stores of codes of block 1. -/
theorem hw17_1 : (trip_k0_t3.sl.HW_arg17_16 (F := Ideal) arg2 arg11 arg12 arg13 arg14 arg15 arg16 X_arg2 X_arg11 X_arg12 X_arg13 X_arg14 k) = zlist (YT arg2 arg11 arg12 arg13 arg14 X_arg2 X_arg11 X_arg12 X_arg13 X_arg14 k 1) ++ (trip_k0_t3.sl.HW_arg17_8 (F := Ideal) arg2 arg11 arg12 arg13 arg14 arg15 arg16 X_arg2 X_arg11 X_arg12 X_arg13 X_arg14 k) := by
  unfold trip_k0_t3.sl.HW_arg17_16 zlist
  rw [w_1_0, w_1_1, w_1_2, w_1_3, w_1_4, w_1_5, w_1_6, w_1_7]
  rfl

end

section
variable (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (arg15 : Memref sig .tc .vmem S32x128 .f32) (arg16 : Memref sig .tc .vmem S8x128 .f32) (arg17 : Memref sig .tc .vmem S8x9x4x128 .fp8e4m3) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips)
include arg2 arg11 arg12 arg13 arg14 arg15 arg16 arg17 X_arg2 X_arg11 X_arg12 X_arg13 X_arg14 k

/-- Row group 0 of the codes read back, batch half 1. -/
theorem v1851_apply (q : Fin 8) (b : Fin 4) (l : Fin 128) (r : Fin 256) (hr : r.val = 32 * q.val + 0 + b.val) :
    (trip_k0_t3.sl.v1851 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 1) r l := by
  unfold trip_k0_t3.sl.v1851
  rw [View.readCov_eq_canon', hw17_1, ← canon_zlist (YT arg2 arg11 arg12 arg13 arg14 X_arg2 X_arg11 X_arg12 X_arg13 X_arg14 k 1) ((trip_k0_t3.sl.HW_arg17_8 (F := Ideal) arg2 arg11 arg12 arg13 arg14 arg15 arg16 X_arg2 X_arg11 X_arg12 X_arg13 X_arg14 k)) 0 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

/-- Row group 1 of the codes read back, batch half 1. -/
theorem v1853_apply (q : Fin 8) (b : Fin 4) (l : Fin 128) (r : Fin 256) (hr : r.val = 32 * q.val + 4 + b.val) :
    (trip_k0_t3.sl.v1853 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 1) r l := by
  unfold trip_k0_t3.sl.v1853
  rw [View.readCov_eq_canon', hw17_1, ← canon_zlist (YT arg2 arg11 arg12 arg13 arg14 X_arg2 X_arg11 X_arg12 X_arg13 X_arg14 k 1) ((trip_k0_t3.sl.HW_arg17_8 (F := Ideal) arg2 arg11 arg12 arg13 arg14 arg15 arg16 X_arg2 X_arg11 X_arg12 X_arg13 X_arg14 k)) 1 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

/-- Row group 2 of the codes read back, batch half 1. -/
theorem v1855_apply (q : Fin 8) (b : Fin 4) (l : Fin 128) (r : Fin 256) (hr : r.val = 32 * q.val + 8 + b.val) :
    (trip_k0_t3.sl.v1855 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 1) r l := by
  unfold trip_k0_t3.sl.v1855
  rw [View.readCov_eq_canon', hw17_1, ← canon_zlist (YT arg2 arg11 arg12 arg13 arg14 X_arg2 X_arg11 X_arg12 X_arg13 X_arg14 k 1) ((trip_k0_t3.sl.HW_arg17_8 (F := Ideal) arg2 arg11 arg12 arg13 arg14 arg15 arg16 X_arg2 X_arg11 X_arg12 X_arg13 X_arg14 k)) 2 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

/-- Row group 3 of the codes read back, batch half 1. -/
theorem v1857_apply (q : Fin 8) (b : Fin 4) (l : Fin 128) (r : Fin 256) (hr : r.val = 32 * q.val + 12 + b.val) :
    (trip_k0_t3.sl.v1857 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 1) r l := by
  unfold trip_k0_t3.sl.v1857
  rw [View.readCov_eq_canon', hw17_1, ← canon_zlist (YT arg2 arg11 arg12 arg13 arg14 X_arg2 X_arg11 X_arg12 X_arg13 X_arg14 k 1) ((trip_k0_t3.sl.HW_arg17_8 (F := Ideal) arg2 arg11 arg12 arg13 arg14 arg15 arg16 X_arg2 X_arg11 X_arg12 X_arg13 X_arg14 k)) 3 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

/-- Row group 4 of the codes read back, batch half 1. -/
theorem v1859_apply (q : Fin 8) (b : Fin 4) (l : Fin 128) (r : Fin 256) (hr : r.val = 32 * q.val + 16 + b.val) :
    (trip_k0_t3.sl.v1859 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 1) r l := by
  unfold trip_k0_t3.sl.v1859
  rw [View.readCov_eq_canon', hw17_1, ← canon_zlist (YT arg2 arg11 arg12 arg13 arg14 X_arg2 X_arg11 X_arg12 X_arg13 X_arg14 k 1) ((trip_k0_t3.sl.HW_arg17_8 (F := Ideal) arg2 arg11 arg12 arg13 arg14 arg15 arg16 X_arg2 X_arg11 X_arg12 X_arg13 X_arg14 k)) 4 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

/-- Row group 5 of the codes read back, batch half 1. -/
theorem v1861_apply (q : Fin 8) (b : Fin 4) (l : Fin 128) (r : Fin 256) (hr : r.val = 32 * q.val + 20 + b.val) :
    (trip_k0_t3.sl.v1861 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 1) r l := by
  unfold trip_k0_t3.sl.v1861
  rw [View.readCov_eq_canon', hw17_1, ← canon_zlist (YT arg2 arg11 arg12 arg13 arg14 X_arg2 X_arg11 X_arg12 X_arg13 X_arg14 k 1) ((trip_k0_t3.sl.HW_arg17_8 (F := Ideal) arg2 arg11 arg12 arg13 arg14 arg15 arg16 X_arg2 X_arg11 X_arg12 X_arg13 X_arg14 k)) 5 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

/-- Row group 6 of the codes read back, batch half 1. -/
theorem v1863_apply (q : Fin 8) (b : Fin 4) (l : Fin 128) (r : Fin 256) (hr : r.val = 32 * q.val + 24 + b.val) :
    (trip_k0_t3.sl.v1863 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 1) r l := by
  unfold trip_k0_t3.sl.v1863
  rw [View.readCov_eq_canon', hw17_1, ← canon_zlist (YT arg2 arg11 arg12 arg13 arg14 X_arg2 X_arg11 X_arg12 X_arg13 X_arg14 k 1) ((trip_k0_t3.sl.HW_arg17_8 (F := Ideal) arg2 arg11 arg12 arg13 arg14 arg15 arg16 X_arg2 X_arg11 X_arg12 X_arg13 X_arg14 k)) 6 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

/-- Row group 7 of the codes read back, batch half 1. -/
theorem v1865_apply (q : Fin 8) (b : Fin 4) (l : Fin 128) (r : Fin 256) (hr : r.val = 32 * q.val + 28 + b.val) :
    (trip_k0_t3.sl.v1865 (F := Ideal) arg2 arg11 arg12 arg13 arg14 arg15 arg16 arg17 X_arg2 X_arg11 X_arg12 X_arg13 X_arg14 k) (ix4 0 q b l) = ZZ (YT arg2 arg11 arg12 arg13 arg14 X_arg2 X_arg11 X_arg12 X_arg13 X_arg14 k 1) r l := by
  unfold trip_k0_t3.sl.v1865
  rw [View.readCov_eq_canon', hw17_1, ← canon_zlist (YT arg2 arg11 arg12 arg13 arg14 X_arg2 X_arg11 X_arg12 X_arg13 X_arg14 k 1) ((trip_k0_t3.sl.HW_arg17_8 (F := Ideal) arg2 arg11 arg12 arg13 arg14 arg15 arg16 X_arg2 X_arg11 X_arg12 X_arg13 X_arg14 k)) 7 ⟨q.val, by omega⟩ b l q.isLt r hr]
  refine congrArg (View.canon _) (funext fun d => Fin.ext ?_)
  match d with
  | ⟨0, _⟩ => rfl
  | ⟨1, _⟩ => show 0 + 1 * q.val = q.val; omega
  | ⟨2, _⟩ => show 0 + 1 * b.val = b.val; omega
  | ⟨3, _⟩ => show 0 + 1 * l.val = l.val; omega

end

/-- The row of the permuted tile a channel's code comes from. -/
def rowOf (c : Fin 256) : Fin 256 := ⟨32 * (c.val % 32 / 4) + 4 * (c.val / 32) + c.val % 4, by omega⟩

section
variable (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (arg15 : Memref sig .tc .vmem S32x128 .f32) (arg16 : Memref sig .tc .vmem S8x128 .f32) (arg17 : Memref sig .tc .vmem S8x9x4x128 .fp8e4m3) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips)
include arg2 arg11 arg12 arg13 arg14 arg15 arg16 arg17 X_arg2 X_arg11 X_arg12 X_arg13 X_arg14 k

/-- The tile of codes of block 0. -/
theorem codes_0 (z : Fin 1) (l : Fin 128) (c : Fin 256) :
    (k0_pay229 (trip_k0_t3.sl.r_70 (F := Ideal) arg2 arg11 arg12 arg13 arg14 arg15 arg16 arg17 X_arg2 X_arg11 X_arg12 X_arg13 X_arg14 k) (trip_k0_t3.sl.v1014 (F := Ideal) arg2 arg11 arg12 arg13 arg14 arg15 arg16 arg17 X_arg2 X_arg11 X_arg12 X_arg13 X_arg14 k) (trip_k0_t3.sl.v1016 (F := Ideal) arg2 arg11 arg12 arg13 arg14 arg15 arg16 arg17 X_arg2 X_arg11 X_arg12 X_arg13 X_arg14 k) (trip_k0_t3.sl.v1018 (F := Ideal) arg2 arg11 arg12 arg13 arg14 arg15 arg16 arg17 X_arg2 X_arg11 X_arg12 X_arg13 X_arg14 k) (trip_k0_t3.sl.v1020 (F := Ideal) arg2 arg11 arg12 arg13 arg14 arg15 arg16 arg17 X_arg2 X_arg11 X_arg12 X_arg13 X_arg14 k) (trip_k0_t3.sl.v1022 (F := Ideal) arg2 arg11 arg12 arg13 arg14 arg15 arg16 arg17 X_arg2 X_arg11 X_arg12 X_arg13 X_arg14 k) (trip_k0_t3.sl.v1024 (F := Ideal) arg2 arg11 arg12 arg13 arg14 arg15 arg16 arg17 X_arg2 X_arg11 X_arg12 X_arg13 X_arg14 k) (trip_k0_t3.sl.v1026 (F := Ideal) arg2 arg11 arg12 arg13 arg14 arg15 arg16 arg17 X_arg2 X_arg11 X_arg12 X_arg13 X_arg14 k) : FVec Ideal S1x128x256 .fp8e4m3) (ix3 z l c) = ZZ (YT arg2 arg11 arg12 arg13 arg14 X_arg2 X_arg11 X_arg12 X_arg13 X_arg14 k 0) (rowOf c) l := by
  unfold trip_k0_t3.sl.r_70
  pointwise [k0_pay229, k0_pay228]
  split
  · exact v1012_apply arg2 arg11 arg12 arg13 arg14 arg15 arg16 arg17 X_arg2 X_arg11 X_arg12 X_arg13 X_arg14 k ⟨c.val / 4, by omega⟩ ⟨c.val % 4, by omega⟩ l _ (by show 32 * (c.val % 32 / 4) + 4 * (c.val / 32) + c.val % 4 = 32 * (c.val / 4) + 0 + c.val % 4; omega)
  split
  · exact v1014_apply arg2 arg11 arg12 arg13 arg14 arg15 arg16 arg17 X_arg2 X_arg11 X_arg12 X_arg13 X_arg14 k ⟨c.val / 4 - 8, by omega⟩ ⟨c.val % 4, by omega⟩ l _ (by show 32 * (c.val % 32 / 4) + 4 * (c.val / 32) + c.val % 4 = 32 * (c.val / 4 - 8) + 4 + c.val % 4; omega)
  split
  · exact v1016_apply arg2 arg11 arg12 arg13 arg14 arg15 arg16 arg17 X_arg2 X_arg11 X_arg12 X_arg13 X_arg14 k ⟨c.val / 4 - 8 - 8, by omega⟩ ⟨c.val % 4, by omega⟩ l _ (by show 32 * (c.val % 32 / 4) + 4 * (c.val / 32) + c.val % 4 = 32 * (c.val / 4 - 8 - 8) + 8 + c.val % 4; omega)
  split
  · exact v1018_apply arg2 arg11 arg12 arg13 arg14 arg15 arg16 arg17 X_arg2 X_arg11 X_arg12 X_arg13 X_arg14 k ⟨c.val / 4 - 8 - 8 - 8, by omega⟩ ⟨c.val % 4, by omega⟩ l _ (by show 32 * (c.val % 32 / 4) + 4 * (c.val / 32) + c.val % 4 = 32 * (c.val / 4 - 8 - 8 - 8) + 12 + c.val % 4; omega)
  split
  · exact v1020_apply arg2 arg11 arg12 arg13 arg14 arg15 arg16 arg17 X_arg2 X_arg11 X_arg12 X_arg13 X_arg14 k ⟨c.val / 4 - 8 - 8 - 8 - 8, by omega⟩ ⟨c.val % 4, by omega⟩ l _ (by show 32 * (c.val % 32 / 4) + 4 * (c.val / 32) + c.val % 4 = 32 * (c.val / 4 - 8 - 8 - 8 - 8) + 16 + c.val % 4; omega)
  split
  · exact v1022_apply arg2 arg11 arg12 arg13 arg14 arg15 arg16 arg17 X_arg2 X_arg11 X_arg12 X_arg13 X_arg14 k ⟨c.val / 4 - 8 - 8 - 8 - 8 - 8, by omega⟩ ⟨c.val % 4, by omega⟩ l _ (by show 32 * (c.val % 32 / 4) + 4 * (c.val / 32) + c.val % 4 = 32 * (c.val / 4 - 8 - 8 - 8 - 8 - 8) + 20 + c.val % 4; omega)
  split
  · exact v1024_apply arg2 arg11 arg12 arg13 arg14 arg15 arg16 arg17 X_arg2 X_arg11 X_arg12 X_arg13 X_arg14 k ⟨c.val / 4 - 8 - 8 - 8 - 8 - 8 - 8, by omega⟩ ⟨c.val % 4, by omega⟩ l _ (by show 32 * (c.val % 32 / 4) + 4 * (c.val / 32) + c.val % 4 = 32 * (c.val / 4 - 8 - 8 - 8 - 8 - 8 - 8) + 24 + c.val % 4; omega)
  · exact v1026_apply arg2 arg11 arg12 arg13 arg14 arg15 arg16 arg17 X_arg2 X_arg11 X_arg12 X_arg13 X_arg14 k ⟨c.val / 4 - 8 - 8 - 8 - 8 - 8 - 8 - 8, by omega⟩ ⟨c.val % 4, by omega⟩ l _ (by show 32 * (c.val % 32 / 4) + 4 * (c.val / 32) + c.val % 4 = 32 * (c.val / 4 - 8 - 8 - 8 - 8 - 8 - 8 - 8) + 28 + c.val % 4; omega)

/-- The tile of codes of block 1. -/
theorem codes_1 (z : Fin 1) (l : Fin 128) (c : Fin 256) :
    (k0_pay4 (trip_k0_t3.sl.r_146 (F := Ideal) arg2 arg11 arg12 arg13 arg14 arg15 arg16 arg17 X_arg2 X_arg11 X_arg12 X_arg13 X_arg14 k) : FVec Ideal S1x128x256 .fp8e4m3) (ix3 z l c) = ZZ (YT arg2 arg11 arg12 arg13 arg14 X_arg2 X_arg11 X_arg12 X_arg13 X_arg14 k 1) (rowOf c) l := by
  unfold trip_k0_t3.sl.r_146 trip_k0_t3.sl.r_141 trip_k0_t3.sl.r_142 trip_k0_t3.sl.r_143 trip_k0_t3.sl.r_144 trip_k0_t3.sl.r_145
  pointwise [k0_pay4, k0_pay319, k0_pay314, k0_pay315, k0_pay316, k0_pay317, k0_pay318]
  split
  · exact v1851_apply arg2 arg11 arg12 arg13 arg14 arg15 arg16 arg17 X_arg2 X_arg11 X_arg12 X_arg13 X_arg14 k ⟨c.val / 4, by omega⟩ ⟨c.val % 4, by omega⟩ l _ (by show 32 * (c.val % 32 / 4) + 4 * (c.val / 32) + c.val % 4 = 32 * (c.val / 4) + 0 + c.val % 4; omega)
  split
  · exact v1853_apply arg2 arg11 arg12 arg13 arg14 arg15 arg16 arg17 X_arg2 X_arg11 X_arg12 X_arg13 X_arg14 k ⟨c.val / 4 - 8, by omega⟩ ⟨c.val % 4, by omega⟩ l _ (by show 32 * (c.val % 32 / 4) + 4 * (c.val / 32) + c.val % 4 = 32 * (c.val / 4 - 8) + 4 + c.val % 4; omega)
  split
  · exact v1855_apply arg2 arg11 arg12 arg13 arg14 arg15 arg16 arg17 X_arg2 X_arg11 X_arg12 X_arg13 X_arg14 k ⟨c.val / 4 - 8 - 8, by omega⟩ ⟨c.val % 4, by omega⟩ l _ (by show 32 * (c.val % 32 / 4) + 4 * (c.val / 32) + c.val % 4 = 32 * (c.val / 4 - 8 - 8) + 8 + c.val % 4; omega)
  split
  · exact v1857_apply arg2 arg11 arg12 arg13 arg14 arg15 arg16 arg17 X_arg2 X_arg11 X_arg12 X_arg13 X_arg14 k ⟨c.val / 4 - 8 - 8 - 8, by omega⟩ ⟨c.val % 4, by omega⟩ l _ (by show 32 * (c.val % 32 / 4) + 4 * (c.val / 32) + c.val % 4 = 32 * (c.val / 4 - 8 - 8 - 8) + 12 + c.val % 4; omega)
  split
  · exact v1859_apply arg2 arg11 arg12 arg13 arg14 arg15 arg16 arg17 X_arg2 X_arg11 X_arg12 X_arg13 X_arg14 k ⟨c.val / 4 - 8 - 8 - 8 - 8, by omega⟩ ⟨c.val % 4, by omega⟩ l _ (by show 32 * (c.val % 32 / 4) + 4 * (c.val / 32) + c.val % 4 = 32 * (c.val / 4 - 8 - 8 - 8 - 8) + 16 + c.val % 4; omega)
  split
  · exact v1861_apply arg2 arg11 arg12 arg13 arg14 arg15 arg16 arg17 X_arg2 X_arg11 X_arg12 X_arg13 X_arg14 k ⟨c.val / 4 - 8 - 8 - 8 - 8 - 8, by omega⟩ ⟨c.val % 4, by omega⟩ l _ (by show 32 * (c.val % 32 / 4) + 4 * (c.val / 32) + c.val % 4 = 32 * (c.val / 4 - 8 - 8 - 8 - 8 - 8) + 20 + c.val % 4; omega)
  split
  · exact v1863_apply arg2 arg11 arg12 arg13 arg14 arg15 arg16 arg17 X_arg2 X_arg11 X_arg12 X_arg13 X_arg14 k ⟨c.val / 4 - 8 - 8 - 8 - 8 - 8 - 8, by omega⟩ ⟨c.val % 4, by omega⟩ l _ (by show 32 * (c.val % 32 / 4) + 4 * (c.val / 32) + c.val % 4 = 32 * (c.val / 4 - 8 - 8 - 8 - 8 - 8 - 8) + 24 + c.val % 4; omega)
  · exact v1865_apply arg2 arg11 arg12 arg13 arg14 arg15 arg16 arg17 X_arg2 X_arg11 X_arg12 X_arg13 X_arg14 k ⟨c.val / 4 - 8 - 8 - 8 - 8 - 8 - 8 - 8, by omega⟩ ⟨c.val % 4, by omega⟩ l _ (by show 32 * (c.val % 32 / 4) + 4 * (c.val / 32) + c.val % 4 = 32 * (c.val / 4 - 8 - 8 - 8 - 8 - 8 - 8 - 8) + 28 + c.val % 4; omega)

end

end Cert.KernelIdeal.Hand

end
-- ==== Proof.LoopT.lean ====
/- The loop over the twenty-seven tiles: what its pieces leave in the block of codes and in the scratch of exponents. -/
module

public import proofs.«01_k».proof.Proof.TripM
public import proofs.«01_k».proof.Proof.TripW
public import Idealize.ShloMosaic.Lib.Pipeline.Value
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec

/-- The code at an index of the block: row `y 0`, lane `y 1`, channel `y 2`. -/
def G7 (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (y : S2x128x6912.Idx) : EReal :=
  ZZ (YT arg2 arg11 arg12 arg13 arg14 X_arg2 X_arg11 X_arg12 X_arg13 X_arg14 ⟨(y 2).val / 256, by have h : (y 2).val < 6912 := (y 2).isLt; rw [trips3]; omega⟩ (y 0)) (rowOf ⟨(y 2).val % 256, by omega⟩) (y 1)

/-- The biased exponent at an index of the scratch: tile `y 0`, group `y 1`, lane `y 2` of the two rows side by side. -/
def G18 (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (y : S27x8x256.Idx) : BitVec 32 :=
  kbias (TT (YT arg2 arg11 arg12 arg13 arg14 X_arg2 X_arg11 X_arg12 X_arg13 X_arg14 (Fin.cast trips3.symm (y 0)) ⟨(y 2).val / 128, by have h : (y 2).val < 256 := (y 2).isLt; omega⟩) (y 1) ⟨(y 2).val % 128, by omega⟩)

/-- `G7` at the coordinates of a tile. -/
theorem G7_at (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips) (h : Fin 2) (l : Fin 128) (c : Fin 256) (y : S2x128x6912.Idx) (h0 : (y 0).val = h.val) (h1 : (y 1).val = l.val)
    (h2 : (y 2).val = 256 * k.val + c.val) : G7 arg2 arg11 arg12 arg13 arg14 X_arg2 X_arg11 X_arg12 X_arg13 X_arg14 y = ZZ (YT arg2 arg11 arg12 arg13 arg14 X_arg2 X_arg11 X_arg12 X_arg13 X_arg14 k h) (rowOf c) l := by
  have hc := c.isLt
  unfold G7
  have e0 : y 0 = h := Fin.ext h0
  have e1 : y 1 = l := Fin.ext h1
  have e2 : ∀ q, (⟨(y 2).val / 256, q⟩ : Fin k0_t3_loop.trips) = k := fun q => Fin.ext (by show (y 2).val / 256 = k.val; omega)
  have e3 : ∀ q, (⟨(y 2).val % 256, q⟩ : Fin 256) = c := fun q => Fin.ext (by show (y 2).val % 256 = c.val; omega)
  rw [e0, e1, e2, e3]

/-- `G18` at the coordinates of a tile. -/
theorem G18_at (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips) (h : Fin 2) (g : Fin 8) (l : Fin 128) (y : S27x8x256.Idx) (h0 : (y 0).val = k.val) (h1 : (y 1).val = g.val)
    (h2 : (y 2).val = 128 * h.val + l.val) : G18 arg2 arg11 arg12 arg13 arg14 X_arg2 X_arg11 X_arg12 X_arg13 X_arg14 y = kbias (TT (YT arg2 arg11 arg12 arg13 arg14 X_arg2 X_arg11 X_arg12 X_arg13 X_arg14 k h) g l) := by
  have hl := l.isLt
  unfold G18
  have e0 : Fin.cast trips3.symm (y 0) = k := Fin.ext h0
  have e1 : y 1 = g := Fin.ext h1
  have e2 : ∀ q, (⟨(y 2).val / 128, q⟩ : Fin 2) = h := fun q => Fin.ext (by show (y 2).val / 128 = h.val; omega)
  have e3 : ∀ q, (⟨(y 2).val % 128, q⟩ : Fin 128) = l := fun q => Fin.ext (by show (y 2).val % 128 = l.val; omega)
  rw [e0, e1, e2, e3]

/-- Where trip `k` stores the codes of row zero. -/
theorem off73_eq (k : Fin k0_t3_loop.trips) : k0_off73 k = ![0, 0, 256 * k.val] := by revert k; decide +kernel
/-- Where trip `k` stores the codes of row one. -/
theorem off75_eq (k : Fin k0_t3_loop.trips) : k0_off75 k = ![1, 0, 256 * k.val] := by revert k; decide +kernel
/-- Where trip `k` stores the exponents of row zero. -/
theorem off72_eq (k : Fin k0_t3_loop.trips) : k0_off72 k = ![k.val, 0, 0] := by revert k; decide +kernel
/-- Where trip `k` stores the exponents of row one. -/
theorem off74_eq (k : Fin k0_t3_loop.trips) : k0_off74 k = ![k.val, 0, 128] := by revert k; decide +kernel

/-- A piece of codes placed at trip `k`'s offsets agrees with `G7`. -/
theorem agree7 (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips) (h : Fin 2) (off : Fin 3 → ℕ) (ho : off = ![h.val, 0, 256 * k.val]) (inb) (p : FVec Ideal S1x128x256 .fp8e4m3)
    (hp : ∀ z l c, p (ix3 z l c) = ZZ (YT arg2 arg11 arg12 arg13 arg14 X_arg2 X_arg11 X_arg12 X_arg13 X_arg14 k h) (rowOf c) l) (x : S1x128x256.Idx) :
    p x = G7 arg2 arg11 arg12 arg13 arg14 X_arg2 X_arg11 X_arg12 X_arg13 X_arg14 ((Rect.unit (s := S2x128x6912) off ![1, 128, 256] inb).emb x) := by
  subst ho
  refine (congrArg p (eq_ix3 x)).trans ((hp _ _ _).trans ?_)
  symm
  apply G7_at
  · show h.val + 1 * (x 0).val = h.val
    have hx : (x 0).val < 1 := (x 0).isLt
    omega
  · show 0 + 1 * (x 1).val = (x 1).val
    omega
  · show 256 * k.val + 1 * (x 2).val = 256 * k.val + (x 2).val
    omega

/-- A piece of exponents placed at trip `k`'s offsets agrees with `G18`. -/
theorem agree18 (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips) (h : Fin 2) (off : Fin 3 → ℕ) (ho : off = ![k.val, 0, 128 * h.val]) (inb) (p : IVec S1x8x128 32)
    (hp : ∀ z g l, p (ix3 z g l) = kbias (TT (YT arg2 arg11 arg12 arg13 arg14 X_arg2 X_arg11 X_arg12 X_arg13 X_arg14 k h) g l)) (x : S1x8x128.Idx) :
    p x = G18 arg2 arg11 arg12 arg13 arg14 X_arg2 X_arg11 X_arg12 X_arg13 X_arg14 ((Rect.unit (s := S27x8x256) off ![1, 8, 128] inb).emb x) := by
  subst ho
  refine (congrArg p (eq_ix3 x)).trans ((hp _ _ _).trans ?_)
  symm
  apply G18_at
  · show k.val + 1 * (x 0).val = k.val
    have hx : (x 0).val < 1 := (x 0).isLt
    omega
  · show 0 + 1 * (x 1).val = (x 1).val
    omega
  · show 128 * h.val + 1 * (x 2).val = 128 * h.val + (x 2).val
    omega

/-- Trip `k`'s pieces of codes agree with `G7`. -/
theorem trip7 (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips) (f7 : BufTy.Contents (Elt Ideal) arg7.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) :
    ∀ p ∈ (tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 k f7 f15 f16 f17 f18).1, ∀ x, p.2 x = G7 arg2 arg11 arg12 arg13 arg14 X_arg2 X_arg11 X_arg12 X_arg13 X_arg14 (p.1.emb x) := by
  unfold tripL_k0_t3 trip_k0_t3
  dsimp only
  intro p hp
  simp only [List.mem_cons, List.not_mem_nil, or_false] at hp
  rcases hp with rfl | rfl
  · exact agree7 arg2 arg11 arg12 arg13 arg14 X_arg2 X_arg11 X_arg12 X_arg13 X_arg14 k 1 _ (off75_eq k) (k0_off75_inb k) _ (codes_1 arg2 arg11 arg12 arg13 arg14 arg15 arg16 arg17 X_arg2 X_arg11 X_arg12 X_arg13 X_arg14 k)
  · exact agree7 arg2 arg11 arg12 arg13 arg14 X_arg2 X_arg11 X_arg12 X_arg13 X_arg14 k 0 _ (off73_eq k) (k0_off73_inb k) _ (codes_0 arg2 arg11 arg12 arg13 arg14 arg15 arg16 arg17 X_arg2 X_arg11 X_arg12 X_arg13 X_arg14 k)

/-- Trip `k`'s pieces of exponents agree with `G18`. -/
theorem trip18 (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips) (f7 : BufTy.Contents (Elt Ideal) arg7.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) :
    ∀ p ∈ (tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 k f7 f15 f16 f17 f18).2.2.2.2, ∀ x, p.2 x = G18 arg2 arg11 arg12 arg13 arg14 X_arg2 X_arg11 X_arg12 X_arg13 X_arg14 (p.1.emb x) := by
  unfold tripL_k0_t3 trip_k0_t3
  dsimp only
  intro p hp
  simp only [List.mem_cons, List.not_mem_nil, or_false] at hp
  rcases hp with rfl | rfl
  · exact agree18 arg2 arg11 arg12 arg13 arg14 X_arg2 X_arg11 X_arg12 X_arg13 X_arg14 k 1 _ (off74_eq k) (k0_off74_inb k) _ (e_1 arg2 arg11 arg12 arg13 arg14 arg15 X_arg2 X_arg11 X_arg12 X_arg13 X_arg14 k)
  · exact agree18 arg2 arg11 arg12 arg13 arg14 X_arg2 X_arg11 X_arg12 X_arg13 X_arg14 k 0 _ (off72_eq k) (k0_off72_inb k) _ (e_0 arg2 arg11 arg12 arg13 arg14 arg15 X_arg2 X_arg11 X_arg12 X_arg13 X_arg14 k)

/-- Trip `k`'s pieces of codes cover tile `k`. -/
theorem cover7 (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips) (f7 : BufTy.Contents (Elt Ideal) arg7.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (y : S2x128x6912.Idx) (hy : (y 2).val / 256 = k.val) :
    ∃ p ∈ (tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 k f7 f15 f16 f17 f18).1, y ∈ p.1.set := by
  unfold tripL_k0_t3 trip_k0_t3
  dsimp only
  have h0 : (y 0).val < 2 := (y 0).isLt
  have h1 : (y 1).val < 128 := (y 1).isLt
  rcases (by omega : (y 0).val = 1 ∨ (y 0).val = 0) with h | h
  · refine ⟨_, List.mem_cons_self, ?_⟩
    refine (Rect.mem_set_unit (inb := k0_off75_inb k)).mpr ?_
    rw [off75_eq]
    intro d
    fin_cases d
    · show 1 ≤ (y 0).val ∧ (y 0).val < 1 + 1
      omega
    · show 0 ≤ (y 1).val ∧ (y 1).val < 0 + 128
      omega
    · show 256 * k.val ≤ (y 2).val ∧ (y 2).val < 256 * k.val + 256
      omega
  · refine ⟨_, List.mem_cons_of_mem _ List.mem_cons_self, ?_⟩
    refine (Rect.mem_set_unit (inb := k0_off73_inb k)).mpr ?_
    rw [off73_eq]
    intro d
    fin_cases d
    · show 0 ≤ (y 0).val ∧ (y 0).val < 0 + 1
      omega
    · show 0 ≤ (y 1).val ∧ (y 1).val < 0 + 128
      omega
    · show 256 * k.val ≤ (y 2).val ∧ (y 2).val < 256 * k.val + 256
      omega

/-- Trip `k`'s pieces of exponents cover tile `k`. -/
theorem cover18 (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (k : Fin k0_t3_loop.trips) (f7 : BufTy.Contents (Elt Ideal) arg7.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (y : S27x8x256.Idx) (hy : (y 0).val = k.val) :
    ∃ p ∈ (tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 k f7 f15 f16 f17 f18).2.2.2.2, y ∈ p.1.set := by
  unfold tripL_k0_t3 trip_k0_t3
  dsimp only
  have h1 : (y 1).val < 8 := (y 1).isLt
  have h2 : (y 2).val < 256 := (y 2).isLt
  rcases (by omega : 128 ≤ (y 2).val ∨ (y 2).val < 128) with h | h
  · refine ⟨_, List.mem_cons_self, ?_⟩
    refine (Rect.mem_set_unit (inb := k0_off74_inb k)).mpr ?_
    rw [off74_eq]
    intro d
    fin_cases d
    · show k.val ≤ (y 0).val ∧ (y 0).val < k.val + 1
      omega
    · show 0 ≤ (y 1).val ∧ (y 1).val < 0 + 8
      omega
    · show 128 ≤ (y 2).val ∧ (y 2).val < 128 + 128
      omega
  · refine ⟨_, List.mem_cons_of_mem _ List.mem_cons_self, ?_⟩
    refine (Rect.mem_set_unit (inb := k0_off72_inb k)).mpr ?_
    rw [off72_eq]
    intro d
    fin_cases d
    · show k.val ≤ (y 0).val ∧ (y 0).val < k.val + 1
      omega
    · show 0 ≤ (y 1).val ∧ (y 1).val < 0 + 8
      omega
    · show 0 ≤ (y 2).val ∧ (y 2).val < 0 + 128
      omega

/-- The pieces of the trips before `n` agree with `G7`. -/
theorem pieces7 (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (G_arg7 : BufTy.Contents (Elt Ideal) arg7.view.ty) (G_arg15 : BufTy.Contents (Elt Ideal) arg15.view.ty) (G_arg16 : BufTy.Contents (Elt Ideal) arg16.view.ty) (G_arg17 : BufTy.Contents (Elt Ideal) arg17.view.ty) (G_arg18 : BufTy.Contents (Elt Ideal) arg18.view.ty) : ∀ n, n ≤ k0_t3_loop.trips →
    ∀ p ∈ (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 n).1, ∀ x, p.2 x = G7 arg2 arg11 arg12 arg13 arg14 X_arg2 X_arg11 X_arg12 X_arg13 X_arg14 (p.1.emb x)
  | 0, _ => by
    intro p hp
    exact absurd hp List.not_mem_nil
  | n + 1, hn => by
    have ih := pieces7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 n (Nat.le_of_succ_le hn)
    rw [pb_k0_t3_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 ⟨n, hn⟩]
    intro p hp
    rcases List.mem_append.mp hp with hp | hp
    · exact trip7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 ⟨n, hn⟩ _ _ _ _ _ p hp
    · exact ih p hp

/-- The pieces of the trips before `n` cover the tiles before `n`. -/
theorem covers7 (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (G_arg7 : BufTy.Contents (Elt Ideal) arg7.view.ty) (G_arg15 : BufTy.Contents (Elt Ideal) arg15.view.ty) (G_arg16 : BufTy.Contents (Elt Ideal) arg16.view.ty) (G_arg17 : BufTy.Contents (Elt Ideal) arg17.view.ty) (G_arg18 : BufTy.Contents (Elt Ideal) arg18.view.ty) (y : S2x128x6912.Idx) : ∀ n, n ≤ k0_t3_loop.trips → (y 2).val / 256 < n →
    ∃ p ∈ (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 n).1, y ∈ p.1.set
  | 0, _, h => absurd h (Nat.not_lt_zero _)
  | n + 1, hn, h => by
    have ih := covers7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 y n (Nat.le_of_succ_le hn)
    rw [pb_k0_t3_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 ⟨n, hn⟩]
    rcases Nat.lt_succ_iff_lt_or_eq.mp h with h' | h'
    · obtain ⟨p, hp, hy⟩ := ih h'
      exact ⟨p, List.mem_append_right _ hp, hy⟩
    · obtain ⟨p, hp, hy⟩ := cover7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 ⟨n, hn⟩ _ _ _ _ _ y h'
      exact ⟨p, List.mem_append_left _ hp, hy⟩

/-- After the loop a buffer written by its pieces over any contents reads `G7`. -/
theorem loop7 (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (G_arg7 : BufTy.Contents (Elt Ideal) arg7.view.ty) (G_arg15 : BufTy.Contents (Elt Ideal) arg15.view.ty) (G_arg16 : BufTy.Contents (Elt Ideal) arg16.view.ty) (G_arg17 : BufTy.Contents (Elt Ideal) arg17.view.ty) (G_arg18 : BufTy.Contents (Elt Ideal) arg18.view.ty) (y : S2x128x6912.Idx) {κ : Kind} {sp : Space} (v : View sig κ sp S2x128x6912 .fp8e4m3) (f : v.ty.Contents (Elt Ideal)) :
    v.read (Elt Ideal) (v.writes (Elt Ideal) f (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 k0_t3_loop.trips).1) y = G7 arg2 arg11 arg12 arg13 arg14 X_arg2 X_arg11 X_arg12 X_arg13 X_arg14 y := by
  have hc := covers7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 y _ le_rfl (by rw [trips3]; have h : (y 2).val < 6912 := (y 2).isLt; omega)
  rw [View.read_writes_apply_eq_canon v f y _ hc]
  exact View.canon_apply_of_pieces (G7 arg2 arg11 arg12 arg13 arg14 X_arg2 X_arg11 X_arg12 X_arg13 X_arg14) _ (pieces7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 _ le_rfl) y hc

/-- The pieces of the trips before `n` agree with `G18`. -/
theorem pieces18 (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (G_arg7 : BufTy.Contents (Elt Ideal) arg7.view.ty) (G_arg15 : BufTy.Contents (Elt Ideal) arg15.view.ty) (G_arg16 : BufTy.Contents (Elt Ideal) arg16.view.ty) (G_arg17 : BufTy.Contents (Elt Ideal) arg17.view.ty) (G_arg18 : BufTy.Contents (Elt Ideal) arg18.view.ty) : ∀ n, n ≤ k0_t3_loop.trips →
    ∀ p ∈ (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 n).2.2.2.2, ∀ x, p.2 x = G18 arg2 arg11 arg12 arg13 arg14 X_arg2 X_arg11 X_arg12 X_arg13 X_arg14 (p.1.emb x)
  | 0, _ => by
    intro p hp
    exact absurd hp List.not_mem_nil
  | n + 1, hn => by
    have ih := pieces18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 n (Nat.le_of_succ_le hn)
    rw [pb_k0_t3_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 ⟨n, hn⟩]
    intro p hp
    rcases List.mem_append.mp hp with hp | hp
    · exact trip18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 ⟨n, hn⟩ _ _ _ _ _ p hp
    · exact ih p hp

/-- The pieces of the trips before `n` cover the tiles before `n`. -/
theorem covers18 (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (G_arg7 : BufTy.Contents (Elt Ideal) arg7.view.ty) (G_arg15 : BufTy.Contents (Elt Ideal) arg15.view.ty) (G_arg16 : BufTy.Contents (Elt Ideal) arg16.view.ty) (G_arg17 : BufTy.Contents (Elt Ideal) arg17.view.ty) (G_arg18 : BufTy.Contents (Elt Ideal) arg18.view.ty) (y : S27x8x256.Idx) : ∀ n, n ≤ k0_t3_loop.trips → (y 0).val < n →
    ∃ p ∈ (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 n).2.2.2.2, y ∈ p.1.set
  | 0, _, h => absurd h (Nat.not_lt_zero _)
  | n + 1, hn, h => by
    have ih := covers18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 y n (Nat.le_of_succ_le hn)
    rw [pb_k0_t3_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 ⟨n, hn⟩]
    rcases Nat.lt_succ_iff_lt_or_eq.mp h with h' | h'
    · obtain ⟨p, hp, hy⟩ := ih h'
      exact ⟨p, List.mem_append_right _ hp, hy⟩
    · obtain ⟨p, hp, hy⟩ := cover18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 ⟨n, hn⟩ _ _ _ _ _ y h'
      exact ⟨p, List.mem_append_left _ hp, hy⟩

/-- After the loop a buffer written by its pieces over any contents reads `G18`. -/
theorem loop18 (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X_arg2 : arg2.view.ty.Contents (Elt Ideal)) (X_arg11 : arg11.view.ty.Contents (Elt Ideal)) (X_arg12 : arg12.view.ty.Contents (Elt Ideal)) (X_arg13 : arg13.view.ty.Contents (Elt Ideal)) (X_arg14 : arg14.view.ty.Contents (Elt Ideal)) (G_arg7 : BufTy.Contents (Elt Ideal) arg7.view.ty) (G_arg15 : BufTy.Contents (Elt Ideal) arg15.view.ty) (G_arg16 : BufTy.Contents (Elt Ideal) arg16.view.ty) (G_arg17 : BufTy.Contents (Elt Ideal) arg17.view.ty) (G_arg18 : BufTy.Contents (Elt Ideal) arg18.view.ty) (y : S27x8x256.Idx) {κ : Kind} {sp : Space} (v : View sig κ sp S27x8x256 .i32) (f : v.ty.Contents (Elt Ideal)) :
    v.read (Elt Ideal) (v.writes (Elt Ideal) f (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 k0_t3_loop.trips).2.2.2.2) y = G18 arg2 arg11 arg12 arg13 arg14 X_arg2 X_arg11 X_arg12 X_arg13 X_arg14 y := by
  have hc := covers18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 y _ le_rfl (by rw [trips3]; have h : (y 0).val < 27 := (y 0).isLt; omega)
  rw [View.read_writes_apply_eq_canon v f y _ hc]
  exact View.canon_apply_of_pieces (G18 arg2 arg11 arg12 arg13 arg14 X_arg2 X_arg11 X_arg12 X_arg13 X_arg14) _ (pieces18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 X_arg11 X_arg12 X_arg13 X_arg14 G_arg7 G_arg15 G_arg16 G_arg17 G_arg18 _ le_rfl) y hc

end Cert.KernelIdeal.Hand

end
-- ==== Proof.Perm.lean ====
/- The permutation of a tile's channels: its matrix of zeros and ones, and the products with it. -/
module

public import proofs.«01_k».proof.Proof.TripY
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The channel of a tile that row `r` of the permuted tile holds. -/
def chan (r : Fin 256) : Fin 256 := ⟨64 * (r.val / 8 % 4) + 32 * (r.val / 4 % 2) + 4 * (r.val / 32) + r.val % 4, by omega⟩

/-- The kernel's bit arithmetic on the row number gives `chan`. -/
theorem chan_bits (r : Fin 256) : IntOp.addi (IntOp.addi (IntOp.addi (IntOp.muli (IntOp.andi (IntOp.shrsi .vector (BitVec.ofNat 32 r.val) 3#32) 3#32) 64#32)
    (IntOp.muli (IntOp.andi (IntOp.shrsi .vector (BitVec.ofNat 32 r.val) 2#32) 1#32) 32#32)) (IntOp.muli (IntOp.shrsi .vector (BitVec.ofNat 32 r.val) 5#32) 4#32))
    (IntOp.andi (BitVec.ofNat 32 r.val) 3#32) = BitVec.ofNat 32 (chan r).val := by
  revert r; decide +kernel

/-- The permutation matrix at an index. -/
theorem perm_apply (r c : Fin 256) : k0_pay320 (F := Ideal) (ix2 r c) = if c = chan r then (1 : EReal) else 0 := by
  pointwise [k0_pay320]
  rw [chan_bits]
  by_cases h : c = chan r
  · rw [if_pos h, h]
    simp [Scalar.select, IntOp.cmpi]
  · rw [if_neg h]
    have hne : BitVec.ofNat 32 (chan r).val ≠ BitVec.ofNat 32 c.val := by
      intro e
      have e' := congrArg BitVec.toNat e
      have h1 := (chan r).isLt
      have h2 := c.isLt
      rw [BitVec.toNat_ofNat, BitVec.toNat_ofNat, Nat.mod_eq_of_lt (by omega), Nat.mod_eq_of_lt (by omega)] at e'
      exact h (Fin.ext e'.symm)
    simp [Scalar.select, IntOp.cmpi, beq_eq_false_iff_ne.mpr hne]

/-- A product with a matrix at an index. -/
theorem pay144_apply (p : FVec Ideal S256x256 .bf16) (x : FVec Ideal S2x128x256 .bf16) (r : Fin 256) (n : Fin 256) :
    k0_pay144 (F := Ideal) p x (ix2 r n) = ∑ c : Fin 256, (p (ix2 r c) : EReal) * (x (ix3 ⟨n.val / 128, by omega⟩ ⟨n.val % 128, by omega⟩ c) : EReal) := by
  pointwise [k0_pay144]

/-- The sum of a row of the permutation matrix times a vector picks the entry the row moves. -/
theorem perm_sum (r : Fin 256) (f : Fin 256 → EReal) : ∑ c : Fin 256, (k0_pay320 (F := Ideal) (ix2 r c) : EReal) * f c = f (chan r) := by
  rw [Finset.sum_eq_single (chan r)]
  · rw [perm_apply, if_pos rfl, one_mul]
  · intro c _ hc
    rw [perm_apply, if_neg hc, zero_mul]
  · intro h
    exact absurd (Finset.mem_univ _) h

/-- Where trip `k` of the loop over tiles loads its tile. -/
theorem off39_eq (k : Fin k0_t3_loop.trips) : k0_off39 k = ![0, 0, 256 * k.val] := by revert k; decide +kernel

/-- The permuted tile: row `r` of column `(h, l)` is the tile's channel `chan r` of row `h`, lane `l`. -/
theorem perm_tile (arg2 : Memref sig .tc .vmem S2x128x6912 .bf16) (arg11 : Memref sig .tc .vmem S256x256 .bf16) (X_arg2 : arg2.view.ty.Contents (Elt Ideal)) (X_arg11 : arg11.view.ty.Contents (Elt Ideal))
    (hp : arg11.view.read (Elt Ideal) X_arg11 = k0_pay320 (F := Ideal)) (k : Fin k0_t3_loop.trips) (r : Fin 256) (h : Fin 2) (l : Fin 128) (n : Fin 256) (hn : n.val = 128 * h.val + l.val)
    (j : Fin 6912) (hj : j.val = 256 * k.val + (chan r).val) :
    trip_k0_t3.sl.r (F := Ideal) arg2 arg11 X_arg2 X_arg11 k (ix2 r n) = arg2.view.read (Elt Ideal) X_arg2 (ix3 h l j) := by
  unfold trip_k0_t3.sl.r
  rw [pay144_apply]
  have e : ∀ c, View.readAt (Elt Ideal) arg11.view (Rect.unit ![0, 0] S256x256.size inb_S256x256_S256x256_0_0).toLoadRect X_arg11 (ix2 r c) = k0_pay320 (F := Ideal) (ix2 r c) := by
    intro c
    rw [← hp]
    refine congrArg (arg11.view.read (Elt Ideal) X_arg11) ?_
    funext d
    fin_cases d
    · exact Fin.ext (by show 0 + 1 * r.val = r.val; omega)
    · exact Fin.ext (by show 0 + 1 * c.val = c.val; omega)
  simp only [e]
  refine (perm_sum r _).trans ?_
  refine congrArg (arg2.view.read (Elt Ideal) X_arg2) ?_
  have hl := l.isLt
  have o0 : k0_off39 k 0 = 0 := by rw [off39_eq]; rfl
  have o1 : k0_off39 k 1 = 0 := by rw [off39_eq]; rfl
  have o2 : k0_off39 k 2 = 256 * k.val := by rw [off39_eq]; rfl
  funext d
  fin_cases d
  · exact Fin.ext (by show k0_off39 k 0 + 1 * (n.val / 128) = h.val; omega)
  · exact Fin.ext (by show k0_off39 k 1 + 1 * (n.val % 128) = l.val; omega)
  · exact Fin.ext (by show k0_off39 k 2 + 1 * (chan r).val = j.val; omega)

end Cert.KernelIdeal.Hand

end
-- ==== Proof.Fill.lean ====
/- The loop that lays out the scale and the shift: row `r` of tile `k` holds the entry of channel `256 * k + chan r`. -/
module

public import proofs.«01_k».proof.Proof.Perm
public import Idealize.ShloMosaic.Lib.Pipeline.Value
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The loop makes twenty-seven trips. -/
theorem trips1 : k0_t1_loop.trips = 27 := by decide +kernel

/-- A slot of eight rows at an even place: its lower half from one slice, its upper half from another, turned by four. -/
theorem even_apply (T : FVec Ideal S256x128 .f32) (o p : ℕ) (hi) (hs : S256x128.Slices ![o, 0] S8x128) (hp : S256x128.Slices ![p, 0] S8x128) (hr) (hc) (z : Fin 1) (s : Fin 8) (l : Fin 128) (c : Fin 256)
    (h : c.val = if s.val < 4 then o + s.val else p + (s.val - 4)) :
    shapeCast S1x8x128 (select (cmpi .slt (iota .tc S8x128 32 [0] hi) (broadcast S8x128 4#32)) (extractStridedSlice S8x128 ![o, 0] T hs) (dynamicRotate 0 4#32 none (extractStridedSlice S8x128 ![p, 0] T hp) hr)) hc (ix3 z s l) = T (ix2 c l) := by
  pointwise []
  fin_cases s
  all_goals first | (refine congrArg T (congrArg (fun q => ix2 q l) (Fin.ext ?_)); symm; exact h) | skip

/-- A slot of eight rows at an odd place. -/
theorem odd_apply (T : FVec Ideal S256x128 .f32) (o p : ℕ) (hi) (hs : S256x128.Slices ![o, 0] S8x128) (hp : S256x128.Slices ![p, 0] S8x128) (hr) (hc) (z : Fin 1) (s : Fin 8) (l : Fin 128) (c : Fin 256)
    (h : c.val = if s.val < 4 then o + (s.val + 4) else p + s.val) :
    shapeCast S1x8x128 (select (cmpi .slt (iota .tc S8x128 32 [0] hi) (broadcast S8x128 4#32)) (dynamicRotate 0 4#32 none (extractStridedSlice S8x128 ![o, 0] T hs) hr) (extractStridedSlice S8x128 ![p, 0] T hp)) hc (ix3 z s l) = T (ix2 c l) := by
  pointwise []
  fin_cases s
  all_goals first | (refine congrArg T (congrArg (fun q => ix2 q l) (Fin.ext ?_)); symm; exact h) | skip

/-- The laid out vector at an index: tile `y 0`, row `y 1`; the lane does not matter. -/
def GF (X : S1x6912.Idx → EReal) (y : S27x256x128.Idx) : EReal :=
  X (ix2 0 ⟨256 * (y 0).val + (chan (y 1)).val, by
    have h0 : (y 0).val < 27 := (y 0).isLt
    have h1 : (chan (y 1)).val < 256 := (chan (y 1)).isLt
    show 256 * (y 0).val + (chan (y 1)).val < 6912
    omega⟩)

/-- `GF` at the coordinates of a tile. -/
theorem GF_at (X : S1x6912.Idx → EReal) (k : Fin k0_t1_loop.trips) (r : Fin 256) (j : Fin 6912) (hj : j.val = 256 * k.val + (chan r).val) (y : S27x256x128.Idx) (h0 : (y 0).val = k.val) (h1 : (y 1).val = r.val) : GF X y = X (ix2 0 j) := by
  have e1 : y 1 = r := Fin.ext h1
  unfold GF
  refine congrArg X (congrArg (fun q => ix2 0 q) (Fin.ext ?_))
  show 256 * (y 0).val + (chan (y 1)).val = j.val
  rw [e1, h0, hj]

/-- An even slot placed at its offsets agrees with `GF`. -/
theorem even_agree (T : FVec Ideal S256x128 .f32) (X : S1x6912.Idx → EReal) (k : Fin k0_t1_loop.trips) (hT : ∀ c l j, (j : Fin 6912).val = 256 * k.val + (c : Fin 256).val → T (ix2 c l) = X (ix2 0 j))
    (v o p : ℕ) (hv : v < 32 ∧ v / 4 % 2 = 0 ∧ o = 64 * (v % 4) + 4 * (v / 4) ∧ p = o + 32) (off : Fin 3 → ℕ) (ho : off = ![k.val, 8 * v, 0]) (inb) (hi) (hs : S256x128.Slices ![o, 0] S8x128) (hp : S256x128.Slices ![p, 0] S8x128) (hr) (hc) (x : S1x8x128.Idx) :
    shapeCast S1x8x128 (select (cmpi .slt (iota .tc S8x128 32 [0] hi) (broadcast S8x128 4#32)) (extractStridedSlice S8x128 ![o, 0] T hs) (dynamicRotate 0 4#32 none (extractStridedSlice S8x128 ![p, 0] T hp) hr)) hc x
      = GF X ((Rect.unit (s := S27x256x128) off ![1, 8, 128] inb).emb x) := by
  subst ho
  have hk := k.isLt
  have ht := trips1
  have hx0 : (x 0).val < 1 := (x 0).isLt
  have hx : (x 1).val < 8 := (x 1).isLt
  have hr' : 8 * v + (x 1).val < 256 := by omega
  have hch : (chan ⟨8 * v + (x 1).val, hr'⟩).val = if (x 1).val < 4 then o + (x 1).val else p + ((x 1).val - 4) := by
    show 64 * ((8 * v + (x 1).val) / 8 % 4) + 32 * ((8 * v + (x 1).val) / 4 % 2) + 4 * ((8 * v + (x 1).val) / 32) + (8 * v + (x 1).val) % 4 = _
    split_ifs <;> omega
  have hb := (chan ⟨8 * v + (x 1).val, hr'⟩).isLt
  have hj : 256 * k.val + (chan ⟨8 * v + (x 1).val, hr'⟩).val < 6912 := by omega
  refine (congrArg _ (eq_ix3 x)).trans ((even_apply T o p hi hs hp hr hc _ _ _ _ hch).trans ((hT _ _ ⟨_, hj⟩ rfl).trans ?_))
  symm
  apply GF_at X k ⟨8 * v + (x 1).val, hr'⟩ _ rfl
  · show k.val + 1 * (x 0).val = k.val
    omega
  · show 8 * v + 1 * (x 1).val = 8 * v + (x 1).val
    omega

/-- An odd slot placed at its offsets agrees with `GF`. -/
theorem odd_agree (T : FVec Ideal S256x128 .f32) (X : S1x6912.Idx → EReal) (k : Fin k0_t1_loop.trips) (hT : ∀ c l j, (j : Fin 6912).val = 256 * k.val + (c : Fin 256).val → T (ix2 c l) = X (ix2 0 j))
    (v o p : ℕ) (hv : v < 32 ∧ v / 4 % 2 = 1 ∧ o + 4 = 64 * (v % 4) + 4 * (v / 4) ∧ p = o + 32) (off : Fin 3 → ℕ) (ho : off = ![k.val, 8 * v, 0]) (inb) (hi) (hs : S256x128.Slices ![o, 0] S8x128) (hp : S256x128.Slices ![p, 0] S8x128) (hr) (hc) (x : S1x8x128.Idx) :
    shapeCast S1x8x128 (select (cmpi .slt (iota .tc S8x128 32 [0] hi) (broadcast S8x128 4#32)) (dynamicRotate 0 4#32 none (extractStridedSlice S8x128 ![o, 0] T hs) hr) (extractStridedSlice S8x128 ![p, 0] T hp)) hc x
      = GF X ((Rect.unit (s := S27x256x128) off ![1, 8, 128] inb).emb x) := by
  subst ho
  have hk := k.isLt
  have ht := trips1
  have hx0 : (x 0).val < 1 := (x 0).isLt
  have hx : (x 1).val < 8 := (x 1).isLt
  have hr' : 8 * v + (x 1).val < 256 := by omega
  have hch : (chan ⟨8 * v + (x 1).val, hr'⟩).val = if (x 1).val < 4 then o + ((x 1).val + 4) else p + (x 1).val := by
    show 64 * ((8 * v + (x 1).val) / 8 % 4) + 32 * ((8 * v + (x 1).val) / 4 % 2) + 4 * ((8 * v + (x 1).val) / 32) + (8 * v + (x 1).val) % 4 = _
    split_ifs <;> omega
  have hb := (chan ⟨8 * v + (x 1).val, hr'⟩).isLt
  have hj : 256 * k.val + (chan ⟨8 * v + (x 1).val, hr'⟩).val < 6912 := by omega
  refine (congrArg _ (eq_ix3 x)).trans ((odd_apply T o p hi hs hp hr hc _ _ _ _ hch).trans ((hT _ _ ⟨_, hj⟩ rfl).trans ?_))
  symm
  apply GF_at X k ⟨8 * v + (x 1).val, hr'⟩ _ rfl
  · show k.val + 1 * (x 0).val = k.val
    omega
  · show 8 * v + 1 * (x 1).val = 8 * v + (x 1).val
    omega

/-- A slot placed at its offsets covers its eight rows. -/
theorem slot_cover (k : Fin k0_t1_loop.trips) (v : ℕ) (off : Fin 3 → ℕ) (ho : off = ![k.val, 8 * v, 0]) (inb) (y : S27x256x128.Idx) (h0 : (y 0).val = k.val) (h1 : (y 1).val / 8 = v) :
    y ∈ (Rect.unit (s := S27x256x128) off ![1, 8, 128] inb).set := by
  subst ho
  refine Rect.mem_set_unit.mpr ?_
  have h2 : (y 2).val < 128 := (y 2).isLt
  intro d
  fin_cases d
  · show k.val ≤ (y 0).val ∧ (y 0).val < k.val + 1
    omega
  · show 8 * v ≤ (y 1).val ∧ (y 1).val < 8 * v + 8
    omega
  · show 0 ≤ (y 2).val ∧ (y 2).val < 0 + 128
    omega

/-- Where trip `k` reads its 256 entries. -/
theorem off1_eq (k : Fin k0_t1_loop.trips) : k0_off1 k = ![0, 256 * k.val] := by revert k; decide +kernel

/-- The transposed broadcast of the 256 entries of trip `k`. -/
theorem src_g (i : grid0.Coords) (arg5 : Memref sig .tc .vmem S1x6912 .f32) (k0_h1 : k0_cond1 i = 1#1) (X_arg5 : arg5.view.ty.Contents (Elt Ideal)) (k : Fin k0_t1_loop.trips) (c : Fin 256) (l : Fin 128) (j : Fin 6912) (hj : j.val = 256 * k.val + c.val) :
    trip_k0_t1.sl.v229 (F := Ideal) i arg5 k0_h1 X_arg5 k (ix2 c l) = arg5.view.read (Elt Ideal) X_arg5 (ix2 0 j) := by
  unfold trip_k0_t1.sl.v229 trip_k0_t1.sl.v228 trip_k0_t1.sl.v227 trip_k0_t1.sl.v226
  pointwise []
  unfold View.readAt
  refine congrArg _ ?_
  funext d
  fin_cases d
  · apply Fin.ext
    show (k0_off1 k) 0 + 1 * 0 = 0
    rw [off1_eq]
    rfl
  · apply Fin.ext
    show (k0_off1 k) 1 + 1 * c.val = j.val
    rw [off1_eq, hj]
    show 256 * k.val + 1 * c.val = _
    omega

/-- The transposed broadcast of the 256 entries of trip `k`. -/
theorem src_b (i : grid0.Coords) (arg6 : Memref sig .tc .vmem S1x6912 .f32) (k0_h1 : k0_cond1 i = 1#1) (X_arg6 : arg6.view.ty.Contents (Elt Ideal)) (k : Fin k0_t1_loop.trips) (c : Fin 256) (l : Fin 128) (j : Fin 6912) (hj : j.val = 256 * k.val + c.val) :
    trip_k0_t1.sl.v463 (F := Ideal) i arg6 k0_h1 X_arg6 k (ix2 c l) = arg6.view.read (Elt Ideal) X_arg6 (ix2 0 j) := by
  unfold trip_k0_t1.sl.v463 trip_k0_t1.sl.v462 trip_k0_t1.sl.v461 trip_k0_t1.sl.v460
  pointwise []
  unfold View.readAt
  refine congrArg _ ?_
  funext d
  fin_cases d
  · apply Fin.ext
    show (k0_off1 k) 0 + 1 * 0 = 0
    rw [off1_eq]
    rfl
  · apply Fin.ext
    show (k0_off1 k) 1 + 1 * c.val = j.val
    rw [off1_eq, hj]
    show 256 * k.val + 1 * c.val = _
    omega
/-- The slab a trip of the filling loop writes. -/
theorem off2_eq (k : Fin k0_t1_loop.trips) : k0_off2 k = ![k.val, 8 * 0, 0] := by revert k; decide +kernel
/-- The slab a trip of the filling loop writes. -/
theorem off3_eq (k : Fin k0_t1_loop.trips) : k0_off3 k = ![k.val, 8 * 4, 0] := by revert k; decide +kernel
/-- The slab a trip of the filling loop writes. -/
theorem off4_eq (k : Fin k0_t1_loop.trips) : k0_off4 k = ![k.val, 8 * 8, 0] := by revert k; decide +kernel
/-- The slab a trip of the filling loop writes. -/
theorem off5_eq (k : Fin k0_t1_loop.trips) : k0_off5 k = ![k.val, 8 * 12, 0] := by revert k; decide +kernel
/-- The slab a trip of the filling loop writes. -/
theorem off6_eq (k : Fin k0_t1_loop.trips) : k0_off6 k = ![k.val, 8 * 16, 0] := by revert k; decide +kernel
/-- The slab a trip of the filling loop writes. -/
theorem off7_eq (k : Fin k0_t1_loop.trips) : k0_off7 k = ![k.val, 8 * 20, 0] := by revert k; decide +kernel
/-- The slab a trip of the filling loop writes. -/
theorem off8_eq (k : Fin k0_t1_loop.trips) : k0_off8 k = ![k.val, 8 * 24, 0] := by revert k; decide +kernel
/-- The slab a trip of the filling loop writes. -/
theorem off9_eq (k : Fin k0_t1_loop.trips) : k0_off9 k = ![k.val, 8 * 28, 0] := by revert k; decide +kernel
/-- The slab a trip of the filling loop writes. -/
theorem off10_eq (k : Fin k0_t1_loop.trips) : k0_off10 k = ![k.val, 8 * 1, 0] := by revert k; decide +kernel
/-- The slab a trip of the filling loop writes. -/
theorem off11_eq (k : Fin k0_t1_loop.trips) : k0_off11 k = ![k.val, 8 * 5, 0] := by revert k; decide +kernel
/-- The slab a trip of the filling loop writes. -/
theorem off12_eq (k : Fin k0_t1_loop.trips) : k0_off12 k = ![k.val, 8 * 9, 0] := by revert k; decide +kernel
/-- The slab a trip of the filling loop writes. -/
theorem off13_eq (k : Fin k0_t1_loop.trips) : k0_off13 k = ![k.val, 8 * 13, 0] := by revert k; decide +kernel
/-- The slab a trip of the filling loop writes. -/
theorem off14_eq (k : Fin k0_t1_loop.trips) : k0_off14 k = ![k.val, 8 * 17, 0] := by revert k; decide +kernel
/-- The slab a trip of the filling loop writes. -/
theorem off15_eq (k : Fin k0_t1_loop.trips) : k0_off15 k = ![k.val, 8 * 21, 0] := by revert k; decide +kernel
/-- The slab a trip of the filling loop writes. -/
theorem off16_eq (k : Fin k0_t1_loop.trips) : k0_off16 k = ![k.val, 8 * 25, 0] := by revert k; decide +kernel
/-- The slab a trip of the filling loop writes. -/
theorem off17_eq (k : Fin k0_t1_loop.trips) : k0_off17 k = ![k.val, 8 * 29, 0] := by revert k; decide +kernel
/-- The slab a trip of the filling loop writes. -/
theorem off18_eq (k : Fin k0_t1_loop.trips) : k0_off18 k = ![k.val, 8 * 2, 0] := by revert k; decide +kernel
/-- The slab a trip of the filling loop writes. -/
theorem off19_eq (k : Fin k0_t1_loop.trips) : k0_off19 k = ![k.val, 8 * 6, 0] := by revert k; decide +kernel
/-- The slab a trip of the filling loop writes. -/
theorem off20_eq (k : Fin k0_t1_loop.trips) : k0_off20 k = ![k.val, 8 * 10, 0] := by revert k; decide +kernel
/-- The slab a trip of the filling loop writes. -/
theorem off21_eq (k : Fin k0_t1_loop.trips) : k0_off21 k = ![k.val, 8 * 14, 0] := by revert k; decide +kernel
/-- The slab a trip of the filling loop writes. -/
theorem off22_eq (k : Fin k0_t1_loop.trips) : k0_off22 k = ![k.val, 8 * 18, 0] := by revert k; decide +kernel
/-- The slab a trip of the filling loop writes. -/
theorem off23_eq (k : Fin k0_t1_loop.trips) : k0_off23 k = ![k.val, 8 * 22, 0] := by revert k; decide +kernel
/-- The slab a trip of the filling loop writes. -/
theorem off24_eq (k : Fin k0_t1_loop.trips) : k0_off24 k = ![k.val, 8 * 26, 0] := by revert k; decide +kernel
/-- The slab a trip of the filling loop writes. -/
theorem off25_eq (k : Fin k0_t1_loop.trips) : k0_off25 k = ![k.val, 8 * 30, 0] := by revert k; decide +kernel
/-- The slab a trip of the filling loop writes. -/
theorem off26_eq (k : Fin k0_t1_loop.trips) : k0_off26 k = ![k.val, 8 * 3, 0] := by revert k; decide +kernel
/-- The slab a trip of the filling loop writes. -/
theorem off27_eq (k : Fin k0_t1_loop.trips) : k0_off27 k = ![k.val, 8 * 7, 0] := by revert k; decide +kernel
/-- The slab a trip of the filling loop writes. -/
theorem off28_eq (k : Fin k0_t1_loop.trips) : k0_off28 k = ![k.val, 8 * 11, 0] := by revert k; decide +kernel
/-- The slab a trip of the filling loop writes. -/
theorem off29_eq (k : Fin k0_t1_loop.trips) : k0_off29 k = ![k.val, 8 * 15, 0] := by revert k; decide +kernel
/-- The slab a trip of the filling loop writes. -/
theorem off30_eq (k : Fin k0_t1_loop.trips) : k0_off30 k = ![k.val, 8 * 19, 0] := by revert k; decide +kernel
/-- The slab a trip of the filling loop writes. -/
theorem off31_eq (k : Fin k0_t1_loop.trips) : k0_off31 k = ![k.val, 8 * 23, 0] := by revert k; decide +kernel
/-- The slab a trip of the filling loop writes. -/
theorem off32_eq (k : Fin k0_t1_loop.trips) : k0_off32 k = ![k.val, 8 * 27, 0] := by revert k; decide +kernel
/-- The slab a trip of the filling loop writes. -/
theorem off33_eq (k : Fin k0_t1_loop.trips) : k0_off33 k = ![k.val, 8 * 31, 0] := by revert k; decide +kernel

/-- Trip `k`'s pieces agree with the laid out vector. -/
theorem tripF_g (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (k0_h1 : k0_cond1 i = 1#1) (X_arg5 : arg5.view.ty.Contents (Elt Ideal)) (X_arg6 : arg6.view.ty.Contents (Elt Ideal)) (k : Fin k0_t1_loop.trips) : ∀ p ∈ (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 k).1, ∀ x, p.2 x = GF (arg5.view.read (Elt Ideal) X_arg5) (p.1.emb x) := by
  have hT := src_g i arg5 k0_h1 X_arg5 k
  unfold tripL_k0_t1 trip_k0_t1
  dsimp only
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact odd_agree (trip_k0_t1.sl.v229 (F := Ideal) i arg5 k0_h1 X_arg5 k) _ k hT 31 216 248 (by decide) _ (off33_eq k) (k0_off33_inb i k k0_h1) _ _ _ _ _
  · exact even_agree (trip_k0_t1.sl.v229 (F := Ideal) i arg5 k0_h1 X_arg5 k) _ k hT 27 216 248 (by decide) _ (off32_eq k) (k0_off32_inb i k k0_h1) _ _ _ _ _
  · exact odd_agree (trip_k0_t1.sl.v229 (F := Ideal) i arg5 k0_h1 X_arg5 k) _ k hT 23 208 240 (by decide) _ (off31_eq k) (k0_off31_inb i k k0_h1) _ _ _ _ _
  · exact even_agree (trip_k0_t1.sl.v229 (F := Ideal) i arg5 k0_h1 X_arg5 k) _ k hT 19 208 240 (by decide) _ (off30_eq k) (k0_off30_inb i k k0_h1) _ _ _ _ _
  · exact odd_agree (trip_k0_t1.sl.v229 (F := Ideal) i arg5 k0_h1 X_arg5 k) _ k hT 15 200 232 (by decide) _ (off29_eq k) (k0_off29_inb i k k0_h1) _ _ _ _ _
  · exact even_agree (trip_k0_t1.sl.v229 (F := Ideal) i arg5 k0_h1 X_arg5 k) _ k hT 11 200 232 (by decide) _ (off28_eq k) (k0_off28_inb i k k0_h1) _ _ _ _ _
  · exact odd_agree (trip_k0_t1.sl.v229 (F := Ideal) i arg5 k0_h1 X_arg5 k) _ k hT 7 192 224 (by decide) _ (off27_eq k) (k0_off27_inb i k k0_h1) _ _ _ _ _
  · exact even_agree (trip_k0_t1.sl.v229 (F := Ideal) i arg5 k0_h1 X_arg5 k) _ k hT 3 192 224 (by decide) _ (off26_eq k) (k0_off26_inb i k k0_h1) _ _ _ _ _
  · exact odd_agree (trip_k0_t1.sl.v229 (F := Ideal) i arg5 k0_h1 X_arg5 k) _ k hT 30 152 184 (by decide) _ (off25_eq k) (k0_off25_inb i k k0_h1) _ _ _ _ _
  · exact even_agree (trip_k0_t1.sl.v229 (F := Ideal) i arg5 k0_h1 X_arg5 k) _ k hT 26 152 184 (by decide) _ (off24_eq k) (k0_off24_inb i k k0_h1) _ _ _ _ _
  · exact odd_agree (trip_k0_t1.sl.v229 (F := Ideal) i arg5 k0_h1 X_arg5 k) _ k hT 22 144 176 (by decide) _ (off23_eq k) (k0_off23_inb i k k0_h1) _ _ _ _ _
  · exact even_agree (trip_k0_t1.sl.v229 (F := Ideal) i arg5 k0_h1 X_arg5 k) _ k hT 18 144 176 (by decide) _ (off22_eq k) (k0_off22_inb i k k0_h1) _ _ _ _ _
  · exact odd_agree (trip_k0_t1.sl.v229 (F := Ideal) i arg5 k0_h1 X_arg5 k) _ k hT 14 136 168 (by decide) _ (off21_eq k) (k0_off21_inb i k k0_h1) _ _ _ _ _
  · exact even_agree (trip_k0_t1.sl.v229 (F := Ideal) i arg5 k0_h1 X_arg5 k) _ k hT 10 136 168 (by decide) _ (off20_eq k) (k0_off20_inb i k k0_h1) _ _ _ _ _
  · exact odd_agree (trip_k0_t1.sl.v229 (F := Ideal) i arg5 k0_h1 X_arg5 k) _ k hT 6 128 160 (by decide) _ (off19_eq k) (k0_off19_inb i k k0_h1) _ _ _ _ _
  · exact even_agree (trip_k0_t1.sl.v229 (F := Ideal) i arg5 k0_h1 X_arg5 k) _ k hT 2 128 160 (by decide) _ (off18_eq k) (k0_off18_inb i k k0_h1) _ _ _ _ _
  · exact odd_agree (trip_k0_t1.sl.v229 (F := Ideal) i arg5 k0_h1 X_arg5 k) _ k hT 29 88 120 (by decide) _ (off17_eq k) (k0_off17_inb i k k0_h1) _ _ _ _ _
  · exact even_agree (trip_k0_t1.sl.v229 (F := Ideal) i arg5 k0_h1 X_arg5 k) _ k hT 25 88 120 (by decide) _ (off16_eq k) (k0_off16_inb i k k0_h1) _ _ _ _ _
  · exact odd_agree (trip_k0_t1.sl.v229 (F := Ideal) i arg5 k0_h1 X_arg5 k) _ k hT 21 80 112 (by decide) _ (off15_eq k) (k0_off15_inb i k k0_h1) _ _ _ _ _
  · exact even_agree (trip_k0_t1.sl.v229 (F := Ideal) i arg5 k0_h1 X_arg5 k) _ k hT 17 80 112 (by decide) _ (off14_eq k) (k0_off14_inb i k k0_h1) _ _ _ _ _
  · exact odd_agree (trip_k0_t1.sl.v229 (F := Ideal) i arg5 k0_h1 X_arg5 k) _ k hT 13 72 104 (by decide) _ (off13_eq k) (k0_off13_inb i k k0_h1) _ _ _ _ _
  · exact even_agree (trip_k0_t1.sl.v229 (F := Ideal) i arg5 k0_h1 X_arg5 k) _ k hT 9 72 104 (by decide) _ (off12_eq k) (k0_off12_inb i k k0_h1) _ _ _ _ _
  · exact odd_agree (trip_k0_t1.sl.v229 (F := Ideal) i arg5 k0_h1 X_arg5 k) _ k hT 5 64 96 (by decide) _ (off11_eq k) (k0_off11_inb i k k0_h1) _ _ _ _ _
  · exact even_agree (trip_k0_t1.sl.v229 (F := Ideal) i arg5 k0_h1 X_arg5 k) _ k hT 1 64 96 (by decide) _ (off10_eq k) (k0_off10_inb i k k0_h1) _ _ _ _ _
  · exact odd_agree (trip_k0_t1.sl.v229 (F := Ideal) i arg5 k0_h1 X_arg5 k) _ k hT 28 24 56 (by decide) _ (off9_eq k) (k0_off9_inb i k k0_h1) _ _ _ _ _
  · exact even_agree (trip_k0_t1.sl.v229 (F := Ideal) i arg5 k0_h1 X_arg5 k) _ k hT 24 24 56 (by decide) _ (off8_eq k) (k0_off8_inb i k k0_h1) _ _ _ _ _
  · exact odd_agree (trip_k0_t1.sl.v229 (F := Ideal) i arg5 k0_h1 X_arg5 k) _ k hT 20 16 48 (by decide) _ (off7_eq k) (k0_off7_inb i k k0_h1) _ _ _ _ _
  · exact even_agree (trip_k0_t1.sl.v229 (F := Ideal) i arg5 k0_h1 X_arg5 k) _ k hT 16 16 48 (by decide) _ (off6_eq k) (k0_off6_inb i k k0_h1) _ _ _ _ _
  · exact odd_agree (trip_k0_t1.sl.v229 (F := Ideal) i arg5 k0_h1 X_arg5 k) _ k hT 12 8 40 (by decide) _ (off5_eq k) (k0_off5_inb i k k0_h1) _ _ _ _ _
  · exact even_agree (trip_k0_t1.sl.v229 (F := Ideal) i arg5 k0_h1 X_arg5 k) _ k hT 8 8 40 (by decide) _ (off4_eq k) (k0_off4_inb i k k0_h1) _ _ _ _ _
  · exact odd_agree (trip_k0_t1.sl.v229 (F := Ideal) i arg5 k0_h1 X_arg5 k) _ k hT 4 0 32 (by decide) _ (off3_eq k) (k0_off3_inb i k k0_h1) _ _ _ _ _
  · exact even_agree (trip_k0_t1.sl.v229 (F := Ideal) i arg5 k0_h1 X_arg5 k) _ k hT 0 0 32 (by decide) _ (off2_eq k) (k0_off2_inb i k k0_h1) _ _ _ _ _

/-- Trip `k`'s pieces cover tile `k`. -/
theorem coverF_g (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (k0_h1 : k0_cond1 i = 1#1) (X_arg5 : arg5.view.ty.Contents (Elt Ideal)) (X_arg6 : arg6.view.ty.Contents (Elt Ideal)) (k : Fin k0_t1_loop.trips) (y : S27x256x128.Idx) (h0 : (y 0).val = k.val) : ∃ p ∈ (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 k).1, y ∈ p.1.set := by
  unfold tripL_k0_t1 trip_k0_t1
  dsimp only
  have h1 : (y 1).val < 256 := (y 1).isLt
  obtain ⟨v, hv⟩ : ∃ v : Fin 32, (y 1).val / 8 = v.val := ⟨⟨(y 1).val / 8, by omega⟩, rfl⟩
  fin_cases v
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), slot_cover k 0 _ (off2_eq k) (k0_off2_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), slot_cover k 1 _ (off10_eq k) (k0_off10_inb i k k0_h1) y h0 hv⟩
  · exact ⟨_, .tail _ (.tail _ (.tail _ (.tail _ (.tail _ (.tail _ (.tail _ (.tail _ (.tail _ (.tail _ (.tail _ (.tail _ (.tail _ (.tail _ (.tail _ (.head _))))))))))))))), slot_cover k 2 _ (off18_eq k) (k0_off18_inb i k k0_h1) y h0 hv⟩
  · exact ⟨_, .tail _ (.tail _ (.tail _ (.tail _ (.tail _ (.tail _ (.tail _ (.head _))))))), slot_cover k 3 _ (off26_eq k) (k0_off26_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), slot_cover k 4 _ (off3_eq k) (k0_off3_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), slot_cover k 5 _ (off11_eq k) (k0_off11_inb i k k0_h1) y h0 hv⟩
  · exact ⟨_, .tail _ (.tail _ (.tail _ (.tail _ (.tail _ (.tail _ (.tail _ (.tail _ (.tail _ (.tail _ (.tail _ (.tail _ (.tail _ (.tail _ (.head _)))))))))))))), slot_cover k 6 _ (off19_eq k) (k0_off19_inb i k k0_h1) y h0 hv⟩
  · exact ⟨_, .tail _ (.tail _ (.tail _ (.tail _ (.tail _ (.tail _ (.head _)))))), slot_cover k 7 _ (off27_eq k) (k0_off27_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), slot_cover k 8 _ (off4_eq k) (k0_off4_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), slot_cover k 9 _ (off12_eq k) (k0_off12_inb i k k0_h1) y h0 hv⟩
  · exact ⟨_, .tail _ (.tail _ (.tail _ (.tail _ (.tail _ (.tail _ (.tail _ (.tail _ (.tail _ (.tail _ (.tail _ (.tail _ (.tail _ (.head _))))))))))))), slot_cover k 10 _ (off20_eq k) (k0_off20_inb i k k0_h1) y h0 hv⟩
  · exact ⟨_, .tail _ (.tail _ (.tail _ (.tail _ (.tail _ (.head _))))), slot_cover k 11 _ (off28_eq k) (k0_off28_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), slot_cover k 12 _ (off5_eq k) (k0_off5_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), slot_cover k 13 _ (off13_eq k) (k0_off13_inb i k k0_h1) y h0 hv⟩
  · exact ⟨_, .tail _ (.tail _ (.tail _ (.tail _ (.tail _ (.tail _ (.tail _ (.tail _ (.tail _ (.tail _ (.tail _ (.tail _ (.head _)))))))))))), slot_cover k 14 _ (off21_eq k) (k0_off21_inb i k k0_h1) y h0 hv⟩
  · exact ⟨_, .tail _ (.tail _ (.tail _ (.tail _ (.head _)))), slot_cover k 15 _ (off29_eq k) (k0_off29_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), slot_cover k 16 _ (off6_eq k) (k0_off6_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), slot_cover k 17 _ (off14_eq k) (k0_off14_inb i k k0_h1) y h0 hv⟩
  · exact ⟨_, .tail _ (.tail _ (.tail _ (.tail _ (.tail _ (.tail _ (.tail _ (.tail _ (.tail _ (.tail _ (.tail _ (.head _))))))))))), slot_cover k 18 _ (off22_eq k) (k0_off22_inb i k k0_h1) y h0 hv⟩
  · exact ⟨_, .tail _ (.tail _ (.tail _ (.head _))), slot_cover k 19 _ (off30_eq k) (k0_off30_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), slot_cover k 20 _ (off7_eq k) (k0_off7_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), slot_cover k 21 _ (off15_eq k) (k0_off15_inb i k k0_h1) y h0 hv⟩
  · exact ⟨_, .tail _ (.tail _ (.tail _ (.tail _ (.tail _ (.tail _ (.tail _ (.tail _ (.tail _ (.tail _ (.head _)))))))))), slot_cover k 22 _ (off23_eq k) (k0_off23_inb i k k0_h1) y h0 hv⟩
  · exact ⟨_, .tail _ (.tail _ (.head _)), slot_cover k 23 _ (off31_eq k) (k0_off31_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), slot_cover k 24 _ (off8_eq k) (k0_off8_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.head _))))))))))))))))), slot_cover k 25 _ (off16_eq k) (k0_off16_inb i k k0_h1) y h0 hv⟩
  · exact ⟨_, .tail _ (.tail _ (.tail _ (.tail _ (.tail _ (.tail _ (.tail _ (.tail _ (.tail _ (.head _))))))))), slot_cover k 26 _ (off24_eq k) (k0_off24_inb i k k0_h1) y h0 hv⟩
  · exact ⟨_, .tail _ (.head _), slot_cover k 27 _ (off32_eq k) (k0_off32_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), slot_cover k 28 _ (off9_eq k) (k0_off9_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.head _)))))))))))))))), slot_cover k 29 _ (off17_eq k) (k0_off17_inb i k k0_h1) y h0 hv⟩
  · exact ⟨_, .tail _ (.tail _ (.tail _ (.tail _ (.tail _ (.tail _ (.tail _ (.tail _ (.head _)))))))), slot_cover k 30 _ (off25_eq k) (k0_off25_inb i k k0_h1) y h0 hv⟩
  · exact ⟨_, .head _, slot_cover k 31 _ (off33_eq k) (k0_off33_inb i k k0_h1) y h0 hv⟩

/-- The pieces of the trips before `n` agree with the laid out vector. -/
theorem piecesF_g (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (k0_h1 : k0_cond1 i = 1#1) (X_arg5 : arg5.view.ty.Contents (Elt Ideal)) (X_arg6 : arg6.view.ty.Contents (Elt Ideal)) : ∀ n, n ≤ k0_t1_loop.trips → ∀ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 n).1, ∀ x, p.2 x = GF (arg5.view.read (Elt Ideal) X_arg5) (p.1.emb x)
  | 0, _ => by
    rw [pb_k0_t1.eq_1]
    intro p hp
    exact absurd hp List.not_mem_nil
  | n + 1, hn => by
    have ih := piecesF_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 n (Nat.le_of_succ_le hn)
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 ⟨n, hn⟩]
    intro p hp
    rcases List.mem_append.mp hp with hp | hp
    · exact tripF_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 ⟨n, hn⟩ p hp
    · exact ih p hp

/-- The pieces of the trips before `n` cover the tiles before `n`. -/
theorem coversF_g (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (k0_h1 : k0_cond1 i = 1#1) (X_arg5 : arg5.view.ty.Contents (Elt Ideal)) (X_arg6 : arg6.view.ty.Contents (Elt Ideal)) (y : S27x256x128.Idx) : ∀ n, n ≤ k0_t1_loop.trips → (y 0).val < n → ∃ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 n).1, y ∈ p.1.set
  | 0, _, h => absurd h (Nat.not_lt_zero _)
  | n + 1, hn, h => by
    have ih := coversF_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 y n (Nat.le_of_succ_le hn)
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 ⟨n, hn⟩]
    rcases Nat.lt_succ_iff_lt_or_eq.mp h with h' | h'
    · obtain ⟨p, hp, hy⟩ := ih h'
      exact ⟨p, List.mem_append_right _ hp, hy⟩
    · obtain ⟨p, hp, hy⟩ := coverF_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 ⟨n, hn⟩ y h'
      exact ⟨p, List.mem_append_left _ hp, hy⟩

/-- After the loop a buffer written by its pieces over any contents reads as the laid out vector. -/
theorem fill_g (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (k0_h1 : k0_cond1 i = 1#1) (X_arg5 : arg5.view.ty.Contents (Elt Ideal)) (X_arg6 : arg6.view.ty.Contents (Elt Ideal)) (y : S27x256x128.Idx) {κ : Kind} {sp : Space} (v : View sig κ sp S27x256x128 .f32) (f : v.ty.Contents (Elt Ideal)) :
    v.read (Elt Ideal) (v.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 k0_t1_loop.trips).1) y = GF (arg5.view.read (Elt Ideal) X_arg5) y := by
  have hc := coversF_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 y _ le_rfl (by rw [trips1]; exact (y 0).isLt)
  rw [View.read_writes_apply_eq_canon v f y _ hc]
  exact View.canon_apply_of_pieces (GF (arg5.view.read (Elt Ideal) X_arg5)) _ (piecesF_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 _ le_rfl) y hc

/-- Trip `k`'s pieces agree with the laid out vector. -/
theorem tripF_b (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (k0_h1 : k0_cond1 i = 1#1) (X_arg5 : arg5.view.ty.Contents (Elt Ideal)) (X_arg6 : arg6.view.ty.Contents (Elt Ideal)) (k : Fin k0_t1_loop.trips) : ∀ p ∈ (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 k).2, ∀ x, p.2 x = GF (arg6.view.read (Elt Ideal) X_arg6) (p.1.emb x) := by
  have hT := src_b i arg6 k0_h1 X_arg6 k
  unfold tripL_k0_t1 trip_k0_t1
  dsimp only
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact odd_agree (trip_k0_t1.sl.v463 (F := Ideal) i arg6 k0_h1 X_arg6 k) _ k hT 31 216 248 (by decide) _ (off33_eq k) (k0_off33_inb i k k0_h1) _ _ _ _ _
  · exact even_agree (trip_k0_t1.sl.v463 (F := Ideal) i arg6 k0_h1 X_arg6 k) _ k hT 27 216 248 (by decide) _ (off32_eq k) (k0_off32_inb i k k0_h1) _ _ _ _ _
  · exact odd_agree (trip_k0_t1.sl.v463 (F := Ideal) i arg6 k0_h1 X_arg6 k) _ k hT 23 208 240 (by decide) _ (off31_eq k) (k0_off31_inb i k k0_h1) _ _ _ _ _
  · exact even_agree (trip_k0_t1.sl.v463 (F := Ideal) i arg6 k0_h1 X_arg6 k) _ k hT 19 208 240 (by decide) _ (off30_eq k) (k0_off30_inb i k k0_h1) _ _ _ _ _
  · exact odd_agree (trip_k0_t1.sl.v463 (F := Ideal) i arg6 k0_h1 X_arg6 k) _ k hT 15 200 232 (by decide) _ (off29_eq k) (k0_off29_inb i k k0_h1) _ _ _ _ _
  · exact even_agree (trip_k0_t1.sl.v463 (F := Ideal) i arg6 k0_h1 X_arg6 k) _ k hT 11 200 232 (by decide) _ (off28_eq k) (k0_off28_inb i k k0_h1) _ _ _ _ _
  · exact odd_agree (trip_k0_t1.sl.v463 (F := Ideal) i arg6 k0_h1 X_arg6 k) _ k hT 7 192 224 (by decide) _ (off27_eq k) (k0_off27_inb i k k0_h1) _ _ _ _ _
  · exact even_agree (trip_k0_t1.sl.v463 (F := Ideal) i arg6 k0_h1 X_arg6 k) _ k hT 3 192 224 (by decide) _ (off26_eq k) (k0_off26_inb i k k0_h1) _ _ _ _ _
  · exact odd_agree (trip_k0_t1.sl.v463 (F := Ideal) i arg6 k0_h1 X_arg6 k) _ k hT 30 152 184 (by decide) _ (off25_eq k) (k0_off25_inb i k k0_h1) _ _ _ _ _
  · exact even_agree (trip_k0_t1.sl.v463 (F := Ideal) i arg6 k0_h1 X_arg6 k) _ k hT 26 152 184 (by decide) _ (off24_eq k) (k0_off24_inb i k k0_h1) _ _ _ _ _
  · exact odd_agree (trip_k0_t1.sl.v463 (F := Ideal) i arg6 k0_h1 X_arg6 k) _ k hT 22 144 176 (by decide) _ (off23_eq k) (k0_off23_inb i k k0_h1) _ _ _ _ _
  · exact even_agree (trip_k0_t1.sl.v463 (F := Ideal) i arg6 k0_h1 X_arg6 k) _ k hT 18 144 176 (by decide) _ (off22_eq k) (k0_off22_inb i k k0_h1) _ _ _ _ _
  · exact odd_agree (trip_k0_t1.sl.v463 (F := Ideal) i arg6 k0_h1 X_arg6 k) _ k hT 14 136 168 (by decide) _ (off21_eq k) (k0_off21_inb i k k0_h1) _ _ _ _ _
  · exact even_agree (trip_k0_t1.sl.v463 (F := Ideal) i arg6 k0_h1 X_arg6 k) _ k hT 10 136 168 (by decide) _ (off20_eq k) (k0_off20_inb i k k0_h1) _ _ _ _ _
  · exact odd_agree (trip_k0_t1.sl.v463 (F := Ideal) i arg6 k0_h1 X_arg6 k) _ k hT 6 128 160 (by decide) _ (off19_eq k) (k0_off19_inb i k k0_h1) _ _ _ _ _
  · exact even_agree (trip_k0_t1.sl.v463 (F := Ideal) i arg6 k0_h1 X_arg6 k) _ k hT 2 128 160 (by decide) _ (off18_eq k) (k0_off18_inb i k k0_h1) _ _ _ _ _
  · exact odd_agree (trip_k0_t1.sl.v463 (F := Ideal) i arg6 k0_h1 X_arg6 k) _ k hT 29 88 120 (by decide) _ (off17_eq k) (k0_off17_inb i k k0_h1) _ _ _ _ _
  · exact even_agree (trip_k0_t1.sl.v463 (F := Ideal) i arg6 k0_h1 X_arg6 k) _ k hT 25 88 120 (by decide) _ (off16_eq k) (k0_off16_inb i k k0_h1) _ _ _ _ _
  · exact odd_agree (trip_k0_t1.sl.v463 (F := Ideal) i arg6 k0_h1 X_arg6 k) _ k hT 21 80 112 (by decide) _ (off15_eq k) (k0_off15_inb i k k0_h1) _ _ _ _ _
  · exact even_agree (trip_k0_t1.sl.v463 (F := Ideal) i arg6 k0_h1 X_arg6 k) _ k hT 17 80 112 (by decide) _ (off14_eq k) (k0_off14_inb i k k0_h1) _ _ _ _ _
  · exact odd_agree (trip_k0_t1.sl.v463 (F := Ideal) i arg6 k0_h1 X_arg6 k) _ k hT 13 72 104 (by decide) _ (off13_eq k) (k0_off13_inb i k k0_h1) _ _ _ _ _
  · exact even_agree (trip_k0_t1.sl.v463 (F := Ideal) i arg6 k0_h1 X_arg6 k) _ k hT 9 72 104 (by decide) _ (off12_eq k) (k0_off12_inb i k k0_h1) _ _ _ _ _
  · exact odd_agree (trip_k0_t1.sl.v463 (F := Ideal) i arg6 k0_h1 X_arg6 k) _ k hT 5 64 96 (by decide) _ (off11_eq k) (k0_off11_inb i k k0_h1) _ _ _ _ _
  · exact even_agree (trip_k0_t1.sl.v463 (F := Ideal) i arg6 k0_h1 X_arg6 k) _ k hT 1 64 96 (by decide) _ (off10_eq k) (k0_off10_inb i k k0_h1) _ _ _ _ _
  · exact odd_agree (trip_k0_t1.sl.v463 (F := Ideal) i arg6 k0_h1 X_arg6 k) _ k hT 28 24 56 (by decide) _ (off9_eq k) (k0_off9_inb i k k0_h1) _ _ _ _ _
  · exact even_agree (trip_k0_t1.sl.v463 (F := Ideal) i arg6 k0_h1 X_arg6 k) _ k hT 24 24 56 (by decide) _ (off8_eq k) (k0_off8_inb i k k0_h1) _ _ _ _ _
  · exact odd_agree (trip_k0_t1.sl.v463 (F := Ideal) i arg6 k0_h1 X_arg6 k) _ k hT 20 16 48 (by decide) _ (off7_eq k) (k0_off7_inb i k k0_h1) _ _ _ _ _
  · exact even_agree (trip_k0_t1.sl.v463 (F := Ideal) i arg6 k0_h1 X_arg6 k) _ k hT 16 16 48 (by decide) _ (off6_eq k) (k0_off6_inb i k k0_h1) _ _ _ _ _
  · exact odd_agree (trip_k0_t1.sl.v463 (F := Ideal) i arg6 k0_h1 X_arg6 k) _ k hT 12 8 40 (by decide) _ (off5_eq k) (k0_off5_inb i k k0_h1) _ _ _ _ _
  · exact even_agree (trip_k0_t1.sl.v463 (F := Ideal) i arg6 k0_h1 X_arg6 k) _ k hT 8 8 40 (by decide) _ (off4_eq k) (k0_off4_inb i k k0_h1) _ _ _ _ _
  · exact odd_agree (trip_k0_t1.sl.v463 (F := Ideal) i arg6 k0_h1 X_arg6 k) _ k hT 4 0 32 (by decide) _ (off3_eq k) (k0_off3_inb i k k0_h1) _ _ _ _ _
  · exact even_agree (trip_k0_t1.sl.v463 (F := Ideal) i arg6 k0_h1 X_arg6 k) _ k hT 0 0 32 (by decide) _ (off2_eq k) (k0_off2_inb i k k0_h1) _ _ _ _ _

/-- Trip `k`'s pieces cover tile `k`. -/
theorem coverF_b (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (k0_h1 : k0_cond1 i = 1#1) (X_arg5 : arg5.view.ty.Contents (Elt Ideal)) (X_arg6 : arg6.view.ty.Contents (Elt Ideal)) (k : Fin k0_t1_loop.trips) (y : S27x256x128.Idx) (h0 : (y 0).val = k.val) : ∃ p ∈ (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 k).2, y ∈ p.1.set := by
  unfold tripL_k0_t1 trip_k0_t1
  dsimp only
  have h1 : (y 1).val < 256 := (y 1).isLt
  obtain ⟨v, hv⟩ : ∃ v : Fin 32, (y 1).val / 8 = v.val := ⟨⟨(y 1).val / 8, by omega⟩, rfl⟩
  fin_cases v
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), slot_cover k 0 _ (off2_eq k) (k0_off2_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), slot_cover k 1 _ (off10_eq k) (k0_off10_inb i k k0_h1) y h0 hv⟩
  · exact ⟨_, .tail _ (.tail _ (.tail _ (.tail _ (.tail _ (.tail _ (.tail _ (.tail _ (.tail _ (.tail _ (.tail _ (.tail _ (.tail _ (.tail _ (.tail _ (.head _))))))))))))))), slot_cover k 2 _ (off18_eq k) (k0_off18_inb i k k0_h1) y h0 hv⟩
  · exact ⟨_, .tail _ (.tail _ (.tail _ (.tail _ (.tail _ (.tail _ (.tail _ (.head _))))))), slot_cover k 3 _ (off26_eq k) (k0_off26_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), slot_cover k 4 _ (off3_eq k) (k0_off3_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), slot_cover k 5 _ (off11_eq k) (k0_off11_inb i k k0_h1) y h0 hv⟩
  · exact ⟨_, .tail _ (.tail _ (.tail _ (.tail _ (.tail _ (.tail _ (.tail _ (.tail _ (.tail _ (.tail _ (.tail _ (.tail _ (.tail _ (.tail _ (.head _)))))))))))))), slot_cover k 6 _ (off19_eq k) (k0_off19_inb i k k0_h1) y h0 hv⟩
  · exact ⟨_, .tail _ (.tail _ (.tail _ (.tail _ (.tail _ (.tail _ (.head _)))))), slot_cover k 7 _ (off27_eq k) (k0_off27_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), slot_cover k 8 _ (off4_eq k) (k0_off4_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), slot_cover k 9 _ (off12_eq k) (k0_off12_inb i k k0_h1) y h0 hv⟩
  · exact ⟨_, .tail _ (.tail _ (.tail _ (.tail _ (.tail _ (.tail _ (.tail _ (.tail _ (.tail _ (.tail _ (.tail _ (.tail _ (.tail _ (.head _))))))))))))), slot_cover k 10 _ (off20_eq k) (k0_off20_inb i k k0_h1) y h0 hv⟩
  · exact ⟨_, .tail _ (.tail _ (.tail _ (.tail _ (.tail _ (.head _))))), slot_cover k 11 _ (off28_eq k) (k0_off28_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), slot_cover k 12 _ (off5_eq k) (k0_off5_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), slot_cover k 13 _ (off13_eq k) (k0_off13_inb i k k0_h1) y h0 hv⟩
  · exact ⟨_, .tail _ (.tail _ (.tail _ (.tail _ (.tail _ (.tail _ (.tail _ (.tail _ (.tail _ (.tail _ (.tail _ (.tail _ (.head _)))))))))))), slot_cover k 14 _ (off21_eq k) (k0_off21_inb i k k0_h1) y h0 hv⟩
  · exact ⟨_, .tail _ (.tail _ (.tail _ (.tail _ (.head _)))), slot_cover k 15 _ (off29_eq k) (k0_off29_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), slot_cover k 16 _ (off6_eq k) (k0_off6_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), slot_cover k 17 _ (off14_eq k) (k0_off14_inb i k k0_h1) y h0 hv⟩
  · exact ⟨_, .tail _ (.tail _ (.tail _ (.tail _ (.tail _ (.tail _ (.tail _ (.tail _ (.tail _ (.tail _ (.tail _ (.head _))))))))))), slot_cover k 18 _ (off22_eq k) (k0_off22_inb i k k0_h1) y h0 hv⟩
  · exact ⟨_, .tail _ (.tail _ (.tail _ (.head _))), slot_cover k 19 _ (off30_eq k) (k0_off30_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), slot_cover k 20 _ (off7_eq k) (k0_off7_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), slot_cover k 21 _ (off15_eq k) (k0_off15_inb i k k0_h1) y h0 hv⟩
  · exact ⟨_, .tail _ (.tail _ (.tail _ (.tail _ (.tail _ (.tail _ (.tail _ (.tail _ (.tail _ (.tail _ (.head _)))))))))), slot_cover k 22 _ (off23_eq k) (k0_off23_inb i k k0_h1) y h0 hv⟩
  · exact ⟨_, .tail _ (.tail _ (.head _)), slot_cover k 23 _ (off31_eq k) (k0_off31_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), slot_cover k 24 _ (off8_eq k) (k0_off8_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.head _))))))))))))))))), slot_cover k 25 _ (off16_eq k) (k0_off16_inb i k k0_h1) y h0 hv⟩
  · exact ⟨_, .tail _ (.tail _ (.tail _ (.tail _ (.tail _ (.tail _ (.tail _ (.tail _ (.tail _ (.head _))))))))), slot_cover k 26 _ (off24_eq k) (k0_off24_inb i k k0_h1) y h0 hv⟩
  · exact ⟨_, .tail _ (.head _), slot_cover k 27 _ (off32_eq k) (k0_off32_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), slot_cover k 28 _ (off9_eq k) (k0_off9_inb i k k0_h1) y h0 hv⟩
  · exact ⟨_, .tail _ (.tail _ (.tail _ (.tail _ (.tail _ (.tail _ (.tail _ (.tail _ (.tail _ (.tail _ (.tail _ (.tail _ (.tail _ (.tail _ (.tail _ (.tail _ (.head _)))))))))))))))), slot_cover k 29 _ (off17_eq k) (k0_off17_inb i k k0_h1) y h0 hv⟩
  · exact ⟨_, .tail _ (.tail _ (.tail _ (.tail _ (.tail _ (.tail _ (.tail _ (.tail _ (.head _)))))))), slot_cover k 30 _ (off25_eq k) (k0_off25_inb i k k0_h1) y h0 hv⟩
  · exact ⟨_, .head _, slot_cover k 31 _ (off33_eq k) (k0_off33_inb i k k0_h1) y h0 hv⟩

/-- The pieces of the trips before `n` agree with the laid out vector. -/
theorem piecesF_b (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (k0_h1 : k0_cond1 i = 1#1) (X_arg5 : arg5.view.ty.Contents (Elt Ideal)) (X_arg6 : arg6.view.ty.Contents (Elt Ideal)) : ∀ n, n ≤ k0_t1_loop.trips → ∀ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 n).2, ∀ x, p.2 x = GF (arg6.view.read (Elt Ideal) X_arg6) (p.1.emb x)
  | 0, _ => by
    rw [pb_k0_t1.eq_1]
    intro p hp
    exact absurd hp List.not_mem_nil
  | n + 1, hn => by
    have ih := piecesF_b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 n (Nat.le_of_succ_le hn)
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 ⟨n, hn⟩]
    intro p hp
    rcases List.mem_append.mp hp with hp | hp
    · exact tripF_b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 ⟨n, hn⟩ p hp
    · exact ih p hp

/-- The pieces of the trips before `n` cover the tiles before `n`. -/
theorem coversF_b (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (k0_h1 : k0_cond1 i = 1#1) (X_arg5 : arg5.view.ty.Contents (Elt Ideal)) (X_arg6 : arg6.view.ty.Contents (Elt Ideal)) (y : S27x256x128.Idx) : ∀ n, n ≤ k0_t1_loop.trips → (y 0).val < n → ∃ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 n).2, y ∈ p.1.set
  | 0, _, h => absurd h (Nat.not_lt_zero _)
  | n + 1, hn, h => by
    have ih := coversF_b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 y n (Nat.le_of_succ_le hn)
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 ⟨n, hn⟩]
    rcases Nat.lt_succ_iff_lt_or_eq.mp h with h' | h'
    · obtain ⟨p, hp, hy⟩ := ih h'
      exact ⟨p, List.mem_append_right _ hp, hy⟩
    · obtain ⟨p, hp, hy⟩ := coverF_b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 ⟨n, hn⟩ y h'
      exact ⟨p, List.mem_append_left _ hp, hy⟩

/-- After the loop a buffer written by its pieces over any contents reads as the laid out vector. -/
theorem fill_b (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (k0_h1 : k0_cond1 i = 1#1) (X_arg5 : arg5.view.ty.Contents (Elt Ideal)) (X_arg6 : arg6.view.ty.Contents (Elt Ideal)) (y : S27x256x128.Idx) {κ : Kind} {sp : Space} (v : View sig κ sp S27x256x128 .f32) (f : v.ty.Contents (Elt Ideal)) :
    v.read (Elt Ideal) (v.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 k0_t1_loop.trips).2) y = GF (arg6.view.read (Elt Ideal) X_arg6) y := by
  have hc := coversF_b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 y _ le_rfl (by rw [trips1]; exact (y 0).isLt)
  rw [View.read_writes_apply_eq_canon v f y _ hc]
  exact View.canon_apply_of_pieces (GF (arg6.view.read (Elt Ideal) X_arg6)) _ (piecesF_b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg5 X_arg6 _ le_rfl) y hc

end Cert.KernelIdeal.Hand

end
-- ==== Proof.Chain.lean ====
/- The statistics of a row: the mean and the sum of squares of its own entries, merged with the peers' in a chain. -/
module

public import Idealize.ShloMosaic.PureOps.Ideal

@[expose] public section

noncomputable section

namespace Cert.Spec

open Idealize.ShloMosaic

/-- The number of channels, as the programs spell it. -/
def D0 : EReal := Ideal.ofBits .f32 0x45D80000#32
/-- The small number under the root. -/
def eps0 : EReal := Ideal.ofBits .f32 0x3727C5AC#32
/-- The mean of a row. -/
def meanOf (x : Fin 6912 → EReal) : EReal := Ideal.div (∑ c, x c) D0
/-- The sum of squared distances from the mean. -/
def m2Of (x : Fin 6912 → EReal) : EReal := ∑ c, (x c - meanOf x) * (x c - meanOf x)
/-- The merged mean of two groups. -/
def mMean (na a nb b : EReal) : EReal := a + (b - a) * Ideal.div nb (na + nb)
/-- The merged sum of squares of two groups. -/
def mM2 (na a qa nb b qb : EReal) : EReal := qa + qb + (b - a) * (b - a) * Ideal.div (na * nb) (na + nb)
/-- The mean of the chain: peer 0, peer 1, the row itself, peer 2. -/
def chMean (n0 n1 n2 a0 a1 a2 mu : EReal) : EReal :=
  mMean (n0 + n1 + D0) (mMean (n0 + n1) (mMean n0 a0 n1 a1) D0 mu) n2 a2
/-- The sum of squares of the chain. -/
def chM2 (n0 n1 n2 a0 a1 a2 mu q0 q1 q2 q : EReal) : EReal :=
  mM2 (n0 + n1 + D0) (mMean (n0 + n1) (mMean n0 a0 n1 a1) D0 mu) (mM2 (n0 + n1) (mMean n0 a0 n1 a1) (mM2 n0 a0 q0 n1 a1 q1) D0 mu q) n2 a2 q2
/-- The reciprocal of the deviation of the chain. -/
def chRstd (n0 n1 n2 a0 a1 a2 mu q0 q1 q2 q : EReal) : EReal :=
  Ideal.rsqrt (Ideal.div (chM2 n0 n1 n2 a0 a1 a2 mu q0 q1 q2 q) (n0 + n1 + D0 + n2) + eps0)

end Cert.Spec

end
-- ==== Proof.Stats.lean ====
/- The kernel's statistics: its mean, its loop for the sum of squares and its merges, at an index. -/
module

public import proofs.«01_k».proof.Proof.Perm
public import proofs.«01_k».proof.Proof.Chain

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec

/-- The kernel's mean of row `n`. -/
theorem pay322_apply (v3 : FVec Ideal S2x128x6912 .bf16) (z : Fin 1) (n : Fin 256) (h : Fin 2) (l : Fin 128) (hn : n.val = 128 * h.val + l.val) :
    k0_pay322 (F := Ideal) v3 (ix2 z n) = meanOf (fun j => (v3 (ix3 h l j) : EReal)) := by
  have hz : z = 0 := Fin.ext (by omega)
  subst hz
  have e1 : ∀ q, (⟨n.val / 128, q⟩ : Fin 2) = h := fun q => Fin.ext (by show n.val / 128 = h.val; omega)
  have e2 : ∀ q, (⟨n.val % 128, q⟩ : Fin 128) = l := fun q => Fin.ext (by show n.val % 128 = l.val; omega)
  pointwise [k0_pay322]
  refine congrArg (fun q => Ideal.div q D0) (Finset.sum_congr rfl fun x _ => congrArg v3 ?_)
  funext d
  fin_cases d
  · exact e1 _
  · exact e2 _
  · rfl

/-- One trip's addition to the partial sums of squares. -/
theorem pay324_apply (v3 : FVec Ideal S2x128x6912 .bf16) (acc : FVec Ideal S8x256 .f32) (t : FVec Ideal S2x128x256 .bf16) (s : Fin 8) (n : Fin 256) (h : Fin 2) (l : Fin 128) (hn : n.val = 128 * h.val + l.val) :
    k0_pay324 (F := Ideal) v3 acc (k0_pay320 (F := Ideal)) t (ix2 s n) = (acc (ix2 s n) : EReal) + ∑ b : Fin 32, ((t (ix3 h l (chan ⟨b.val * 8 + s.val, by omega⟩)) : EReal) - meanOf (fun j => (v3 (ix3 h l j) : EReal))) * ((t (ix3 h l (chan ⟨b.val * 8 + s.val, by omega⟩)) : EReal) - meanOf (fun j => (v3 (ix3 h l j) : EReal))) := by
  rw [← pay322_apply v3 0 n h l hn]
  unfold k0_pay324
  generalize k0_pay322 (F := Ideal) v3 = mu
  generalize hP : k0_pay320 (F := Ideal) = P
  have e1 : ∀ q, (⟨n.val / 128, q⟩ : Fin 2) = h := fun q => Fin.ext (by show n.val / 128 = h.val; omega)
  have e2 : ∀ q, (⟨n.val % 128, q⟩ : Fin 128) = l := fun q => Fin.ext (by show n.val % 128 = l.val; omega)
  pointwise []
  simp only [e1, e2]
  subst hP
  simp only [fun r => perm_sum r (fun j => t (ix3 h l j))]

/-- The last addition of the partial sums of squares. -/
theorem pay325_apply (acc : FVec Ideal S8x256 .f32) (z : Fin 1) (n : Fin 256) : k0_pay325 (F := Ideal) acc (ix2 z n) = ∑ s : Fin 8, (acc (ix2 s n) : EReal) := by
  have hz : z = 0 := Fin.ext (by omega)
  subst hz
  pointwise [k0_pay325]

/-- The row of a channel undoes `chan`. -/
theorem chan_row : ∀ r : Fin 256, 32 * ((chan r).val % 32 / 4) + 4 * ((chan r).val / 32) + (chan r).val % 4 = r.val := by decide +kernel

/-- The rows of the permuted tile run over the tile's channels. -/
theorem chan_bij : Function.Bijective (fun p : Fin 8 × Fin 32 => chan ⟨p.2.val * 8 + p.1.val, by omega⟩) := by
  rw [Fintype.bijective_iff_injective_and_card]
  refine ⟨?_, by simp⟩
  rintro ⟨s, b⟩ ⟨s', b'⟩ e
  have e' : (chan ⟨b.val * 8 + s.val, by omega⟩).val = (chan ⟨b'.val * 8 + s'.val, by omega⟩).val := congrArg Fin.val e
  have c1 := chan_row ⟨b.val * 8 + s.val, by omega⟩
  have c2 := chan_row ⟨b'.val * 8 + s'.val, by omega⟩
  rw [e'] at c1
  have c3 : b.val * 8 + s.val = b'.val * 8 + s'.val := c1.symm.trans c2
  have hs := s.isLt
  have hs' := s'.isLt
  have hb := b.isLt
  have hb' := b'.isLt
  refine Prod.ext (Fin.ext ?_) (Fin.ext ?_)
  · show s.val = s'.val
    omega
  · show b.val = b'.val
    omega

/-- A sum over the channels, tile by tile in the order of the permuted rows. -/
theorem sum_tiles (F : ℕ → EReal) : ∑ s : Fin 8, ∑ a ∈ Finset.range 27, ∑ b : Fin 32, F (256 * a + (chan ⟨b.val * 8 + s.val, by omega⟩).val) = ∑ c : Fin 6912, F c.val := by
  rw [Finset.sum_comm]
  have e : ∀ a, ∑ s : Fin 8, ∑ b : Fin 32, F (256 * a + (chan ⟨b.val * 8 + s.val, by omega⟩).val) = ∑ c : Fin 256, F (256 * a + c.val) := by
    intro a
    rw [← Fintype.sum_prod_type' (f := fun (s : Fin 8) (b : Fin 32) => F (256 * a + (chan ⟨b.val * 8 + s.val, by omega⟩).val))]
    exact Fintype.sum_bijective _ chan_bij _ _ (fun _ => rfl)
  simp only [e]
  rw [Finset.sum_range, ← Fintype.sum_prod_type' (f := fun (a : Fin 27) (c : Fin 256) => F (256 * a.val + c.val))]
  refine Fintype.sum_equiv finProdFinEquiv _ _ ?_
  rintro ⟨a, c⟩
  refine congrArg F ?_
  show 256 * a.val + c.val = c.val + 256 * a.val
  omega

/-- The loop for the sum of squares makes twenty-seven trips. -/
theorem trips2 : k0_t2_loop.trips = 27 := by decide +kernel

/-- Where trip `k` loads its tile. -/
theorem off34_eq (k : Fin k0_t2_loop.trips) : k0_off34 k = ![0, 0, 256 * k.val] := by revert k; decide +kernel

/-- A squared distance from the mean, by the number of the channel. -/
def sqd (v3 : FVec Ideal S2x128x6912 .bf16) (h : Fin 2) (l : Fin 128) (j : ℕ) : EReal :=
  if q : j < 6912 then ((v3 (ix3 h l ⟨j, q⟩) : EReal) - meanOf (fun j => (v3 (ix3 h l j) : EReal))) * ((v3 (ix3 h l ⟨j, q⟩) : EReal) - meanOf (fun j => (v3 (ix3 h l j) : EReal))) else 0

/-- The partial sums of squares before trip `n`. -/
theorem sq_loop (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (v3 : FVec Ideal S2x128x6912 .bf16) (X_arg2 : arg2.view.ty.Contents (Elt Ideal)) (X_arg11 : arg11.view.ty.Contents (Elt Ideal)) (hv : v3 = arg2.view.read (Elt Ideal) X_arg2) (hp : arg11.view.read (Elt Ideal) X_arg11 = k0_pay320 (F := Ideal)) (s : Fin 8) (m : Fin 256) (h : Fin 2) (l : Fin 128) (hm : m.val = 128 * h.val + l.val) :
    ∀ n, n ≤ k0_t2_loop.trips → (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg11 (k0_pay323 (F := Ideal)) n) (ix2 s m) = ∑ a ∈ Finset.range n, ∑ b : Fin 32, sqd v3 h l (256 * a + (chan ⟨b.val * 8 + s.val, by omega⟩).val)
  | 0, _ => by
    rw [st_k0_t2_zero, Finset.sum_range_zero]
    pointwise [k0_pay323]
  | n + 1, hn => by
    have ih := sq_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg11 hv hp s m h l hm n (Nat.le_of_succ_le hn)
    have ht := trips2
    rw [Finset.sum_range_succ, ← ih]
    refine (congrFun (st_k0_t2_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg11 (k0_pay323 (F := Ideal)) ⟨n, hn⟩) _).trans ?_
    generalize st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg11 (k0_pay323 (F := Ideal)) n = acc
    unfold tripR_k0_t2 trip_k0_t2
    dsimp only
    have eP : View.readAt (Elt Ideal) arg11.view (Rect.unit ![0, 0] S256x256.size inb_S256x256_S256x256_0_0).toLoadRect X_arg11 = k0_pay320 (F := Ideal) := by
      rw [← hp]
      funext x
      refine congrArg (arg11.view.read (Elt Ideal) X_arg11) ?_
      funext d
      fin_cases d
      · exact Fin.ext (by show 0 + 1 * (x 0).val = (x 0).val; omega)
      · exact Fin.ext (by show 0 + 1 * (x 1).val = (x 1).val; omega)
    rw [eP]
    refine (pay324_apply v3 acc _ s m h l hm).trans ?_
    refine congrArg (fun q => acc (ix2 s m) + q) (Finset.sum_congr rfl fun b _ => ?_)
    have hc := (chan ⟨b.val * 8 + s.val, by omega⟩).isLt
    have hj : 256 * n + (chan ⟨b.val * 8 + s.val, by omega⟩).val < 6912 := by omega
    unfold sqd
    rw [dif_pos hj]
    have o0 : k0_off34 ⟨n, hn⟩ 0 = 0 := by rw [off34_eq]; rfl
    have o1 : k0_off34 ⟨n, hn⟩ 1 = 0 := by rw [off34_eq]; rfl
    have o2 : k0_off34 ⟨n, hn⟩ 2 = 256 * n := by rw [off34_eq]; rfl
    have e : View.readAt (Elt Ideal) arg2.view (Rect.unit (s := S2x128x6912) (k0_off34 ⟨n, hn⟩) S2x128x256.size (k0_off34_inb ⟨n, hn⟩)).toLoadRect X_arg2 (ix3 h l (chan ⟨b.val * 8 + s.val, by omega⟩)) = v3 (ix3 h l ⟨256 * n + (chan ⟨b.val * 8 + s.val, by omega⟩).val, hj⟩) := by
      rw [hv]
      refine congrArg (arg2.view.read (Elt Ideal) X_arg2) ?_
      funext d
      fin_cases d
      · exact Fin.ext (by show k0_off34 ⟨n, hn⟩ 0 + 1 * h.val = h.val; omega)
      · exact Fin.ext (by show k0_off34 ⟨n, hn⟩ 1 + 1 * l.val = l.val; omega)
      · exact Fin.ext (by show k0_off34 ⟨n, hn⟩ 2 + 1 * (chan ⟨b.val * 8 + s.val, by omega⟩).val = 256 * n + (chan ⟨b.val * 8 + s.val, by omega⟩).val; omega)
    rw [e]

/-- The kernel's sum of squares of row `m`. -/
theorem sq_sum (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (v3 : FVec Ideal S2x128x6912 .bf16) (X_arg2 : arg2.view.ty.Contents (Elt Ideal)) (X_arg11 : arg11.view.ty.Contents (Elt Ideal)) (hv : v3 = arg2.view.read (Elt Ideal) X_arg2) (hp : arg11.view.read (Elt Ideal) X_arg11 = k0_pay320 (F := Ideal)) (z : Fin 1) (m : Fin 256) (h : Fin 2) (l : Fin 128) (hm : m.val = 128 * h.val + l.val) (n : ℕ) (hn : n = k0_t2_loop.trips) :
    k0_pay325 (F := Ideal) (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg11 (k0_pay323 (F := Ideal)) n) (ix2 z m) = m2Of (fun j => (v3 (ix3 h l j) : EReal)) := by
  have hn' : n = 27 := hn.trans trips2
  rw [pay325_apply, Finset.sum_congr rfl (fun s _ => sq_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 X_arg2 X_arg11 hv hp s m h l hm n hn.le)]
  subst hn'
  rw [sum_tiles]
  unfold m2Of
  refine Finset.sum_congr rfl fun c _ => ?_
  unfold sqd
  rw [dif_pos c.isLt]

/-- The mean of row zero of a block. -/
theorem mean_0 (v9 : FVec Ideal S1x256 .f32) (a0 a1 a2 : FVec Ideal S1x1x128 .f32) (n0 n1 n2 : EReal) (z : Fin 1) (l : Fin 128) (n : Fin 256) (hn : n.val = l.val) : (k0_pay338 (F := Ideal) v9 (k0_pay326 (F := Ideal) a0) n1 (k0_pay328 (F := Ideal) a1) (k0_pay330 (F := Ideal) n0 n1) n2 a2) (ix2 z l) = chMean n0 n1 n2 (a0 (ix3 0 0 l) : EReal) (a1 (ix3 0 0 l) : EReal) (a2 (ix3 0 0 l) : EReal) (v9 (ix2 0 n) : EReal) := by
  have hz : z = 0 := Fin.ext (by omega)
  subst hz
  have e1 : ∀ q, (⟨l.val, q⟩ : Fin 256) = n := fun q => Fin.ext hn.symm
  unfold chMean mMean D0
  pointwise [k0_pay338, k0_pay337, k0_pay336, k0_pay335, k0_pay334, k0_pay333, k0_pay332, k0_pay331, k0_pay330, k0_pay329, k0_pay328, k0_pay327, k0_pay326]
  simp only [e1]

/-- The mean of row one of a block. -/
theorem mean_1 (v9 : FVec Ideal S1x256 .f32) (a0 a1 a2 : FVec Ideal S1x1x128 .f32) (n0 n1 n2 : EReal) (z : Fin 1) (l : Fin 128) (n : Fin 256) (hn : n.val = 128 + l.val) : k0_pay355 (F := Ideal) v9 (k0_pay344 (F := Ideal) n0 n1) (k0_pay346 (F := Ideal) n0 a0 n1 a1) n2 a2 (ix2 z l) = chMean n0 n1 n2 (a0 (ix3 0 0 l) : EReal) (a1 (ix3 0 0 l) : EReal) (a2 (ix3 0 0 l) : EReal) (v9 (ix2 0 n) : EReal) := by
  have hz : z = 0 := Fin.ext (by omega)
  subst hz
  have e1 : ∀ q, (⟨128 + l.val, q⟩ : Fin 256) = n := fun q => Fin.ext hn.symm
  unfold chMean mMean D0
  pointwise [k0_pay355, k0_pay354, k0_pay353, k0_pay352, k0_pay351, k0_pay350, k0_pay349, k0_pay348, k0_pay347, k0_pay346, k0_pay345, k0_pay344, k0_pay343]
  simp only [e1]

/-- The reciprocal deviation of row zero of a block. -/
theorem rstd_0 (v9 v14 : FVec Ideal S1x256 .f32) (a0 a1 a2 q0 q1 q2 : FVec Ideal S1x1x128 .f32) (n0 n1 n2 : EReal) (z : Fin 1) (l : Fin 128) (n : Fin 256) (hn : n.val = l.val) : k0_pay340 (F := Ideal) (k0_pay339 (F := Ideal) v9 v14 n0 (k0_pay326 (F := Ideal) a0) (k0_pay327 (F := Ideal) q0) n1 (k0_pay328 (F := Ideal) a1) (k0_pay329 (F := Ideal) q1) (k0_pay330 (F := Ideal) n0 n1) n2 a2 q2) (ix2 z l) = chRstd n0 n1 n2 (a0 (ix3 0 0 l) : EReal) (a1 (ix3 0 0 l) : EReal) (a2 (ix3 0 0 l) : EReal) (v9 (ix2 0 n) : EReal) (q0 (ix3 0 0 l) : EReal) (q1 (ix3 0 0 l) : EReal) (q2 (ix3 0 0 l) : EReal) (v14 (ix2 0 n) : EReal) := by
  have hz : z = 0 := Fin.ext (by omega)
  subst hz
  have e1 : ∀ q, (⟨l.val, q⟩ : Fin 256) = n := fun q => Fin.ext hn.symm
  unfold chRstd chM2 mM2 mMean D0 eps0
  pointwise [k0_pay340, k0_pay339, k0_pay337, k0_pay336, k0_pay335, k0_pay334, k0_pay333, k0_pay332, k0_pay331, k0_pay330, k0_pay329, k0_pay328, k0_pay327, k0_pay326]
  simp only [e1]

/-- The reciprocal deviation of row one of a block. -/
theorem rstd_1 (v9 v14 : FVec Ideal S1x256 .f32) (a0 a1 a2 q0 q1 q2 : FVec Ideal S1x1x128 .f32) (n0 n1 n2 : EReal) (z : Fin 1) (l : Fin 128) (n : Fin 256) (hn : n.val = 128 + l.val) : k0_pay356 (F := Ideal) v9 v14 (k0_pay344 (F := Ideal) n0 n1) (k0_pay346 (F := Ideal) n0 a0 n1 a1) (k0_pay347 (F := Ideal) q0 q1) (k0_pay348 (F := Ideal) a0 a1) (k0_pay349 (F := Ideal) n0 n1) n2 a2 q2 (ix2 z l) = chRstd n0 n1 n2 (a0 (ix3 0 0 l) : EReal) (a1 (ix3 0 0 l) : EReal) (a2 (ix3 0 0 l) : EReal) (v9 (ix2 0 n) : EReal) (q0 (ix3 0 0 l) : EReal) (q1 (ix3 0 0 l) : EReal) (q2 (ix3 0 0 l) : EReal) (v14 (ix2 0 n) : EReal) := by
  have hz : z = 0 := Fin.ext (by omega)
  subst hz
  have e1 : ∀ q, (⟨128 + l.val, q⟩ : Fin 256) = n := fun q => Fin.ext hn.symm
  unfold chRstd chM2 mM2 mMean D0 eps0
  pointwise [k0_pay356, k0_pay354, k0_pay353, k0_pay352, k0_pay351, k0_pay350, k0_pay349, k0_pay348, k0_pay347, k0_pay346, k0_pay345, k0_pay344, k0_pay343]
  simp only [e1]

end Cert.KernelIdeal.Hand

end
-- ==== Proof.ExpK.lean ====
/- The exponent of a block's scale: the search by eight comparisons and the count of the powers of two below a value give the same number. -/
module

public import proofs.«01_k».proof.Proof.Quant
public import Idealize.ShloMosaic.Lib.IdealHost

@[expose] public section

set_option maxRecDepth 16384

noncomputable section

namespace Cert.Spec

open Idealize.ShloMosaic Idealize.ShloMosaic.TcCoe Idealize.ShloMosaic.Tactic

/-- The float whose exponent field is `c` and whose fraction is zero. -/
def th (c : ℕ) : EReal := Ideal.ofBits .f32 (BitVec.ofNat 32 (c * 2 ^ 23))

/-- A float of 32 bits read from its fields. -/
theorem ofBits_ieee (b : BitVec 32) : Ideal.ofBits .f32 b = Ideal.ieee 8 23 b := rfl

/-- The three fields of the bits of `th c`. -/
theorem th_fields (c : Fin 256) : (BitVec.extractLsb' 31 1 (BitVec.ofNat 32 (c.val * 2 ^ 23)) == 1#1) = false
    ∧ (BitVec.extractLsb' 23 8 (BitVec.ofNat 32 (c.val * 2 ^ 23))).toNat = c.val
    ∧ (BitVec.extractLsb' 0 23 (BitVec.ofNat 32 (c.val * 2 ^ 23))).toNat = 0 := by
  revert c; decide +kernel

/-- `th c` is a power of two for the fields of the normal numbers. -/
theorem th_mid (c : ℕ) (h1 : 1 ≤ c) (h2 : c ≤ 254) : th c = (((2 : ℝ) ^ ((c : ℤ) - 127) : ℝ) : EReal) := by
  obtain ⟨f1, f2, f3⟩ := th_fields ⟨c, by omega⟩
  dsimp only at f1 f2 f3
  unfold th
  rw [ofBits_ieee]
  unfold Ideal.ieee
  dsimp only
  rw [f1, f2, f3, if_neg (by omega), if_neg (by omega)]
  refine congrArg _ ?_
  rw [if_neg (by decide), one_mul, show ((2 ^ 23 + 0 : ℕ) : ℝ) = (2 : ℝ) ^ (23 : ℤ) by norm_num, ← zpow_add₀ (by norm_num)]
  refine congrArg _ ?_
  norm_num

/-- The field of all ones is the infinity. -/
theorem th_top : th 255 = ⊤ := by
  obtain ⟨f1, f2, f3⟩ := th_fields ⟨255, by omega⟩
  dsimp only at f1 f2 f3
  unfold th
  rw [ofBits_ieee]
  unfold Ideal.ieee
  dsimp only
  rw [f1, f2, f3]
  simp

/-- `th` grows with the field. -/
theorem th_lt (a b : ℕ) (h1 : 1 ≤ a) (hab : a < b) (hb : b ≤ 255) : th a < th b := by
  rw [th_mid a h1 (by omega)]
  rcases Nat.lt_or_ge b 255 with h | h
  · rw [th_mid b (by omega) (by omega), EReal.coe_lt_coe_iff]
    exact zpow_lt_zpow_right₀ (by norm_num) (by omega)
  · obtain rfl : b = 255 := by omega
    rw [th_top]
    exact EReal.coe_lt_top _

/-- The largest field whose float is at most `t`, zero where there is none. -/
def IsK (t : EReal) (K : ℕ) : Prop := K ≤ 255 ∧ (K = 0 ∨ th K ≤ t) ∧ ∀ c, K < c → c ≤ 255 → t < th c

/-- At the field `K` of `t` the comparisons are those of numbers. -/
theorem IsK.le_iff {t : EReal} {K : ℕ} (h : IsK t K) (c : ℕ) (h1 : 1 ≤ c) (h2 : c ≤ 255) : Iff (th c ≤ t) (c ≤ K) := by
  obtain ⟨hK, h3, h4⟩ := h
  constructor
  · intro hc
    by_contra hn
    exact absurd hc (not_le.mpr (h4 c (by omega) h2))
  · intro hc
    rcases h3 with h3 | h3
    · omega
    · rcases Nat.lt_or_ge c K with h | h
      · exact (th_lt c K h1 h hK).le.trans h3
      · obtain rfl : c = K := by omega
        exact h3

/-- The word shifted into the exponent field. -/
theorem shl23 (n : ℕ) (h : n ≤ 255) : IntOp.shli .vector (BitVec.ofNat 32 n) 23#32 = BitVec.ofNat 32 (n * 2 ^ 23) := by
  have h' : ∀ n : Fin 256, IntOp.shli .vector (BitVec.ofNat 32 n.val) 23#32 = BitVec.ofNat 32 (n.val * 2 ^ 23) := by decide +kernel
  exact h' ⟨n, by omega⟩

/-- One step of the search: from a field `e` known within `2 * d` to one known within `d`. -/
theorem kst_step (t : EReal) (d e : ℕ) (he : e + 2 * d ≤ 256) (hd : 1 ≤ d) (h1 : e = 0 ∨ th e ≤ t) (h2 : ∀ c, e + 2 * d ≤ c → c ≤ 255 → t < th c) :
    ∃ e', kst t (BitVec.ofNat 32 d) (BitVec.ofNat 32 e) = BitVec.ofNat 32 e' ∧ e' + d ≤ 256 ∧ (e' = 0 ∨ th e' ≤ t) ∧ ∀ c, e' + d ≤ c → c ≤ 255 → t < th c := by
  have hadd : IntOp.addi (BitVec.ofNat 32 e) (BitVec.ofNat 32 d) = BitVec.ofNat 32 (e + d) := (BitVec.ofNat_add e d).symm
  have hk : kst t (BitVec.ofNat 32 d) (BitVec.ofNat 32 e) = if th (e + d) ≤ t then BitVec.ofNat 32 (e + d) else BitVec.ofNat 32 e := by
    unfold kst
    rw [hadd, shl23 _ (by omega)]
    show Scalar.select (BitVec.ofBool (decide (th (e + d) ≤ t))) _ _ = _
    by_cases h : th (e + d) ≤ t
    · rw [if_pos h, decide_eq_true h]; rfl
    · rw [if_neg h, decide_eq_false h]; rfl
  by_cases h : th (e + d) ≤ t
  · refine ⟨e + d, by rw [hk, if_pos h], by omega, Or.inr h, fun c hc hc' => h2 c (by omega) hc'⟩
  · refine ⟨e, by rw [hk, if_neg h], by omega, h1, fun c hc hc' => ?_⟩
    rcases Nat.lt_or_ge (e + d) c with h' | h'
    · exact (not_le.mp h).trans (th_lt _ _ (by omega) h' hc')
    · obtain rfl : c = e + d := by omega
      exact not_le.mp h

/-- The search finds the field of `t`. -/
theorem kex_isK (t : EReal) : ∃ K, kex t = BitVec.ofNat 32 K ∧ IsK t K := by
  unfold kex
  obtain ⟨e1, q1, a1, b1, c1⟩ := kst_step t 128 0 (by omega) (by omega) (Or.inl rfl) (fun c h h' => by omega)
  obtain ⟨e2, q2, a2, b2, c2⟩ := kst_step t 64 e1 (by omega) (by omega) b1 c1
  obtain ⟨e3, q3, a3, b3, c3⟩ := kst_step t 32 e2 (by omega) (by omega) b2 c2
  obtain ⟨e4, q4, a4, b4, c4⟩ := kst_step t 16 e3 (by omega) (by omega) b3 c3
  obtain ⟨e5, q5, a5, b5, c5⟩ := kst_step t 8 e4 (by omega) (by omega) b4 c4
  obtain ⟨e6, q6, a6, b6, c6⟩ := kst_step t 4 e5 (by omega) (by omega) b5 c5
  obtain ⟨e7, q7, a7, b7, c7⟩ := kst_step t 2 e6 (by omega) (by omega) b6 c6
  obtain ⟨e8, q8, a8, b8, c8⟩ := kst_step t 1 e7 (by omega) (by omega) b7 c7
  refine ⟨e8, ?_, by omega, b8, fun c h h' => c8 c (by omega) h'⟩
  rw [q1, q2, q3, q4, q5, q6, q7, q8]

/-- The exponent of the field `K`: zero at the two ends. -/
def eK (K : ℕ) : BitVec 32 := if K = 0 ∨ K = 255 then 0#32 else BitVec.ofNat 32 K - 126#32

/-- The kernel's exponent from the field. -/
theorem kE_eq (t : EReal) (K : ℕ) (hK : K ≤ 255) (h : kex t = BitVec.ofNat 32 K) : kE t = eK K := by
  unfold kE
  rw [h]
  have h' : ∀ n : Fin 256, Scalar.select (IntOp.ori (IntOp.cmpi .eq (BitVec.ofNat 32 n.val) 0#32) (IntOp.cmpi .eq (BitVec.ofNat 32 n.val) 255#32)) 0#32 (IntOp.subi (BitVec.ofNat 32 n.val) 126#32)
      = if n.val = 0 ∨ n.val = 255 then 0#32 else BitVec.ofNat 32 n.val - 126#32 := by decide +kernel
  exact h' ⟨K, by omega⟩

/-- Two to an integer power, as the reference computes it. -/
theorem pow_two (b : BitVec 32) : Ideal.pow (Ideal.ofBits .f32 0x40000000#32) ((b.toInt : ℝ) : EReal) = (((2 : ℝ) ^ b.toInt : ℝ) : EReal) := by
  have h2 : Ideal.ofBits .f32 0x40000000#32 = ((2 : ℝ) : EReal) := by
    have := th_mid 128 (by omega) (by omega)
    unfold th at this
    refine Eq.trans ?_ (this.trans ?_)
    · rfl
    · norm_num
  rw [h2]
  show ((Real.rpow 2 (b.toInt : ℝ) : ℝ) : EReal) = _
  congr 1
  exact Real.rpow_intCast 2 b.toInt

/-- The kernel's power of two from its bits is the reference's: minus infinity at exponent 128, zero at 127, else two to the minus exponent. -/
theorem kinv_bits (K : ℕ) (hK : K ≤ 255) : Ideal.ofBits .f32 (IntOp.shli .vector (IntOp.subi 127#32 (eK K)) 23#32)
    = Scalar.select (IntOp.cmpi .sgt (eK K) 126#32) (Scalar.select (IntOp.cmpi .sgt (eK K) 127#32) (Ideal.ofBits .f32 0xFF800000#32) (Ideal.ofBits .f32 0x00000000#32))
        (Ideal.pow (Ideal.ofBits .f32 0x40000000#32) (((-(eK K)).toInt : ℝ) : EReal)) := by
  rw [pow_two]
  rcases Nat.lt_or_ge K 253 with h | h
  · have e1 : ∀ n : Fin 253, IntOp.cmpi .sgt (eK n.val) 126#32 = 0#1 ∧ ∃ c : Fin 255, 1 ≤ c.val ∧ IntOp.shli .vector (IntOp.subi 127#32 (eK n.val)) 23#32 = BitVec.ofNat 32 (c.val * 2 ^ 23)
        ∧ (-(eK n.val)).toInt = (c.val : ℤ) - 127 := by
      unfold eK; decide +kernel
    obtain ⟨h1, c, hc, h2, h3⟩ := e1 ⟨K, h⟩
    dsimp only at h1 h2 h3
    rw [h1, h2, h3]
    exact th_mid c.val hc (by have := c.isLt; omega)
  · rcases (by omega : K = 253 ∨ K = 254 ∨ K = 255) with rfl | rfl | rfl
    · rfl
    · rfl
    · have h3 : (-(eK 255)).toInt = (127 : ℤ) - 127 := by decide
      rw [h3]
      exact th_mid 127 (by omega) (by omega)

/-- The count of the powers of two at most `t`, as the reference computes it. -/
def rcount (t : EReal) : BitVec 32 :=
  Finset.univ.fold IntOp.addi 0#32 fun i : Fin 254 => (Ideal.cmp .oge t (Ideal.pow (Ideal.ofBits .f32 0x40000000#32)
    (((IntOp.addi 4294967170#32 (BitVec.ofNat 32 i.val)).toInt : ℝ) : EReal))).setWidth 32

/-- The reference's exponent. -/
def rE (t : EReal) : BitVec 32 :=
  Scalar.select (IntOp.ori (Ideal.cmp .olt t (Ideal.ofBits .f32 0x00800000#32)) (Ideal.cmp .oeq t (Ideal.ofBits .f32 0x7F800000#32))) 0#32
    (IntOp.addi (rcount t) 4294967170#32)

/-- The reference's power of two. -/
def rinv (t : EReal) : EReal :=
  Scalar.select (IntOp.cmpi .sgt (rE t) 126#32) (Scalar.select (IntOp.cmpi .sgt (rE t) 127#32) (Ideal.ofBits .f32 0xFF800000#32) (Ideal.ofBits .f32 0x00000000#32))
    (Ideal.pow (Ideal.ofBits .f32 0x40000000#32) (((-(rE t)).toInt : ℝ) : EReal))

/-- A sum of words of numbers is the word of the sum. -/
theorem fold_addi {ι : Type} [DecidableEq ι] (s : Finset ι) (g : ι → ℕ) :
    s.fold IntOp.addi 0#32 (fun i => BitVec.ofNat 32 (g i)) = BitVec.ofNat 32 (∑ i ∈ s, g i) := by
  induction s using Finset.induction_on with
  | empty => rfl
  | insert a s ha ih =>
    rw [Finset.fold_insert ha, Finset.sum_insert ha, ih]
    exact (BitVec.ofNat_add _ _).symm

/-- The count is the field, but for the infinity's. -/
theorem rcount_eq (t : EReal) (K : ℕ) (h : IsK t K) : rcount t = BitVec.ofNat 32 (min K 254) := by
  unfold rcount
  have e : ∀ i : Fin 254, (Ideal.cmp .oge t (Ideal.pow (Ideal.ofBits .f32 0x40000000#32)
      (((IntOp.addi 4294967170#32 (BitVec.ofNat 32 i.val)).toInt : ℝ) : EReal))).setWidth 32 = BitVec.ofNat 32 (if i.val + 1 ≤ K then 1 else 0) := by
    intro i
    have hi : ∀ i : Fin 254, (IntOp.addi 4294967170#32 (BitVec.ofNat 32 i.val)).toInt = ((i.val + 1 : ℕ) : ℤ) - 127 := by decide +kernel
    rw [pow_two, hi, ← th_mid _ (by omega) (by omega)]
    have hle := h.le_iff (i.val + 1) (by omega) (by omega)
    show (BitVec.ofBool (decide (th (i.val + 1) ≤ t))).setWidth 32 = _
    by_cases hc : i.val + 1 ≤ K
    · rw [if_pos hc, decide_eq_true (hle.mpr hc)]; rfl
    · rw [if_neg hc, decide_eq_false (fun q => hc (hle.mp q))]; rfl
  simp only [e]
  rw [fold_addi]
  refine congrArg _ ?_
  have hs : ∀ K : Fin 256, ∑ i : Fin 254, (if i.val + 1 ≤ K.val then 1 else 0) = min K.val 254 := by decide +kernel
  exact hs ⟨K, by have := h.1; omega⟩

/-- The two exponents agree. -/
theorem kE_eq_rE (t : EReal) : kE t = rE t := by
  obtain ⟨K, hk, h⟩ := kex_isK t
  rw [kE_eq t K h.1 hk]
  unfold rE
  rw [rcount_eq t K h]
  have h1 : Ideal.cmp .olt t (Ideal.ofBits .f32 0x00800000#32) = BitVec.ofBool (decide (K = 0)) := by
    have hle := h.le_iff 1 (by omega) (by omega)
    show BitVec.ofBool (decide (t < th 1)) = _
    refine congrArg _ (decide_eq_decide.mpr ?_)
    rw [← not_le, hle]
    omega
  have h2 : Ideal.cmp .oeq t (Ideal.ofBits .f32 0x7F800000#32) = BitVec.ofBool (decide (K = 255)) := by
    have hle := h.le_iff 255 (by omega) (by omega)
    show BitVec.ofBool (decide (t = th 255)) = _
    refine congrArg _ (decide_eq_decide.mpr ?_)
    rw [th_top, ← top_le_iff, ← th_top, hle]
    have := h.1
    omega
  rw [h1, h2]
  have hs : ∀ K : Fin 256, eK K.val = Scalar.select (IntOp.ori (BitVec.ofBool (decide (K.val = 0))) (BitVec.ofBool (decide (K.val = 255)))) 0#32 (IntOp.addi (BitVec.ofNat 32 (min K.val 254)) 4294967170#32) := by
    unfold eK; decide +kernel
  exact hs ⟨K, by have := h.1; omega⟩

/-- The two powers of two agree. -/
theorem kinv_eq_rinv (t : EReal) : kinv t = rinv t := by
  unfold rinv
  rw [← kE_eq_rE]
  obtain ⟨K, hk, h⟩ := kex_isK t
  unfold kinv
  rw [kE_eq t K h.1 hk]
  exact kinv_bits K h.1

end Cert.Spec

end
-- ==== Proof.Rows.lean ====
/- A normalized row: its blocks' scales, its codes and its exponents. -/
module

public import proofs.«01_k».proof.Proof.ExpK
public import proofs.«01_k».proof.Proof.Chain

@[expose] public section

set_option maxRecDepth 16384

noncomputable section

namespace Cert.Spec

open Idealize.ShloMosaic Idealize.ShloMosaic.TcCoe Idealize.ShloMosaic.Tactic

/-- The normalized row: distance from the mean over the deviation, times the scale, plus the shift. -/
def yRow (x : Fin 6912 → EReal) (m r : EReal) (g b : Fin 6912 → EReal) (c : Fin 6912) : EReal := (x c - m) * r * g c + b c

/-- The scaled maximum of block `k` of 32 channels. -/
def rowT (f : Fin 6912 → EReal) (k : Fin 216) : EReal :=
  (Finset.univ.sup fun j : Fin 32 => aabs (f ⟨32 * k.val + j.val, by omega⟩)) * Ideal.ofBits .f32 0x3B124925#32

/-- The code of channel `c`. -/
def rowCode (f : Fin 6912 → EReal) (c : Fin 6912) : EReal := clip (f c * rinv (rowT f ⟨c.val / 32, by omega⟩))

/-- The stored exponent of block `k`. -/
def rowExp (f : Fin 6912 → EReal) (k : Fin 216) : BitVec 8 := (IntOp.addi (rE (rowT f k)) 127#32).setWidth 8

/-- The merged mean of row `p`, lane `l`. -/
def rMean (n : Fin 3 → EReal) (x : Fin 12 → Fin 128 → Fin 6912 → EReal) (a : Fin 3 → Fin 12 → Fin 128 → EReal) (p : Fin 12) (l : Fin 128) : EReal :=
  chMean (n 0) (n 1) (n 2) (a 0 p l) (a 1 p l) (a 2 p l) (meanOf (x p l))

/-- The reciprocal of the merged deviation of row `p`, lane `l`. -/
def rRstd (n : Fin 3 → EReal) (x : Fin 12 → Fin 128 → Fin 6912 → EReal) (a q : Fin 3 → Fin 12 → Fin 128 → EReal) (p : Fin 12) (l : Fin 128) : EReal :=
  chRstd (n 0) (n 1) (n 2) (a 0 p l) (a 1 p l) (a 2 p l) (meanOf (x p l)) (q 0 p l) (q 1 p l) (q 2 p l) (m2Of (x p l))

/-- The normalized row `p`, lane `l`. -/
def rY (n : Fin 3 → EReal) (x : Fin 12 → Fin 128 → Fin 6912 → EReal) (a q : Fin 3 → Fin 12 → Fin 128 → EReal) (g b : Fin 6912 → EReal) (p : Fin 12) (l : Fin 128) : Fin 6912 → EReal :=
  yRow (x p l) (rMean n x a p l) (rRstd n x a q p l) g b

end Cert.Spec

end
-- ==== Proof.MaxR.lean ====
/- A block's maximum in the loop's order is its maximum over the block's channels. -/
module

public import proofs.«01_k».proof.Proof.Perm
public import proofs.«01_k».proof.Proof.Rows
public import proofs.«01_k».proof.Proof.TripW

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec

/-- The channel of the row of channel `c`. -/
theorem chan_rowOf : ∀ c : Fin 256, chan (rowOf c) = c := by decide +kernel
/-- The block of the row of channel `c`. -/
theorem rowOf_block : ∀ c : Fin 256, (rowOf c).val % 32 / 4 = c.val / 32 := by decide +kernel

/-- The nested maximum of thirty-two values is their supremum. -/
theorem nest_sup (f : Fin 32 → EReal) :
    max (max (max (max (max (max (max (max (max (max (f 0) (f 4)) (f 8)) (f 12)) (f 16)) (f 20)) (f 24)) (f 28)) (max (max (max (max (max (max (max (f 1) (f 5)) (f 9)) (f 13)) (f 17)) (f 21)) (f 25)) (f 29))) (max (max (max (max (max (max (max (f 2) (f 6)) (f 10)) (f 14)) (f 18)) (f 22)) (f 26)) (f 30))) (max (max (max (max (max (max (max (f 3) (f 7)) (f 11)) (f 15)) (f 19)) (f 23)) (f 27)) (f 31)) = Finset.univ.sup f := by
  apply le_antisymm
  · simp only [max_le_iff]
    simp only [Finset.le_sup (f := f) (Finset.mem_univ _), and_self]
  · refine Finset.sup_le fun j _ => ?_
    fin_cases j
    · simp only [le_max_iff]; exact Or.inl (Or.inl (Or.inl (Or.inl (Or.inl (Or.inl (Or.inl (Or.inl (Or.inl (Or.inl le_rfl)))))))))
    · simp only [le_max_iff]; exact Or.inl (Or.inl (Or.inr (Or.inl (Or.inl (Or.inl (Or.inl (Or.inl (Or.inl (Or.inl le_rfl)))))))))
    · simp only [le_max_iff]; exact Or.inl (Or.inr (Or.inl (Or.inl (Or.inl (Or.inl (Or.inl (Or.inl (Or.inl le_rfl))))))))
    · simp only [le_max_iff]; exact Or.inr (Or.inl (Or.inl (Or.inl (Or.inl (Or.inl (Or.inl (Or.inl le_rfl)))))))
    · simp only [le_max_iff]; exact Or.inl (Or.inl (Or.inl (Or.inl (Or.inl (Or.inl (Or.inl (Or.inl (Or.inl (Or.inr le_rfl)))))))))
    · simp only [le_max_iff]; exact Or.inl (Or.inl (Or.inr (Or.inl (Or.inl (Or.inl (Or.inl (Or.inl (Or.inl (Or.inr le_rfl)))))))))
    · simp only [le_max_iff]; exact Or.inl (Or.inr (Or.inl (Or.inl (Or.inl (Or.inl (Or.inl (Or.inl (Or.inr le_rfl))))))))
    · simp only [le_max_iff]; exact Or.inr (Or.inl (Or.inl (Or.inl (Or.inl (Or.inl (Or.inl (Or.inr le_rfl)))))))
    · simp only [le_max_iff]; exact Or.inl (Or.inl (Or.inl (Or.inl (Or.inl (Or.inl (Or.inl (Or.inl (Or.inr le_rfl))))))))
    · simp only [le_max_iff]; exact Or.inl (Or.inl (Or.inr (Or.inl (Or.inl (Or.inl (Or.inl (Or.inl (Or.inr le_rfl))))))))
    · simp only [le_max_iff]; exact Or.inl (Or.inr (Or.inl (Or.inl (Or.inl (Or.inl (Or.inl (Or.inr le_rfl)))))))
    · simp only [le_max_iff]; exact Or.inr (Or.inl (Or.inl (Or.inl (Or.inl (Or.inl (Or.inr le_rfl))))))
    · simp only [le_max_iff]; exact Or.inl (Or.inl (Or.inl (Or.inl (Or.inl (Or.inl (Or.inl (Or.inr le_rfl)))))))
    · simp only [le_max_iff]; exact Or.inl (Or.inl (Or.inr (Or.inl (Or.inl (Or.inl (Or.inl (Or.inr le_rfl)))))))
    · simp only [le_max_iff]; exact Or.inl (Or.inr (Or.inl (Or.inl (Or.inl (Or.inl (Or.inr le_rfl))))))
    · simp only [le_max_iff]; exact Or.inr (Or.inl (Or.inl (Or.inl (Or.inl (Or.inr le_rfl)))))
    · simp only [le_max_iff]; exact Or.inl (Or.inl (Or.inl (Or.inl (Or.inl (Or.inl (Or.inr le_rfl))))))
    · simp only [le_max_iff]; exact Or.inl (Or.inl (Or.inr (Or.inl (Or.inl (Or.inl (Or.inr le_rfl))))))
    · simp only [le_max_iff]; exact Or.inl (Or.inr (Or.inl (Or.inl (Or.inl (Or.inr le_rfl)))))
    · simp only [le_max_iff]; exact Or.inr (Or.inl (Or.inl (Or.inl (Or.inr le_rfl))))
    · simp only [le_max_iff]; exact Or.inl (Or.inl (Or.inl (Or.inl (Or.inl (Or.inr le_rfl)))))
    · simp only [le_max_iff]; exact Or.inl (Or.inl (Or.inr (Or.inl (Or.inl (Or.inr le_rfl)))))
    · simp only [le_max_iff]; exact Or.inl (Or.inr (Or.inl (Or.inl (Or.inr le_rfl))))
    · simp only [le_max_iff]; exact Or.inr (Or.inl (Or.inl (Or.inr le_rfl)))
    · simp only [le_max_iff]; exact Or.inl (Or.inl (Or.inl (Or.inl (Or.inr le_rfl))))
    · simp only [le_max_iff]; exact Or.inl (Or.inl (Or.inr (Or.inl (Or.inr le_rfl))))
    · simp only [le_max_iff]; exact Or.inl (Or.inr (Or.inl (Or.inr le_rfl)))
    · simp only [le_max_iff]; exact Or.inr (Or.inl (Or.inr le_rfl))
    · simp only [le_max_iff]; exact Or.inl (Or.inl (Or.inl (Or.inr le_rfl)))
    · simp only [le_max_iff]; exact Or.inl (Or.inl (Or.inr (Or.inr le_rfl)))
    · simp only [le_max_iff]; exact Or.inl (Or.inr (Or.inr le_rfl))
    · simp only [le_max_iff]; exact Or.inr (Or.inr le_rfl)

/-- The scaled maximum of a tile's block, from the row's entries. -/
theorem TT_row (Y : Fin 256 → Fin 128 → EReal) (f : Fin 6912 → EReal) (k : Fin 27) (l : Fin 128) (g : Fin 8) (kb : Fin 216) (hkb : kb.val = 8 * k.val + g.val)
    (h : ∀ r j, (j : Fin 6912).val = 256 * k.val + (chan r).val → Y r l = f j) : TT Y g l = rowT f kb := by
  have hg := g.isLt
  have hh : ∀ (q : ℕ) (b : ℕ) (hq : q < 8) (hb : b < 4) (p : 32 * q + (4 * g.val + b) < 256) (p' : 32 * kb.val + (4 * q + b) < 6912), Y ⟨32 * q + (4 * g.val + b), p⟩ l = f ⟨32 * kb.val + (4 * q + b), p'⟩ := by
    intro q b hq hb p p'
    apply h
    show 32 * kb.val + (4 * q + b) = 256 * k.val + (64 * ((32 * q + (4 * g.val + b)) / 8 % 4) + 32 * ((32 * q + (4 * g.val + b)) / 4 % 2) + 4 * ((32 * q + (4 * g.val + b)) / 32) + (32 * q + (4 * g.val + b)) % 4)
    omega
  unfold TT rowT
  refine congrArg (fun z => z * Ideal.ofBits .f32 0x3B124925#32) ?_
  rw [← nest_sup]
  unfold MX
  dsimp only
  have h0_0 : ∀ p, Y ⟨4 * g.val, p⟩ l = f ⟨32 * kb.val + 0, by have := kb.isLt; omega⟩ := fun p => (congrArg (fun r => Y r l) (Fin.ext (by show 4 * g.val = 32 * 0 + (4 * g.val + 0); omega))).trans (hh 0 0 (by omega) (by omega) (by omega) (by have := kb.isLt; omega))
  have h0_1 : ∀ p, Y ⟨4 * g.val + 1, p⟩ l = f ⟨32 * kb.val + 1, by have := kb.isLt; omega⟩ := fun p => (congrArg (fun r => Y r l) (Fin.ext (by show 4 * g.val + 1 = 32 * 0 + (4 * g.val + 1); omega))).trans (hh 0 1 (by omega) (by omega) (by omega) (by have := kb.isLt; omega))
  have h0_2 : ∀ p, Y ⟨4 * g.val + 2, p⟩ l = f ⟨32 * kb.val + 2, by have := kb.isLt; omega⟩ := fun p => (congrArg (fun r => Y r l) (Fin.ext (by show 4 * g.val + 2 = 32 * 0 + (4 * g.val + 2); omega))).trans (hh 0 2 (by omega) (by omega) (by omega) (by have := kb.isLt; omega))
  have h0_3 : ∀ p, Y ⟨4 * g.val + 3, p⟩ l = f ⟨32 * kb.val + 3, by have := kb.isLt; omega⟩ := fun p => (congrArg (fun r => Y r l) (Fin.ext (by show 4 * g.val + 3 = 32 * 0 + (4 * g.val + 3); omega))).trans (hh 0 3 (by omega) (by omega) (by omega) (by have := kb.isLt; omega))
  have h1_0 : ∀ p, Y ⟨32 + 4 * g.val, p⟩ l = f ⟨32 * kb.val + 4, by have := kb.isLt; omega⟩ := fun p => (congrArg (fun r => Y r l) (Fin.ext (by show 32 + 4 * g.val = 32 * 1 + (4 * g.val + 0); omega))).trans (hh 1 0 (by omega) (by omega) (by omega) (by have := kb.isLt; omega))
  have h1_1 : ∀ p, Y ⟨32 + (4 * g.val + 1), p⟩ l = f ⟨32 * kb.val + 5, by have := kb.isLt; omega⟩ := fun p => (congrArg (fun r => Y r l) (Fin.ext (by show 32 + (4 * g.val + 1) = 32 * 1 + (4 * g.val + 1); omega))).trans (hh 1 1 (by omega) (by omega) (by omega) (by have := kb.isLt; omega))
  have h1_2 : ∀ p, Y ⟨32 + (4 * g.val + 2), p⟩ l = f ⟨32 * kb.val + 6, by have := kb.isLt; omega⟩ := fun p => (congrArg (fun r => Y r l) (Fin.ext (by show 32 + (4 * g.val + 2) = 32 * 1 + (4 * g.val + 2); omega))).trans (hh 1 2 (by omega) (by omega) (by omega) (by have := kb.isLt; omega))
  have h1_3 : ∀ p, Y ⟨32 + (4 * g.val + 3), p⟩ l = f ⟨32 * kb.val + 7, by have := kb.isLt; omega⟩ := fun p => (congrArg (fun r => Y r l) (Fin.ext (by show 32 + (4 * g.val + 3) = 32 * 1 + (4 * g.val + 3); omega))).trans (hh 1 3 (by omega) (by omega) (by omega) (by have := kb.isLt; omega))
  have h2_0 : ∀ p, Y ⟨64 + 4 * g.val, p⟩ l = f ⟨32 * kb.val + 8, by have := kb.isLt; omega⟩ := fun p => (congrArg (fun r => Y r l) (Fin.ext (by show 64 + 4 * g.val = 32 * 2 + (4 * g.val + 0); omega))).trans (hh 2 0 (by omega) (by omega) (by omega) (by have := kb.isLt; omega))
  have h2_1 : ∀ p, Y ⟨64 + (4 * g.val + 1), p⟩ l = f ⟨32 * kb.val + 9, by have := kb.isLt; omega⟩ := fun p => (congrArg (fun r => Y r l) (Fin.ext (by show 64 + (4 * g.val + 1) = 32 * 2 + (4 * g.val + 1); omega))).trans (hh 2 1 (by omega) (by omega) (by omega) (by have := kb.isLt; omega))
  have h2_2 : ∀ p, Y ⟨64 + (4 * g.val + 2), p⟩ l = f ⟨32 * kb.val + 10, by have := kb.isLt; omega⟩ := fun p => (congrArg (fun r => Y r l) (Fin.ext (by show 64 + (4 * g.val + 2) = 32 * 2 + (4 * g.val + 2); omega))).trans (hh 2 2 (by omega) (by omega) (by omega) (by have := kb.isLt; omega))
  have h2_3 : ∀ p, Y ⟨64 + (4 * g.val + 3), p⟩ l = f ⟨32 * kb.val + 11, by have := kb.isLt; omega⟩ := fun p => (congrArg (fun r => Y r l) (Fin.ext (by show 64 + (4 * g.val + 3) = 32 * 2 + (4 * g.val + 3); omega))).trans (hh 2 3 (by omega) (by omega) (by omega) (by have := kb.isLt; omega))
  have h3_0 : ∀ p, Y ⟨96 + 4 * g.val, p⟩ l = f ⟨32 * kb.val + 12, by have := kb.isLt; omega⟩ := fun p => (congrArg (fun r => Y r l) (Fin.ext (by show 96 + 4 * g.val = 32 * 3 + (4 * g.val + 0); omega))).trans (hh 3 0 (by omega) (by omega) (by omega) (by have := kb.isLt; omega))
  have h3_1 : ∀ p, Y ⟨96 + (4 * g.val + 1), p⟩ l = f ⟨32 * kb.val + 13, by have := kb.isLt; omega⟩ := fun p => (congrArg (fun r => Y r l) (Fin.ext (by show 96 + (4 * g.val + 1) = 32 * 3 + (4 * g.val + 1); omega))).trans (hh 3 1 (by omega) (by omega) (by omega) (by have := kb.isLt; omega))
  have h3_2 : ∀ p, Y ⟨96 + (4 * g.val + 2), p⟩ l = f ⟨32 * kb.val + 14, by have := kb.isLt; omega⟩ := fun p => (congrArg (fun r => Y r l) (Fin.ext (by show 96 + (4 * g.val + 2) = 32 * 3 + (4 * g.val + 2); omega))).trans (hh 3 2 (by omega) (by omega) (by omega) (by have := kb.isLt; omega))
  have h3_3 : ∀ p, Y ⟨96 + (4 * g.val + 3), p⟩ l = f ⟨32 * kb.val + 15, by have := kb.isLt; omega⟩ := fun p => (congrArg (fun r => Y r l) (Fin.ext (by show 96 + (4 * g.val + 3) = 32 * 3 + (4 * g.val + 3); omega))).trans (hh 3 3 (by omega) (by omega) (by omega) (by have := kb.isLt; omega))
  have h4_0 : ∀ p, Y ⟨128 + 4 * g.val, p⟩ l = f ⟨32 * kb.val + 16, by have := kb.isLt; omega⟩ := fun p => (congrArg (fun r => Y r l) (Fin.ext (by show 128 + 4 * g.val = 32 * 4 + (4 * g.val + 0); omega))).trans (hh 4 0 (by omega) (by omega) (by omega) (by have := kb.isLt; omega))
  have h4_1 : ∀ p, Y ⟨128 + (4 * g.val + 1), p⟩ l = f ⟨32 * kb.val + 17, by have := kb.isLt; omega⟩ := fun p => (congrArg (fun r => Y r l) (Fin.ext (by show 128 + (4 * g.val + 1) = 32 * 4 + (4 * g.val + 1); omega))).trans (hh 4 1 (by omega) (by omega) (by omega) (by have := kb.isLt; omega))
  have h4_2 : ∀ p, Y ⟨128 + (4 * g.val + 2), p⟩ l = f ⟨32 * kb.val + 18, by have := kb.isLt; omega⟩ := fun p => (congrArg (fun r => Y r l) (Fin.ext (by show 128 + (4 * g.val + 2) = 32 * 4 + (4 * g.val + 2); omega))).trans (hh 4 2 (by omega) (by omega) (by omega) (by have := kb.isLt; omega))
  have h4_3 : ∀ p, Y ⟨128 + (4 * g.val + 3), p⟩ l = f ⟨32 * kb.val + 19, by have := kb.isLt; omega⟩ := fun p => (congrArg (fun r => Y r l) (Fin.ext (by show 128 + (4 * g.val + 3) = 32 * 4 + (4 * g.val + 3); omega))).trans (hh 4 3 (by omega) (by omega) (by omega) (by have := kb.isLt; omega))
  have h5_0 : ∀ p, Y ⟨160 + 4 * g.val, p⟩ l = f ⟨32 * kb.val + 20, by have := kb.isLt; omega⟩ := fun p => (congrArg (fun r => Y r l) (Fin.ext (by show 160 + 4 * g.val = 32 * 5 + (4 * g.val + 0); omega))).trans (hh 5 0 (by omega) (by omega) (by omega) (by have := kb.isLt; omega))
  have h5_1 : ∀ p, Y ⟨160 + (4 * g.val + 1), p⟩ l = f ⟨32 * kb.val + 21, by have := kb.isLt; omega⟩ := fun p => (congrArg (fun r => Y r l) (Fin.ext (by show 160 + (4 * g.val + 1) = 32 * 5 + (4 * g.val + 1); omega))).trans (hh 5 1 (by omega) (by omega) (by omega) (by have := kb.isLt; omega))
  have h5_2 : ∀ p, Y ⟨160 + (4 * g.val + 2), p⟩ l = f ⟨32 * kb.val + 22, by have := kb.isLt; omega⟩ := fun p => (congrArg (fun r => Y r l) (Fin.ext (by show 160 + (4 * g.val + 2) = 32 * 5 + (4 * g.val + 2); omega))).trans (hh 5 2 (by omega) (by omega) (by omega) (by have := kb.isLt; omega))
  have h5_3 : ∀ p, Y ⟨160 + (4 * g.val + 3), p⟩ l = f ⟨32 * kb.val + 23, by have := kb.isLt; omega⟩ := fun p => (congrArg (fun r => Y r l) (Fin.ext (by show 160 + (4 * g.val + 3) = 32 * 5 + (4 * g.val + 3); omega))).trans (hh 5 3 (by omega) (by omega) (by omega) (by have := kb.isLt; omega))
  have h6_0 : ∀ p, Y ⟨192 + 4 * g.val, p⟩ l = f ⟨32 * kb.val + 24, by have := kb.isLt; omega⟩ := fun p => (congrArg (fun r => Y r l) (Fin.ext (by show 192 + 4 * g.val = 32 * 6 + (4 * g.val + 0); omega))).trans (hh 6 0 (by omega) (by omega) (by omega) (by have := kb.isLt; omega))
  have h6_1 : ∀ p, Y ⟨192 + (4 * g.val + 1), p⟩ l = f ⟨32 * kb.val + 25, by have := kb.isLt; omega⟩ := fun p => (congrArg (fun r => Y r l) (Fin.ext (by show 192 + (4 * g.val + 1) = 32 * 6 + (4 * g.val + 1); omega))).trans (hh 6 1 (by omega) (by omega) (by omega) (by have := kb.isLt; omega))
  have h6_2 : ∀ p, Y ⟨192 + (4 * g.val + 2), p⟩ l = f ⟨32 * kb.val + 26, by have := kb.isLt; omega⟩ := fun p => (congrArg (fun r => Y r l) (Fin.ext (by show 192 + (4 * g.val + 2) = 32 * 6 + (4 * g.val + 2); omega))).trans (hh 6 2 (by omega) (by omega) (by omega) (by have := kb.isLt; omega))
  have h6_3 : ∀ p, Y ⟨192 + (4 * g.val + 3), p⟩ l = f ⟨32 * kb.val + 27, by have := kb.isLt; omega⟩ := fun p => (congrArg (fun r => Y r l) (Fin.ext (by show 192 + (4 * g.val + 3) = 32 * 6 + (4 * g.val + 3); omega))).trans (hh 6 3 (by omega) (by omega) (by omega) (by have := kb.isLt; omega))
  have h7_0 : ∀ p, Y ⟨224 + 4 * g.val, p⟩ l = f ⟨32 * kb.val + 28, by have := kb.isLt; omega⟩ := fun p => (congrArg (fun r => Y r l) (Fin.ext (by show 224 + 4 * g.val = 32 * 7 + (4 * g.val + 0); omega))).trans (hh 7 0 (by omega) (by omega) (by omega) (by have := kb.isLt; omega))
  have h7_1 : ∀ p, Y ⟨224 + (4 * g.val + 1), p⟩ l = f ⟨32 * kb.val + 29, by have := kb.isLt; omega⟩ := fun p => (congrArg (fun r => Y r l) (Fin.ext (by show 224 + (4 * g.val + 1) = 32 * 7 + (4 * g.val + 1); omega))).trans (hh 7 1 (by omega) (by omega) (by omega) (by have := kb.isLt; omega))
  have h7_2 : ∀ p, Y ⟨224 + (4 * g.val + 2), p⟩ l = f ⟨32 * kb.val + 30, by have := kb.isLt; omega⟩ := fun p => (congrArg (fun r => Y r l) (Fin.ext (by show 224 + (4 * g.val + 2) = 32 * 7 + (4 * g.val + 2); omega))).trans (hh 7 2 (by omega) (by omega) (by omega) (by have := kb.isLt; omega))
  have h7_3 : ∀ p, Y ⟨224 + (4 * g.val + 3), p⟩ l = f ⟨32 * kb.val + 31, by have := kb.isLt; omega⟩ := fun p => (congrArg (fun r => Y r l) (Fin.ext (by show 224 + (4 * g.val + 3) = 32 * 7 + (4 * g.val + 3); omega))).trans (hh 7 3 (by omega) (by omega) (by omega) (by have := kb.isLt; omega))
  simp only [h0_0, h0_1, h0_2, h0_3, h1_0, h1_1, h1_2, h1_3, h2_0, h2_1, h2_2, h2_3, h3_0, h3_1, h3_2, h3_3, h4_0, h4_1, h4_2, h4_3, h5_0, h5_1, h5_2, h5_3, h6_0, h6_1, h6_2, h6_3, h7_0, h7_1, h7_2, h7_3]
  rfl

/-- The code of a tile's channel, from the row's entries. -/
theorem ZZ_row (Y : Fin 256 → Fin 128 → EReal) (f : Fin 6912 → EReal) (k : Fin 27) (l : Fin 128) (c : Fin 256) (j : Fin 6912) (hj : j.val = 256 * k.val + c.val)
    (h : ∀ r j, (j : Fin 6912).val = 256 * k.val + (chan r).val → Y r l = f j) : ZZ Y (rowOf c) l = rowCode f j := by
  have hk := k.isLt
  have hc := c.isLt
  unfold ZZ rowCode
  have eg := rowOf_block c
  rw [TT_row Y f k l ⟨(rowOf c).val % 32 / 4, by omega⟩ ⟨j.val / 32, by omega⟩ (by show j.val / 32 = 8 * k.val + (rowOf c).val % 32 / 4; omega) h,
    kinv_eq_rinv, h (rowOf c) j (by rw [chan_rowOf]; exact hj)]

/-- The biased exponent of a tile's block, from the row's entries. -/
theorem kbias_row (Y : Fin 256 → Fin 128 → EReal) (f : Fin 6912 → EReal) (k : Fin 27) (l : Fin 128) (g : Fin 8) (kb : Fin 216) (hkb : kb.val = 8 * k.val + g.val)
    (h : ∀ r j, (j : Fin 6912).val = 256 * k.val + (chan r).val → Y r l = f j) : kbias (TT Y g l) = IntOp.addi (rE (rowT f kb)) 127#32 := by
  unfold kbias
  rw [TT_row Y f k l g kb hkb h, kE_eq_rE]

end Cert.KernelIdeal.Hand

end
-- ==== Proof.BodyVal.lean ====
/- The body's buffers on its input blocks: the scratch of statistics, the block of codes and the block of exponents. -/
module

public import proofs.«01_k».proof.Proof.LoopT
public import proofs.«01_k».proof.Proof.Fill
public import proofs.«01_k».proof.Proof.Stats
public import proofs.«01_k».proof.Proof.MaxR

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec

/-- There are six points. -/
theorem pt_lt : ∀ i : grid0.Coords, (i 0).val < 6 := by decide +kernel
/-- The row of a peer's statistic read for batch half 0. -/
theorem off35_0 : ∀ i : grid0.Coords, k0_off35 i 0#32 = ![0, 2 * (i 0).val + 0, 0] := by decide +kernel
/-- The row of a peer's statistic read for batch half 1. -/
theorem off35_1 : ∀ i : grid0.Coords, k0_off35 i 1#32 = ![0, 2 * (i 0).val + 1, 0] := by decide +kernel
/-- The row of a peer's statistic read for batch half 0. -/
theorem off36_0 : ∀ i : grid0.Coords, k0_off36 i 0#32 = ![1, 2 * (i 0).val + 0, 0] := by decide +kernel
/-- The row of a peer's statistic read for batch half 1. -/
theorem off36_1 : ∀ i : grid0.Coords, k0_off36 i 1#32 = ![1, 2 * (i 0).val + 1, 0] := by decide +kernel
/-- The row of a peer's statistic read for batch half 0. -/
theorem off37_0 : ∀ i : grid0.Coords, k0_off37 i 0#32 = ![2, 2 * (i 0).val + 0, 0] := by decide +kernel
/-- The row of a peer's statistic read for batch half 1. -/
theorem off37_1 : ∀ i : grid0.Coords, k0_off37 i 1#32 = ![2, 2 * (i 0).val + 1, 0] := by decide +kernel
/-- The row of a peer's statistic read for batch half 0. -/
theorem off38_0 : ∀ i : grid0.Coords, k0_off38 i 0#32 = ![2 * (i 0).val + 0, 0] := by decide +kernel
/-- The row of a peer's statistic read for batch half 1. -/
theorem off38_1 : ∀ i : grid0.Coords, k0_off38 i 1#32 = ![2 * (i 0).val + 1, 0] := by decide +kernel

/-- The merged mean of row `h`, lane `l` of the block at point `i`. -/
def bM (n : S3.Idx → EReal) (x : S2x128x6912.Idx → EReal) (a : S3x12x128.Idx → EReal) (i : grid0.Coords) (h : Fin 2) (l : Fin 128) : EReal :=
  chMean (n (ix1 0)) (n (ix1 1)) (n (ix1 2)) (a (ix3 0 ⟨2 * (i 0).val + h.val, by have := pt_lt i; omega⟩ l)) (a (ix3 1 ⟨2 * (i 0).val + h.val, by have := pt_lt i; omega⟩ l)) (a (ix3 2 ⟨2 * (i 0).val + h.val, by have := pt_lt i; omega⟩ l))
    (meanOf fun j => x (ix3 h l j))

/-- The reciprocal of the merged deviation of row `h`, lane `l` of the block at point `i`. -/
def bR (n : S3.Idx → EReal) (x : S2x128x6912.Idx → EReal) (a q : S3x12x128.Idx → EReal) (i : grid0.Coords) (h : Fin 2) (l : Fin 128) : EReal :=
  chRstd (n (ix1 0)) (n (ix1 1)) (n (ix1 2)) (a (ix3 0 ⟨2 * (i 0).val + h.val, by have := pt_lt i; omega⟩ l)) (a (ix3 1 ⟨2 * (i 0).val + h.val, by have := pt_lt i; omega⟩ l)) (a (ix3 2 ⟨2 * (i 0).val + h.val, by have := pt_lt i; omega⟩ l))
    (meanOf fun j => x (ix3 h l j))
    (q (ix3 0 ⟨2 * (i 0).val + h.val, by have := pt_lt i; omega⟩ l)) (q (ix3 1 ⟨2 * (i 0).val + h.val, by have := pt_lt i; omega⟩ l)) (q (ix3 2 ⟨2 * (i 0).val + h.val, by have := pt_lt i; omega⟩ l))
    (m2Of fun j => x (ix3 h l j))

/-- The normalized row `h`, lane `l` of the block at point `i`. -/
def bY (n : S3.Idx → EReal) (x : S2x128x6912.Idx → EReal) (a q : S3x12x128.Idx → EReal) (g b : S1x6912.Idx → EReal) (i : grid0.Coords) (h : Fin 2) (l : Fin 128) : Fin 6912 → EReal :=
  yRow (fun c => x (ix3 h l c)) (bM n x a i h l) (bR n x a q i h l) (fun c => g (ix2 0 c)) (fun c => b (ix2 0 c))

/-- Peer 0's count. -/
theorem cnt_0 (arg1 : Memref sig .tc .smem S3 .f32) (X1 : BufTy.Contents (Elt Ideal) arg1.view.ty) (o : S1.Idx) :
    View.readAt (Elt Ideal) arg1.view (Rect.unit (s := S3) ![0] S1.size inb_S3_S1_0).toLoadRect X1 o = arg1.view.read (Elt Ideal) X1 (ix1 0) := by
  refine congrArg (arg1.view.read (Elt Ideal) X1) ?_
  funext d
  fin_cases d
  have ho : (o 0).val < 1 := (o 0).isLt
  exact Fin.ext (by show 0 + 1 * (o 0).val = 0; omega)

/-- Peer 1's count. -/
theorem cnt_1 (arg1 : Memref sig .tc .smem S3 .f32) (X1 : BufTy.Contents (Elt Ideal) arg1.view.ty) (o : S1.Idx) :
    View.readAt (Elt Ideal) arg1.view (Rect.unit (s := S3) ![1] S1.size inb_S3_S1_1).toLoadRect X1 o = arg1.view.read (Elt Ideal) X1 (ix1 1) := by
  refine congrArg (arg1.view.read (Elt Ideal) X1) ?_
  funext d
  fin_cases d
  have ho : (o 0).val < 1 := (o 0).isLt
  exact Fin.ext (by show 1 + 1 * (o 0).val = 1; omega)

/-- Peer 2's count. -/
theorem cnt_2 (arg1 : Memref sig .tc .smem S3 .f32) (X1 : BufTy.Contents (Elt Ideal) arg1.view.ty) (o : S1.Idx) :
    View.readAt (Elt Ideal) arg1.view (Rect.unit (s := S3) ![2] S1.size inb_S3_S1_2).toLoadRect X1 o = arg1.view.read (Elt Ideal) X1 (ix1 2) := by
  refine congrArg (arg1.view.read (Elt Ideal) X1) ?_
  funext d
  fin_cases d
  have ho : (o 0).val < 1 := (o 0).isLt
  exact Fin.ext (by show 2 + 1 * (o 0).val = 2; omega)

/-- The whole block. -/
theorem whole2 (arg2 : Memref sig .tc .vmem S2x128x6912 .bf16) (X2 : BufTy.Contents (Elt Ideal) arg2.view.ty) :
    View.readAt (Elt Ideal) arg2.view (Rect.unit (s := S2x128x6912) ![0, 0, 0] S2x128x6912.size inb_S2x128x6912_S2x128x6912_0_0_0).toLoadRect X2 = arg2.view.read (Elt Ideal) X2 := by
  funext x
  refine congrArg (arg2.view.read (Elt Ideal) X2) ?_
  funext d
  fin_cases d
  · exact Fin.ext (by show 0 + 1 * (x 0).val = (x 0).val; omega)
  · exact Fin.ext (by show 0 + 1 * (x 1).val = (x 1).val; omega)
  · exact Fin.ext (by show 0 + 1 * (x 2).val = (x 2).val; omega)

/-- A row of a peer's statistics. -/
theorem peer_row (arg3 : Memref sig .tc .vmem S3x12x128 .f32) (X3 : BufTy.Contents (Elt Ideal) arg3.view.ty) (p : Fin 3) (r : Fin 12) (off : Fin 3 → ℕ) (ho : off = ![p.val, r.val, 0]) (inb) (l : Fin 128) :
    View.readAt (Elt Ideal) arg3.view (Rect.unit (s := S3x12x128) off S1x1x128.size inb).toLoadRect X3 (ix3 0 0 l) = arg3.view.read (Elt Ideal) X3 (ix3 p r l) := by
  subst ho
  refine congrArg (arg3.view.read (Elt Ideal) X3) ?_
  funext d
  fin_cases d
  · exact Fin.ext (by show p.val + 1 * 0 = p.val; omega)
  · exact Fin.ext (by show r.val + 1 * 0 = r.val; omega)
  · exact Fin.ext (by show 0 + 1 * l.val = l.val; omega)

/-- The mean the body stores for row 0. -/
theorem body_mean_0 (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X1 : BufTy.Contents (Elt Ideal) arg1.view.ty) (X2 : BufTy.Contents (Elt Ideal) arg2.view.ty) (X3 : BufTy.Contents (Elt Ideal) arg3.view.ty) (o : S1.Idx) (z : Fin 1) (l : Fin 128) : k0_pay338 (F := Ideal) (k0_pay322 (F := Ideal) (View.readAt (Elt Ideal) arg2.view (Rect.unit (s := S2x128x6912) ![0, 0, 0] S2x128x6912.size inb_S2x128x6912_S2x128x6912_0_0_0).toLoadRect X2)) (k0_pay326 (F := Ideal) (View.readAt (Elt Ideal) arg3.view (Rect.unit (s := S3x12x128) (k0_off35 i 0#32) S1x1x128.size (k0_off35_inb i 0)).toLoadRect X3)) (View.readAt (Elt Ideal) arg1.view (Rect.unit (s := S3) ![1] S1.size inb_S3_S1_1).toLoadRect X1 o) (k0_pay328 (F := Ideal) (View.readAt (Elt Ideal) arg3.view (Rect.unit (s := S3x12x128) (k0_off36 i 0#32) S1x1x128.size (k0_off36_inb i 0)).toLoadRect X3)) (k0_pay330 (F := Ideal) (View.readAt (Elt Ideal) arg1.view (Rect.unit (s := S3) ![0] S1.size inb_S3_S1_0).toLoadRect X1 o) (View.readAt (Elt Ideal) arg1.view (Rect.unit (s := S3) ![1] S1.size inb_S3_S1_1).toLoadRect X1 o)) (View.readAt (Elt Ideal) arg1.view (Rect.unit (s := S3) ![2] S1.size inb_S3_S1_2).toLoadRect X1 o) (View.readAt (Elt Ideal) arg3.view (Rect.unit (s := S3x12x128) (k0_off37 i 0#32) S1x1x128.size (k0_off37_inb i 0)).toLoadRect X3) (ix2 z l) = bM (arg1.view.read (Elt Ideal) X1) (arg2.view.read (Elt Ideal) X2) (arg3.view.read (Elt Ideal) X3) i 0 l := by
  refine (mean_0 _ _ _ _ _ _ _ z l ⟨l.val, by omega⟩ rfl).trans ?_
  rw [cnt_0, cnt_1, cnt_2, whole2, peer_row arg3 X3 0 ⟨2 * (i 0).val + 0, by have := pt_lt i; omega⟩ _ (off35_0 i) (k0_off35_inb i 0) l, peer_row arg3 X3 1 ⟨2 * (i 0).val + 0, by have := pt_lt i; omega⟩ _ (off36_0 i) (k0_off36_inb i 0) l, peer_row arg3 X3 2 ⟨2 * (i 0).val + 0, by have := pt_lt i; omega⟩ _ (off37_0 i) (k0_off37_inb i 0) l, pay322_apply _ 0 ⟨l.val, by omega⟩ 0 l (by show l.val = 128 * 0 + l.val; omega)]
  rfl

/-- The reciprocal deviation the body stores for row 0. -/
theorem body_rstd_0 (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X11 : BufTy.Contents (Elt Ideal) arg11.view.ty) (hp : arg11.view.read (Elt Ideal) X11 = k0_pay320 (F := Ideal)) (o : S1.Idx) (z : Fin 1) (l : Fin 128) (n : ℕ) (hn : n = k0_t2_loop.trips) : k0_pay340 (F := Ideal) (k0_pay339 (F := Ideal) (k0_pay322 (F := Ideal) (View.readAt (Elt Ideal) arg2.view (Rect.unit (s := S2x128x6912) ![0, 0, 0] S2x128x6912.size inb_S2x128x6912_S2x128x6912_0_0_0).toLoadRect X2)) (k0_pay325 (F := Ideal) (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (View.readAt (Elt Ideal) arg2.view (Rect.unit (s := S2x128x6912) ![0, 0, 0] S2x128x6912.size inb_S2x128x6912_S2x128x6912_0_0_0).toLoadRect X2) X2 X11 (k0_pay323 (F := Ideal)) n)) (View.readAt (Elt Ideal) arg1.view (Rect.unit (s := S3) ![0] S1.size inb_S3_S1_0).toLoadRect X1 o) (k0_pay326 (F := Ideal) (View.readAt (Elt Ideal) arg3.view (Rect.unit (s := S3x12x128) (k0_off35 i 0#32) S1x1x128.size (k0_off35_inb i 0)).toLoadRect X3)) (k0_pay327 (F := Ideal) (View.readAt (Elt Ideal) arg4.view (Rect.unit (s := S3x12x128) (k0_off35 i 0#32) S1x1x128.size (k0_off35_inb i 0)).toLoadRect X4)) (View.readAt (Elt Ideal) arg1.view (Rect.unit (s := S3) ![1] S1.size inb_S3_S1_1).toLoadRect X1 o) (k0_pay328 (F := Ideal) (View.readAt (Elt Ideal) arg3.view (Rect.unit (s := S3x12x128) (k0_off36 i 0#32) S1x1x128.size (k0_off36_inb i 0)).toLoadRect X3)) (k0_pay329 (F := Ideal) (View.readAt (Elt Ideal) arg4.view (Rect.unit (s := S3x12x128) (k0_off36 i 0#32) S1x1x128.size (k0_off36_inb i 0)).toLoadRect X4)) (k0_pay330 (F := Ideal) (View.readAt (Elt Ideal) arg1.view (Rect.unit (s := S3) ![0] S1.size inb_S3_S1_0).toLoadRect X1 o) (View.readAt (Elt Ideal) arg1.view (Rect.unit (s := S3) ![1] S1.size inb_S3_S1_1).toLoadRect X1 o)) (View.readAt (Elt Ideal) arg1.view (Rect.unit (s := S3) ![2] S1.size inb_S3_S1_2).toLoadRect X1 o) (View.readAt (Elt Ideal) arg3.view (Rect.unit (s := S3x12x128) (k0_off37 i 0#32) S1x1x128.size (k0_off37_inb i 0)).toLoadRect X3) (View.readAt (Elt Ideal) arg4.view (Rect.unit (s := S3x12x128) (k0_off37 i 0#32) S1x1x128.size (k0_off37_inb i 0)).toLoadRect X4)) (ix2 z l) = bR (arg1.view.read (Elt Ideal) X1) (arg2.view.read (Elt Ideal) X2) (arg3.view.read (Elt Ideal) X3) (arg4.view.read (Elt Ideal) X4) i 0 l := by
  refine (rstd_0 _ _ _ _ _ _ _ _ _ _ _ z l ⟨l.val, by omega⟩ rfl).trans ?_
  rw [cnt_0, cnt_1, cnt_2, whole2, peer_row arg3 X3 0 ⟨2 * (i 0).val + 0, by have := pt_lt i; omega⟩ _ (off35_0 i) (k0_off35_inb i 0) l, peer_row arg3 X3 1 ⟨2 * (i 0).val + 0, by have := pt_lt i; omega⟩ _ (off36_0 i) (k0_off36_inb i 0) l, peer_row arg3 X3 2 ⟨2 * (i 0).val + 0, by have := pt_lt i; omega⟩ _ (off37_0 i) (k0_off37_inb i 0) l, peer_row arg4 X4 0 ⟨2 * (i 0).val + 0, by have := pt_lt i; omega⟩ _ (off35_0 i) (k0_off35_inb i 0) l, peer_row arg4 X4 1 ⟨2 * (i 0).val + 0, by have := pt_lt i; omega⟩ _ (off36_0 i) (k0_off36_inb i 0) l, peer_row arg4 X4 2 ⟨2 * (i 0).val + 0, by have := pt_lt i; omega⟩ _ (off37_0 i) (k0_off37_inb i 0) l, pay322_apply _ 0 ⟨l.val, by omega⟩ 0 l (by show l.val = 128 * 0 + l.val; omega), sq_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ X2 X11 rfl hp 0 ⟨l.val, by omega⟩ 0 l (by show l.val = 128 * 0 + l.val; omega) n hn]
  rfl

/-- The mean the body stores for row 1. -/
theorem body_mean_1 (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X1 : BufTy.Contents (Elt Ideal) arg1.view.ty) (X2 : BufTy.Contents (Elt Ideal) arg2.view.ty) (X3 : BufTy.Contents (Elt Ideal) arg3.view.ty) (o : S1.Idx) (z : Fin 1) (l : Fin 128) : k0_pay355 (F := Ideal) (k0_pay322 (F := Ideal) (View.readAt (Elt Ideal) arg2.view (Rect.unit (s := S2x128x6912) ![0, 0, 0] S2x128x6912.size inb_S2x128x6912_S2x128x6912_0_0_0).toLoadRect X2)) (k0_pay344 (F := Ideal) (View.readAt (Elt Ideal) arg1.view (Rect.unit (s := S3) ![0] S1.size inb_S3_S1_0).toLoadRect X1 o) (View.readAt (Elt Ideal) arg1.view (Rect.unit (s := S3) ![1] S1.size inb_S3_S1_1).toLoadRect X1 o)) (k0_pay346 (F := Ideal) (View.readAt (Elt Ideal) arg1.view (Rect.unit (s := S3) ![0] S1.size inb_S3_S1_0).toLoadRect X1 o) (View.readAt (Elt Ideal) arg3.view (Rect.unit (s := S3x12x128) (k0_off35 i 1#32) S1x1x128.size (k0_off35_inb i 1)).toLoadRect X3) (View.readAt (Elt Ideal) arg1.view (Rect.unit (s := S3) ![1] S1.size inb_S3_S1_1).toLoadRect X1 o) (View.readAt (Elt Ideal) arg3.view (Rect.unit (s := S3x12x128) (k0_off36 i 1#32) S1x1x128.size (k0_off36_inb i 1)).toLoadRect X3)) (View.readAt (Elt Ideal) arg1.view (Rect.unit (s := S3) ![2] S1.size inb_S3_S1_2).toLoadRect X1 o) (View.readAt (Elt Ideal) arg3.view (Rect.unit (s := S3x12x128) (k0_off37 i 1#32) S1x1x128.size (k0_off37_inb i 1)).toLoadRect X3) (ix2 z l) = bM (arg1.view.read (Elt Ideal) X1) (arg2.view.read (Elt Ideal) X2) (arg3.view.read (Elt Ideal) X3) i 1 l := by
  refine (mean_1 _ _ _ _ _ _ _ z l ⟨128 + l.val, by omega⟩ rfl).trans ?_
  rw [cnt_0, cnt_1, cnt_2, whole2, peer_row arg3 X3 0 ⟨2 * (i 0).val + 1, by have := pt_lt i; omega⟩ _ (off35_1 i) (k0_off35_inb i 1) l, peer_row arg3 X3 1 ⟨2 * (i 0).val + 1, by have := pt_lt i; omega⟩ _ (off36_1 i) (k0_off36_inb i 1) l, peer_row arg3 X3 2 ⟨2 * (i 0).val + 1, by have := pt_lt i; omega⟩ _ (off37_1 i) (k0_off37_inb i 1) l, pay322_apply _ 0 ⟨128 + l.val, by omega⟩ 1 l (by show 128 + l.val = 128 * 1 + l.val; omega)]
  rfl

/-- The reciprocal deviation the body stores for row 1. -/
theorem body_rstd_1 (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X11 : BufTy.Contents (Elt Ideal) arg11.view.ty) (hp : arg11.view.read (Elt Ideal) X11 = k0_pay320 (F := Ideal)) (o : S1.Idx) (z : Fin 1) (l : Fin 128) (n : ℕ) (hn : n = k0_t2_loop.trips) : k0_pay356 (F := Ideal) (k0_pay322 (F := Ideal) (View.readAt (Elt Ideal) arg2.view (Rect.unit (s := S2x128x6912) ![0, 0, 0] S2x128x6912.size inb_S2x128x6912_S2x128x6912_0_0_0).toLoadRect X2)) (k0_pay325 (F := Ideal) (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (View.readAt (Elt Ideal) arg2.view (Rect.unit (s := S2x128x6912) ![0, 0, 0] S2x128x6912.size inb_S2x128x6912_S2x128x6912_0_0_0).toLoadRect X2) X2 X11 (k0_pay323 (F := Ideal)) n)) (k0_pay344 (F := Ideal) (View.readAt (Elt Ideal) arg1.view (Rect.unit (s := S3) ![0] S1.size inb_S3_S1_0).toLoadRect X1 o) (View.readAt (Elt Ideal) arg1.view (Rect.unit (s := S3) ![1] S1.size inb_S3_S1_1).toLoadRect X1 o)) (k0_pay346 (F := Ideal) (View.readAt (Elt Ideal) arg1.view (Rect.unit (s := S3) ![0] S1.size inb_S3_S1_0).toLoadRect X1 o) (View.readAt (Elt Ideal) arg3.view (Rect.unit (s := S3x12x128) (k0_off35 i 1#32) S1x1x128.size (k0_off35_inb i 1)).toLoadRect X3) (View.readAt (Elt Ideal) arg1.view (Rect.unit (s := S3) ![1] S1.size inb_S3_S1_1).toLoadRect X1 o) (View.readAt (Elt Ideal) arg3.view (Rect.unit (s := S3x12x128) (k0_off36 i 1#32) S1x1x128.size (k0_off36_inb i 1)).toLoadRect X3)) (k0_pay347 (F := Ideal) (View.readAt (Elt Ideal) arg4.view (Rect.unit (s := S3x12x128) (k0_off35 i 1#32) S1x1x128.size (k0_off35_inb i 1)).toLoadRect X4) (View.readAt (Elt Ideal) arg4.view (Rect.unit (s := S3x12x128) (k0_off36 i 1#32) S1x1x128.size (k0_off36_inb i 1)).toLoadRect X4)) (k0_pay348 (F := Ideal) (View.readAt (Elt Ideal) arg3.view (Rect.unit (s := S3x12x128) (k0_off35 i 1#32) S1x1x128.size (k0_off35_inb i 1)).toLoadRect X3) (View.readAt (Elt Ideal) arg3.view (Rect.unit (s := S3x12x128) (k0_off36 i 1#32) S1x1x128.size (k0_off36_inb i 1)).toLoadRect X3)) (k0_pay349 (F := Ideal) (View.readAt (Elt Ideal) arg1.view (Rect.unit (s := S3) ![0] S1.size inb_S3_S1_0).toLoadRect X1 o) (View.readAt (Elt Ideal) arg1.view (Rect.unit (s := S3) ![1] S1.size inb_S3_S1_1).toLoadRect X1 o)) (View.readAt (Elt Ideal) arg1.view (Rect.unit (s := S3) ![2] S1.size inb_S3_S1_2).toLoadRect X1 o) (View.readAt (Elt Ideal) arg3.view (Rect.unit (s := S3x12x128) (k0_off37 i 1#32) S1x1x128.size (k0_off37_inb i 1)).toLoadRect X3) (View.readAt (Elt Ideal) arg4.view (Rect.unit (s := S3x12x128) (k0_off37 i 1#32) S1x1x128.size (k0_off37_inb i 1)).toLoadRect X4) (ix2 z l) = bR (arg1.view.read (Elt Ideal) X1) (arg2.view.read (Elt Ideal) X2) (arg3.view.read (Elt Ideal) X3) (arg4.view.read (Elt Ideal) X4) i 1 l := by
  refine (rstd_1 _ _ _ _ _ _ _ _ _ _ _ z l ⟨128 + l.val, by omega⟩ rfl).trans ?_
  rw [cnt_0, cnt_1, cnt_2, whole2, peer_row arg3 X3 0 ⟨2 * (i 0).val + 1, by have := pt_lt i; omega⟩ _ (off35_1 i) (k0_off35_inb i 1) l, peer_row arg3 X3 1 ⟨2 * (i 0).val + 1, by have := pt_lt i; omega⟩ _ (off36_1 i) (k0_off36_inb i 1) l, peer_row arg3 X3 2 ⟨2 * (i 0).val + 1, by have := pt_lt i; omega⟩ _ (off37_1 i) (k0_off37_inb i 1) l, peer_row arg4 X4 0 ⟨2 * (i 0).val + 1, by have := pt_lt i; omega⟩ _ (off35_1 i) (k0_off35_inb i 1) l, peer_row arg4 X4 1 ⟨2 * (i 0).val + 1, by have := pt_lt i; omega⟩ _ (off36_1 i) (k0_off36_inb i 1) l, peer_row arg4 X4 2 ⟨2 * (i 0).val + 1, by have := pt_lt i; omega⟩ _ (off37_1 i) (k0_off37_inb i 1) l, pay322_apply _ 0 ⟨128 + l.val, by omega⟩ 1 l (by show 128 + l.val = 128 * 1 + l.val; omega), sq_sum c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ X2 X11 rfl hp 0 ⟨128 + l.val, by omega⟩ 1 l (by show 128 + l.val = 128 * 1 + l.val; omega) n hn]
  rfl

/-- A stored row of the statistics at an index of the scratch. -/
theorem row_agree (M R : Fin 2 → Fin 128 → EReal) (q : Fin 8) (inb) (p : FVec Ideal S1x128 .f32) (f : Fin 128 → EReal) (hp : ∀ z l, p (ix2 z l) = f l)
    (G : S8x128.Idx → EReal) (hG : ∀ l, G (ix2 q l) = f l) (x : S1x128.Idx) : p x = G ((Rect.unit (s := S8x128) ![q.val, 0] S1x128.size inb).emb x) := by
  refine (congrArg p (eq_ix2 x)).trans ((hp _ _).trans ((hG _).symm.trans (congrArg G ?_)))
  funext d
  fin_cases d
  · exact Fin.ext (by
      have hx : (x 0).val < 1 := (x 0).isLt
      show q.val = q.val + 1 * (x 0).val
      omega)
  · exact Fin.ext (by show (x 1).val = 0 + 1 * (x 1).val; omega)

/-- What the scratch of statistics holds. -/
def G14 (M R : Fin 2 → Fin 128 → EReal) (y : S8x128.Idx) : EReal :=
  if (y 0).val = 0 then M 0 (y 1) else if (y 0).val = 1 then R 0 (y 1) else if (y 0).val = 2 then M 1 (y 1) else R 1 (y 1)

/-- The scratch of statistics after the four rows are stored. -/
theorem stat_read {κ : Kind} {sp : Space} (v : View sig κ sp S8x128 .f32) (f : v.ty.Contents (Elt Ideal)) (M R : Fin 2 → Fin 128 → EReal) (m0 r0 m1 r1 : FVec Ideal S1x128 .f32)
    (hm0 : ∀ z l, m0 (ix2 z l) = M 0 l) (hr0 : ∀ z l, r0 (ix2 z l) = R 0 l) (hm1 : ∀ z l, m1 (ix2 z l) = M 1 l) (hr1 : ∀ z l, r1 (ix2 z l) = R 1 l) (y : S8x128.Idx) (hy : (y 0).val < 4) :
    v.read (Elt Ideal) (v.writes (Elt Ideal) f [⟨Rect.unit (s := S8x128) ![3, 0] S1x128.size inb_S8x128_S1x128_3_0, r1⟩, ⟨Rect.unit (s := S8x128) ![2, 0] S1x128.size inb_S8x128_S1x128_2_0, m1⟩, ⟨Rect.unit (s := S8x128) ![1, 0] S1x128.size inb_S8x128_S1x128_1_0, r0⟩, ⟨Rect.unit (s := S8x128) ![0, 0] S1x128.size inb_S8x128_S1x128_0_0, m0⟩]) y = G14 M R y := by
  have hy1 : (y 1).val < 128 := (y 1).isLt
  have hc : ∃ p ∈ ([⟨Rect.unit (s := S8x128) ![3, 0] S1x128.size inb_S8x128_S1x128_3_0, r1⟩, ⟨Rect.unit (s := S8x128) ![2, 0] S1x128.size inb_S8x128_S1x128_2_0, m1⟩, ⟨Rect.unit (s := S8x128) ![1, 0] S1x128.size inb_S8x128_S1x128_1_0, r0⟩, ⟨Rect.unit (s := S8x128) ![0, 0] S1x128.size inb_S8x128_S1x128_0_0, m0⟩] : List (View.Piece (Elt Ideal) S8x128 .f32)), y ∈ p.1.set := by
    rcases (by omega : (y 0).val = 3 ∨ (y 0).val = 2 ∨ (y 0).val = 1 ∨ (y 0).val = 0) with h | h | h | h
    · refine ⟨_, .head _, (Rect.mem_set_unit (inb := inb_S8x128_S1x128_3_0)).mpr ?_⟩
      intro d
      fin_cases d
      · show 3 ≤ (y 0).val ∧ (y 0).val < 3 + 1
        omega
      · show 0 ≤ (y 1).val ∧ (y 1).val < 0 + 128
        omega
    · refine ⟨_, .tail _ (.head _), (Rect.mem_set_unit (inb := inb_S8x128_S1x128_2_0)).mpr ?_⟩
      intro d
      fin_cases d
      · show 2 ≤ (y 0).val ∧ (y 0).val < 2 + 1
        omega
      · show 0 ≤ (y 1).val ∧ (y 1).val < 0 + 128
        omega
    · refine ⟨_, .tail _ (.tail _ (.head _)), (Rect.mem_set_unit (inb := inb_S8x128_S1x128_1_0)).mpr ?_⟩
      intro d
      fin_cases d
      · show 1 ≤ (y 0).val ∧ (y 0).val < 1 + 1
        omega
      · show 0 ≤ (y 1).val ∧ (y 1).val < 0 + 128
        omega
    · refine ⟨_, .tail _ (.tail _ (.tail _ (.head _))), (Rect.mem_set_unit (inb := inb_S8x128_S1x128_0_0)).mpr ?_⟩
      intro d
      fin_cases d
      · show 0 ≤ (y 0).val ∧ (y 0).val < 0 + 1
        omega
      · show 0 ≤ (y 1).val ∧ (y 1).val < 0 + 128
        omega
  rw [View.read_writes_apply_eq_canon v f y _ hc]
  refine View.canon_apply_of_pieces (G14 M R) _ ?_ y hc
  intro p hp
  simp only [List.mem_cons, List.not_mem_nil, or_false] at hp
  rcases hp with rfl | rfl | rfl | rfl
  · exact row_agree M R 3 inb_S8x128_S1x128_3_0 r1 _ hr1 _ (fun l => rfl)
  · exact row_agree M R 2 inb_S8x128_S1x128_2_0 m1 _ hm1 _ (fun l => rfl)
  · exact row_agree M R 1 inb_S8x128_S1x128_1_0 r0 _ hr0 _ (fun l => rfl)
  · exact row_agree M R 0 inb_S8x128_S1x128_0_0 m0 _ hm0 _ (fun l => rfl)

/-- The permutation matrix after it is stored. -/
theorem perm_read {κ : Kind} {sp : Space} (v : View sig κ sp S256x256 .bf16) (f : v.ty.Contents (Elt Ideal)) :
    v.read (Elt Ideal) (v.writes (Elt Ideal) f [⟨Rect.unit (s := S256x256) ![0, 0] S256x256.size inb_S256x256_S256x256_0_0, k0_pay320 (F := Ideal)⟩]) = k0_pay320 (F := Ideal) := by
  funext y
  have hy0 : (y 0).val < 256 := (y 0).isLt
  have hy1 : (y 1).val < 256 := (y 1).isLt
  have hc : ∃ p ∈ ([⟨Rect.unit (s := S256x256) ![0, 0] S256x256.size inb_S256x256_S256x256_0_0, k0_pay320 (F := Ideal)⟩] : List (View.Piece (Elt Ideal) S256x256 .bf16)), y ∈ p.1.set := by
    refine ⟨_, .head _, (Rect.mem_set_unit (inb := inb_S256x256_S256x256_0_0)).mpr ?_⟩
    intro d
    fin_cases d
    · show 0 ≤ (y 0).val ∧ (y 0).val < 0 + 256
      omega
    · show 0 ≤ (y 1).val ∧ (y 1).val < 0 + 256
      omega
  rw [View.read_writes_apply_eq_canon v f y _ hc]
  refine View.canon_apply_of_pieces (k0_pay320 (F := Ideal)) _ ?_ y hc
  intro p hp
  simp only [List.mem_cons, List.not_mem_nil, or_false] at hp
  subst hp
  intro x
  refine congrArg (k0_pay320 (F := Ideal)) ?_
  funext d
  fin_cases d
  · exact Fin.ext (by show (x 0).val = 0 + 1 * (x 0).val; omega)
  · exact Fin.ext (by show (x 1).val = 0 + 1 * (x 1).val; omega)

/-- The normalized tile, from the row. -/
theorem YT_row (arg2 : Memref sig .tc .vmem S2x128x6912 .bf16) (arg11 : Memref sig .tc .vmem S256x256 .bf16) (arg12 : Memref sig .tc .vmem S27x256x128 .f32) (arg13 : Memref sig .tc .vmem S27x256x128 .f32) (arg14 : Memref sig .tc .vmem S8x128 .f32) (X2 : BufTy.Contents (Elt Ideal) arg2.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (hp : arg11.view.read (Elt Ideal) X11 = k0_pay320 (F := Ideal)) (g b : S1x6912.Idx → EReal) (hg : ∀ y, arg12.view.read (Elt Ideal) X12 y = GF g y) (hb : ∀ y, arg13.view.read (Elt Ideal) X13 y = GF b y) (M R : Fin 2 → Fin 128 → EReal) (hs : ∀ y, (y 0).val < 4 → arg14.view.read (Elt Ideal) X14 y = G14 M R y) (k : Fin k0_t3_loop.trips) (h : Fin 2) (l : Fin 128) (r : Fin 256) (j : Fin 6912) (hj : j.val = 256 * k.val + (chan r).val) :
    YT arg2 arg11 arg12 arg13 arg14 X2 X11 X12 X13 X14 k h r l = yRow (fun c => arg2.view.read (Elt Ideal) X2 (ix3 h l c)) (M h l) (R h l) (fun c => g (ix2 0 c)) (fun c => b (ix2 0 c)) j := by
  have hh := h.isLt
  have hl := l.isLt
  unfold YT YV
  have e1 := perm_tile arg2 arg11 X2 X11 hp k r h l ⟨128 * h.val + l.val, by omega⟩ rfl j hj
  have e2 := hs (ix2 ⟨2 * h.val, by omega⟩ l) (by show 2 * h.val < 4; omega)
  have e3 := hs (ix2 ⟨2 * h.val + 1, by omega⟩ l) (by show 2 * h.val + 1 < 4; omega)
  have e4 : ∀ X : S1x6912.Idx → EReal, GF X (ix3 (Fin.cast trips3 k) r l) = X (ix2 0 j) := fun X => congrArg X (congrArg (fun q => ix2 0 q) (Fin.ext hj.symm))
  have f2 : G14 M R (ix2 ⟨2 * h.val, by omega⟩ l) = M h l := by
    fin_cases h <;> rfl
  have f3 : G14 M R (ix2 ⟨2 * h.val + 1, by omega⟩ l) = R h l := by
    fin_cases h <;> rfl
  rw [e1, e2, e3, hg, hb, e4, e4, f2, f3]
  rfl

/-- The block of codes after the loop. -/
theorem codes_block (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X2 : BufTy.Contents (Elt Ideal) arg2.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (G7 : BufTy.Contents (Elt Ideal) arg7.view.ty) (G15 : BufTy.Contents (Elt Ideal) arg15.view.ty) (G16 : BufTy.Contents (Elt Ideal) arg16.view.ty) (G17 : BufTy.Contents (Elt Ideal) arg17.view.ty) (G18 : BufTy.Contents (Elt Ideal) arg18.view.ty) (hp : arg11.view.read (Elt Ideal) X11 = k0_pay320 (F := Ideal)) (g b : S1x6912.Idx → EReal) (hg : ∀ y, arg12.view.read (Elt Ideal) X12 y = GF g y) (hb : ∀ y, arg13.view.read (Elt Ideal) X13 y = GF b y) (M R : Fin 2 → Fin 128 → EReal) (hs : ∀ y, (y 0).val < 4 → arg14.view.read (Elt Ideal) X14 y = G14 M R y) (n : ℕ) (hn : n = k0_t3_loop.trips) {κ : Kind} {sp : Space} (v : View sig κ sp S2x128x6912 .fp8e4m3) (f : v.ty.Contents (Elt Ideal)) (y : S2x128x6912.Idx) :
    v.read (Elt Ideal) (v.writes (Elt Ideal) f (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X11 X12 X13 X14 G7 G15 G16 G17 G18 n).1) y = rowCode (yRow (fun c => arg2.view.read (Elt Ideal) X2 (ix3 (y 0) (y 1) c)) (M (y 0) (y 1)) (R (y 0) (y 1)) (fun c => g (ix2 0 c)) (fun c => b (ix2 0 c))) (y 2) := by
  subst hn
  refine (loop7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X11 X12 X13 X14 G7 G15 G16 G17 G18 y v f).trans ?_
  have h2 : (y 2).val < 6912 := (y 2).isLt
  unfold Hand.G7
  exact ZZ_row _ _ ⟨(y 2).val / 256, by omega⟩ (y 1) ⟨(y 2).val % 256, by omega⟩ (y 2) (by show (y 2).val = 256 * ((y 2).val / 256) + (y 2).val % 256; omega)
    (fun r j hj => YT_row arg2 arg11 arg12 arg13 arg14 X2 X11 X12 X13 X14 hp g b hg hb M R hs ⟨(y 2).val / 256, by rw [trips3]; omega⟩ (y 0) (y 1) r j hj)

/-- The scratch of exponents after the loop. -/
theorem exps_scratch (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole) (X2 : BufTy.Contents (Elt Ideal) arg2.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (G7 : BufTy.Contents (Elt Ideal) arg7.view.ty) (G15 : BufTy.Contents (Elt Ideal) arg15.view.ty) (G16 : BufTy.Contents (Elt Ideal) arg16.view.ty) (G17 : BufTy.Contents (Elt Ideal) arg17.view.ty) (G18 : BufTy.Contents (Elt Ideal) arg18.view.ty) (hp : arg11.view.read (Elt Ideal) X11 = k0_pay320 (F := Ideal)) (g b : S1x6912.Idx → EReal) (hg : ∀ y, arg12.view.read (Elt Ideal) X12 y = GF g y) (hb : ∀ y, arg13.view.read (Elt Ideal) X13 y = GF b y) (M R : Fin 2 → Fin 128 → EReal) (hs : ∀ y, (y 0).val < 4 → arg14.view.read (Elt Ideal) X14 y = G14 M R y) (n : ℕ) (hn : n = k0_t3_loop.trips) {κ : Kind} {sp : Space} (v : View sig κ sp S27x8x256 .i32) (f : v.ty.Contents (Elt Ideal)) (y : S27x8x256.Idx) (h : Fin 2) (l : Fin 128) (kb : Fin 216)
    (hkb : kb.val = 8 * (y 0).val + (y 1).val) (hy : (y 2).val = 128 * h.val + l.val) :
    v.read (Elt Ideal) (v.writes (Elt Ideal) f (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X11 X12 X13 X14 G7 G15 G16 G17 G18 n).2.2.2.2) y = IntOp.addi (rE (rowT (yRow (fun c => arg2.view.read (Elt Ideal) X2 (ix3 h l c)) (M h l) (R h l) (fun c => g (ix2 0 c)) (fun c => b (ix2 0 c))) kb)) 127#32 := by
  subst hn
  refine (loop18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X11 X12 X13 X14 G7 G15 G16 G17 G18 y v f).trans ?_
  refine (G18_at arg2 arg11 arg12 arg13 arg14 X2 X11 X12 X13 X14 (Fin.cast trips3.symm (y 0)) h (y 1) l y rfl rfl hy).trans ?_
  exact kbias_row _ _ (y 0) l (y 1) kb hkb
    (fun r j hj => YT_row arg2 arg11 arg12 arg13 arg14 X2 X11 X12 X13 X14 hp g b hg hb M R hs (Fin.cast trips3.symm (y 0)) h l r j hj)

/-- The exponents of row zero, turned for the block. -/
theorem pay5_apply (x : IVec S27x8x128 32) (z : Fin 1) (l : Fin 128) (k : Fin 216) : k0_pay5 (F := Ideal) x (ix3 z l k) = (x (ix3 ⟨k.val / 8, by omega⟩ ⟨k.val % 8, by omega⟩ l)).setWidth 8 := by
  pointwise [k0_pay5]

/-- The exponents of row one, turned for the block. -/
theorem pay6_apply (x : IVec S27x8x128 32) (z : Fin 1) (l : Fin 128) (k : Fin 216) : k0_pay6 (F := Ideal) x (ix3 z l k) = (x (ix3 ⟨k.val / 8, by omega⟩ ⟨k.val % 8, by omega⟩ l)).setWidth 8 := by
  pointwise [k0_pay6]

/-- The block of exponents after its two rows are stored. -/
theorem exps_block {κ : Kind} {sp : Space} (v : View sig κ sp S2x128x216 .i8) (f : v.ty.Contents (Elt Ideal)) (p0 p1 : IVec S1x128x216 8) (G : S2x128x216.Idx → BitVec 8)
    (h0 : ∀ z l k, p0 (ix3 z l k) = G (ix3 0 l k)) (h1 : ∀ z l k, p1 (ix3 z l k) = G (ix3 1 l k)) (y : S2x128x216.Idx) :
    v.read (Elt Ideal) (v.writes (Elt Ideal) f [⟨Rect.unit (s := S2x128x216) ![1, 0, 0] S1x128x216.size inb_S2x128x216_S1x128x216_1_0_0, p1⟩, ⟨Rect.unit (s := S2x128x216) ![0, 0, 0] S1x128x216.size inb_S2x128x216_S1x128x216_0_0_0, p0⟩]) y = G y := by
  have hy0 : (y 0).val < 2 := (y 0).isLt
  have hy1 : (y 1).val < 128 := (y 1).isLt
  have hy2 : (y 2).val < 216 := (y 2).isLt
  have hc : ∃ p ∈ ([⟨Rect.unit (s := S2x128x216) ![1, 0, 0] S1x128x216.size inb_S2x128x216_S1x128x216_1_0_0, p1⟩, ⟨Rect.unit (s := S2x128x216) ![0, 0, 0] S1x128x216.size inb_S2x128x216_S1x128x216_0_0_0, p0⟩] : List (View.Piece (Elt Ideal) S2x128x216 .i8)), y ∈ p.1.set := by
    rcases (by omega : (y 0).val = 1 ∨ (y 0).val = 0) with h | h
    · refine ⟨_, .head _, (Rect.mem_set_unit (inb := inb_S2x128x216_S1x128x216_1_0_0)).mpr ?_⟩
      intro d
      fin_cases d
      · show 1 ≤ (y 0).val ∧ (y 0).val < 1 + 1
        omega
      · show 0 ≤ (y 1).val ∧ (y 1).val < 0 + 128
        omega
      · show 0 ≤ (y 2).val ∧ (y 2).val < 0 + 216
        omega
    · refine ⟨_, .tail _ (.head _), (Rect.mem_set_unit (inb := inb_S2x128x216_S1x128x216_0_0_0)).mpr ?_⟩
      intro d
      fin_cases d
      · show 0 ≤ (y 0).val ∧ (y 0).val < 0 + 1
        omega
      · show 0 ≤ (y 1).val ∧ (y 1).val < 0 + 128
        omega
      · show 0 ≤ (y 2).val ∧ (y 2).val < 0 + 216
        omega
  rw [View.read_writes_apply_eq_canon v f y _ hc]
  refine View.canon_apply_of_pieces G _ ?_ y hc
  intro p hp
  simp only [List.mem_cons, List.not_mem_nil, or_false] at hp
  rcases hp with rfl | rfl
  · intro x
    refine (congrArg p1 (eq_ix3 x)).trans ((h1 _ _ _).trans (congrArg G ?_))
    have hx : (x 0).val < 1 := (x 0).isLt
    funext d
    fin_cases d
    · exact Fin.ext (by show 1 = 1 + 1 * (x 0).val; omega)
    · exact Fin.ext (by show (x 1).val = 0 + 1 * (x 1).val; omega)
    · exact Fin.ext (by show (x 2).val = 0 + 1 * (x 2).val; omega)
  · intro x
    refine (congrArg p0 (eq_ix3 x)).trans ((h0 _ _ _).trans (congrArg G ?_))
    have hx : (x 0).val < 1 := (x 0).isLt
    funext d
    fin_cases d
    · exact Fin.ext (by show 0 = 0 + 1 * (x 0).val; omega)
    · exact Fin.ext (by show (x 1).val = 0 + 1 * (x 1).val; omega)
    · exact Fin.ext (by show (x 2).val = 0 + 1 * (x 2).val; omega)

end Cert.KernelIdeal.Hand

end
-- ==== Proof.Outs.lean ====
/- What the body's run at a point writes, at an index: the codes, the exponents and the two statistics of its rows, and the buffers kept between points. -/
module

public import proofs.«01_k».proof.Proof.BodyVal
public import proofs.«01_k».proof.Proof.BodyIdeal
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec

/-- The stored mean of row zero is the value itself. -/
theorem pay341_at (x : FVec Ideal S1x128 .f32) (z : Fin 1) (l : Fin 128) : k0_pay341 (F := Ideal) x (ix2 z l) = x (ix2 z l) := by
  have hz : z = 0 := Fin.ext (by omega)
  subst hz
  pointwise [k0_pay341]

/-- The stored reciprocal deviation of row zero is the value itself. -/
theorem pay342_at (x : FVec Ideal S1x128 .f32) (z : Fin 1) (l : Fin 128) : k0_pay342 (F := Ideal) x (ix2 z l) = k0_pay340 (F := Ideal) x (ix2 z l) := by
  have hz : z = 0 := Fin.ext (by omega)
  subst hz
  pointwise [k0_pay342, k0_pay340]

/-- The stored mean of row one is the value itself. -/
theorem pay1_at (x : FVec Ideal S1x128 .f32) (z : Fin 1) (l : Fin 128) : k0_pay1 (F := Ideal) x (ix2 z l) = x (ix2 z l) := by
  have hz : z = 0 := Fin.ext (by omega)
  subst hz
  pointwise [k0_pay1]

/-- The stored reciprocal deviation of row one is the value itself. -/
theorem pay2_at (x : FVec Ideal S1x128 .f32) (z : Fin 1) (l : Fin 128) : k0_pay2 (F := Ideal) x (ix2 z l) = x (ix2 z l) := by
  have hz : z = 0 := Fin.ext (by omega)
  subst hz
  pointwise [k0_pay2]

/-- A buffer of statistics after the two rows of point `i` are stored: those rows hold the new values, the others what was there. -/
theorem rows_read {κ : Kind} {sp : Space} (v : View sig κ sp S12x128 .f32) (f : v.ty.Contents (Elt Ideal)) (i : grid0.Coords) (p0 p1 : FVec Ideal S1x128 .f32) (M : Fin 2 → Fin 128 → EReal)
    (h0 : ∀ z l, p0 (ix2 z l) = M 0 l) (h1 : ∀ z l, p1 (ix2 z l) = M 1 l) (p : Fin 12) (l : Fin 128) :
    v.read (Elt Ideal) (v.writes (Elt Ideal) f [⟨Rect.unit (s := S12x128) (k0_off38 i 1#32) S1x128.size (k0_off38_inb i 1), p1⟩, ⟨Rect.unit (s := S12x128) (k0_off38 i 0#32) S1x128.size (k0_off38_inb i 0), p0⟩]) (ix2 p l)
      = if p.val / 2 = (i 0).val then M ⟨p.val % 2, by omega⟩ l else v.read (Elt Ideal) f (ix2 p l) := by
  have hl : l.val < 128 := l.isLt
  by_cases hp : p.val / 2 = (i 0).val
  · rw [if_pos hp]
    by_cases hm : p.val % 2 = 1
    · refine (View.read_writes_cons_unit_of_mem v f (k0_off38_inb i 1) p1 _ (ix2 p l) (ix2 0 l) (off38_1 i) ?_).trans ((h1 _ _).trans (congrArg (fun h => M h l) (Fin.ext hm.symm)))
      intro d
      fin_cases d
      · show p.val = 2 * (i 0).val + 1 + 0
        omega
      · show l.val = 0 + l.val
        omega
    · refine (View.read_writes_cons_unit_of_not_mem v f (k0_off38_inb i 1) p1 _ (ix2 p l) (off38_1 i) 0 (Or.inl (by show p.val < 2 * (i 0).val + 1; omega))).trans ?_
      refine (View.read_writes_cons_unit_of_mem v f (k0_off38_inb i 0) p0 _ (ix2 p l) (ix2 0 l) (off38_0 i) ?_).trans ((h0 _ _).trans (congrArg (fun h => M h l) (Fin.ext (by show 0 = p.val % 2; omega))))
      intro d
      fin_cases d
      · show p.val = 2 * (i 0).val + 0 + 0
        omega
      · show l.val = 0 + l.val
        omega
  · rw [if_neg hp]
    refine (View.read_writes_cons_unit_of_not_mem v f (k0_off38_inb i 1) p1 _ (ix2 p l) (off38_1 i) 0 (by show p.val < 2 * (i 0).val + 1 ∨ 2 * (i 0).val + 1 + 1 ≤ p.val; omega)).trans ?_
    exact View.read_writes_cons_unit_of_not_mem v f (k0_off38_inb i 0) p0 _ (ix2 p l) (off38_0 i) 0 (by show p.val < 2 * (i 0).val + 0 ∨ 2 * (i 0).val + 0 + 1 ≤ p.val; omega)

variable (c : Dev nD) (i : grid0.Coords) (arg1 : Memref sig .tc .smem S3 .f32) (harg1 : arg1.IsWhole) (arg2 : Memref sig .tc .vmem S2x128x6912 .bf16) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S2x128x6912 .fp8e4m3) (harg7 : arg7.IsWhole) (arg8 : Memref sig .tc .vmem S2x128x216 .i8) (harg8 : arg8.IsWhole) (arg9 : Memref sig .tc .vmem S12x128 .f32) (harg9 : arg9.IsWhole) (arg10 : Memref sig .tc .vmem S12x128 .f32) (harg10 : arg10.IsWhole) (arg11 : Memref sig .tc .vmem S256x256 .bf16) (harg11 : arg11.IsWhole) (arg12 : Memref sig .tc .vmem S27x256x128 .f32) (harg12 : arg12.IsWhole) (arg13 : Memref sig .tc .vmem S27x256x128 .f32) (harg13 : arg13.IsWhole) (arg14 : Memref sig .tc .vmem S8x128 .f32) (harg14 : arg14.IsWhole) (arg15 : Memref sig .tc .vmem S32x128 .f32) (harg15 : arg15.IsWhole) (arg16 : Memref sig .tc .vmem S8x128 .f32) (harg16 : arg16.IsWhole) (arg17 : Memref sig .tc .vmem S8x9x4x128 .fp8e4m3) (harg17 : arg17.IsWhole) (arg18 : Memref sig .tc .vmem S27x8x256 .i32) (harg18 : arg18.IsWhole)
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty)

include c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18

/-- The scale, spread over the tiles at the first point. -/
theorem A_g (hc : k0_cond1 i = 1#1) (y : S27x256x128.Idx) : arg12.view.read (Elt Ideal) (arg12.view.writes (Elt Ideal) X12 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X5 X6 (Scf.trips k0_t1_loop.lb k0_t1_loop.ub k0_t1_loop.st)).1) y = GF (arg5.view.read (Elt Ideal) X5) y :=
  fill_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X5 X6 y arg12.view X12

/-- The shift, spread over the tiles at the first point. -/
theorem A_b (hc : k0_cond1 i = 1#1) (y : S27x256x128.Idx) : arg13.view.read (Elt Ideal) (arg13.view.writes (Elt Ideal) X13 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X5 X6 (Scf.trips k0_t1_loop.lb k0_t1_loop.ub k0_t1_loop.st)).2) y = GF (arg6.view.read (Elt Ideal) X6) y :=
  fill_b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X5 X6 y arg13.view X13

/-- The mean of row 0, first point. -/
theorem A_mean_0 (z : Fin 1) (l : Fin 128) : runA.sl.r_10 (F := Ideal) i arg1 arg2 arg3 X1 X2 X3 (ix2 z l) = bM (arg1.view.read (Elt Ideal) X1) (arg2.view.read (Elt Ideal) X2) (arg3.view.read (Elt Ideal) X3) i 0 l :=
  body_mean_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 _ z l

/-- The reciprocal deviation of row 0, first point. -/
theorem A_rstd_0 (z : Fin 1) (l : Fin 128) : k0_pay340 (F := Ideal) (runA.sl.r_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4) (ix2 z l) = bR (arg1.view.read (Elt Ideal) X1) (arg2.view.read (Elt Ideal) X2) (arg3.view.read (Elt Ideal) X3) (arg4.view.read (Elt Ideal) X4) i 0 l :=
  body_rstd_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 _ (perm_read _ _) _ z l _ rfl

/-- The mean of row 1, first point. -/
theorem A_mean_1 (z : Fin 1) (l : Fin 128) : runA.sl.r_17 (F := Ideal) i arg1 arg2 arg3 X1 X2 X3 (ix2 z l) = bM (arg1.view.read (Elt Ideal) X1) (arg2.view.read (Elt Ideal) X2) (arg3.view.read (Elt Ideal) X3) i 1 l :=
  body_mean_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 _ z l

/-- The reciprocal deviation of row 1, first point. -/
theorem A_rstd_1 (z : Fin 1) (l : Fin 128) : runA.sl.r_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 (ix2 z l) = bR (arg1.view.read (Elt Ideal) X1) (arg2.view.read (Elt Ideal) X2) (arg3.view.read (Elt Ideal) X3) (arg4.view.read (Elt Ideal) X4) i 1 l :=
  body_rstd_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 _ (perm_read _ _) _ z l _ rfl

/-- The codes, first point. -/
theorem A_codes (hc : k0_cond1 i = 1#1) {κ : Kind} {sp : Space} (v : View sig κ sp S2x128x6912 .fp8e4m3) (f : v.ty.Contents (Elt Ideal)) (y : S2x128x6912.Idx) :
    v.read (Elt Ideal) (v.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X1 X2 X3 X4 X5 X6 X7 X8 X9 X10 X11 X12 X13 X14 X15 X16 X17 X18).1) y = rowCode (bY (arg1.view.read (Elt Ideal) X1) (arg2.view.read (Elt Ideal) X2) (arg3.view.read (Elt Ideal) X3) (arg4.view.read (Elt Ideal) X4) (arg5.view.read (Elt Ideal) X5) (arg6.view.read (Elt Ideal) X6) i (y 0) (y 1)) (y 2) := by
  unfold runA
  dsimp only
  exact codes_block c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 _ _ _ _ X7 X15 X16 X17 X18 (perm_read _ _) (arg5.view.read (Elt Ideal) X5) (arg6.view.read (Elt Ideal) X6) (A_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X5 X6 X12 hc) (A_b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X5 X6 X13 hc) (fun h l => bM (arg1.view.read (Elt Ideal) X1) (arg2.view.read (Elt Ideal) X2) (arg3.view.read (Elt Ideal) X3) i h l) (fun h l => bR (arg1.view.read (Elt Ideal) X1) (arg2.view.read (Elt Ideal) X2) (arg3.view.read (Elt Ideal) X3) (arg4.view.read (Elt Ideal) X4) i h l)
    (fun y hy => stat_read _ _ (fun h l => bM (arg1.view.read (Elt Ideal) X1) (arg2.view.read (Elt Ideal) X2) (arg3.view.read (Elt Ideal) X3) i h l) (fun h l => bR (arg1.view.read (Elt Ideal) X1) (arg2.view.read (Elt Ideal) X2) (arg3.view.read (Elt Ideal) X3) (arg4.view.read (Elt Ideal) X4) i h l) _ _ _ _
      (fun z l => (pay341_at _ z l).trans (A_mean_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l)) (fun z l => (pay342_at _ z l).trans (A_rstd_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 z l))
      (fun z l => (pay1_at _ z l).trans (A_mean_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l)) (fun z l => (pay2_at _ z l).trans (A_rstd_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 z l)) y hy) _ rfl v f y

/-- The exponents, first point. -/
theorem A_exps (hc : k0_cond1 i = 1#1) {κ : Kind} {sp : Space} (v : View sig κ sp S2x128x216 .i8) (f : v.ty.Contents (Elt Ideal)) (y : S2x128x216.Idx) :
    v.read (Elt Ideal) (v.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X1 X2 X3 X4 X5 X6 X7 X8 X9 X10 X11 X12 X13 X14 X15 X16 X17 X18).2.1) y = rowExp (bY (arg1.view.read (Elt Ideal) X1) (arg2.view.read (Elt Ideal) X2) (arg3.view.read (Elt Ideal) X3) (arg4.view.read (Elt Ideal) X4) (arg5.view.read (Elt Ideal) X5) (arg6.view.read (Elt Ideal) X6) i (y 0) (y 1)) (y 2) := by
  unfold runA
  dsimp only
  refine exps_block v f _ _ (fun y => rowExp (bY (arg1.view.read (Elt Ideal) X1) (arg2.view.read (Elt Ideal) X2) (arg3.view.read (Elt Ideal) X3) (arg4.view.read (Elt Ideal) X4) (arg5.view.read (Elt Ideal) X5) (arg6.view.read (Elt Ideal) X6) i (y 0) (y 1)) (y 2)) ?_ ?_ y
  · intro z l k
    refine (pay5_apply _ z l k).trans (congrArg (BitVec.setWidth 8) ?_)
    exact exps_scratch c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 _ _ _ _ X7 X15 X16 X17 X18 (perm_read _ _) (arg5.view.read (Elt Ideal) X5) (arg6.view.read (Elt Ideal) X6) (A_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X5 X6 X12 hc) (A_b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X5 X6 X13 hc) (fun h l => bM (arg1.view.read (Elt Ideal) X1) (arg2.view.read (Elt Ideal) X2) (arg3.view.read (Elt Ideal) X3) i h l) (fun h l => bR (arg1.view.read (Elt Ideal) X1) (arg2.view.read (Elt Ideal) X2) (arg3.view.read (Elt Ideal) X3) (arg4.view.read (Elt Ideal) X4) i h l)
      (fun y hy => stat_read _ _ (fun h l => bM (arg1.view.read (Elt Ideal) X1) (arg2.view.read (Elt Ideal) X2) (arg3.view.read (Elt Ideal) X3) i h l) (fun h l => bR (arg1.view.read (Elt Ideal) X1) (arg2.view.read (Elt Ideal) X2) (arg3.view.read (Elt Ideal) X3) (arg4.view.read (Elt Ideal) X4) i h l) _ _ _ _
      (fun z l => (pay341_at _ z l).trans (A_mean_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l)) (fun z l => (pay342_at _ z l).trans (A_rstd_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 z l))
      (fun z l => (pay1_at _ z l).trans (A_mean_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l)) (fun z l => (pay2_at _ z l).trans (A_rstd_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 z l)) y hy) _ rfl arg18.view X18 _ 0 l k
      (by show k.val = 8 * (0 + 1 * (k.val / 8)) + (0 + 1 * (k.val % 8)); omega) (by show 0 + 1 * l.val = 128 * 0 + l.val; omega)
  · intro z l k
    refine (pay6_apply _ z l k).trans (congrArg (BitVec.setWidth 8) ?_)
    exact exps_scratch c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 _ _ _ _ X7 X15 X16 X17 X18 (perm_read _ _) (arg5.view.read (Elt Ideal) X5) (arg6.view.read (Elt Ideal) X6) (A_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X5 X6 X12 hc) (A_b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X5 X6 X13 hc) (fun h l => bM (arg1.view.read (Elt Ideal) X1) (arg2.view.read (Elt Ideal) X2) (arg3.view.read (Elt Ideal) X3) i h l) (fun h l => bR (arg1.view.read (Elt Ideal) X1) (arg2.view.read (Elt Ideal) X2) (arg3.view.read (Elt Ideal) X3) (arg4.view.read (Elt Ideal) X4) i h l)
      (fun y hy => stat_read _ _ (fun h l => bM (arg1.view.read (Elt Ideal) X1) (arg2.view.read (Elt Ideal) X2) (arg3.view.read (Elt Ideal) X3) i h l) (fun h l => bR (arg1.view.read (Elt Ideal) X1) (arg2.view.read (Elt Ideal) X2) (arg3.view.read (Elt Ideal) X3) (arg4.view.read (Elt Ideal) X4) i h l) _ _ _ _
      (fun z l => (pay341_at _ z l).trans (A_mean_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l)) (fun z l => (pay342_at _ z l).trans (A_rstd_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 z l))
      (fun z l => (pay1_at _ z l).trans (A_mean_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l)) (fun z l => (pay2_at _ z l).trans (A_rstd_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 z l)) y hy) _ rfl arg18.view X18 _ 1 l k
      (by show k.val = 8 * (0 + 1 * (k.val / 8)) + (0 + 1 * (k.val % 8)); omega) (by show 128 + 1 * l.val = 128 * 1 + l.val; omega)

/-- The means, first point. -/
theorem A_means (hc : k0_cond1 i = 1#1) {κ : Kind} {sp : Space} (v : View sig κ sp S12x128 .f32) (f : v.ty.Contents (Elt Ideal)) (p : Fin 12) (l : Fin 128) :
    v.read (Elt Ideal) (v.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X1 X2 X3 X4 X5 X6 X7 X8 X9 X10 X11 X12 X13 X14 X15 X16 X17 X18).2.2.1) (ix2 p l) = if p.val / 2 = (i 0).val then bM (arg1.view.read (Elt Ideal) X1) (arg2.view.read (Elt Ideal) X2) (arg3.view.read (Elt Ideal) X3) i ⟨p.val % 2, by omega⟩ l else v.read (Elt Ideal) f (ix2 p l) := by
  unfold runA
  dsimp only
  exact rows_read v f i _ _ (fun h l => bM (arg1.view.read (Elt Ideal) X1) (arg2.view.read (Elt Ideal) X2) (arg3.view.read (Elt Ideal) X3) i h l) (fun z l => A_mean_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l) (fun z l => A_mean_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l) p l

/-- The reciprocal deviations, first point. -/
theorem A_rstds (hc : k0_cond1 i = 1#1) {κ : Kind} {sp : Space} (v : View sig κ sp S12x128 .f32) (f : v.ty.Contents (Elt Ideal)) (p : Fin 12) (l : Fin 128) :
    v.read (Elt Ideal) (v.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X1 X2 X3 X4 X5 X6 X7 X8 X9 X10 X11 X12 X13 X14 X15 X16 X17 X18).2.2.2.1) (ix2 p l) = if p.val / 2 = (i 0).val then bR (arg1.view.read (Elt Ideal) X1) (arg2.view.read (Elt Ideal) X2) (arg3.view.read (Elt Ideal) X3) (arg4.view.read (Elt Ideal) X4) i ⟨p.val % 2, by omega⟩ l else v.read (Elt Ideal) f (ix2 p l) := by
  unfold runA
  dsimp only
  exact rows_read v f i _ _ (fun h l => bR (arg1.view.read (Elt Ideal) X1) (arg2.view.read (Elt Ideal) X2) (arg3.view.read (Elt Ideal) X3) (arg4.view.read (Elt Ideal) X4) i h l) (fun z l => A_rstd_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 z l) (fun z l => A_rstd_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 z l) p l

/-- The kept permutation, first point. -/
theorem A_perm (hc : k0_cond1 i = 1#1) : arg11.view.read (Elt Ideal) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X1 X2 X3 X4 X5 X6 X7 X8 X9 X10 X11 X12 X13 X14 X15 X16 X17 X18).2.2.2.2.1 = k0_pay320 (F := Ideal) := by
  unfold runA
  dsimp only
  exact perm_read _ _

/-- The kept scale, first point. -/
theorem A_scale (hc : k0_cond1 i = 1#1) (y : S27x256x128.Idx) : arg12.view.read (Elt Ideal) (arg12.view.writes (Elt Ideal) X12 (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X1 X2 X3 X4 X5 X6 X7 X8 X9 X10 X11 X12 X13 X14 X15 X16 X17 X18).2.2.2.2.2.1) y = GF (arg5.view.read (Elt Ideal) X5) y := by
  unfold runA
  dsimp only
  exact fill_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X5 X6 y _ _

/-- The kept shift, first point. -/
theorem A_shift (hc : k0_cond1 i = 1#1) (y : S27x256x128.Idx) : arg13.view.read (Elt Ideal) (arg13.view.writes (Elt Ideal) X13 (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X1 X2 X3 X4 X5 X6 X7 X8 X9 X10 X11 X12 X13 X14 X15 X16 X17 X18).2.2.2.2.2.2.1) y = GF (arg6.view.read (Elt Ideal) X6) y := by
  unfold runA
  dsimp only
  exact fill_b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X5 X6 y _ _

/-- The mean of row 0, later point. -/
theorem B_mean_0 (z : Fin 1) (l : Fin 128) : runB.sl.r_10 (F := Ideal) i arg1 arg2 arg3 X1 X2 X3 (ix2 z l) = bM (arg1.view.read (Elt Ideal) X1) (arg2.view.read (Elt Ideal) X2) (arg3.view.read (Elt Ideal) X3) i 0 l :=
  body_mean_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 _ z l

/-- The reciprocal deviation of row 0, later point. -/
theorem B_rstd_0 (hp : (arg11.view.read (Elt Ideal) X11) = k0_pay320 (F := Ideal)) (z : Fin 1) (l : Fin 128) : k0_pay340 (F := Ideal) (runB.sl.r_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 X11) (ix2 z l) = bR (arg1.view.read (Elt Ideal) X1) (arg2.view.read (Elt Ideal) X2) (arg3.view.read (Elt Ideal) X3) (arg4.view.read (Elt Ideal) X4) i 0 l :=
  body_rstd_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 X11 hp _ z l _ rfl

/-- The mean of row 1, later point. -/
theorem B_mean_1 (z : Fin 1) (l : Fin 128) : runB.sl.r_17 (F := Ideal) i arg1 arg2 arg3 X1 X2 X3 (ix2 z l) = bM (arg1.view.read (Elt Ideal) X1) (arg2.view.read (Elt Ideal) X2) (arg3.view.read (Elt Ideal) X3) i 1 l :=
  body_mean_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 _ z l

/-- The reciprocal deviation of row 1, later point. -/
theorem B_rstd_1 (hp : (arg11.view.read (Elt Ideal) X11) = k0_pay320 (F := Ideal)) (z : Fin 1) (l : Fin 128) : runB.sl.r_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 X11 (ix2 z l) = bR (arg1.view.read (Elt Ideal) X1) (arg2.view.read (Elt Ideal) X2) (arg3.view.read (Elt Ideal) X3) (arg4.view.read (Elt Ideal) X4) i 1 l :=
  body_rstd_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 X11 hp _ z l _ rfl

/-- The codes, later point. -/
theorem B_codes (hc : ¬ k0_cond1 i = 1#1) (hp : (arg11.view.read (Elt Ideal) X11) = k0_pay320 (F := Ideal)) (g b : S1x6912.Idx → EReal) (hg : ∀ y, (arg12.view.read (Elt Ideal) X12) y = GF g y) (hb : ∀ y, (arg13.view.read (Elt Ideal) X13) y = GF b y) {κ : Kind} {sp : Space} (v : View sig κ sp S2x128x6912 .fp8e4m3) (f : v.ty.Contents (Elt Ideal)) (y : S2x128x6912.Idx) :
    v.read (Elt Ideal) (v.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X1 X2 X3 X4 X5 X6 X7 X8 X9 X10 X11 X12 X13 X14 X15 X16 X17 X18).1) y = rowCode (bY (arg1.view.read (Elt Ideal) X1) (arg2.view.read (Elt Ideal) X2) (arg3.view.read (Elt Ideal) X3) (arg4.view.read (Elt Ideal) X4) g b i (y 0) (y 1)) (y 2) := by
  unfold runB
  dsimp only
  exact codes_block c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 _ _ _ _ X7 X15 X16 X17 X18 hp g b hg hb (fun h l => bM (arg1.view.read (Elt Ideal) X1) (arg2.view.read (Elt Ideal) X2) (arg3.view.read (Elt Ideal) X3) i h l) (fun h l => bR (arg1.view.read (Elt Ideal) X1) (arg2.view.read (Elt Ideal) X2) (arg3.view.read (Elt Ideal) X3) (arg4.view.read (Elt Ideal) X4) i h l)
    (fun y hy => stat_read _ _ (fun h l => bM (arg1.view.read (Elt Ideal) X1) (arg2.view.read (Elt Ideal) X2) (arg3.view.read (Elt Ideal) X3) i h l) (fun h l => bR (arg1.view.read (Elt Ideal) X1) (arg2.view.read (Elt Ideal) X2) (arg3.view.read (Elt Ideal) X3) (arg4.view.read (Elt Ideal) X4) i h l) _ _ _ _
      (fun z l => (pay341_at _ z l).trans (B_mean_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l)) (fun z l => (pay342_at _ z l).trans (B_rstd_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 X11 hp z l))
      (fun z l => (pay1_at _ z l).trans (B_mean_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l)) (fun z l => (pay2_at _ z l).trans (B_rstd_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 X11 hp z l)) y hy) _ rfl v f y

/-- The exponents, later point. -/
theorem B_exps (hc : ¬ k0_cond1 i = 1#1) (hp : (arg11.view.read (Elt Ideal) X11) = k0_pay320 (F := Ideal)) (g b : S1x6912.Idx → EReal) (hg : ∀ y, (arg12.view.read (Elt Ideal) X12) y = GF g y) (hb : ∀ y, (arg13.view.read (Elt Ideal) X13) y = GF b y) {κ : Kind} {sp : Space} (v : View sig κ sp S2x128x216 .i8) (f : v.ty.Contents (Elt Ideal)) (y : S2x128x216.Idx) :
    v.read (Elt Ideal) (v.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X1 X2 X3 X4 X5 X6 X7 X8 X9 X10 X11 X12 X13 X14 X15 X16 X17 X18).2.1) y = rowExp (bY (arg1.view.read (Elt Ideal) X1) (arg2.view.read (Elt Ideal) X2) (arg3.view.read (Elt Ideal) X3) (arg4.view.read (Elt Ideal) X4) g b i (y 0) (y 1)) (y 2) := by
  unfold runB
  dsimp only
  refine exps_block v f _ _ (fun y => rowExp (bY (arg1.view.read (Elt Ideal) X1) (arg2.view.read (Elt Ideal) X2) (arg3.view.read (Elt Ideal) X3) (arg4.view.read (Elt Ideal) X4) g b i (y 0) (y 1)) (y 2)) ?_ ?_ y
  · intro z l k
    refine (pay5_apply _ z l k).trans (congrArg (BitVec.setWidth 8) ?_)
    exact exps_scratch c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 _ _ _ _ X7 X15 X16 X17 X18 hp g b hg hb (fun h l => bM (arg1.view.read (Elt Ideal) X1) (arg2.view.read (Elt Ideal) X2) (arg3.view.read (Elt Ideal) X3) i h l) (fun h l => bR (arg1.view.read (Elt Ideal) X1) (arg2.view.read (Elt Ideal) X2) (arg3.view.read (Elt Ideal) X3) (arg4.view.read (Elt Ideal) X4) i h l)
      (fun y hy => stat_read _ _ (fun h l => bM (arg1.view.read (Elt Ideal) X1) (arg2.view.read (Elt Ideal) X2) (arg3.view.read (Elt Ideal) X3) i h l) (fun h l => bR (arg1.view.read (Elt Ideal) X1) (arg2.view.read (Elt Ideal) X2) (arg3.view.read (Elt Ideal) X3) (arg4.view.read (Elt Ideal) X4) i h l) _ _ _ _
      (fun z l => (pay341_at _ z l).trans (B_mean_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l)) (fun z l => (pay342_at _ z l).trans (B_rstd_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 X11 hp z l))
      (fun z l => (pay1_at _ z l).trans (B_mean_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l)) (fun z l => (pay2_at _ z l).trans (B_rstd_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 X11 hp z l)) y hy) _ rfl arg18.view X18 _ 0 l k
      (by show k.val = 8 * (0 + 1 * (k.val / 8)) + (0 + 1 * (k.val % 8)); omega) (by show 0 + 1 * l.val = 128 * 0 + l.val; omega)
  · intro z l k
    refine (pay6_apply _ z l k).trans (congrArg (BitVec.setWidth 8) ?_)
    exact exps_scratch c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 _ _ _ _ X7 X15 X16 X17 X18 hp g b hg hb (fun h l => bM (arg1.view.read (Elt Ideal) X1) (arg2.view.read (Elt Ideal) X2) (arg3.view.read (Elt Ideal) X3) i h l) (fun h l => bR (arg1.view.read (Elt Ideal) X1) (arg2.view.read (Elt Ideal) X2) (arg3.view.read (Elt Ideal) X3) (arg4.view.read (Elt Ideal) X4) i h l)
      (fun y hy => stat_read _ _ (fun h l => bM (arg1.view.read (Elt Ideal) X1) (arg2.view.read (Elt Ideal) X2) (arg3.view.read (Elt Ideal) X3) i h l) (fun h l => bR (arg1.view.read (Elt Ideal) X1) (arg2.view.read (Elt Ideal) X2) (arg3.view.read (Elt Ideal) X3) (arg4.view.read (Elt Ideal) X4) i h l) _ _ _ _
      (fun z l => (pay341_at _ z l).trans (B_mean_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l)) (fun z l => (pay342_at _ z l).trans (B_rstd_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 X11 hp z l))
      (fun z l => (pay1_at _ z l).trans (B_mean_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l)) (fun z l => (pay2_at _ z l).trans (B_rstd_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 X11 hp z l)) y hy) _ rfl arg18.view X18 _ 1 l k
      (by show k.val = 8 * (0 + 1 * (k.val / 8)) + (0 + 1 * (k.val % 8)); omega) (by show 128 + 1 * l.val = 128 * 1 + l.val; omega)

/-- The means, later point. -/
theorem B_means (hc : ¬ k0_cond1 i = 1#1) {κ : Kind} {sp : Space} (v : View sig κ sp S12x128 .f32) (f : v.ty.Contents (Elt Ideal)) (p : Fin 12) (l : Fin 128) :
    v.read (Elt Ideal) (v.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X1 X2 X3 X4 X5 X6 X7 X8 X9 X10 X11 X12 X13 X14 X15 X16 X17 X18).2.2.1) (ix2 p l) = if p.val / 2 = (i 0).val then bM (arg1.view.read (Elt Ideal) X1) (arg2.view.read (Elt Ideal) X2) (arg3.view.read (Elt Ideal) X3) i ⟨p.val % 2, by omega⟩ l else v.read (Elt Ideal) f (ix2 p l) := by
  unfold runB
  dsimp only
  exact rows_read v f i _ _ (fun h l => bM (arg1.view.read (Elt Ideal) X1) (arg2.view.read (Elt Ideal) X2) (arg3.view.read (Elt Ideal) X3) i h l) (fun z l => B_mean_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l) (fun z l => B_mean_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 z l) p l

/-- The reciprocal deviations, later point. -/
theorem B_rstds (hc : ¬ k0_cond1 i = 1#1) (hp : (arg11.view.read (Elt Ideal) X11) = k0_pay320 (F := Ideal)) {κ : Kind} {sp : Space} (v : View sig κ sp S12x128 .f32) (f : v.ty.Contents (Elt Ideal)) (p : Fin 12) (l : Fin 128) :
    v.read (Elt Ideal) (v.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc X1 X2 X3 X4 X5 X6 X7 X8 X9 X10 X11 X12 X13 X14 X15 X16 X17 X18).2.2.2.1) (ix2 p l) = if p.val / 2 = (i 0).val then bR (arg1.view.read (Elt Ideal) X1) (arg2.view.read (Elt Ideal) X2) (arg3.view.read (Elt Ideal) X3) (arg4.view.read (Elt Ideal) X4) i ⟨p.val % 2, by omega⟩ l else v.read (Elt Ideal) f (ix2 p l) := by
  unfold runB
  dsimp only
  exact rows_read v f i _ _ (fun h l => bR (arg1.view.read (Elt Ideal) X1) (arg2.view.read (Elt Ideal) X2) (arg3.view.read (Elt Ideal) X3) (arg4.view.read (Elt Ideal) X4) i h l) (fun z l => B_rstd_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 X11 hp z l) (fun z l => B_rstd_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 X11 hp z l) p l

end Cert.KernelIdeal.Hand

end
-- ==== Proof.Blocks.lean ====
/- The input blocks of a point, in terms of the argument arrays. -/
module

public import proofs.«01_k».proof.Proof.BodyVal
public import proofs.«01_k».proof.Proof.Gen.KernelIdeal.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec

variable (m : (ℓ : Loc nD τ sig) → Buf (Elt Ideal) ℓ) (c : Dev nD)

/-- A point's coordinate is its number. -/
theorem coord_eq : ∀ t : Fin cfg0.N, (grid0.coords t 0).val = t.val := by decide +kernel
/-- Where window 0's block lies at a grid point. -/
theorem index0 : ∀ t : Fin cfg0.N, win0_0.index t = ![0] := by decide +kernel
/-- Where window 1's block lies at a grid point. -/
theorem index1 : ∀ t : Fin cfg0.N, win0_1.index t = ![t.val, 0, 0] := by decide +kernel
/-- Where window 2's block lies at a grid point. -/
theorem index2 : ∀ t : Fin cfg0.N, win0_2.index t = ![0, 0, 0] := by decide +kernel
/-- Where window 3's block lies at a grid point. -/
theorem index3 : ∀ t : Fin cfg0.N, win0_3.index t = ![0, 0, 0] := by decide +kernel
/-- Where window 4's block lies at a grid point. -/
theorem index4 : ∀ t : Fin cfg0.N, win0_4.index t = ![0, 0] := by decide +kernel
/-- Where window 5's block lies at a grid point. -/
theorem index5 : ∀ t : Fin cfg0.N, win0_5.index t = ![0, 0] := by decide +kernel
/-- Where window 6's block lies at a grid point. -/
theorem index6 : ∀ t : Fin cfg0.N, win0_6.index t = ![t.val, 0, 0] := by decide +kernel
/-- Where window 7's block lies at a grid point. -/
theorem index7 : ∀ t : Fin cfg0.N, win0_7.index t = ![t.val, 0, 0] := by decide +kernel

/-- The peers' counts. -/
theorem blk_0 (t : Fin cfg0.N) (j : Fin 3) : iblk m c 0 t (ix1 j) = m ((c.tc : Thread nD τ).loc main_arg1) (ix1 j) := by
  blk_ext! [iblk, V_main_arg1, index0 t]

/-- The block of rows. -/
theorem blk_1 (t : Fin cfg0.N) (h : Fin 2) (l : Fin 128) (j : Fin 6912) (p : Fin 12) (hp : p.val = 2 * (grid0.coords t 0).val + h.val) :
    iblk m c 1 t (ix3 h l j) = m ((c.tc : Thread nD τ).loc main_arg0) (ix3 p l j) := by
  have e := coord_eq t
  blk_ext! [iblk, V_main_arg0, index1 t]

/-- The peers' means. -/
theorem blk_2 (t : Fin cfg0.N) (k : Fin 3) (p : Fin 12) (l : Fin 128) : iblk m c 2 t (ix3 k p l) = m ((c.tc : Thread nD τ).loc main_arg2) (ix3 k p l) := by
  blk_ext! [iblk, V_main_arg2, index2 t]

/-- The peers' sums of squares. -/
theorem blk_3 (t : Fin cfg0.N) (k : Fin 3) (p : Fin 12) (l : Fin 128) : iblk m c 3 t (ix3 k p l) = m ((c.tc : Thread nD τ).loc main_arg3) (ix3 k p l) := by
  blk_ext! [iblk, V_main_arg3, index3 t]

/-- The scale. -/
theorem blk_4 (t : Fin cfg0.N) (j : Fin 6912) : iblk m c 4 t (ix2 0 j) = m ((c.tc : Thread nD τ).loc main_arg4) (ix1 j) := by
  blk_ext! [iblk, V, index4 t]

/-- The shift. -/
theorem blk_5 (t : Fin cfg0.N) (j : Fin 6912) : iblk m c 5 t (ix2 0 j) = m ((c.tc : Thread nD τ).loc main_arg5) (ix1 j) := by
  blk_ext! [iblk, V, index5 t]

end Cert.KernelIdeal.Hand

end
-- ==== Proof.SpecVal.lean ====
/- What the kernel's run leaves in its four results, in terms of the argument arrays. -/
module

public import proofs.«01_k».proof.Proof.Outs
public import proofs.«01_k».proof.Proof.Blocks
public import proofs.«01_k».proof.Proof.ObligIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec Idealize.ShloMosaic.Pipeline

variable (m : (ℓ : Loc nD τ sig) → Buf (Elt Ideal) ℓ) (c : Dev nD)

/-- The peers' counts. -/
def kN (j : Fin 3) : EReal := m ((c.tc : Thread nD τ).loc main_arg1) (ix1 j)
/-- The rows. -/
def kX (p : Fin 12) (l : Fin 128) (j : Fin 6912) : EReal := m ((c.tc : Thread nD τ).loc main_arg0) (ix3 p l j)
/-- The peers' means. -/
def kA (k : Fin 3) (p : Fin 12) (l : Fin 128) : EReal := m ((c.tc : Thread nD τ).loc main_arg2) (ix3 k p l)
/-- The peers' sums of squares. -/
def kQ (k : Fin 3) (p : Fin 12) (l : Fin 128) : EReal := m ((c.tc : Thread nD τ).loc main_arg3) (ix3 k p l)
/-- The scale. -/
def kG (j : Fin 6912) : EReal := m ((c.tc : Thread nD τ).loc main_arg4) (ix1 j)
/-- The shift. -/
def kB (j : Fin 6912) : EReal := m ((c.tc : Thread nD τ).loc main_arg5) (ix1 j)
/-- The mean of a row. -/
abbrev kMean (p : Fin 12) (l : Fin 128) : EReal := rMean (kN m c) (kX m c) (kA m c) p l
/-- The reciprocal deviation of a row. -/
abbrev kRstd (p : Fin 12) (l : Fin 128) : EReal := rRstd (kN m c) (kX m c) (kA m c) (kQ m c) p l
/-- The normalized row. -/
abbrev kY (p : Fin 12) (l : Fin 128) : Fin 6912 → EReal := rY (kN m c) (kX m c) (kA m c) (kQ m c) (kG m c) (kB m c) p l

/-- The mean of a row of the block at point `t`. -/
theorem bM_blk (t : Fin cfg0.N) (h : Fin 2) (l : Fin 128) (p : Fin 12) (hp : p.val = 2 * (grid0.coords t 0).val + h.val) :
    bM (iblk m c 0 t) (iblk m c 1 t) (iblk m c 2 t) (grid0.coords t) h l = kMean m c p l := by
  have ep : ∀ q, (⟨2 * (grid0.coords t 0).val + h.val, q⟩ : Fin 12) = p := fun q => Fin.ext hp.symm
  have ex : (fun j => iblk m c 1 t (ix3 h l j)) = kX m c p l := funext fun j => blk_1 m c t h l j p hp
  unfold bM kMean rMean
  rw [ep, blk_0, blk_0, blk_0, blk_2, blk_2, blk_2, ex]
  rfl

/-- The reciprocal deviation of a row of the block at point `t`. -/
theorem bR_blk (t : Fin cfg0.N) (h : Fin 2) (l : Fin 128) (p : Fin 12) (hp : p.val = 2 * (grid0.coords t 0).val + h.val) :
    bR (iblk m c 0 t) (iblk m c 1 t) (iblk m c 2 t) (iblk m c 3 t) (grid0.coords t) h l = kRstd m c p l := by
  have ep : ∀ q, (⟨2 * (grid0.coords t 0).val + h.val, q⟩ : Fin 12) = p := fun q => Fin.ext hp.symm
  have ex : (fun j => iblk m c 1 t (ix3 h l j)) = kX m c p l := funext fun j => blk_1 m c t h l j p hp
  unfold bR kRstd rRstd
  rw [ep, blk_0, blk_0, blk_0, blk_2, blk_2, blk_2, blk_3, blk_3, blk_3, ex]
  rfl

/-- The normalized row of the block at point `t`. -/
theorem bY_blk (t : Fin cfg0.N) (h : Fin 2) (l : Fin 128) (p : Fin 12) (hp : p.val = 2 * (grid0.coords t 0).val + h.val)
    (g b : S1x6912.Idx → EReal) (hg : ∀ j, g (ix2 0 j) = kG m c j) (hb : ∀ j, b (ix2 0 j) = kB m c j) :
    bY (iblk m c 0 t) (iblk m c 1 t) (iblk m c 2 t) (iblk m c 3 t) g b (grid0.coords t) h l = kY m c p l := by
  have ex : (fun j => iblk m c 1 t (ix3 h l j)) = kX m c p l := funext fun j => blk_1 m c t h l j p hp
  unfold bY
  rw [bM_blk m c t h l p hp, bR_blk m c t h l p hp, ex, funext hg, funext hb]
  rfl

/-- What the three kept scratch buffers hold after the first point. -/
def KP (n : ℕ) (f0 : BufTy.Contents (Elt Ideal) (Memref.whole cc0_scratch0).view.ty) (f1 : BufTy.Contents (Elt Ideal) (Memref.whole cc0_scratch1).view.ty)
    (f2 : BufTy.Contents (Elt Ideal) (Memref.whole cc0_scratch2).view.ty) : Prop :=
  1 ≤ n → (Memref.whole cc0_scratch0).view.read (Elt Ideal) f0 = k0_pay320 (F := Ideal)
    ∧ (∀ y, (Memref.whole cc0_scratch1).view.read (Elt Ideal) f1 y = GF (fun i => kG m c (i 1)) y)
    ∧ (∀ y, (Memref.whole cc0_scratch2).view.read (Elt Ideal) f2 y = GF (fun i => kB m c (i 1)) y)

/-- What the body leaves in each result's buffer at point `t`, given what it finds there. -/
def KR : (w : Fin cfg0.W) → Fin cfg0.N → (Y X : (cfg0.win w).block.Idx → Elt Ideal (cfg0.win w).elt) → Prop
  | ⟨6, _⟩ => fun t _ X => ∀ (p : Fin 12) (h : Fin 2) (l : Fin 128) (j : Fin 6912), p.val = 2 * t.val + h.val → X (ix3 h l j) = rowCode (kY m c p l) j
  | ⟨7, _⟩ => fun t _ X => ∀ (p : Fin 12) (h : Fin 2) (l : Fin 128) (k : Fin 216), p.val = 2 * t.val + h.val → X (ix3 h l k) = rowExp (kY m c p l) k
  | ⟨8, _⟩ => fun t Y X => ∀ (p : Fin 12) (l : Fin 128), X (ix2 p l) = if p.val / 2 = t.val then kMean m c p l else Y (ix2 p l)
  | ⟨9, _⟩ => fun t Y X => ∀ (p : Fin 12) (l : Fin 128), X (ix2 p l) = if p.val / 2 = t.val then kRstd m c p l else Y (ix2 p l)
  | _ => fun _ _ _ => True

/-- The first point alone takes the first-point branch. -/
theorem cond1 : ∀ t : Fin cfg0.N, ¬ k0_cond1 (grid0.coords t) = 1#1 → 1 ≤ t.val := by decide +kernel

set_option maxHeartbeats 4000000 in
/-- The body's run at the first point leaves those values. -/
theorem stepA : StepA m c (KP m c) (KR m c) := by
  unfold StepA
  intro t hc X1 X2 X3 X4 X5 X6 X7 X8 X9 X10 X11 X12 X13 X14 X15 X16 X17 X18 h1 h2 h3 h4 h5 h6 hP
  have et := coord_eq t
  refine ⟨?_, ?_, ?_, ?_, ?_⟩
  · intro p h l j hp
    refine (A_codes _ _ _ _ _ _ _ _ _ _ _ _ _ _ _ _ _ _ _ _ _ _ _ _ _ _ _ _ _ _ _ _ _ _ _ _ _ _ _ _ _ _ _ _ _ _ _ _ _ _ _ _ _ _ _ _ hc _ _ _).trans ?_
    rw [h1, h2, h3, h4, h5, h6]
    exact congrArg (fun f => rowCode f j) (bY_blk m c t h l p (by omega) (iblk m c 4 t) (iblk m c 5 t) (blk_4 m c t) (blk_5 m c t))
  · intro p h l k hp
    refine (A_exps _ _ _ _ _ _ _ _ _ _ _ _ _ _ _ _ _ _ _ _ _ _ _ _ _ _ _ _ _ _ _ _ _ _ _ _ _ _ _ _ _ _ _ _ _ _ _ _ _ _ _ _ _ _ _ _ hc _ _ _).trans ?_
    rw [h1, h2, h3, h4, h5, h6]
    exact congrArg (fun f => rowExp f k) (bY_blk m c t h l p (by omega) (iblk m c 4 t) (iblk m c 5 t) (blk_4 m c t) (blk_5 m c t))
  · intro p l
    refine (A_means _ _ _ _ _ _ _ _ _ _ _ _ _ _ _ _ _ _ _ _ _ _ _ _ _ _ _ _ _ _ _ _ _ _ _ _ _ _ _ _ _ _ _ _ _ _ _ _ _ _ _ _ _ _ _ _ hc _ _ _ _).trans ?_
    rw [h1, h2, h3, et]
    split
    · exact bM_blk m c t _ l p (by show p.val = _ + p.val % 2; omega)
    · rfl
  · intro p l
    refine (A_rstds _ _ _ _ _ _ _ _ _ _ _ _ _ _ _ _ _ _ _ _ _ _ _ _ _ _ _ _ _ _ _ _ _ _ _ _ _ _ _ _ _ _ _ _ _ _ _ _ _ _ _ _ _ _ _ _ hc _ _ _ _).trans ?_
    rw [h1, h2, h3, h4, et]
    split
    · exact bR_blk m c t _ l p (by show p.val = _ + p.val % 2; omega)
    · rfl
  · intro _
    refine ⟨A_perm _ _ _ _ _ _ _ _ _ _ _ _ _ _ _ _ _ _ _ _ _ _ _ _ _ _ _ _ _ _ _ _ _ _ _ _ _ _ _ _ _ _ _ _ _ _ _ _ _ _ _ _ _ _ _ _ hc, fun y => (A_scale _ _ _ _ _ _ _ _ _ _ _ _ _ _ _ _ _ _ _ _ _ _ _ _ _ _ _ _ _ _ _ _ _ _ _ _ _ _ _ _ _ _ _ _ _ _ _ _ _ _ _ _ _ _ _ _ hc y).trans ?_, fun y => (A_shift _ _ _ _ _ _ _ _ _ _ _ _ _ _ _ _ _ _ _ _ _ _ _ _ _ _ _ _ _ _ _ _ _ _ _ _ _ _ _ _ _ _ _ _ _ _ _ _ _ _ _ _ _ _ _ _ hc y).trans ?_⟩
    · rw [h5]; exact blk_4 m c t _
    · rw [h6]; exact blk_5 m c t _

set_option maxHeartbeats 4000000 in
/-- The body's run at a later point leaves those values. -/
theorem stepB : StepB m c (KP m c) (KR m c) := by
  unfold StepB
  intro t hc X1 X2 X3 X4 X5 X6 X7 X8 X9 X10 X11 X12 X13 X14 X15 X16 X17 X18 h1 h2 h3 h4 h5 h6 hP
  have et := coord_eq t
  have hK := hP (cond1 t hc)
  refine ⟨?_, ?_, ?_, ?_, ?_⟩
  · intro p h l j hp
    refine (B_codes _ _ _ _ _ _ _ _ _ _ _ _ _ _ _ _ _ _ _ _ _ _ _ _ _ _ _ _ _ _ _ _ _ _ _ _ _ _ _ _ _ _ _ _ _ _ _ _ _ _ _ _ _ _ _ _ hc hK.1 _ _ hK.2.1 hK.2.2 _ _ _).trans ?_
    rw [h1, h2, h3, h4]
    exact congrArg (fun f => rowCode f j) (bY_blk m c t h l p (by omega) _ _ (fun _ => rfl) (fun _ => rfl))
  · intro p h l k hp
    refine (B_exps _ _ _ _ _ _ _ _ _ _ _ _ _ _ _ _ _ _ _ _ _ _ _ _ _ _ _ _ _ _ _ _ _ _ _ _ _ _ _ _ _ _ _ _ _ _ _ _ _ _ _ _ _ _ _ _ hc hK.1 _ _ hK.2.1 hK.2.2 _ _ _).trans ?_
    rw [h1, h2, h3, h4]
    exact congrArg (fun f => rowExp f k) (bY_blk m c t h l p (by omega) _ _ (fun _ => rfl) (fun _ => rfl))
  · intro p l
    refine (B_means _ _ _ _ _ _ _ _ _ _ _ _ _ _ _ _ _ _ _ _ _ _ _ _ _ _ _ _ _ _ _ _ _ _ _ _ _ _ _ _ _ _ _ _ _ _ _ _ _ _ _ _ _ _ _ _ hc _ _ _ _).trans ?_
    rw [h1, h2, h3, et]
    split
    · exact bM_blk m c t _ l p (by show p.val = _ + p.val % 2; omega)
    · rfl
  · intro p l
    refine (B_rstds _ _ _ _ _ _ _ _ _ _ _ _ _ _ _ _ _ _ _ _ _ _ _ _ _ _ _ _ _ _ _ _ _ _ _ _ _ _ _ _ _ _ _ _ _ _ _ _ _ _ _ _ _ _ _ _ hc hK.1 _ _ _ _).trans ?_
    rw [h1, h2, h3, h4, et]
    split
    · exact bR_blk m c t _ l p (by show p.val = _ + p.val % 2; omega)
    · rfl
  · exact fun _ => hK

/-- The specification of the kernel's body. -/
def kSpec : Spec (F := Ideal) m c where
  P := KP m c
  R := KR m c
  zero _ _ _ h := absurd h (by omega)
  stepA := stepA m c
  stepB := stepB m c

end Cert.KernelIdeal.Hand

end
-- ==== Proof.Final.lean ====
/- The four result arrays after the kernel's run. -/
module

public import proofs.«01_k».proof.Proof.SpecVal
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec Idealize.ShloMosaic.Pipeline

variable (m : (ℓ : Loc nD τ sig) → Buf (Elt Ideal) ℓ)

/-- The means the body may have left after point `n`: those of the rows up to it. -/
theorem leaves_8 (c : Dev nD) : ∀ (n : ℕ) (hn : n < cfg0.N) (X), (rdat (kSpec m c)).Leaves 8 ⟨n, hn⟩ X → ∀ (p : Fin 12) (l : Fin 128), p.val / 2 ≤ n → X (ix2 p l) = kMean m c p l := by
  intro n
  induction n with
  | zero =>
    intro hn X ⟨Y, hY, hR⟩ p l hp
    have h : X (ix2 p l) = if p.val / 2 = 0 then kMean m c p l else Y (ix2 p l) := (rdat_after_out (kSpec m c) 8 rfl ⟨0, hn⟩ Y X).mp hR p l
    rw [h, if_pos (by omega)]
  | succ n ih =>
    intro hn X ⟨Y, hY, hR⟩ p l hp
    have h : X (ix2 p l) = if p.val / 2 = n + 1 then kMean m c p l else Y (ix2 p l) := (rdat_after_out (kSpec m c) 8 rfl ⟨n + 1, hn⟩ Y X).mp hR p l
    rw [h]
    split
    · rfl
    · have hfl : (cfg0.win 8).flush ⟨n, Nat.lt_of_succ_lt hn⟩ = false := (by decide +kernel : ∀ u : Fin cfg0.N, u.val < 5 → (cfg0.win 8).flush u = false) ⟨n, Nat.lt_of_succ_lt hn⟩ (by have h6 : n + 1 < 6 := hn; exact Nat.lt_of_succ_lt_succ h6)
      rcases ((rdat (kSpec m c)).finds_of_pos ((by decide +kernel : ∀ u : Fin cfg0.N, (cfg0.win 8).fetch u = false) ⟨n + 1, hn⟩) (Nat.succ_ne_zero n) Y).mp hY with hf | hL
      · exact absurd (hf.symm.trans hfl) (by decide)
      · exact ih _ Y hL p l (by omega)

/-- The reciprocal deviations the body may have left after point `n`: those of the rows up to it. -/
theorem leaves_9 (c : Dev nD) : ∀ (n : ℕ) (hn : n < cfg0.N) (X), (rdat (kSpec m c)).Leaves 9 ⟨n, hn⟩ X → ∀ (p : Fin 12) (l : Fin 128), p.val / 2 ≤ n → X (ix2 p l) = kRstd m c p l := by
  intro n
  induction n with
  | zero =>
    intro hn X ⟨Y, hY, hR⟩ p l hp
    have h : X (ix2 p l) = if p.val / 2 = 0 then kRstd m c p l else Y (ix2 p l) := (rdat_after_out (kSpec m c) 9 rfl ⟨0, hn⟩ Y X).mp hR p l
    rw [h, if_pos (by omega)]
  | succ n ih =>
    intro hn X ⟨Y, hY, hR⟩ p l hp
    have h : X (ix2 p l) = if p.val / 2 = n + 1 then kRstd m c p l else Y (ix2 p l) := (rdat_after_out (kSpec m c) 9 rfl ⟨n + 1, hn⟩ Y X).mp hR p l
    rw [h]
    split
    · rfl
    · have hfl : (cfg0.win 9).flush ⟨n, Nat.lt_of_succ_lt hn⟩ = false := (by decide +kernel : ∀ u : Fin cfg0.N, u.val < 5 → (cfg0.win 9).flush u = false) ⟨n, Nat.lt_of_succ_lt hn⟩ (by have h6 : n + 1 < 6 := hn; exact Nat.lt_of_succ_lt_succ h6)
      rcases ((rdat (kSpec m c)).finds_of_pos ((by decide +kernel : ∀ u : Fin cfg0.N, (cfg0.win 9).fetch u = false) ⟨n + 1, hn⟩) (Nat.succ_ne_zero n) Y).mp hY with hf | hL
      · exact absurd (hf.symm.trans hfl) (by decide)
      · exact ih _ Y hL p l (by omega)

/-- The four results of a run in which the arrays are at contents the data allow. -/
theorem results_of {r : PUnit × MemSt nD τ sig (Elt Ideal)} (h : Pipeline.RDat.FramePost (cfgs 0) (fun c => rdat (kSpec m c)) (V m) r) (c : Dev nD) :
    (∀ p l j, r.2.mem ((c.tc : Thread nD τ).loc main_v2_0) (ix3 p l j) = rowCode (kY m c p l) j)
      ∧ (∀ p l k, r.2.mem ((c.tc : Thread nD τ).loc main_v2_1) (ix3 p l k) = rowExp (kY m c p l) k)
      ∧ (∀ p l, r.2.mem ((c.tc : Thread nD τ).loc main_v2_2) (ix2 p l) = kMean m c p l)
      ∧ (∀ p l, r.2.mem ((c.tc : Thread nD τ).loc main_v2_3) (ix2 p l) = kRstd m c p l) := by
  refine ⟨?_, ?_, ?_, ?_⟩
  · obtain ⟨after, hL, hA⟩ := Pipeline.RDat.FramePost.exists_exact h c
    intro p l j
    refine (congrFun ((hA 6).trans (((rdat (kSpec m c)).withAfter after).arrAt_eq_of_covers 6 (fun i => rowCode (kY m c (i 0) (i 1)) (i 2)) (by decide +kernel) fun t hf y => ?_)) (ix3 p l j)).trans rfl
    obtain ⟨Y, -, hR⟩ := hL 6 t hf
    have hX : ∀ (p : Fin 12) (h : Fin 2) (l : Fin 128) (j : Fin 6912), p.val = 2 * t.val + h.val → after 6 t (ix3 h l j) = rowCode (kY m c p l) j := (rdat_after_out (kSpec m c) 6 rfl t Y _).mp hR
    have e0 : ((win0_6.blk t).view.emb y 0).val = 2 * t.val + (y 0).val := by
      blk_simp [index6 t]
      try (show t.val * 2 + (y 0).val = _; omega)
    have e1 : (win0_6.blk t).view.emb y 1 = y 1 := by
      apply Fin.ext
      blk_simp [index6 t]
      try (show 0 * 128 + (y 1).val = _; omega)
    have e2 : (win0_6.blk t).view.emb y 2 = y 2 := by
      apply Fin.ext
      blk_simp [index6 t]
      try (show 0 * 6912 + (y 2).val = _; omega)
    refine Eq.trans ?_ ((hX _ (y 0) (y 1) (y 2) e0).trans ?_)
    · exact congrArg (after 6 t) (eq_ix3 y)
    · show _ = rowCode (kY m c ((win0_6.blk t).view.emb y 0) ((win0_6.blk t).view.emb y 1)) ((win0_6.blk t).view.emb y 2)
      rw [e1, e2]
  · obtain ⟨after, hL, hA⟩ := Pipeline.RDat.FramePost.exists_exact h c
    intro p l k
    refine (congrFun ((hA 7).trans (((rdat (kSpec m c)).withAfter after).arrAt_eq_of_covers 7 (fun i => rowExp (kY m c (i 0) (i 1)) (i 2)) (by decide +kernel) fun t hf y => ?_)) (ix3 p l k)).trans rfl
    obtain ⟨Y, -, hR⟩ := hL 7 t hf
    have hX : ∀ (p : Fin 12) (h : Fin 2) (l : Fin 128) (j : Fin 216), p.val = 2 * t.val + h.val → after 7 t (ix3 h l j) = rowExp (kY m c p l) j := (rdat_after_out (kSpec m c) 7 rfl t Y _).mp hR
    have e0 : ((win0_7.blk t).view.emb y 0).val = 2 * t.val + (y 0).val := by
      blk_simp [index7 t]
      try (show t.val * 2 + (y 0).val = _; omega)
    have e1 : (win0_7.blk t).view.emb y 1 = y 1 := by
      apply Fin.ext
      blk_simp [index7 t]
      try (show 0 * 128 + (y 1).val = _; omega)
    have e2 : (win0_7.blk t).view.emb y 2 = y 2 := by
      apply Fin.ext
      blk_simp [index7 t]
      try (show 0 * 216 + (y 2).val = _; omega)
    refine Eq.trans ?_ ((hX _ (y 0) (y 1) (y 2) e0).trans ?_)
    · exact congrArg (after 7 t) (eq_ix3 y)
    · show _ = rowExp (kY m c ((win0_7.blk t).view.emb y 0) ((win0_7.blk t).view.emb y 1)) ((win0_7.blk t).view.emb y 2)
      rw [e1, e2]
  · obtain ⟨X, hX, hG⟩ := Pipeline.RDat.ArrAt.emb_eq_of_wholeAt ((h c).1 8) (t₀ := ⟨5, by decide⟩) (by decide +kernel)
    intro p l
    exact (hG (ix2 p l)).trans (leaves_8 m c 5 (by decide) X hX p l (by omega))
  · obtain ⟨X, hX, hG⟩ := Pipeline.RDat.ArrAt.emb_eq_of_wholeAt ((h c).1 9) (t₀ := ⟨5, by decide⟩) (by decide +kernel)
    intro p l
    exact (hG (ix2 p l)).trans (leaves_9 m c 5 (by decide) X hX p l (by omega))

end Cert.KernelIdeal.Hand

end
-- ==== Proof.Ref.lean ====
/- The reference's results, read at an index, as the functions of a row that the kernel's results are. -/
module

public import proofs.«01_k».proof.Proof.Rows
public import proofs.«01_k».proof.Proof.Gen.ReferenceIdeal.Read
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Spec Cert.ReferenceIdeal.Read Cert.ReferenceIdeal.Value

/-- The rows of an array. -/
abbrev aX (x0 : (⟨S12x128x6912, .bf16⟩ : BufTy).Contents (Elt Ideal)) (p : Fin 12) (l : Fin 128) (j : Fin 6912) : EReal := x0 (ix3 p l j)
/-- The entries of a vector of three. -/
abbrev aN (x1 : (⟨S3, .f32⟩ : BufTy).Contents (Elt Ideal)) (j : Fin 3) : EReal := x1 (ix1 j)
/-- The planes of a stack of three. -/
abbrev aA (x2 : (⟨S3x12x128, .f32⟩ : BufTy).Contents (Elt Ideal)) (k : Fin 3) (p : Fin 12) (l : Fin 128) : EReal := x2 (ix3 k p l)
/-- The entries of a vector of channels. -/
abbrev aG (x4 : (⟨S6912, .f32⟩ : BufTy).Contents (Elt Ideal)) (j : Fin 6912) : EReal := x4 (ix1 j)

/-- The count of peer 0. -/
theorem v10_at (x1 : (⟨S3, .f32⟩ : BufTy).Contents (Elt Ideal)) (i : S_.Idx) : val_main_v10 (F := Ideal) x1 i = x1 (ix1 0) := by
  unfold val_main_v10
  rw [shapeCast_apply _ _ i (ix1 0 : S1.Idx) (by
    have h1 : (Shape.rowMajor S1 (ix1 0)).val < 1 := (Shape.rowMajor S1 (ix1 0)).isLt
    have h2 : (Shape.rowMajor S_ i).val < 1 := (Shape.rowMajor S_ i).isLt
    exact (Nat.lt_one_iff.mp h1).trans (Nat.lt_one_iff.mp h2).symm), val_main_v9_apply]
  exact congrArg x1 (funext fun a => by fin_cases a; rfl)

/-- The count of peer 1. -/
theorem v16_at (x1 : (⟨S3, .f32⟩ : BufTy).Contents (Elt Ideal)) (i : S_.Idx) : val_main_v16 (F := Ideal) x1 i = x1 (ix1 1) := by
  unfold val_main_v16
  rw [shapeCast_apply _ _ i (ix1 0 : S1.Idx) (by
    have h1 : (Shape.rowMajor S1 (ix1 0)).val < 1 := (Shape.rowMajor S1 (ix1 0)).isLt
    have h2 : (Shape.rowMajor S_ i).val < 1 := (Shape.rowMajor S_ i).isLt
    exact (Nat.lt_one_iff.mp h1).trans (Nat.lt_one_iff.mp h2).symm), val_main_v15_apply]
  exact congrArg x1 (funext fun a => by fin_cases a; rfl)

/-- The count of peer 2. -/
theorem v48_at (x1 : (⟨S3, .f32⟩ : BufTy).Contents (Elt Ideal)) (i : S_.Idx) : val_main_v48 (F := Ideal) x1 i = x1 (ix1 2) := by
  unfold val_main_v48
  rw [shapeCast_apply _ _ i (ix1 0 : S1.Idx) (by
    have h1 : (Shape.rowMajor S1 (ix1 0)).val < 1 := (Shape.rowMajor S1 (ix1 0)).isLt
    have h2 : (Shape.rowMajor S_ i).val < 1 := (Shape.rowMajor S_ i).isLt
    exact (Nat.lt_one_iff.mp h1).trans (Nat.lt_one_iff.mp h2).symm), val_main_v47_apply]
  exact congrArg x1 (funext fun a => by fin_cases a; rfl)

/-- A mean of peer 0. -/
theorem v12_at (x2 : (⟨S3x12x128, .f32⟩ : BufTy).Contents (Elt Ideal)) (p : Fin 12) (l : Fin 128) : val_main_v12 (F := Ideal) x2 (ix2 p l) = x2 (ix3 0 p l) := by
  rw [val_main_v12_apply, val_main_v11_apply]
  refine congrArg x2 (funext fun a => Fin.ext ?_)
  match a with
  | ⟨0, _⟩ => show 0 + 0 = 0; rfl
  | ⟨1, _⟩ => show (p.val * 128 + l.val) / 128 % 12 = p.val; omega
  | ⟨2, _⟩ => show (p.val * 128 + l.val) % 128 = l.val; omega

/-- A sum of squares of peer 0. -/
theorem v14_at (x3 : (⟨S3x12x128, .f32⟩ : BufTy).Contents (Elt Ideal)) (p : Fin 12) (l : Fin 128) : val_main_v14 (F := Ideal) x3 (ix2 p l) = x3 (ix3 0 p l) := by
  rw [val_main_v14_apply, val_main_v13_apply]
  refine congrArg x3 (funext fun a => Fin.ext ?_)
  match a with
  | ⟨0, _⟩ => show 0 + 0 = 0; rfl
  | ⟨1, _⟩ => show (p.val * 128 + l.val) / 128 % 12 = p.val; omega
  | ⟨2, _⟩ => show (p.val * 128 + l.val) % 128 = l.val; omega

/-- A mean of peer 1. -/
theorem v18_at (x2 : (⟨S3x12x128, .f32⟩ : BufTy).Contents (Elt Ideal)) (p : Fin 12) (l : Fin 128) : val_main_v18 (F := Ideal) x2 (ix2 p l) = x2 (ix3 1 p l) := by
  rw [val_main_v18_apply, val_main_v17_apply]
  refine congrArg x2 (funext fun a => Fin.ext ?_)
  match a with
  | ⟨0, _⟩ => show 1 + 0 = 1; rfl
  | ⟨1, _⟩ => show (p.val * 128 + l.val) / 128 % 12 = p.val; omega
  | ⟨2, _⟩ => show (p.val * 128 + l.val) % 128 = l.val; omega

/-- A sum of squares of peer 1. -/
theorem v20_at (x3 : (⟨S3x12x128, .f32⟩ : BufTy).Contents (Elt Ideal)) (p : Fin 12) (l : Fin 128) : val_main_v20 (F := Ideal) x3 (ix2 p l) = x3 (ix3 1 p l) := by
  rw [val_main_v20_apply, val_main_v19_apply]
  refine congrArg x3 (funext fun a => Fin.ext ?_)
  match a with
  | ⟨0, _⟩ => show 1 + 0 = 1; rfl
  | ⟨1, _⟩ => show (p.val * 128 + l.val) / 128 % 12 = p.val; omega
  | ⟨2, _⟩ => show (p.val * 128 + l.val) % 128 = l.val; omega

/-- A mean of peer 2. -/
theorem v50_at (x2 : (⟨S3x12x128, .f32⟩ : BufTy).Contents (Elt Ideal)) (p : Fin 12) (l : Fin 128) : val_main_v50 (F := Ideal) x2 (ix2 p l) = x2 (ix3 2 p l) := by
  rw [val_main_v50_apply, val_main_v49_apply]
  refine congrArg x2 (funext fun a => Fin.ext ?_)
  match a with
  | ⟨0, _⟩ => show 2 + 0 = 2; rfl
  | ⟨1, _⟩ => show (p.val * 128 + l.val) / 128 % 12 = p.val; omega
  | ⟨2, _⟩ => show (p.val * 128 + l.val) % 128 = l.val; omega

/-- A sum of squares of peer 2. -/
theorem v52_at (x3 : (⟨S3x12x128, .f32⟩ : BufTy).Contents (Elt Ideal)) (p : Fin 12) (l : Fin 128) : val_main_v52 (F := Ideal) x3 (ix2 p l) = x3 (ix3 2 p l) := by
  rw [val_main_v52_apply, val_main_v51_apply]
  refine congrArg x3 (funext fun a => Fin.ext ?_)
  match a with
  | ⟨0, _⟩ => show 2 + 0 = 2; rfl
  | ⟨1, _⟩ => show (p.val * 128 + l.val) / 128 % 12 = p.val; omega
  | ⟨2, _⟩ => show (p.val * 128 + l.val) % 128 = l.val; omega

/-- The mean of the row itself. -/
theorem v3_at (x0 : (⟨S12x128x6912, .bf16⟩ : BufTy).Contents (Elt Ideal)) (p : Fin 12) (l : Fin 128) : val_main_v3 (F := Ideal) x0 (ix2 p l) = meanOf (aX x0 p l) := by
  rw [val_main_v3_apply, val_main_v1_apply, val_main_v2_apply]
  show Ideal.div (Ideal.ofBits .f32 0x00000000#32 + ∑ k : Fin 6912, x0 (idx_main_v1 (ix2 p l) k)) D0 = Ideal.div (∑ c, x0 (ix3 p l c)) D0
  rw [Ideal.ofBits_zero_f32, zero_add]
  refine congrArg (Ideal.div · D0) (Finset.sum_congr rfl fun k _ => congrArg x0 ?_)
  exact funext fun a => by fin_cases a <;> rfl

/-- The sum of squared distances of the row from its mean. -/
theorem v8_at (x0 : (⟨S12x128x6912, .bf16⟩ : BufTy).Contents (Elt Ideal)) (p : Fin 12) (l : Fin 128) : val_main_v8 (F := Ideal) x0 (ix2 p l) = m2Of (aX x0 p l) := by
  rw [val_main_v8_apply]
  show Ideal.ofBits .f32 0x00000000#32 + _ = _
  rw [Ideal.ofBits_zero_f32, zero_add]
  unfold m2Of
  refine Finset.sum_congr rfl fun k _ => ?_
  have e : val_main_v6 (F := Ideal) x0 (idx_main_v8 (ix2 p l) k) = aX x0 p l k - meanOf (aX x0 p l) := by
    rw [val_main_v6_apply, val_main_v0_apply, val_main_v5_apply, val_main_v4_apply, ← v3_at]
    have e1 : idx_main_v8 (ix2 p l) k = ix3 p l k := funext fun a => by fin_cases a <;> rfl
    have e2 : idx_main_v4 (idx_main_v5 (ix3 p l k)) = ix2 p l := funext fun a => by fin_cases a <;> rfl
    rw [e1, e2]
    rfl
  rw [val_main_v7_apply, e]
  rfl

/-- The merged mean. -/
theorem v58_at (x0 : (⟨S12x128x6912, .bf16⟩ : BufTy).Contents (Elt Ideal)) (x1 : (⟨S3, .f32⟩ : BufTy).Contents (Elt Ideal)) (x2 : (⟨S3x12x128, .f32⟩ : BufTy).Contents (Elt Ideal)) (p : Fin 12) (l : Fin 128) :
    val_main_v58 (F := Ideal) x0 x1 x2 (ix2 p l) = rMean (aN x1) (aX x0) (aA x2) p l := by
  simp only [val_main_v58_apply, val_main_v57_apply, val_main_v56_apply, val_main_v55_apply, val_main_v54_apply, val_main_v53_apply, val_main_v39_apply, val_main_v38_apply,
    val_main_v37_apply, val_main_v36_apply, val_main_v35_apply, val_main_v34_apply, val_main_v26_apply, val_main_v25_apply, val_main_v24_apply, val_main_v23_apply, val_main_v22_apply,
    val_main_v21_apply, v10_at, v16_at, v48_at, v12_at, v18_at, v50_at, v3_at]
  rfl

/-- The reciprocal of the merged deviation. -/
theorem v70_at (x0 : (⟨S12x128x6912, .bf16⟩ : BufTy).Contents (Elt Ideal)) (x1 : (⟨S3, .f32⟩ : BufTy).Contents (Elt Ideal)) (x2 : (⟨S3x12x128, .f32⟩ : BufTy).Contents (Elt Ideal)) (x3 : (⟨S3x12x128, .f32⟩ : BufTy).Contents (Elt Ideal)) (p : Fin 12) (l : Fin 128) :
    val_main_v70 (F := Ideal) x0 x1 x2 x3 (ix2 p l) = rRstd (aN x1) (aX x0) (aA x2) (aA x3) p l := by
  simp only [val_main_v70_apply, val_main_v69_apply, val_main_v68_apply, val_main_v67_apply, val_main_v66_apply, val_main_v65_apply, val_main_v64_apply, val_main_v63_apply,
    val_main_v62_apply, val_main_v61_apply, val_main_v60_apply, val_main_v59_apply, val_main_v54_apply, val_main_v53_apply, val_main_v46_apply, val_main_v45_apply,
    val_main_v44_apply, val_main_v43_apply, val_main_v42_apply, val_main_v41_apply, val_main_v40_apply, val_main_v39_apply, val_main_v38_apply,
    val_main_v37_apply, val_main_v36_apply, val_main_v35_apply, val_main_v34_apply, val_main_v33_apply, val_main_v32_apply, val_main_v31_apply, val_main_v30_apply,
    val_main_v29_apply, val_main_v28_apply, val_main_v27_apply, val_main_v26_apply, val_main_v25_apply, val_main_v24_apply, val_main_v23_apply, val_main_v22_apply,
    val_main_v21_apply, v10_at, v16_at, v48_at, v12_at, v18_at, v50_at, v14_at, v20_at, v52_at, v3_at, v8_at]
  rfl

/-- The normalized row. -/
theorem v82_at (x0 : (⟨S12x128x6912, .bf16⟩ : BufTy).Contents (Elt Ideal)) (x1 : (⟨S3, .f32⟩ : BufTy).Contents (Elt Ideal)) (x2 : (⟨S3x12x128, .f32⟩ : BufTy).Contents (Elt Ideal)) (x3 : (⟨S3x12x128, .f32⟩ : BufTy).Contents (Elt Ideal)) (x4 : (⟨S6912, .f32⟩ : BufTy).Contents (Elt Ideal)) (x5 : (⟨S6912, .f32⟩ : BufTy).Contents (Elt Ideal)) (p : Fin 12) (l : Fin 128) (j : Fin 6912) :
    val_main_v82 (F := Ideal) x0 x1 x2 x3 x4 x5 (ix3 p l j) = rY (aN x1) (aX x0) (aA x2) (aA x3) (aG x4) (aG x5) p l j := by
  rw [val_main_v82_apply, val_main_v79_apply, val_main_v76_apply, val_main_v73_apply, val_main_v72_apply, val_main_v71_apply, val_main_v75_apply, val_main_v74_apply,
    val_main_v78_apply, val_main_v77_apply, val_main_v81_apply, val_main_v80_apply, val_main_v0_apply]
  have e1 : idx_main_v71 (idx_main_v72 (ix3 p l j)) = ix2 p l := funext fun a => by fin_cases a <;> rfl
  have e2 : idx_main_v74 (idx_main_v75 (ix3 p l j)) = ix2 p l := funext fun a => by fin_cases a <;> rfl
  have e3 : idx_main_v77 (idx_main_v78 (ix3 p l j)) = ix1 j := funext fun a => by fin_cases a; rfl
  have e4 : idx_main_v80 (idx_main_v81 (ix3 p l j)) = ix1 j := funext fun a => by fin_cases a; rfl
  rw [e1, e2, e3, e4, v58_at, v70_at]
  rfl

section
variable (x0 : (⟨S12x128x6912, .bf16⟩ : BufTy).Contents (Elt Ideal)) (x1 : (⟨S3, .f32⟩ : BufTy).Contents (Elt Ideal)) (x2 : (⟨S3x12x128, .f32⟩ : BufTy).Contents (Elt Ideal)) (x3 : (⟨S3x12x128, .f32⟩ : BufTy).Contents (Elt Ideal)) (x4 : (⟨S6912, .f32⟩ : BufTy).Contents (Elt Ideal)) (x5 : (⟨S6912, .f32⟩ : BufTy).Contents (Elt Ideal))

/-- The normalized row. -/
abbrev aY (p : Fin 12) (l : Fin 128) : Fin 6912 → EReal := rY (aN x1) (aX x0) (aA x2) (aA x3) (aG x4) (aG x5) p l

/-- The normalized row in blocks of 32 channels. -/
theorem v83_at (p : Fin 12) (l : Fin 128) (k : Fin 216) (j : Fin 32) :
    val_main_v83 (F := Ideal) x0 x1 x2 x3 x4 x5 (ix4 p l k j) = aY x0 x1 x2 x3 x4 x5 p l ⟨32 * k.val + j.val, by omega⟩ := by
  rw [val_main_v83_apply]
  refine Eq.trans ?_ (v82_at x0 x1 x2 x3 x4 x5 p l ⟨32 * k.val + j.val, by omega⟩)
  refine congrArg _ (funext fun a => Fin.ext ?_)
  match a with
  | ⟨0, _⟩ => show (((p.val * 128 + l.val) * 216 + k.val) * 32 + j.val) / 884736 = p.val; omega
  | ⟨1, _⟩ => show (((p.val * 128 + l.val) * 216 + k.val) * 32 + j.val) / 6912 % 128 = l.val; omega
  | ⟨2, _⟩ => show (((p.val * 128 + l.val) * 216 + k.val) * 32 + j.val) % 6912 = 32 * k.val + j.val; omega

/-- The largest absolute value of a block. -/
theorem v85_at (p : Fin 12) (l : Fin 128) (k : Fin 216) :
    val_main_v85 (F := Ideal) x0 x1 x2 x3 x4 x5 (ix3 p l k) = Finset.univ.sup fun j : Fin 32 => aabs (aY x0 x1 x2 x3 x4 x5 p l ⟨32 * k.val + j.val, by omega⟩) := by
  unfold val_main_v85
  have h84 : ∀ j : Fin 32, val_main_v84 (F := Ideal) x0 x1 x2 x3 x4 x5 (ix4 p l k j) = aabs (aY x0 x1 x2 x3 x4 x5 p l ⟨32 * k.val + j.val, by omega⟩) := fun j => by
    rw [val_main_v84_apply, v83_at]
    rfl
  generalize val_main_v84 (F := Ideal) x0 x1 x2 x3 x4 x5 = y at h84
  refine (Host.reduce_eq_fold_single (max : EReal → EReal → EReal) y (val_main_cst_6 (F := Ideal)) reducesTo_S12x128x216x32_S12x128x216_d3 (by decide) h_S_ (ix3 p l k)).trans ?_
  have hb : val_main_cst_6 (F := Ideal) (Shape.Idx.first h_S_) = (⊥ : EReal) := by
    show Ideal.ofBits .f32 0xFF800000#32 = ⊥
    simp [Ideal.ofBits, Ideal.ieee]
  rw [hb]
  show Finset.univ.sup _ = _
  refine Finset.sup_congr rfl fun j _ => ?_
  refine Eq.trans ?_ (h84 j)
  exact congrArg y (funext fun a => Fin.ext (by match a with | ⟨0, _⟩ => rfl | ⟨1, _⟩ => rfl | ⟨2, _⟩ => rfl | ⟨3, _⟩ => rfl))

/-- The scaled maximum of a block. -/
theorem v87_at (p : Fin 12) (l : Fin 128) (k : Fin 216) :
    val_main_v87 (F := Ideal) x0 x1 x2 x3 x4 x5 (ix3 p l k) = rowT (aY x0 x1 x2 x3 x4 x5 p l) k := by
  rw [val_main_v87_apply, v85_at, val_main_v86_apply]
  rfl

/-- The count of powers of two up to the scaled maximum. -/
theorem v100_at (p : Fin 12) (l : Fin 128) (k : Fin 216) :
    val_main_v100 (F := Ideal) x0 x1 x2 x3 x4 x5 (ix3 p l k) = rcount (rowT (aY x0 x1 x2 x3 x4 x5 p l) k) := by
  unfold val_main_v100
  have h99 : ∀ j : Fin 254, val_main_v99 (F := Ideal) x0 x1 x2 x3 x4 x5 (ix4 p l k j) = (Ideal.cmp .oge (rowT (aY x0 x1 x2 x3 x4 x5 p l) k) (Ideal.pow (Ideal.ofBits .f32 0x40000000#32)
      (((IntOp.addi 4294967170#32 (BitVec.ofNat 32 j.val)).toInt : ℝ) : EReal))).setWidth 32 := fun j => by
    rw [val_main_v99_apply, val_main_v98_apply, val_main_v96_apply, val_main_v94_apply, val_main_v97_apply, val_main_v95_apply, val_main_v93_apply, val_main_v92_apply,
      val_main_v91_apply, val_main_v90_apply, val_main_v89_apply, val_main_v88_apply]
    have e1 : idx_main_v94 (idx_main_v96 (ix4 p l k j)) = ix3 p l k := funext fun a => by fin_cases a <;> rfl
    rw [e1, v87_at]
    generalize rowT (aY x0 x1 x2 x3 x4 x5 p l) k = t
    rfl
  generalize val_main_v99 (F := Ideal) x0 x1 x2 x3 x4 x5 = y at h99
  refine (Host.reduce_eq_fold_single IntOp.addi y (val_main_c_9 (F := Ideal)) reducesTo_S12x128x216x254_S12x128x216_d3 (by decide) h_S_ (ix3 p l k)).trans ?_
  unfold rcount
  refine Finset.fold_congr fun j _ => ?_
  refine Eq.trans ?_ (h99 j)
  exact congrArg y (funext fun a => Fin.ext (by match a with | ⟨0, _⟩ => rfl | ⟨1, _⟩ => rfl | ⟨2, _⟩ => rfl | ⟨3, _⟩ => rfl))

/-- The exponent of a block. -/
theorem v108_at (p : Fin 12) (l : Fin 128) (k : Fin 216) :
    val_main_v108 (F := Ideal) x0 x1 x2 x3 x4 x5 (ix3 p l k) = rE (rowT (aY x0 x1 x2 x3 x4 x5 p l) k) := by
  rw [val_main_v108_apply, val_main_v107_apply, val_main_v104_apply, val_main_v106_apply, val_main_v102_apply, v100_at, v87_at]
  unfold rE
  generalize rcount (rowT (aY x0 x1 x2 x3 x4 x5 p l) k) = r
  generalize rowT (aY x0 x1 x2 x3 x4 x5 p l) k = t
  rfl

/-- The value where the exponent is out of range. -/
theorem v113_at (p : Fin 12) (l : Fin 128) (k : Fin 216) :
    val_main_v113 (F := Ideal) x0 x1 x2 x3 x4 x5 (ix3 p l k) = Scalar.select (IntOp.cmpi .sgt (rE (rowT (aY x0 x1 x2 x3 x4 x5 p l) k)) 127#32) (Ideal.ofBits .f32 0xFF800000#32) (Ideal.ofBits .f32 0x00000000#32) := by
  rw [val_main_v113_apply, val_main_v112_apply, v108_at]
  generalize rE (rowT (aY x0 x1 x2 x3 x4 x5 p l) k) = e
  rfl

/-- The power of two a block is multiplied by. -/
theorem v118_at (p : Fin 12) (l : Fin 128) (k : Fin 216) :
    val_main_v118 (F := Ideal) x0 x1 x2 x3 x4 x5 (ix3 p l k) = rinv (rowT (aY x0 x1 x2 x3 x4 x5 p l) k) := by
  have h113 : val_main_call2_v0 (F := Ideal) x0 x1 x2 x3 x4 x5 (ix3 p l k) = val_main_v113 (F := Ideal) x0 x1 x2 x3 x4 x5 (ix3 p l k) :=
    val_main_call2_v0_apply x0 x1 x2 x3 x4 x5 (ix3 p l k)
  rw [val_main_v118_apply, val_main_v110_apply, h113, v113_at, val_main_v117_apply, val_main_v115_apply, val_main_v114_apply, v108_at]
  unfold rinv
  generalize rE (rowT (aY x0 x1 x2 x3 x4 x5 p l) k) = e
  rfl

/-- The codes. -/
theorem codes_at (p : Fin 12) (l : Fin 128) (j : Fin 6912) :
    val_main_v127 (F := Ideal) x0 x1 x2 x3 x4 x5 (ix3 p l j) = rowCode (aY x0 x1 x2 x3 x4 x5 p l) j := by
  have e : idx_main_v127 (ix3 p l j) = ix4 p l ⟨j.val / 32, by omega⟩ ⟨j.val % 32, by omega⟩ := by
    refine funext fun a => Fin.ext ?_
    match a with
    | ⟨0, _⟩ => show ((p.val * 128 + l.val) * 6912 + j.val) / 884736 = p.val; omega
    | ⟨1, _⟩ => show ((p.val * 128 + l.val) * 6912 + j.val) / 6912 % 128 = l.val; omega
    | ⟨2, _⟩ => show ((p.val * 128 + l.val) * 6912 + j.val) / 32 % 216 = j.val / 32; omega
    | ⟨3, _⟩ => show ((p.val * 128 + l.val) * 6912 + j.val) % 32 = j.val % 32; omega
  have h121 : val_main_v121 (F := Ideal) x0 x1 x2 x3 x4 x5 (ix4 p l ⟨j.val / 32, by omega⟩ ⟨j.val % 32, by omega⟩)
      = aY x0 x1 x2 x3 x4 x5 p l j * rinv (rowT (aY x0 x1 x2 x3 x4 x5 p l) ⟨j.val / 32, by omega⟩) := by
    rw [val_main_v121_apply, v83_at, val_main_v120_apply, val_main_v119_apply]
    have e1 : idx_main_v119 (idx_main_v120 (ix4 p l (⟨j.val / 32, by omega⟩ : Fin 216) (⟨j.val % 32, by omega⟩ : Fin 32))) = ix3 p l (⟨j.val / 32, by omega⟩ : Fin 216) :=
      funext fun a => by fin_cases a <;> rfl
    have e2 : (⟨32 * (j.val / 32) + j.val % 32, by omega⟩ : Fin 6912) = j := Fin.ext (by show 32 * (j.val / 32) + j.val % 32 = j.val; omega)
    rw [e1, v118_at]
    exact congrArg (fun q => aY x0 x1 x2 x3 x4 x5 p l q * rinv (rowT (aY x0 x1 x2 x3 x4 x5 p l) ⟨j.val / 32, by omega⟩)) e2
  rw [val_main_v127_apply, e, val_main_v123_apply, val_main_v122_apply, val_main_call3_v2_apply, h121]
  unfold rowCode
  generalize aY x0 x1 x2 x3 x4 x5 p l j * rinv (rowT (aY x0 x1 x2 x3 x4 x5 p l) ⟨j.val / 32, by omega⟩) = z
  rw [val_main_call3_v4_apply, val_main_call3_v1_apply]
  rfl

/-- The stored exponents. -/
theorem exps_at (p : Fin 12) (l : Fin 128) (k : Fin 216) :
    val_main_v126 (F := Ideal) x0 x1 x2 x3 x4 x5 (ix3 p l k) = rowExp (aY x0 x1 x2 x3 x4 x5 p l) k := by
  rw [val_main_v126_apply, val_main_v125_apply, v108_at]
  unfold rowExp
  generalize rE (rowT (aY x0 x1 x2 x3 x4 x5 p l) k) = e
  rfl

end

end Cert.ReferenceIdeal.Hand

end
-- ==== Proof.Algebraic.lean ====
/- The kernel and the reference leave the same four results. -/
module

public import proofs.«01_k».proof.Defs
public import proofs.«01_k».proof.Proof.Final
public import proofs.«01_k».proof.Proof.Ref
public import proofs.«01_k».proof.Proof.Gen.ReferenceIdeal

@[expose] public section

noncomputable section

namespace Cert.Proof

open Idealize.ShloMosaic Idealize.ShloMosaic.TcCoe Idealize.SL.Sem Cert.Spec Cert.KernelIdeal.Hand Cert.ReferenceIdeal.Hand

section
open Cert.KernelIdeal
variable (m : (ℓ : Loc nD τ sig) → Buf (Elt Ideal) ℓ) (c : Dev nD)

/-- The codes, as an array. -/
def codesOf (i : S12x128x6912.Idx) : EReal := rowCode (kY m c (i 0) (i 1)) (i 2)
/-- The stored exponents, as an array. -/
def expsOf (i : S12x128x216.Idx) : BitVec 8 := rowExp (kY m c (i 0) (i 1)) (i 2)
/-- The means, as an array. -/
def meansOf (i : S12x128.Idx) : EReal := kMean m c (i 0) (i 1)
/-- The reciprocal deviations, as an array. -/
def rstdsOf (i : S12x128.Idx) : EReal := kRstd m c (i 0) (i 1)

/-- The reference's codes of the kernel's arguments are the kernel's. -/
theorem codes_eq (x0 : (⟨S12x128x6912, .bf16⟩ : BufTy).Contents (Elt Ideal)) (x1 : (⟨S3, .f32⟩ : BufTy).Contents (Elt Ideal)) (x2 : (⟨S3x12x128, .f32⟩ : BufTy).Contents (Elt Ideal)) (x3 : (⟨S3x12x128, .f32⟩ : BufTy).Contents (Elt Ideal)) (x4 : (⟨S6912, .f32⟩ : BufTy).Contents (Elt Ideal)) (x5 : (⟨S6912, .f32⟩ : BufTy).Contents (Elt Ideal))
    (h0 : x0 = m ((c.tc : Thread nD τ).loc main_arg0)) (h1 : x1 = m ((c.tc : Thread nD τ).loc main_arg1)) (h2 : x2 = m ((c.tc : Thread nD τ).loc main_arg2)) (h3 : x3 = m ((c.tc : Thread nD τ).loc main_arg3)) (h4 : x4 = m ((c.tc : Thread nD τ).loc main_arg4)) (h5 : x5 = m ((c.tc : Thread nD τ).loc main_arg5)) :
    Cert.ReferenceIdeal.Read.val_main_v127 (F := Ideal) x0 x1 x2 x3 x4 x5 = codesOf m c := by
  subst h0 h1 h2 h3 h4 h5
  funext i
  rw [eq_ix3 i]
  exact codes_at _ _ _ _ _ _ (i 0) (i 1) (i 2)

/-- The reference's exponents of the kernel's arguments are the kernel's. -/
theorem exps_eq (x0 : (⟨S12x128x6912, .bf16⟩ : BufTy).Contents (Elt Ideal)) (x1 : (⟨S3, .f32⟩ : BufTy).Contents (Elt Ideal)) (x2 : (⟨S3x12x128, .f32⟩ : BufTy).Contents (Elt Ideal)) (x3 : (⟨S3x12x128, .f32⟩ : BufTy).Contents (Elt Ideal)) (x4 : (⟨S6912, .f32⟩ : BufTy).Contents (Elt Ideal)) (x5 : (⟨S6912, .f32⟩ : BufTy).Contents (Elt Ideal))
    (h0 : x0 = m ((c.tc : Thread nD τ).loc main_arg0)) (h1 : x1 = m ((c.tc : Thread nD τ).loc main_arg1)) (h2 : x2 = m ((c.tc : Thread nD τ).loc main_arg2)) (h3 : x3 = m ((c.tc : Thread nD τ).loc main_arg3)) (h4 : x4 = m ((c.tc : Thread nD τ).loc main_arg4)) (h5 : x5 = m ((c.tc : Thread nD τ).loc main_arg5)) :
    Cert.ReferenceIdeal.Read.val_main_v126 (F := Ideal) x0 x1 x2 x3 x4 x5 = expsOf m c := by
  subst h0 h1 h2 h3 h4 h5
  funext i
  rw [eq_ix3 i]
  exact exps_at _ _ _ _ _ _ (i 0) (i 1) (i 2)

/-- The reference's means of the kernel's arguments are the kernel's. -/
theorem means_eq (x0 : (⟨S12x128x6912, .bf16⟩ : BufTy).Contents (Elt Ideal)) (x1 : (⟨S3, .f32⟩ : BufTy).Contents (Elt Ideal)) (x2 : (⟨S3x12x128, .f32⟩ : BufTy).Contents (Elt Ideal))
    (h0 : x0 = m ((c.tc : Thread nD τ).loc main_arg0)) (h1 : x1 = m ((c.tc : Thread nD τ).loc main_arg1)) (h2 : x2 = m ((c.tc : Thread nD τ).loc main_arg2)) :
    Cert.ReferenceIdeal.Read.val_main_v58 (F := Ideal) x0 x1 x2 = meansOf m c := by
  subst h0 h1 h2
  funext i
  rw [eq_ix2 i]
  exact v58_at _ _ _ (i 0) (i 1)

/-- The reference's reciprocal deviations of the kernel's arguments are the kernel's. -/
theorem rstds_eq (x0 : (⟨S12x128x6912, .bf16⟩ : BufTy).Contents (Elt Ideal)) (x1 : (⟨S3, .f32⟩ : BufTy).Contents (Elt Ideal)) (x2 : (⟨S3x12x128, .f32⟩ : BufTy).Contents (Elt Ideal)) (x3 : (⟨S3x12x128, .f32⟩ : BufTy).Contents (Elt Ideal))
    (h0 : x0 = m ((c.tc : Thread nD τ).loc main_arg0)) (h1 : x1 = m ((c.tc : Thread nD τ).loc main_arg1)) (h2 : x2 = m ((c.tc : Thread nD τ).loc main_arg2)) (h3 : x3 = m ((c.tc : Thread nD τ).loc main_arg3)) :
    Cert.ReferenceIdeal.Read.val_main_v70 (F := Ideal) x0 x1 x2 x3 = rstdsOf m c := by
  subst h0 h1 h2 h3
  funext i
  rw [eq_ix2 i]
  exact v70_at _ _ _ _ (i 0) (i 1)

end

/-- From the same arguments the idealized kernel and the idealized reference leave equal codes, exponents, means and reciprocal deviations, and their arguments unchanged. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => codesOf m c, fun c => expsOf m c, fun c => meansOf m c, fun c => rstdsOf m c, ?_, ?_⟩
  · refine (θ_run _ _ _).mono (fun r h c => ?_) (Cert.KernelIdeal.Hand.run_main (m := m) (ρ := g) fun c => kSpec m c)
    obtain ⟨h0, h1, h2, h3⟩ := results_of m h.1 c
    refine ⟨?_, ?_, ?_, ?_, args_of h.1 c⟩
    · funext i
      exact (congrArg _ (eq_ix3 i)).trans (h0 (i 0) (i 1) (i 2))
    · funext i
      exact (congrArg _ (eq_ix3 i)).trans (h1 (i 0) (i 1) (i 2))
    · funext i
      exact (congrArg _ (eq_ix2 i)).trans (h2 (i 0) (i 1))
    · funext i
      exact (congrArg _ (eq_ix2 i)).trans (h3 (i 0) (i 1))
  · refine (θ_run _ _ _).mono (fun r h c => ?_) (Cert.ReferenceIdeal.Value.run (F := Ideal) m' g')
    obtain ⟨h0, h1, h2, h3, hargs⟩ := h c
    obtain ⟨a0, a1, a2, a3, a4, a5⟩ := hag c
    refine ⟨h0.trans ((Cert.ReferenceIdeal.Read.val_main_v127_eq _).trans ?_), h1.trans ((Cert.ReferenceIdeal.Read.val_main_v126_eq _).trans ?_),
      h2.trans ((Cert.ReferenceIdeal.Read.val_main_v58_eq _).trans ?_), h3.trans ((Cert.ReferenceIdeal.Read.val_main_v70_eq _).trans ?_), hargs⟩
    · exact codes_eq m c _ _ _ _ _ _ a0 a1 a2 a3 a4 a5
    · exact exps_eq m c _ _ _ _ _ _ a0 a1 a2 a3 a4 a5
    · exact means_eq m c _ _ _ a0 a1 a2
    · exact rstds_eq m c _ _ _ _ a0 a1 a2 a3

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Oblig
public import proofs.«01_k».proof.Proof.ObligIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims: the three frames, that the kernel's idealization keeps its text, and that the idealized kernel and reference agree in all four results. -/
theorem claim : Cert.Claim := ⟨Cert.Kernel.Gen.facts, Cert.KernelIdeal.Gen.facts, Cert.ReferenceIdeal.Gen.facts,
  fun m ρ _ => Cert.Kernel.Hand.frame (F := Bits) m ρ,
  fun m ρ _ => Cert.KernelIdeal.Hand.frame (F := Ideal) m ρ,
  fun m ρ _ => (θ_run _ _ _).mono (fun r h => ⟨fun c => (h c).2.2.2.2, sem_eq_zero_of_no_sems (by decide) r.2⟩)
    (Cert.ReferenceIdeal.Value.run (F := Ideal) m ρ),
  trivial,
  algebraic⟩

end Cert.Proof

end
